-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3)
      ∧ r.2.mem ((c.tc : Thread Cert.Kernel10.nD Cert.Kernel10.τ).loc Cert.Kernel10.main_arg4) = m ((c.tc : Thread Cert.Kernel10.nD Cert.Kernel10.τ).loc Cert.Kernel10.main_arg4)
      ∧ r.2.mem ((c.tc : Thread Cert.Kernel10.nD Cert.Kernel10.τ).loc Cert.Kernel10.main_arg5) = m ((c.tc : Thread Cert.Kernel10.nD Cert.Kernel10.τ).loc Cert.Kernel10.main_arg5))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
      ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4)
      ∧ r.2.mem ((c.tc : Thread Cert.Reference10Ideal.nD Cert.Reference10Ideal.τ).loc Cert.Reference10Ideal.main_arg5) = m ((c.tc : Thread Cert.Reference10Ideal.nD Cert.Reference10Ideal.τ).loc Cert.Reference10Ideal.main_arg5))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2)
      ∧ r.2.mem ((c.tc : Thread Cert.Kernel18.nD Cert.Kernel18.τ).loc Cert.Kernel18.main_arg3) = m ((c.tc : Thread Cert.Kernel18.nD Cert.Kernel18.τ).loc Cert.Kernel18.main_arg3)
      ∧ r.2.mem ((c.tc : Thread Cert.Kernel18.nD Cert.Kernel18.τ).loc Cert.Kernel18.main_arg4) = m ((c.tc : Thread Cert.Kernel18.nD Cert.Kernel18.τ).loc Cert.Kernel18.main_arg4))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
      ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3)
      ∧ r.2.mem ((c.tc : Thread Cert.Kernel18Ideal.nD Cert.Kernel18Ideal.τ).loc Cert.Kernel18Ideal.main_arg4) = m ((c.tc : Thread Cert.Kernel18Ideal.nD Cert.Kernel18Ideal.τ).loc Cert.Kernel18Ideal.main_arg4))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2)
      ∧ r.2.mem ((c.tc : Thread Cert.Reference18Ideal.nD Cert.Reference18Ideal.τ).loc Cert.Reference18Ideal.main_arg3) = m ((c.tc : Thread Cert.Reference18Ideal.nD Cert.Reference18Ideal.τ).loc Cert.Reference18Ideal.main_arg3)
      ∧ r.2.mem ((c.tc : Thread Cert.Reference18Ideal.nD Cert.Reference18Ideal.τ).loc Cert.Reference18Ideal.main_arg4) = m ((c.tc : Thread Cert.Reference18Ideal.nD Cert.Reference18Ideal.τ).loc Cert.Reference18Ideal.main_arg4))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2)
      ∧ r.2.mem ((c.tc : Thread Cert.Kernel19.nD Cert.Kernel19.τ).loc Cert.Kernel19.main_arg3) = m ((c.tc : Thread Cert.Kernel19.nD Cert.Kernel19.τ).loc Cert.Kernel19.main_arg3)
      ∧ r.2.mem ((c.tc : Thread Cert.Kernel19.nD Cert.Kernel19.τ).loc Cert.Kernel19.main_arg4) = m ((c.tc : Thread Cert.Kernel19.nD Cert.Kernel19.τ).loc Cert.Kernel19.main_arg4))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
      ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3)
      ∧ r.2.mem ((c.tc : Thread Cert.Kernel19Ideal.nD Cert.Kernel19Ideal.τ).loc Cert.Kernel19Ideal.main_arg4) = m ((c.tc : Thread Cert.Kernel19Ideal.nD Cert.Kernel19Ideal.τ).loc Cert.Kernel19Ideal.main_arg4))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2)
      ∧ r.2.mem ((c.tc : Thread Cert.Reference19Ideal.nD Cert.Reference19Ideal.τ).loc Cert.Reference19Ideal.main_arg3) = m ((c.tc : Thread Cert.Reference19Ideal.nD Cert.Reference19Ideal.τ).loc Cert.Reference19Ideal.main_arg3)
      ∧ r.2.mem ((c.tc : Thread Cert.Reference19Ideal.nD Cert.Reference19Ideal.τ).loc Cert.Reference19Ideal.main_arg4) = m ((c.tc : Thread Cert.Reference19Ideal.nD Cert.Reference19Ideal.τ).loc Cert.Reference19Ideal.main_arg4))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1)
      ∧ r.2.mem ((c.tc : Thread Cert.Kernel20.nD Cert.Kernel20.τ).loc Cert.Kernel20.main_arg2) = m ((c.tc : Thread Cert.Kernel20.nD Cert.Kernel20.τ).loc Cert.Kernel20.main_arg2)
      ∧ r.2.mem ((c.tc : Thread Cert.Kernel20.nD Cert.Kernel20.τ).loc Cert.Kernel20.main_arg3) = m ((c.tc : Thread Cert.Kernel20.nD Cert.Kernel20.τ).loc Cert.Kernel20.main_arg3)
      ∧ r.2.mem ((c.tc : Thread Cert.Kernel20.nD Cert.Kernel20.τ).loc Cert.Kernel20.main_arg4) = m ((c.tc : Thread Cert.Kernel20.nD Cert.Kernel20.τ).loc Cert.Kernel20.main_arg4))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
      ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3)
      ∧ r.2.mem ((c.tc : Thread Cert.Kernel20Ideal.nD Cert.Kernel20Ideal.τ).loc Cert.Kernel20Ideal.main_arg4) = m ((c.tc : Thread Cert.Kernel20Ideal.nD Cert.Kernel20Ideal.τ).loc Cert.Kernel20Ideal.main_arg4))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2)
      ∧ r.2.mem ((c.tc : Thread Cert.Reference20Ideal.nD Cert.Reference20Ideal.τ).loc Cert.Reference20Ideal.main_arg3) = m ((c.tc : Thread Cert.Reference20Ideal.nD Cert.Reference20Ideal.τ).loc Cert.Reference20Ideal.main_arg3)
      ∧ r.2.mem ((c.tc : Thread Cert.Reference20Ideal.nD Cert.Reference20Ideal.τ).loc Cert.Reference20Ideal.main_arg4) = m ((c.tc : Thread Cert.Reference20Ideal.nD Cert.Reference20Ideal.τ).loc Cert.Reference20Ideal.main_arg4))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1)
      ∧ r.2.mem ((c.tc : Thread Cert.Kernel21.nD Cert.Kernel21.τ).loc Cert.Kernel21.main_arg2) = m ((c.tc : Thread Cert.Kernel21.nD Cert.Kernel21.τ).loc Cert.Kernel21.main_arg2)
      ∧ r.2.mem ((c.tc : Thread Cert.Kernel21.nD Cert.Kernel21.τ).loc Cert.Kernel21.main_arg3) = m ((c.tc : Thread Cert.Kernel21.nD Cert.Kernel21.τ).loc Cert.Kernel21.main_arg3)
      ∧ r.2.mem ((c.tc : Thread Cert.Kernel21.nD Cert.Kernel21.τ).loc Cert.Kernel21.main_arg4) = m ((c.tc : Thread Cert.Kernel21.nD Cert.Kernel21.τ).loc Cert.Kernel21.main_arg4))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
      ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
      ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3)
      ∧ r.2.mem ((c.tc : Thread Cert.Kernel21Ideal.nD Cert.Kernel21Ideal.τ).loc Cert.Kernel21Ideal.main_arg4) = m ((c.tc : Thread Cert.Kernel21Ideal.nD Cert.Kernel21Ideal.τ).loc Cert.Kernel21Ideal.main_arg4))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1)
      ∧ r.2.mem ((c.tc : Thread Cert.Reference21Ideal.nD Cert.Reference21Ideal.τ).loc Cert.Reference21Ideal.main_arg2) = m ((c.tc : Thread Cert.Reference21Ideal.nD Cert.Reference21Ideal.τ).loc Cert.Reference21Ideal.main_arg2)
      ∧ r.2.mem ((c.tc : Thread Cert.Reference21Ideal.nD Cert.Reference21Ideal.τ).loc Cert.Reference21Ideal.main_arg3) = m ((c.tc : Thread Cert.Reference21Ideal.nD Cert.Reference21Ideal.τ).loc Cert.Reference21Ideal.main_arg3)
      ∧ r.2.mem ((c.tc : Thread Cert.Reference21Ideal.nD Cert.Reference21Ideal.τ).loc Cert.Reference21Ideal.main_arg4) = m ((c.tc : Thread Cert.Reference21Ideal.nD Cert.Reference21Ideal.τ).loc Cert.Reference21Ideal.main_arg4))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1)
      ∧ r.2.mem ((c.tc : Thread Cert.Kernel22.nD Cert.Kernel22.τ).loc Cert.Kernel22.main_arg2) = m ((c.tc : Thread Cert.Kernel22.nD Cert.Kernel22.τ).loc Cert.Kernel22.main_arg2))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
      ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1)
      ∧ r.2.mem ((c.tc : Thread Cert.Reference22Ideal.nD Cert.Reference22Ideal.τ).loc Cert.Reference22Ideal.main_arg2) = m ((c.tc : Thread Cert.Reference22Ideal.nD Cert.Reference22Ideal.τ).loc Cert.Reference22Ideal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)) (v4 : (c : Dev Cert.KernelIdeal.nD) → Buf (Elt Ideal) ((c.tc : Thread Cert.KernelIdeal.nD Cert.KernelIdeal.τ).loc Cert.KernelIdeal.main_v0_4)) (v5 : (c : Dev Cert.KernelIdeal.nD) → Buf (Elt Ideal) ((c.tc : Thread Cert.KernelIdeal.nD Cert.KernelIdeal.τ).loc Cert.KernelIdeal.main_v0_5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_v0_3) = v3 c
          ∧ r.2.mem ((c.tc : Thread Cert.KernelIdeal.nD Cert.KernelIdeal.τ).loc Cert.KernelIdeal.main_v0_4) = v4 c
          ∧ r.2.mem ((c.tc : Thread Cert.KernelIdeal.nD Cert.KernelIdeal.τ).loc Cert.KernelIdeal.main_v0_5) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_v39) = v1 c
          ∧ r.2.mem ((c.tc : Thread Cert.ReferenceIdeal.nD Cert.ReferenceIdeal.τ).loc Cert.ReferenceIdeal.main_v41) = v2 c
          ∧ r.2.mem ((c.tc : Thread Cert.ReferenceIdeal.nD Cert.ReferenceIdeal.τ).loc Cert.ReferenceIdeal.main_v42) = v3 c
          ∧ r.2.mem ((c.tc : Thread Cert.ReferenceIdeal.nD Cert.ReferenceIdeal.τ).loc Cert.ReferenceIdeal.main_v44) = v4 c
          ∧ r.2.mem ((c.tc : Thread Cert.ReferenceIdeal.nD Cert.ReferenceIdeal.τ).loc Cert.ReferenceIdeal.main_v28_12) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v14) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v7) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v8) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)) →
    ∃ (v0 : (c : Dev Cert.Kernel5Ideal.nD) → Buf (Elt Ideal) ((c.tc : Thread Cert.Kernel5Ideal.nD Cert.Kernel5Ideal.τ).loc Cert.Kernel5Ideal.main_v0_0)) (v1 : (c : Dev Cert.Kernel5Ideal.nD) → Buf (Elt Ideal) ((c.tc : Thread Cert.Kernel5Ideal.nD Cert.Kernel5Ideal.τ).loc Cert.Kernel5Ideal.main_v0_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0_0) = v0 c
          ∧ r.2.mem ((c.tc : Thread Cert.Kernel5Ideal.nD Cert.Kernel5Ideal.τ).loc Cert.Kernel5Ideal.main_v0_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v40) = v0 c
          ∧ r.2.mem ((c.tc : Thread Cert.Reference5Ideal.nD Cert.Reference5Ideal.τ).loc Cert.Reference5Ideal.main_v23) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v5) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)) →
    ∃ (v0 : (c : Dev Cert.Kernel7Ideal.nD) → Buf (Elt Ideal) ((c.tc : Thread Cert.Kernel7Ideal.nD Cert.Kernel7Ideal.τ).loc Cert.Kernel7Ideal.main_v0_0)) (v1 : (c : Dev Cert.Kernel7Ideal.nD) → Buf (Elt Ideal) ((c.tc : Thread Cert.Kernel7Ideal.nD Cert.Kernel7Ideal.τ).loc Cert.Kernel7Ideal.main_v0_1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0_0) = v0 c
          ∧ r.2.mem ((c.tc : Thread Cert.Kernel7Ideal.nD Cert.Kernel7Ideal.τ).loc Cert.Kernel7Ideal.main_v0_1) = v1 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v5) = v0 c
          ∧ r.2.mem ((c.tc : Thread Cert.Reference7Ideal.nD Cert.Reference7Ideal.τ).loc Cert.Reference7Ideal.main_v18) = v1 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v4) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v8) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)
      ∧ m' ((c.tc : Thread Cert.Reference10Ideal.nD Cert.Reference10Ideal.τ).loc Cert.Reference10Ideal.main_arg4) = m ((c.tc : Thread Cert.Kernel10Ideal.nD Cert.Kernel10Ideal.τ).loc Cert.Kernel10Ideal.main_arg4)
      ∧ m' ((c.tc : Thread Cert.Reference10Ideal.nD Cert.Reference10Ideal.τ).loc Cert.Reference10Ideal.main_arg5) = m ((c.tc : Thread Cert.Kernel10Ideal.nD Cert.Kernel10Ideal.τ).loc Cert.Kernel10Ideal.main_arg5)) →
    ∃ (v0 : (c : Dev Cert.Kernel10Ideal.nD) → Buf (Elt Ideal) ((c.tc : Thread Cert.Kernel10Ideal.nD Cert.Kernel10Ideal.τ).loc Cert.Kernel10Ideal.main_v0_0)) (v1 : (c : Dev Cert.Kernel10Ideal.nD) → Buf (Elt Ideal) ((c.tc : Thread Cert.Kernel10Ideal.nD Cert.Kernel10Ideal.τ).loc Cert.Kernel10Ideal.main_v0_1)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0_0) = v0 c
          ∧ r.2.mem ((c.tc : Thread Cert.Kernel10Ideal.nD Cert.Kernel10Ideal.τ).loc Cert.Kernel10Ideal.main_v0_1) = v1 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
          ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
          ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v42) = v0 c
          ∧ r.2.mem ((c.tc : Thread Cert.Reference10Ideal.nD Cert.Reference10Ideal.τ).loc Cert.Reference10Ideal.main_v25) = v1 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3)
          ∧ r.2.mem ((c.tc : Thread Cert.Reference10Ideal.nD Cert.Reference10Ideal.τ).loc Cert.Reference10Ideal.main_arg4) = m' ((c.tc : Thread Cert.Reference10Ideal.nD Cert.Reference10Ideal.τ).loc Cert.Reference10Ideal.main_arg4)
          ∧ r.2.mem ((c.tc : Thread Cert.Reference10Ideal.nD Cert.Reference10Ideal.τ).loc Cert.Reference10Ideal.main_arg5) = m' ((c.tc : Thread Cert.Reference10Ideal.nD Cert.Reference10Ideal.τ).loc Cert.Reference10Ideal.main_arg5))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v5) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v0)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v6) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v0)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v4) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)) →
    ∃ (v0 : (c : Dev Cert.Kernel14Ideal.nD) → Buf (Elt Ideal) ((c.tc : Thread Cert.Kernel14Ideal.nD Cert.Kernel14Ideal.τ).loc Cert.Kernel14Ideal.main_v0)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v3) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)) →
    ∃ (v0 : (c : Dev Cert.Kernel15Ideal.nD) → Buf (Elt Ideal) ((c.tc : Thread Cert.Kernel15Ideal.nD Cert.Kernel15Ideal.τ).loc Cert.Kernel15Ideal.main_v0_0)) (v1 : (c : Dev Cert.Kernel15Ideal.nD) → Buf (Elt Ideal) ((c.tc : Thread Cert.Kernel15Ideal.nD Cert.Kernel15Ideal.τ).loc Cert.Kernel15Ideal.main_v0_1)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0_0) = v0 c
          ∧ r.2.mem ((c.tc : Thread Cert.Kernel15Ideal.nD Cert.Kernel15Ideal.τ).loc Cert.Kernel15Ideal.main_v0_1) = v1 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v3) = v0 c
          ∧ r.2.mem ((c.tc : Thread Cert.Reference15Ideal.nD Cert.Reference15Ideal.τ).loc Cert.Reference15Ideal.main_v16) = v1 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)) →
    ∃ (v0 : (c : Dev Cert.Kernel16Ideal.nD) → Buf (Elt Ideal) ((c.tc : Thread Cert.Kernel16Ideal.nD Cert.Kernel16Ideal.τ).loc Cert.Kernel16Ideal.main_v0)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v6) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)) →
    ∃ (v0 : (c : Dev Cert.Kernel17Ideal.nD) → Buf (Elt Ideal) ((c.tc : Thread Cert.Kernel17Ideal.nD Cert.Kernel17Ideal.τ).loc Cert.Kernel17Ideal.main_v0)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0) = v0 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v8) = v0 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)
      ∧ m' ((c.tc : Thread Cert.Reference18Ideal.nD Cert.Reference18Ideal.τ).loc Cert.Reference18Ideal.main_arg3) = m ((c.tc : Thread Cert.Kernel18Ideal.nD Cert.Kernel18Ideal.τ).loc Cert.Kernel18Ideal.main_arg3)
      ∧ m' ((c.tc : Thread Cert.Reference18Ideal.nD Cert.Reference18Ideal.τ).loc Cert.Reference18Ideal.main_arg4) = m ((c.tc : Thread Cert.Kernel18Ideal.nD Cert.Kernel18Ideal.τ).loc Cert.Kernel18Ideal.main_arg4)) →
    ∃ (v0 : (c : Dev Cert.Kernel18Ideal.nD) → Buf (Elt Ideal) ((c.tc : Thread Cert.Kernel18Ideal.nD Cert.Kernel18Ideal.τ).loc Cert.Kernel18Ideal.main_v0_0)) (v1 : (c : Dev Cert.Kernel18Ideal.nD) → Buf (Elt Ideal) ((c.tc : Thread Cert.Kernel18Ideal.nD Cert.Kernel18Ideal.τ).loc Cert.Kernel18Ideal.main_v0_1)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0_0) = v0 c
          ∧ r.2.mem ((c.tc : Thread Cert.Kernel18Ideal.nD Cert.Kernel18Ideal.τ).loc Cert.Kernel18Ideal.main_v0_1) = v1 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
          ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3)
          ∧ r.2.mem ((c.tc : Thread Cert.Kernel18Ideal.nD Cert.Kernel18Ideal.τ).loc Cert.Kernel18Ideal.main_arg4) = m ((c.tc : Thread Cert.Kernel18Ideal.nD Cert.Kernel18Ideal.τ).loc Cert.Kernel18Ideal.main_arg4))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v40) = v0 c
          ∧ r.2.mem ((c.tc : Thread Cert.Reference18Ideal.nD Cert.Reference18Ideal.τ).loc Cert.Reference18Ideal.main_v23) = v1 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2)
          ∧ r.2.mem ((c.tc : Thread Cert.Reference18Ideal.nD Cert.Reference18Ideal.τ).loc Cert.Reference18Ideal.main_arg3) = m' ((c.tc : Thread Cert.Reference18Ideal.nD Cert.Reference18Ideal.τ).loc Cert.Reference18Ideal.main_arg3)
          ∧ r.2.mem ((c.tc : Thread Cert.Reference18Ideal.nD Cert.Reference18Ideal.τ).loc Cert.Reference18Ideal.main_arg4) = m' ((c.tc : Thread Cert.Reference18Ideal.nD Cert.Reference18Ideal.τ).loc Cert.Reference18Ideal.main_arg4))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)
      ∧ m' ((c.tc : Thread Cert.Reference19Ideal.nD Cert.Reference19Ideal.τ).loc Cert.Reference19Ideal.main_arg3) = m ((c.tc : Thread Cert.Kernel19Ideal.nD Cert.Kernel19Ideal.τ).loc Cert.Kernel19Ideal.main_arg3)
      ∧ m' ((c.tc : Thread Cert.Reference19Ideal.nD Cert.Reference19Ideal.τ).loc Cert.Reference19Ideal.main_arg4) = m ((c.tc : Thread Cert.Kernel19Ideal.nD Cert.Kernel19Ideal.τ).loc Cert.Kernel19Ideal.main_arg4)) →
    ∃ (v0 : (c : Dev Cert.Kernel19Ideal.nD) → Buf (Elt Ideal) ((c.tc : Thread Cert.Kernel19Ideal.nD Cert.Kernel19Ideal.τ).loc Cert.Kernel19Ideal.main_v0_0)) (v1 : (c : Dev Cert.Kernel19Ideal.nD) → Buf (Elt Ideal) ((c.tc : Thread Cert.Kernel19Ideal.nD Cert.Kernel19Ideal.τ).loc Cert.Kernel19Ideal.main_v0_1)) (v2 : (c : Dev Cert.Kernel19Ideal.nD) → Buf (Elt Ideal) ((c.tc : Thread Cert.Kernel19Ideal.nD Cert.Kernel19Ideal.τ).loc Cert.Kernel19Ideal.main_v0_2)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0_0) = v0 c
          ∧ r.2.mem ((c.tc : Thread Cert.Kernel19Ideal.nD Cert.Kernel19Ideal.τ).loc Cert.Kernel19Ideal.main_v0_1) = v1 c
          ∧ r.2.mem ((c.tc : Thread Cert.Kernel19Ideal.nD Cert.Kernel19Ideal.τ).loc Cert.Kernel19Ideal.main_v0_2) = v2 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
          ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3)
          ∧ r.2.mem ((c.tc : Thread Cert.Kernel19Ideal.nD Cert.Kernel19Ideal.τ).loc Cert.Kernel19Ideal.main_arg4) = m ((c.tc : Thread Cert.Kernel19Ideal.nD Cert.Kernel19Ideal.τ).loc Cert.Kernel19Ideal.main_arg4))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v38) = v0 c
          ∧ r.2.mem ((c.tc : Thread Cert.Reference19Ideal.nD Cert.Reference19Ideal.τ).loc Cert.Reference19Ideal.main_v21) = v1 c
          ∧ r.2.mem ((c.tc : Thread Cert.Reference19Ideal.nD Cert.Reference19Ideal.τ).loc Cert.Reference19Ideal.main_v40) = v2 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2)
          ∧ r.2.mem ((c.tc : Thread Cert.Reference19Ideal.nD Cert.Reference19Ideal.τ).loc Cert.Reference19Ideal.main_arg3) = m' ((c.tc : Thread Cert.Reference19Ideal.nD Cert.Reference19Ideal.τ).loc Cert.Reference19Ideal.main_arg3)
          ∧ r.2.mem ((c.tc : Thread Cert.Reference19Ideal.nD Cert.Reference19Ideal.τ).loc Cert.Reference19Ideal.main_arg4) = m' ((c.tc : Thread Cert.Reference19Ideal.nD Cert.Reference19Ideal.τ).loc Cert.Reference19Ideal.main_arg4))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)
      ∧ m' ((c.tc : Thread Cert.Reference20Ideal.nD Cert.Reference20Ideal.τ).loc Cert.Reference20Ideal.main_arg2) = m ((c.tc : Thread Cert.Kernel20Ideal.nD Cert.Kernel20Ideal.τ).loc Cert.Kernel20Ideal.main_arg2)
      ∧ m' ((c.tc : Thread Cert.Reference20Ideal.nD Cert.Reference20Ideal.τ).loc Cert.Reference20Ideal.main_arg3) = m ((c.tc : Thread Cert.Kernel20Ideal.nD Cert.Kernel20Ideal.τ).loc Cert.Kernel20Ideal.main_arg3)
      ∧ m' ((c.tc : Thread Cert.Reference20Ideal.nD Cert.Reference20Ideal.τ).loc Cert.Reference20Ideal.main_arg4) = m ((c.tc : Thread Cert.Kernel20Ideal.nD Cert.Kernel20Ideal.τ).loc Cert.Kernel20Ideal.main_arg4)) →
    ∃ (v0 : (c : Dev Cert.Kernel20Ideal.nD) → Buf (Elt Ideal) ((c.tc : Thread Cert.Kernel20Ideal.nD Cert.Kernel20Ideal.τ).loc Cert.Kernel20Ideal.main_v0_0)) (v1 : (c : Dev Cert.Kernel20Ideal.nD) → Buf (Elt Ideal) ((c.tc : Thread Cert.Kernel20Ideal.nD Cert.Kernel20Ideal.τ).loc Cert.Kernel20Ideal.main_v0_1)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v0_0) = v0 c
          ∧ r.2.mem ((c.tc : Thread Cert.Kernel20Ideal.nD Cert.Kernel20Ideal.τ).loc Cert.Kernel20Ideal.main_v0_1) = v1 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
          ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
          ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3)
          ∧ r.2.mem ((c.tc : Thread Cert.Kernel20Ideal.nD Cert.Kernel20Ideal.τ).loc Cert.Kernel20Ideal.main_arg4) = m ((c.tc : Thread Cert.Kernel20Ideal.nD Cert.Kernel20Ideal.τ).loc Cert.Kernel20Ideal.main_arg4))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v5) = v0 c
          ∧ r.2.mem ((c.tc : Thread Cert.Reference20Ideal.nD Cert.Reference20Ideal.τ).loc Cert.Reference20Ideal.main_v18) = v1 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1)
          ∧ r.2.mem ((c.tc : Thread Cert.Reference20Ideal.nD Cert.Reference20Ideal.τ).loc Cert.Reference20Ideal.main_arg2) = m' ((c.tc : Thread Cert.Reference20Ideal.nD Cert.Reference20Ideal.τ).loc Cert.Reference20Ideal.main_arg2)
          ∧ r.2.mem ((c.tc : Thread Cert.Reference20Ideal.nD Cert.Reference20Ideal.τ).loc Cert.Reference20Ideal.main_arg3) = m' ((c.tc : Thread Cert.Reference20Ideal.nD Cert.Reference20Ideal.τ).loc Cert.Reference20Ideal.main_arg3)
          ∧ r.2.mem ((c.tc : Thread Cert.Reference20Ideal.nD Cert.Reference20Ideal.τ).loc Cert.Reference20Ideal.main_arg4) = m' ((c.tc : Thread Cert.Reference20Ideal.nD Cert.Reference20Ideal.τ).loc Cert.Reference20Ideal.main_arg4))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)
      ∧ m' ((c.tc : Thread Cert.Reference21Ideal.nD Cert.Reference21Ideal.τ).loc Cert.Reference21Ideal.main_arg2) = m ((c.tc : Thread Cert.Kernel21Ideal.nD Cert.Kernel21Ideal.τ).loc Cert.Kernel21Ideal.main_arg2)
      ∧ m' ((c.tc : Thread Cert.Reference21Ideal.nD Cert.Reference21Ideal.τ).loc Cert.Reference21Ideal.main_arg3) = m ((c.tc : Thread Cert.Kernel21Ideal.nD Cert.Kernel21Ideal.τ).loc Cert.Kernel21Ideal.main_arg3)
      ∧ m' ((c.tc : Thread Cert.Reference21Ideal.nD Cert.Reference21Ideal.τ).loc Cert.Reference21Ideal.main_arg4) = m ((c.tc : Thread Cert.Kernel21Ideal.nD Cert.Kernel21Ideal.τ).loc Cert.Kernel21Ideal.main_arg4)) →
    ∃ (v0 : (c : Dev Cert.Kernel21Ideal.nD) → Buf (Elt Ideal) ((c.tc : Thread Cert.Kernel21Ideal.nD Cert.Kernel21Ideal.τ).loc Cert.Kernel21Ideal.main_v0_0)) (v1 : (c : Dev Cert.Kernel21Ideal.nD) → Buf (Elt Ideal) ((c.tc : Thread Cert.Kernel21Ideal.nD Cert.Kernel21Ideal.τ).loc Cert.Kernel21Ideal.main_v0_1)) (v2 : (c : Dev Cert.Kernel21Ideal.nD) → Buf (Elt Ideal) ((c.tc : Thread Cert.Kernel21Ideal.nD Cert.Kernel21Ideal.τ).loc Cert.Kernel21Ideal.main_v0_2)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v0_0) = v0 c
          ∧ r.2.mem ((c.tc : Thread Cert.Kernel21Ideal.nD Cert.Kernel21Ideal.τ).loc Cert.Kernel21Ideal.main_v0_1) = v1 c
          ∧ r.2.mem ((c.tc : Thread Cert.Kernel21Ideal.nD Cert.Kernel21Ideal.τ).loc Cert.Kernel21Ideal.main_v0_2) = v2 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
          ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
          ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3)
          ∧ r.2.mem ((c.tc : Thread Cert.Kernel21Ideal.nD Cert.Kernel21Ideal.τ).loc Cert.Kernel21Ideal.main_arg4) = m ((c.tc : Thread Cert.Kernel21Ideal.nD Cert.Kernel21Ideal.τ).loc Cert.Kernel21Ideal.main_arg4))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v57) = v0 c
          ∧ r.2.mem ((c.tc : Thread Cert.Reference21Ideal.nD Cert.Reference21Ideal.τ).loc Cert.Reference21Ideal.main_v41) = v1 c
          ∧ r.2.mem ((c.tc : Thread Cert.Reference21Ideal.nD Cert.Reference21Ideal.τ).loc Cert.Reference21Ideal.main_v30) = v2 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1)
          ∧ r.2.mem ((c.tc : Thread Cert.Reference21Ideal.nD Cert.Reference21Ideal.τ).loc Cert.Reference21Ideal.main_arg2) = m' ((c.tc : Thread Cert.Reference21Ideal.nD Cert.Reference21Ideal.τ).loc Cert.Reference21Ideal.main_arg2)
          ∧ r.2.mem ((c.tc : Thread Cert.Reference21Ideal.nD Cert.Reference21Ideal.τ).loc Cert.Reference21Ideal.main_arg3) = m' ((c.tc : Thread Cert.Reference21Ideal.nD Cert.Reference21Ideal.τ).loc Cert.Reference21Ideal.main_arg3)
          ∧ r.2.mem ((c.tc : Thread Cert.Reference21Ideal.nD Cert.Reference21Ideal.τ).loc Cert.Reference21Ideal.main_arg4) = m' ((c.tc : Thread Cert.Reference21Ideal.nD Cert.Reference21Ideal.τ).loc Cert.Reference21Ideal.main_arg4))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)
      ∧ m' ((c.tc : Thread Cert.Reference22Ideal.nD Cert.Reference22Ideal.τ).loc Cert.Reference22Ideal.main_arg2) = m ((c.tc : Thread Cert.Kernel22Ideal.nD Cert.Kernel22Ideal.τ).loc Cert.Kernel22Ideal.main_arg2)) →
    ∃ (v0 : (c : Dev Cert.Kernel22Ideal.nD) → Buf (Elt Ideal) ((c.tc : Thread Cert.Kernel22Ideal.nD Cert.Kernel22Ideal.τ).loc Cert.Kernel22Ideal.main_v0)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v0) = v0 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
          ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v23) = v0 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1)
          ∧ r.2.mem ((c.tc : Thread Cert.Reference22Ideal.nD Cert.Reference22Ideal.τ).loc Cert.Reference22Ideal.main_arg2) = m' ((c.tc : Thread Cert.Reference22Ideal.nD Cert.Reference22Ideal.τ).loc Cert.Reference22Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
-- ==== Kernel.lean ====
abbrev S4096x1024 : Shape := ⟨2, ![4096, 1024]⟩
abbrev S4096x128 : Shape := ⟨2, ![4096, 128]⟩
abbrev S4096x4096 : Shape := ⟨2, ![4096, 4096]⟩
abbrev S1x128 : Shape := ⟨2, ![1, 128]⟩
abbrev S64x8x128x128 : Shape := ⟨4, ![64, 8, 128, 128]⟩
abbrev S64x8x64x64 : Shape := ⟨4, ![64, 8, 64, 64]⟩
abbrev S64x1024 : Shape := ⟨2, ![64, 1024]⟩
abbrev S64x128 : Shape := ⟨2, ![64, 128]⟩
abbrev S1x8x128x128 : Shape := ⟨4, ![1, 8, 128, 128]⟩
abbrev S1x8x64x64 : Shape := ⟨4, ![1, 8, 64, 64]⟩
abbrev S8x128x128 : Shape := ⟨3, ![8, 128, 128]⟩
abbrev S8x64x64 : Shape := ⟨3, ![8, 64, 64]⟩
abbrev S64x1 : Shape := ⟨2, ![64, 1]⟩
abbrev S1x64x1 : Shape := ⟨3, ![1, 64, 1]⟩
abbrev S8x64x1 : Shape := ⟨3, ![8, 64, 1]⟩
abbrev S1x64x128 : Shape := ⟨3, ![1, 64, 128]⟩
abbrev S8x64x128 : Shape := ⟨3, ![8, 64, 128]⟩
abbrev S64x64 : Shape := ⟨2, ![64, 64]⟩
abbrev S1x64x64 : Shape := ⟨3, ![1, 64, 64]⟩
abbrev S8x64 : Shape := ⟨2, ![8, 64]⟩
abbrev S8x1x64 : Shape := ⟨3, ![8, 1, 64]⟩
abbrev S8x128x64 : Shape := ⟨3, ![8, 128, 64]⟩
abbrev S8x64x256 : Shape := ⟨3, ![8, 64, 256]⟩
abbrev S8x1 : Shape := ⟨2, ![8, 1]⟩
abbrev S8x1x1 : Shape := ⟨3, ![8, 1, 1]⟩
abbrev S1x1x128 : Shape := ⟨3, ![1, 1, 128]⟩
abbrev S128 : Shape := ⟨1, ![128]⟩
abbrev S8 : Shape := ⟨1, ![8]⟩

abbrev nBuf : Space → Nat
  | .hbm => 15
  | .vmem => 29
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S4096x128, .f32⟩
  | .hbm, ⟨4, _⟩ => ⟨S4096x4096, .f32⟩
  | .hbm, ⟨5, _⟩ => ⟨S1x128, .f32⟩
  | .hbm, ⟨6, _⟩ => ⟨S64x8x128x128, .f32⟩
  | .hbm, ⟨7, _⟩ => ⟨S64x8x64x64, .f32⟩
  | .hbm, ⟨8, _⟩ => ⟨S4096x1024, .bf16⟩
  | .hbm, ⟨9, _⟩ => ⟨S4096x1024, .f32⟩
  | .hbm, ⟨10, _⟩ => ⟨S4096x1024, .f32⟩
  | .hbm, ⟨11, _⟩ => ⟨S4096x1024, .f32⟩
  | .hbm, ⟨12, _⟩ => ⟨S4096x128, .f32⟩
  | .hbm, ⟨13, _⟩ => ⟨S4096x1024, .f32⟩
  | .hbm, ⟨14, _⟩ => ⟨S1x128, .f32⟩
  | .local _ .vmem, ⟨0, _⟩ => ⟨S64x1024, .f32⟩
  | .local _ .vmem, ⟨1, _⟩ => ⟨S64x1024, .f32⟩
  | .local _ .vmem, ⟨2, _⟩ => ⟨S64x1024, .f32⟩
  | .local _ .vmem, ⟨3, _⟩ => ⟨S64x1024, .f32⟩
  | .local _ .vmem, ⟨4, _⟩ => ⟨S64x1024, .f32⟩
  | .local _ .vmem, ⟨5, _⟩ => ⟨S64x1024, .f32⟩
  | .local _ .vmem, ⟨6, _⟩ => ⟨S64x128, .f32⟩
  | .local _ .vmem, ⟨7, _⟩ => ⟨S64x128, .f32⟩
  | .local _ .vmem, ⟨8, _⟩ => ⟨S64x1024, .f32⟩
  | .local _ .vmem, ⟨9, _⟩ => ⟨S64x1024, .f32⟩
  | .local _ .vmem, ⟨10, _⟩ => ⟨S1x128, .f32⟩
  | .local _ .vmem, ⟨11, _⟩ => ⟨S1x8x128x128, .f32⟩
  | .local _ .vmem, ⟨12, _⟩ => ⟨S1x8x128x128, .f32⟩
  | .local _ .vmem, ⟨13, _⟩ => ⟨S1x8x64x64, .f32⟩
  | .local _ .vmem, ⟨14, _⟩ => ⟨S1x8x64x64, .f32⟩
  | .local _ .vmem, ⟨15, _⟩ => ⟨S64x1024, .bf16⟩
  | .local _ .vmem, ⟨16, _⟩ => ⟨S64x1024, .bf16⟩
  | .local _ .vmem, ⟨17, _⟩ => ⟨S64x1024, .f32⟩
  | .local _ .vmem, ⟨18, _⟩ => ⟨S64x1024, .f32⟩
  | .local _ .vmem, ⟨19, _⟩ => ⟨S64x1024, .f32⟩
  | .local _ .vmem, ⟨20, _⟩ => ⟨S64x1024, .f32⟩
  | .local _ .vmem, ⟨21, _⟩ => ⟨S64x1024, .f32⟩
  | .local _ .vmem, ⟨22, _⟩ => ⟨S64x1024, .f32⟩
  | .local _ .vmem, ⟨23, _⟩ => ⟨S64x128, .f32⟩
  | .local _ .vmem, ⟨24, _⟩ => ⟨S64x128, .f32⟩
  | .local _ .vmem, ⟨25, _⟩ => ⟨S64x1024, .f32⟩
  | .local _ .vmem, ⟨26, _⟩ => ⟨S64x1024, .f32⟩
  | .local _ .vmem, ⟨27, _⟩ => ⟨S1x128, .f32⟩
  | .local _ .vmem, ⟨28, _⟩ => ⟨S8x128x128, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev main_v0_3 : Ref sig .tc := ⟨.hbm, 12, rfl⟩
abbrev main_v0_4 : Ref sig .tc := ⟨.hbm, 13, rfl⟩
abbrev main_v0_5 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_stg12_0 : Ref sig .tc := ⟨.vmem, 23, rfl⟩
abbrev cc0_stg12_1 : Ref sig .tc := ⟨.vmem, 24, rfl⟩
abbrev cc0_stg13_0 : Ref sig .tc := ⟨.vmem, 25, rfl⟩
abbrev cc0_stg13_1 : Ref sig .tc := ⟨.vmem, 26, rfl⟩
abbrev cc0_stg14_0 : Ref sig .tc := ⟨.vmem, 27, rfl⟩
abbrev cc0_scratch0 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem12_1 : DmaSem sig := 24
abbrev cc0_sem13_0 : DmaSem sig := 25
abbrev cc0_sem13_1 : DmaSem sig := 26
abbrev cc0_sem14_0 : DmaSem sig := 27

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c63_i32 : BitVec 32 := 63#32
  let v0 : BitVec 32 := Scalar.subi c63_i32 arg0
  let c3_i32 : BitVec 32 := 3#32
  let c0_i32 : BitVec 32 := 0#32
  ![v0.toNat, c3_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 4 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  let c0_i32_1 : BitVec 32 := 0#32
  let c0_i32_2 : BitVec 32 := 0#32
  ![v0.toNat, c0_i32.toNat, c0_i32_0.toNat, c0_i32_1.toNat]

def cc0_transform_7 (i : grid0.Coords) : Fin 4 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  let c0_i32_1 : BitVec 32 := 0#32
  let c0_i32_2 : BitVec 32 := 0#32
  ![v0.toNat, c0_i32.toNat, c0_i32_0.toNat, c0_i32_1.toNat]

def cc0_transform_8 (i : grid0.Coords) : Fin 2 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  ![v0.toNat, c0_i32.toNat]

def cc0_transform_9 (i : grid0.Coords) : Fin 2 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  ![v0.toNat, c0_i32.toNat]

def cc0_transform_10 (i : grid0.Coords) : Fin 2 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  ![v0.toNat, c0_i32.toNat]

def cc0_transform_11 (i : grid0.Coords) : Fin 2 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  ![v0.toNat, c0_i32.toNat]

def cc0_transform_12 (i : grid0.Coords) : Fin 2 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  ![v0.toNat, c0_i32.toNat]

def cc0_transform_13 (i : grid0.Coords) : Fin 2 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  ![v0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S64x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x8x128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x8x64x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S64x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S64x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S64x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S64x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S64x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S64x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 1 → Memref sig .tc .vmem S1x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]
-- ==== ReferenceIdeal.lean ====
abbrev S4096x1024 : Shape := ⟨2, ![4096, 1024]⟩
abbrev S4096x128 : Shape := ⟨2, ![4096, 128]⟩
abbrev S4096x4096 : Shape := ⟨2, ![4096, 4096]⟩
abbrev S1x128 : Shape := ⟨2, ![1, 128]⟩
abbrev S64x8x128x128 : Shape := ⟨4, ![64, 8, 128, 128]⟩
abbrev S64x8x64x64 : Shape := ⟨4, ![64, 8, 64, 64]⟩
abbrev S4096x8 : Shape := ⟨2, ![4096, 8]⟩
abbrev S64x64x8x1 : Shape := ⟨4, ![64, 64, 8, 1]⟩
abbrev S64x8x64x1 : Shape := ⟨4, ![64, 8, 64, 1]⟩
abbrev S64x8x64 : Shape := ⟨3, ![64, 8, 64]⟩
abbrev S64x64x8x128 : Shape := ⟨4, ![64, 64, 8, 128]⟩
abbrev S64x8x64x128 : Shape := ⟨4, ![64, 8, 64, 128]⟩
abbrev S_ : Shape := ⟨0, ![]⟩
abbrev S8x128x128 : Shape := ⟨3, ![8, 128, 128]⟩
abbrev S1x8x64x128 : Shape := ⟨4, ![1, 8, 64, 128]⟩
abbrev S8x64x128 : Shape := ⟨3, ![8, 64, 128]⟩
abbrev S1x8x64 : Shape := ⟨3, ![1, 8, 64]⟩
abbrev S8x64 : Shape := ⟨2, ![8, 64]⟩
abbrev S1x8x128x128 : Shape := ⟨4, ![1, 8, 128, 128]⟩
abbrev S1x8x64x64 : Shape := ⟨4, ![1, 8, 64, 64]⟩
abbrev S8x64x64 : Shape := ⟨3, ![8, 64, 64]⟩
abbrev S64 : Shape := ⟨1, ![64]⟩
abbrev S64x1 : Shape := ⟨2, ![64, 1]⟩
abbrev S1x64 : Shape := ⟨2, ![1, 64]⟩
abbrev S64x64 : Shape := ⟨2, ![64, 64]⟩
abbrev S8x64x1 : Shape := ⟨3, ![8, 64, 1]⟩
abbrev S8x1x64 : Shape := ⟨3, ![8, 1, 64]⟩
abbrev S8x64x256 : Shape := ⟨3, ![8, 64, 256]⟩
abbrev S8x1 : Shape := ⟨2, ![8, 1]⟩
abbrev S8 : Shape := ⟨1, ![8]⟩
abbrev S8x1x1 : Shape := ⟨3, ![8, 1, 1]⟩
abbrev S1x1x128 : Shape := ⟨3, ![1, 1, 128]⟩
abbrev S128 : Shape := ⟨1, ![128]⟩
abbrev S8x128x64 : Shape := ⟨3, ![8, 128, 64]⟩
abbrev S8x256x64 : Shape := ⟨3, ![8, 256, 64]⟩
abbrev S4096x16 : Shape := ⟨2, ![4096, 16]⟩

abbrev nBuf : Space → Nat
  | .hbm => 435
  | .vmem => 0
  | .smem => 0
  | _ => 0

abbrev hbmTy0_0 (i : Nat) : BufTy := match i % 128 with
  | 0 => ⟨S4096x1024, .f32⟩
  | 1 => ⟨S4096x1024, .f32⟩
  | 2 => ⟨S4096x1024, .f32⟩
  | 3 => ⟨S4096x128, .f32⟩
  | 4 => ⟨S4096x4096, .f32⟩
  | 5 => ⟨S1x128, .f32⟩
  | 6 => ⟨S64x8x128x128, .f32⟩
  | 7 => ⟨S64x8x64x64, .f32⟩
  | 8 => ⟨S4096x1024, .bf16⟩
  | 9 => ⟨S4096x8, .f32⟩
  | 10 => ⟨S64x64x8x1, .f32⟩
  | 11 => ⟨S64x8x64x1, .f32⟩
  | 12 => ⟨S64x8x64, .f32⟩
  | 13 => ⟨S4096x8, .f32⟩
  | 14 => ⟨S64x64x8x1, .f32⟩
  | 15 => ⟨S64x8x64x1, .f32⟩
  | 16 => ⟨S64x8x64, .f32⟩
  | 17 => ⟨S64x64x8x128, .f32⟩
  | 18 => ⟨S64x8x64x128, .f32⟩
  | 19 => ⟨S64x64x8x128, .f32⟩
  | 20 => ⟨S64x8x64x128, .f32⟩
  | 21 => ⟨S64x64x8x128, .f32⟩
  | 22 => ⟨S64x8x64x128, .f32⟩
  | 23 => ⟨S4096x1024, .f32⟩
  | 24 => ⟨S64x64x8x128, .f32⟩
  | 25 => ⟨S64x8x64x128, .f32⟩
  | 26 => ⟨S_, .f32⟩
  | 27 => ⟨S8x128x128, .f32⟩
  | 28 => ⟨S_, .f32⟩
  | 29 => ⟨S1x128, .f32⟩
  | 30 => ⟨S4096x1024, .f32⟩
  | 31 => ⟨S64x64x8x128, .f32⟩
  | 32 => ⟨S64x8x64x128, .f32⟩
  | 33 => ⟨S_, .f32⟩
  | 34 => ⟨S64x8x64x128, .f32⟩
  | 35 => ⟨S_, .f32⟩
  | 36 => ⟨S64x8x64x128, .f32⟩
  | 37 => ⟨S_, .f32⟩
  | 38 => ⟨S64x8x64x128, .f32⟩
  | 39 => ⟨S_, .f32⟩
  | 40 => ⟨S64x8x64, .f32⟩
  | 41 => ⟨S_, .f32⟩
  | 42 => ⟨S64x8x64, .f32⟩
  | 43 => ⟨S_, .f32⟩
  | 44 => ⟨S64x8x64x128, .f32⟩
  | 45 => ⟨S_, .i32⟩
  | 46 => ⟨S64x8x64x128, .f32⟩
  | 47 => ⟨S64x8x64x128, .f32⟩
  | 48 => ⟨S64x8x64x128, .f32⟩
  | 49 => ⟨S64x8x64, .f32⟩
  | 50 => ⟨S64x8x64, .f32⟩
  | 51 => ⟨S64x8x64x128, .f32⟩
  | 52 => ⟨S64x8x128x128, .f32⟩
  | 53 => ⟨S64x8x64x64, .f32⟩
  | 54 => ⟨S64x8x64x128, .f32⟩
  | 55 => ⟨S1x128, .f32⟩
  | 56 => ⟨S_, .i32⟩
  | 57 => ⟨S8x128x128, .f32⟩
  | 58 => ⟨S1x128, .f32⟩
  | 59 => ⟨S64x8x64x128, .f32⟩
  | 60 => ⟨S64x8x64x128, .f32⟩
  | 61 => ⟨S64x8x64x128, .f32⟩
  | 62 => ⟨S64x8x64, .f32⟩
  | 63 => ⟨S64x8x64, .f32⟩
  | 64 => ⟨S64x8x64x128, .f32⟩
  | 65 => ⟨S_, .i32⟩
  | 66 => ⟨S_, .i1⟩
  | 67 => ⟨S_, .i32⟩
  | 68 => ⟨S_, .i32⟩
  | 69 => ⟨S_, .i32⟩
  | 70 => ⟨S_, .i32⟩
  | 71 => ⟨S_, .i32⟩
  | 72 => ⟨S_, .i32⟩
  | 73 => ⟨S_, .i32⟩
  | 74 => ⟨S1x8x64x128, .f32⟩
  | 75 => ⟨S8x64x128, .f32⟩
  | 76 => ⟨S_, .i32⟩
  | 77 => ⟨S_, .i32⟩
  | 78 => ⟨S_, .i32⟩
  | 79 => ⟨S1x8x64x128, .f32⟩
  | 80 => ⟨S8x64x128, .f32⟩
  | 81 => ⟨S_, .i32⟩
  | 82 => ⟨S_, .i32⟩
  | 83 => ⟨S_, .i32⟩
  | 84 => ⟨S1x8x64x128, .f32⟩
  | 85 => ⟨S8x64x128, .f32⟩
  | 86 => ⟨S_, .i32⟩
  | 87 => ⟨S_, .i32⟩
  | 88 => ⟨S1x8x64, .f32⟩
  | 89 => ⟨S8x64, .f32⟩
  | 90 => ⟨S_, .i32⟩
  | 91 => ⟨S_, .i32⟩
  | 92 => ⟨S1x8x64, .f32⟩
  | 93 => ⟨S8x64, .f32⟩
  | 94 => ⟨S_, .i32⟩
  | 95 => ⟨S_, .i32⟩
  | 96 => ⟨S_, .i32⟩
  | 97 => ⟨S1x8x64x128, .f32⟩
  | 98 => ⟨S8x64x128, .f32⟩
  | 99 => ⟨S_, .i32⟩
  | 100 => ⟨S_, .i32⟩
  | 101 => ⟨S_, .i32⟩
  | 102 => ⟨S1x8x128x128, .f32⟩
  | 103 => ⟨S8x128x128, .f32⟩
  | 104 => ⟨S_, .i32⟩
  | 105 => ⟨S_, .i32⟩
  | 106 => ⟨S_, .i32⟩
  | 107 => ⟨S1x8x64x64, .f32⟩
  | 108 => ⟨S8x64x64, .f32⟩
  | 109 => ⟨S_, .i32⟩
  | 110 => ⟨S_, .i32⟩
  | 111 => ⟨S_, .i32⟩
  | 112 => ⟨S1x8x64x128, .f32⟩
  | 113 => ⟨S8x64x128, .f32⟩
  | 114 => ⟨S_, .f32⟩
  | 115 => ⟨S_, .f32⟩
  | 116 => ⟨S8x64, .f32⟩
  | 117 => ⟨S64, .i32⟩
  | 118 => ⟨S64x1, .i32⟩
  | 119 => ⟨S1x64, .i32⟩
  | 120 => ⟨S64x64, .i32⟩
  | 121 => ⟨S64x64, .i32⟩
  | 122 => ⟨S64x64, .i1⟩
  | 123 => ⟨S64x1, .i32⟩
  | 124 => ⟨S1x64, .i32⟩
  | 125 => ⟨S64x64, .i32⟩
  | 126 => ⟨S64x64, .i32⟩
  | 127 => ⟨S64x64, .i1⟩
  | _ => ⟨S4096x1024, .f32⟩

abbrev hbmTy0_1 (i : Nat) : BufTy := match i % 128 with
  | 0 => ⟨S8x64x1, .f32⟩
  | 1 => ⟨S8x1x64, .f32⟩
  | 2 => ⟨S8x64x64, .f32⟩
  | 3 => ⟨S8x64x64, .f32⟩
  | 4 => ⟨S8x64x64, .f32⟩
  | 5 => ⟨S_, .f32⟩
  | 6 => ⟨S_, .f32⟩
  | 7 => ⟨S8x64x64, .i1⟩
  | 8 => ⟨S8x64x64, .f32⟩
  | 9 => ⟨S8x64x64, .f32⟩
  | 10 => ⟨S_, .f32⟩
  | 11 => ⟨S8x64x64, .f32⟩
  | 12 => ⟨S8x64x64, .f32⟩
  | 13 => ⟨S8x64x1, .f32⟩
  | 14 => ⟨S8x64x128, .f32⟩
  | 15 => ⟨S8x64x128, .f32⟩
  | 16 => ⟨S8x64x64, .f32⟩
  | 17 => ⟨S8x64x64, .f32⟩
  | 18 => ⟨S_, .f32⟩
  | 19 => ⟨S_, .f32⟩
  | 20 => ⟨S8x64x64, .i1⟩
  | 21 => ⟨S8x64x64, .f32⟩
  | 22 => ⟨S8x64x64, .f32⟩
  | 23 => ⟨S_, .f32⟩
  | 24 => ⟨S8x64x64, .f32⟩
  | 25 => ⟨S8x64, .f32⟩
  | 26 => ⟨S8x64x1, .f32⟩
  | 27 => ⟨S8x64x1, .f32⟩
  | 28 => ⟨S8x64x128, .f32⟩
  | 29 => ⟨S8x64x128, .f32⟩
  | 30 => ⟨S8x64x128, .f32⟩
  | 31 => ⟨S8x64x128, .f32⟩
  | 32 => ⟨S8x64x256, .f32⟩
  | 33 => ⟨S_, .f32⟩
  | 34 => ⟨S8x64x64, .f32⟩
  | 35 => ⟨S8x64x256, .f32⟩
  | 36 => ⟨S8x64x256, .f32⟩
  | 37 => ⟨S8x64x128, .f32⟩
  | 38 => ⟨S8x64x128, .f32⟩
  | 39 => ⟨S8x64x64, .f32⟩
  | 40 => ⟨S8x64x64, .f32⟩
  | 41 => ⟨S8x64x128, .f32⟩
  | 42 => ⟨S8x64x128, .f32⟩
  | 43 => ⟨S8x1, .f32⟩
  | 44 => ⟨S8, .f32⟩
  | 45 => ⟨S8x1, .f32⟩
  | 46 => ⟨S8x64, .f32⟩
  | 47 => ⟨S8x64, .f32⟩
  | 48 => ⟨S8x64, .f32⟩
  | 49 => ⟨S8x64x1, .f32⟩
  | 50 => ⟨S8x64x128, .f32⟩
  | 51 => ⟨S8x64x128, .f32⟩
  | 52 => ⟨S8x64x128, .f32⟩
  | 53 => ⟨S8x64x128, .f32⟩
  | 54 => ⟨S8x64x128, .f32⟩
  | 55 => ⟨S8x64x128, .f32⟩
  | 56 => ⟨S8x64x128, .f32⟩
  | 57 => ⟨S8, .f32⟩
  | 58 => ⟨S8x1x1, .f32⟩
  | 59 => ⟨S8x128x128, .f32⟩
  | 60 => ⟨S8x128x128, .f32⟩
  | 61 => ⟨S8x128x128, .f32⟩
  | 62 => ⟨S8x128x128, .f32⟩
  | 63 => ⟨S8x64x128, .f32⟩
  | 64 => ⟨S_, .f32⟩
  | 65 => ⟨S8x64, .f32⟩
  | 66 => ⟨S8x64x1, .f32⟩
  | 67 => ⟨S_, .f32⟩
  | 68 => ⟨S8x64x1, .f32⟩
  | 69 => ⟨S8x64x1, .f32⟩
  | 70 => ⟨S_, .f32⟩
  | 71 => ⟨S8x64x1, .f32⟩
  | 72 => ⟨S8x64x1, .f32⟩
  | 73 => ⟨S8x64x1, .f32⟩
  | 74 => ⟨S8x64x1, .f32⟩
  | 75 => ⟨S_, .f32⟩
  | 76 => ⟨S8x64x1, .f32⟩
  | 77 => ⟨S8x64x1, .f32⟩
  | 78 => ⟨S8x64x128, .f32⟩
  | 79 => ⟨S8x64x128, .f32⟩
  | 80 => ⟨S1x1x128, .f32⟩
  | 81 => ⟨S8x64x128, .f32⟩
  | 82 => ⟨S8x64x128, .f32⟩
  | 83 => ⟨S8x64x128, .f32⟩
  | 84 => ⟨S8x64x128, .f32⟩
  | 85 => ⟨S_, .f32⟩
  | 86 => ⟨S8x64x128, .f32⟩
  | 87 => ⟨S8x64x128, .f32⟩
  | 88 => ⟨S_, .f32⟩
  | 89 => ⟨S8x64x128, .f32⟩
  | 90 => ⟨S8x64x128, .f32⟩
  | 91 => ⟨S_, .f32⟩
  | 92 => ⟨S8x64x128, .f32⟩
  | 93 => ⟨S8x64x128, .f32⟩
  | 94 => ⟨S8x64x128, .f32⟩
  | 95 => ⟨S8x64x128, .f32⟩
  | 96 => ⟨S8x64x128, .f32⟩
  | 97 => ⟨S8x64x128, .f32⟩
  | 98 => ⟨S8x64x128, .f32⟩
  | 99 => ⟨S8x64x128, .f32⟩
  | 100 => ⟨S8x64x128, .f32⟩
  | 101 => ⟨S8x64x128, .f32⟩
  | 102 => ⟨S8x64x128, .f32⟩
  | 103 => ⟨S8x64x128, .f32⟩
  | 104 => ⟨S_, .f32⟩
  | 105 => ⟨S128, .f32⟩
  | 106 => ⟨S1x1x128, .f32⟩
  | 107 => ⟨S8x64x128, .f32⟩
  | 108 => ⟨S8x64x128, .f32⟩
  | 109 => ⟨S_, .f32⟩
  | 110 => ⟨S128, .f32⟩
  | 111 => ⟨S1x128, .f32⟩
  | 112 => ⟨S8x64x128, .f32⟩
  | 113 => ⟨S_, .f32⟩
  | 114 => ⟨S8x64, .f32⟩
  | 115 => ⟨S8x64x1, .f32⟩
  | 116 => ⟨S8x64x128, .f32⟩
  | 117 => ⟨S8x64x128, .f32⟩
  | 118 => ⟨S8x64x1, .f32⟩
  | 119 => ⟨S_, .f32⟩
  | 120 => ⟨S8x64x1, .f32⟩
  | 121 => ⟨S8x64x1, .f32⟩
  | 122 => ⟨S_, .f32⟩
  | 123 => ⟨S8x64, .f32⟩
  | 124 => ⟨S8x64x128, .f32⟩
  | 125 => ⟨S8x64x128, .f32⟩
  | 126 => ⟨S8x64x128, .f32⟩
  | 127 => ⟨S8x64x128, .f32⟩
  | _ => ⟨S4096x1024, .f32⟩

abbrev hbmTy0_2 (i : Nat) : BufTy := match i % 128 with
  | 0 => ⟨S8x64x128, .f32⟩
  | 1 => ⟨S8x128x64, .f32⟩
  | 2 => ⟨S8x64x128, .f32⟩
  | 3 => ⟨S8x128x64, .f32⟩
  | 4 => ⟨S8x64x128, .f32⟩
  | 5 => ⟨S8x128x128, .f32⟩
  | 6 => ⟨S_, .f32⟩
  | 7 => ⟨S8, .f32⟩
  | 8 => ⟨S8x1x1, .f32⟩
  | 9 => ⟨S8x128x128, .f32⟩
  | 10 => ⟨S8x128x128, .f32⟩
  | 11 => ⟨S_, .f32⟩
  | 12 => ⟨S8, .f32⟩
  | 13 => ⟨S8, .f32⟩
  | 14 => ⟨S8x128x64, .f32⟩
  | 15 => ⟨S8x64x128, .f32⟩
  | 16 => ⟨S8x64x128, .f32⟩
  | 17 => ⟨S8x64x64, .f32⟩
  | 18 => ⟨S8x128x128, .f32⟩
  | 19 => ⟨S8x128x128, .f32⟩
  | 20 => ⟨S8x128x128, .f32⟩
  | 21 => ⟨S8x64x128, .f32⟩
  | 22 => ⟨S8x64x128, .f32⟩
  | 23 => ⟨S8x128x128, .f32⟩
  | 24 => ⟨S8x128x128, .f32⟩
  | 25 => ⟨S8x128x128, .f32⟩
  | 26 => ⟨S8x64x128, .f32⟩
  | 27 => ⟨S8x64x128, .f32⟩
  | 28 => ⟨S_, .f32⟩
  | 29 => ⟨S8x64, .f32⟩
  | 30 => ⟨S8x64x1, .f32⟩
  | 31 => ⟨S8x64x128, .f32⟩
  | 32 => ⟨S8x64x128, .f32⟩
  | 33 => ⟨S_, .f32⟩
  | 34 => ⟨S8x64, .f32⟩
  | 35 => ⟨S8x64, .f32⟩
  | 36 => ⟨S_, .f32⟩
  | 37 => ⟨S8, .f32⟩
  | 38 => ⟨S8x1, .f32⟩
  | 39 => ⟨S8x64, .f32⟩
  | 40 => ⟨S_, .f32⟩
  | 41 => ⟨S8, .f32⟩
  | 42 => ⟨S8, .f32⟩
  | 43 => ⟨S8x1, .f32⟩
  | 44 => ⟨S_, .f32⟩
  | 45 => ⟨S8x64, .f32⟩
  | 46 => ⟨S8x64, .f32⟩
  | 47 => ⟨S8x64x128, .f32⟩
  | 48 => ⟨S_, .f32⟩
  | 49 => ⟨S8x64, .f32⟩
  | 50 => ⟨S8x64x1, .f32⟩
  | 51 => ⟨S8x64x128, .f32⟩
  | 52 => ⟨S8x64x128, .f32⟩
  | 53 => ⟨S8x64x64, .f32⟩
  | 54 => ⟨S8x64x64, .f32⟩
  | 55 => ⟨S8x64x128, .f32⟩
  | 56 => ⟨S8x64x128, .f32⟩
  | 57 => ⟨S8x64x128, .f32⟩
  | 58 => ⟨S8x64x128, .f32⟩
  | 59 => ⟨S_, .f32⟩
  | 60 => ⟨S8x64x256, .f32⟩
  | 61 => ⟨S_, .f32⟩
  | 62 => ⟨S8x64x256, .f32⟩
  | 63 => ⟨S8x64x256, .f32⟩
  | 64 => ⟨S8x256x64, .f32⟩
  | 65 => ⟨S8x64x256, .f32⟩
  | 66 => ⟨S8x64x256, .f32⟩
  | 67 => ⟨S8x64x64, .f32⟩
  | 68 => ⟨S8x64x64, .f32⟩
  | 69 => ⟨S8x64x128, .f32⟩
  | 70 => ⟨S8x64x128, .f32⟩
  | 71 => ⟨S8x64x128, .f32⟩
  | 72 => ⟨S_, .f32⟩
  | 73 => ⟨S8x64, .f32⟩
  | 74 => ⟨S8x64x1, .f32⟩
  | 75 => ⟨S8x64x1, .f32⟩
  | 76 => ⟨S8x64x128, .f32⟩
  | 77 => ⟨S8x64x128, .f32⟩
  | 78 => ⟨S8x64x128, .f32⟩
  | 79 => ⟨S_, .f32⟩
  | 80 => ⟨S8x64, .f32⟩
  | 81 => ⟨S8x64x1, .f32⟩
  | 82 => ⟨S8x64x128, .f32⟩
  | 83 => ⟨S8x64x128, .f32⟩
  | 84 => ⟨S_, .f32⟩
  | 85 => ⟨S8x64, .f32⟩
  | 86 => ⟨S_, .f32⟩
  | 87 => ⟨S8x64, .f32⟩
  | 88 => ⟨S8x64, .f32⟩
  | 89 => ⟨S8x64, .f32⟩
  | 90 => ⟨S_, .f32⟩
  | 91 => ⟨S8x64x64, .f32⟩
  | 92 => ⟨S8x64x64, .f32⟩
  | 93 => ⟨S8x64x64, .f32⟩
  | 94 => ⟨S8x64x64, .f32⟩
  | 95 => ⟨S8x64x64, .f32⟩
  | 96 => ⟨S8x64x128, .f32⟩
  | 97 => ⟨S8x64x128, .f32⟩
  | 98 => ⟨S8x64x128, .f32⟩
  | 99 => ⟨S8x64x128, .f32⟩
  | 100 => ⟨S8x64x128, .f32⟩
  | 101 => ⟨S_, .f32⟩
  | 102 => ⟨S8x64, .f32⟩
  | 103 => ⟨S8x64x1, .f32⟩
  | 104 => ⟨S8x64x128, .f32⟩
  | 105 => ⟨S8x64x128, .f32⟩
  | 106 => ⟨S8x64x128, .f32⟩
  | 107 => ⟨S_, .f32⟩
  | 108 => ⟨S8x64, .f32⟩
  | 109 => ⟨S8x64, .f32⟩
  | 110 => ⟨S8x64x64, .f32⟩
  | 111 => ⟨S_, .f32⟩
  | 112 => ⟨S8x64x64, .f32⟩
  | 113 => ⟨S8x64x64, .f32⟩
  | 114 => ⟨S_, .f32⟩
  | 115 => ⟨S8x64, .f32⟩
  | 116 => ⟨S8x64x1, .f32⟩
  | 117 => ⟨S8x64x64, .f32⟩
  | 118 => ⟨S_, .f32⟩
  | 119 => ⟨S8x64, .f32⟩
  | 120 => ⟨S8x1x64, .f32⟩
  | 121 => ⟨S_, .f32⟩
  | 122 => ⟨S8x64, .f32⟩
  | 123 => ⟨S8x64, .f32⟩
  | 124 => ⟨S_, .f32⟩
  | 125 => ⟨S8x64, .f32⟩
  | 126 => ⟨S8x64, .f32⟩
  | 127 => ⟨S_, .f32⟩
  | _ => ⟨S4096x1024, .f32⟩

abbrev hbmTy0_3 (i : Nat) : BufTy := match i % 128 with
  | 0 => ⟨S_, .f32⟩
  | 1 => ⟨S8x64, .f32⟩
  | 2 => ⟨S1x128, .f32⟩
  | 3 => ⟨S1x8x64x128, .f32⟩
  | 4 => ⟨S_, .i32⟩
  | 5 => ⟨S_, .i32⟩
  | 6 => ⟨S_, .i32⟩
  | 7 => ⟨S64x8x64x128, .f32⟩
  | 8 => ⟨S1x8x64x128, .f32⟩
  | 9 => ⟨S_, .i32⟩
  | 10 => ⟨S_, .i32⟩
  | 11 => ⟨S_, .i32⟩
  | 12 => ⟨S64x8x64x128, .f32⟩
  | 13 => ⟨S1x8x64x128, .f32⟩
  | 14 => ⟨S_, .i32⟩
  | 15 => ⟨S_, .i32⟩
  | 16 => ⟨S_, .i32⟩
  | 17 => ⟨S64x8x64x128, .f32⟩
  | 18 => ⟨S1x8x64, .f32⟩
  | 19 => ⟨S_, .i32⟩
  | 20 => ⟨S_, .i32⟩
  | 21 => ⟨S64x8x64, .f32⟩
  | 22 => ⟨S1x8x64, .f32⟩
  | 23 => ⟨S_, .i32⟩
  | 24 => ⟨S_, .i32⟩
  | 25 => ⟨S64x8x64, .f32⟩
  | 26 => ⟨S1x8x64x128, .f32⟩
  | 27 => ⟨S_, .i32⟩
  | 28 => ⟨S_, .i32⟩
  | 29 => ⟨S_, .i32⟩
  | 30 => ⟨S64x8x64x128, .f32⟩
  | 31 => ⟨S_, .i32⟩
  | 32 => ⟨S_, .i32⟩
  | 33 => ⟨S64x8x64x1, .f32⟩
  | 34 => ⟨S64x64x8x1, .f32⟩
  | 35 => ⟨S4096x8, .f32⟩
  | 36 => ⟨S64x8x64x1, .f32⟩
  | 37 => ⟨S64x64x8x1, .f32⟩
  | 38 => ⟨S4096x8, .f32⟩
  | 39 => ⟨S4096x16, .f32⟩
  | 40 => ⟨S64x64x8x128, .f32⟩
  | 41 => ⟨S4096x1024, .f32⟩
  | 42 => ⟨S64x64x8x128, .f32⟩
  | 43 => ⟨S4096x1024, .f32⟩
  | 44 => ⟨S64x64x8x128, .f32⟩
  | 45 => ⟨S4096x1024, .f32⟩
  | 46 => ⟨S_, .i32⟩
  | 47 => ⟨S_, .f32⟩
  | 48 => ⟨S4096x128, .f32⟩
  | 49 => ⟨S64x64x8x128, .f32⟩
  | 50 => ⟨S4096x1024, .f32⟩
  | _ => ⟨S4096x1024, .f32⟩

abbrev hbmTy (i : Nat) : BufTy := match i / 128 with
  | 0 => hbmTy0_0 i
  | 1 => hbmTy0_1 i
  | 2 => hbmTy0_2 i
  | 3 => hbmTy0_3 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst : Ref sig .tc := ⟨.hbm, 26, rfl⟩
abbrev main_v17 : Ref sig .tc := ⟨.hbm, 27, rfl⟩
abbrev main_cst_0 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_1 : Ref sig .tc := ⟨.hbm, 33, rfl⟩
abbrev main_v22 : Ref sig .tc := ⟨.hbm, 34, rfl⟩
abbrev main_cst_2 : Ref sig .tc := ⟨.hbm, 35, rfl⟩
abbrev main_v23 : Ref sig .tc := ⟨.hbm, 36, rfl⟩
abbrev main_cst_3 : Ref sig .tc := ⟨.hbm, 37, rfl⟩
abbrev main_v24 : Ref sig .tc := ⟨.hbm, 38, rfl⟩
abbrev main_cst_4 : Ref sig .tc := ⟨.hbm, 39, rfl⟩
abbrev main_v25 : Ref sig .tc := ⟨.hbm, 40, rfl⟩
abbrev main_cst_5 : Ref sig .tc := ⟨.hbm, 41, rfl⟩
abbrev main_v26 : Ref sig .tc := ⟨.hbm, 42, rfl⟩
abbrev main_cst_6 : Ref sig .tc := ⟨.hbm, 43, rfl⟩
abbrev main_v27 : Ref sig .tc := ⟨.hbm, 44, rfl⟩
abbrev main_c : Ref sig .tc := ⟨.hbm, 45, rfl⟩
abbrev main_v28_0 : Ref sig .tc := ⟨.hbm, 46, rfl⟩
abbrev main_v28_1 : Ref sig .tc := ⟨.hbm, 47, rfl⟩
abbrev main_v28_2 : Ref sig .tc := ⟨.hbm, 48, rfl⟩
abbrev main_v28_3 : Ref sig .tc := ⟨.hbm, 49, rfl⟩
abbrev main_v28_4 : Ref sig .tc := ⟨.hbm, 50, rfl⟩
abbrev main_v28_5 : Ref sig .tc := ⟨.hbm, 51, rfl⟩
abbrev main_v28_6 : Ref sig .tc := ⟨.hbm, 52, rfl⟩
abbrev main_v28_7 : Ref sig .tc := ⟨.hbm, 53, rfl⟩
abbrev main_v28_8 : Ref sig .tc := ⟨.hbm, 54, rfl⟩
abbrev main_v28_9 : Ref sig .tc := ⟨.hbm, 55, rfl⟩
abbrev main_v28_10 : Ref sig .tc := ⟨.hbm, 56, rfl⟩
abbrev main_v28_11 : Ref sig .tc := ⟨.hbm, 57, rfl⟩
abbrev main_v28_12 : Ref sig .tc := ⟨.hbm, 58, rfl⟩
abbrev main_v28_13 : Ref sig .tc := ⟨.hbm, 59, rfl⟩
abbrev main_v28_14 : Ref sig .tc := ⟨.hbm, 60, rfl⟩
abbrev main_v28_15 : Ref sig .tc := ⟨.hbm, 61, rfl⟩
abbrev main_v28_16 : Ref sig .tc := ⟨.hbm, 62, rfl⟩
abbrev main_v28_17 : Ref sig .tc := ⟨.hbm, 63, rfl⟩
abbrev main_v28_18 : Ref sig .tc := ⟨.hbm, 64, rfl⟩
abbrev main_while0c_c_26 : Ref sig .tc := ⟨.hbm, 65, rfl⟩
abbrev main_while0c_v45 : Ref sig .tc := ⟨.hbm, 66, rfl⟩
abbrev main_while0b_c_26 : Ref sig .tc := ⟨.hbm, 67, rfl⟩
abbrev main_while0b_v45 : Ref sig .tc := ⟨.hbm, 68, rfl⟩
abbrev main_while0b_c_27 : Ref sig .tc := ⟨.hbm, 69, rfl⟩
abbrev main_while0b_v46 : Ref sig .tc := ⟨.hbm, 70, rfl⟩
abbrev main_while0b_call0_c : Ref sig .tc := ⟨.hbm, 71, rfl⟩
abbrev main_while0b_call0_c_0 : Ref sig .tc := ⟨.hbm, 72, rfl⟩
abbrev main_while0b_call0_c_1 : Ref sig .tc := ⟨.hbm, 73, rfl⟩
abbrev main_while0b_call0_v0 : Ref sig .tc := ⟨.hbm, 74, rfl⟩
abbrev main_while0b_v47 : Ref sig .tc := ⟨.hbm, 75, rfl⟩
abbrev main_while0b_call1_c : Ref sig .tc := ⟨.hbm, 76, rfl⟩
abbrev main_while0b_call1_c_0 : Ref sig .tc := ⟨.hbm, 77, rfl⟩
abbrev main_while0b_call1_c_1 : Ref sig .tc := ⟨.hbm, 78, rfl⟩
abbrev main_while0b_call1_v0 : Ref sig .tc := ⟨.hbm, 79, rfl⟩
abbrev main_while0b_v48 : Ref sig .tc := ⟨.hbm, 80, rfl⟩
abbrev main_while0b_call2_c : Ref sig .tc := ⟨.hbm, 81, rfl⟩
abbrev main_while0b_call2_c_0 : Ref sig .tc := ⟨.hbm, 82, rfl⟩
abbrev main_while0b_call2_c_1 : Ref sig .tc := ⟨.hbm, 83, rfl⟩
abbrev main_while0b_call2_v0 : Ref sig .tc := ⟨.hbm, 84, rfl⟩
abbrev main_while0b_v49 : Ref sig .tc := ⟨.hbm, 85, rfl⟩
abbrev main_while0b_call3_c : Ref sig .tc := ⟨.hbm, 86, rfl⟩
abbrev main_while0b_call3_c_0 : Ref sig .tc := ⟨.hbm, 87, rfl⟩
abbrev main_while0b_call3_v0 : Ref sig .tc := ⟨.hbm, 88, rfl⟩
abbrev main_while0b_v50 : Ref sig .tc := ⟨.hbm, 89, rfl⟩
abbrev main_while0b_call4_c : Ref sig .tc := ⟨.hbm, 90, rfl⟩
abbrev main_while0b_call4_c_0 : Ref sig .tc := ⟨.hbm, 91, rfl⟩
abbrev main_while0b_call4_v0 : Ref sig .tc := ⟨.hbm, 92, rfl⟩
abbrev main_while0b_v51 : Ref sig .tc := ⟨.hbm, 93, rfl⟩
abbrev main_while0b_call5_c : Ref sig .tc := ⟨.hbm, 94, rfl⟩
abbrev main_while0b_call5_c_0 : Ref sig .tc := ⟨.hbm, 95, rfl⟩
abbrev main_while0b_call5_c_1 : Ref sig .tc := ⟨.hbm, 96, rfl⟩
abbrev main_while0b_call5_v0 : Ref sig .tc := ⟨.hbm, 97, rfl⟩
abbrev main_while0b_v52 : Ref sig .tc := ⟨.hbm, 98, rfl⟩
abbrev main_while0b_call6_c : Ref sig .tc := ⟨.hbm, 99, rfl⟩
abbrev main_while0b_call6_c_0 : Ref sig .tc := ⟨.hbm, 100, rfl⟩
abbrev main_while0b_call6_c_1 : Ref sig .tc := ⟨.hbm, 101, rfl⟩
abbrev main_while0b_call6_v0 : Ref sig .tc := ⟨.hbm, 102, rfl⟩
abbrev main_while0b_v53 : Ref sig .tc := ⟨.hbm, 103, rfl⟩
abbrev main_while0b_call7_c : Ref sig .tc := ⟨.hbm, 104, rfl⟩
abbrev main_while0b_call7_c_0 : Ref sig .tc := ⟨.hbm, 105, rfl⟩
abbrev main_while0b_call7_c_1 : Ref sig .tc := ⟨.hbm, 106, rfl⟩
abbrev main_while0b_call7_v0 : Ref sig .tc := ⟨.hbm, 107, rfl⟩
abbrev main_while0b_v54 : Ref sig .tc := ⟨.hbm, 108, rfl⟩
abbrev main_while0b_call8_c : Ref sig .tc := ⟨.hbm, 109, rfl⟩
abbrev main_while0b_call8_c_0 : Ref sig .tc := ⟨.hbm, 110, rfl⟩
abbrev main_while0b_call8_c_1 : Ref sig .tc := ⟨.hbm, 111, rfl⟩
abbrev main_while0b_call8_v0 : Ref sig .tc := ⟨.hbm, 112, rfl⟩
abbrev main_while0b_v55 : Ref sig .tc := ⟨.hbm, 113, rfl⟩
abbrev main_while0b_call9_call0_cst : Ref sig .tc := ⟨.hbm, 114, rfl⟩
abbrev main_while0b_call9_call0_v0 : Ref sig .tc := ⟨.hbm, 115, rfl⟩
abbrev main_while0b_v56 : Ref sig .tc := ⟨.hbm, 116, rfl⟩
abbrev main_while0b_v57 : Ref sig .tc := ⟨.hbm, 117, rfl⟩
abbrev main_while0b_v58 : Ref sig .tc := ⟨.hbm, 118, rfl⟩
abbrev main_while0b_v59 : Ref sig .tc := ⟨.hbm, 119, rfl⟩
abbrev main_while0b_v60 : Ref sig .tc := ⟨.hbm, 120, rfl⟩
abbrev main_while0b_v61 : Ref sig .tc := ⟨.hbm, 121, rfl⟩
abbrev main_while0b_v62 : Ref sig .tc := ⟨.hbm, 122, rfl⟩
abbrev main_while0b_v63 : Ref sig .tc := ⟨.hbm, 123, rfl⟩
abbrev main_while0b_v64 : Ref sig .tc := ⟨.hbm, 124, rfl⟩
abbrev main_while0b_v65 : Ref sig .tc := ⟨.hbm, 125, rfl⟩
abbrev main_while0b_v66 : Ref sig .tc := ⟨.hbm, 126, rfl⟩
abbrev main_while0b_v67 : Ref sig .tc := ⟨.hbm, 127, rfl⟩
abbrev main_while0b_v68 : Ref sig .tc := ⟨.hbm, 128, rfl⟩
abbrev main_while0b_v69 : Ref sig .tc := ⟨.hbm, 129, rfl⟩
abbrev main_while0b_v70 : Ref sig .tc := ⟨.hbm, 130, rfl⟩
abbrev main_while0b_v71 : Ref sig .tc := ⟨.hbm, 131, rfl⟩
abbrev main_while0b_v72 : Ref sig .tc := ⟨.hbm, 132, rfl⟩
abbrev main_while0b_cst_28 : Ref sig .tc := ⟨.hbm, 133, rfl⟩
abbrev main_while0b_call10_v0 : Ref sig .tc := ⟨.hbm, 134, rfl⟩
abbrev main_while0b_v73_1 : Ref sig .tc := ⟨.hbm, 135, rfl⟩
abbrev main_while0b_call10_v2 : Ref sig .tc := ⟨.hbm, 136, rfl⟩
abbrev main_while0b_v73_0 : Ref sig .tc := ⟨.hbm, 137, rfl⟩
abbrev main_while0b_call10_cst : Ref sig .tc := ⟨.hbm, 138, rfl⟩
abbrev main_while0b_v73_2 : Ref sig .tc := ⟨.hbm, 139, rfl⟩
abbrev main_while0b_v74 : Ref sig .tc := ⟨.hbm, 140, rfl⟩
abbrev main_while0b_v75 : Ref sig .tc := ⟨.hbm, 141, rfl⟩
abbrev main_while0b_v76 : Ref sig .tc := ⟨.hbm, 142, rfl⟩
abbrev main_while0b_v77 : Ref sig .tc := ⟨.hbm, 143, rfl⟩
abbrev main_while0b_v78 : Ref sig .tc := ⟨.hbm, 144, rfl⟩
abbrev main_while0b_v79 : Ref sig .tc := ⟨.hbm, 145, rfl⟩
abbrev main_while0b_cst_29 : Ref sig .tc := ⟨.hbm, 146, rfl⟩
abbrev main_while0b_call11_v0 : Ref sig .tc := ⟨.hbm, 147, rfl⟩
abbrev main_while0b_v80_1 : Ref sig .tc := ⟨.hbm, 148, rfl⟩
abbrev main_while0b_call11_v2 : Ref sig .tc := ⟨.hbm, 149, rfl⟩
abbrev main_while0b_v80_0 : Ref sig .tc := ⟨.hbm, 150, rfl⟩
abbrev main_while0b_call11_cst : Ref sig .tc := ⟨.hbm, 151, rfl⟩
abbrev main_while0b_v80_2 : Ref sig .tc := ⟨.hbm, 152, rfl⟩
abbrev main_while0b_v81 : Ref sig .tc := ⟨.hbm, 153, rfl⟩
abbrev main_while0b_v82 : Ref sig .tc := ⟨.hbm, 154, rfl⟩
abbrev main_while0b_v83 : Ref sig .tc := ⟨.hbm, 155, rfl⟩
abbrev main_while0b_v84 : Ref sig .tc := ⟨.hbm, 156, rfl⟩
abbrev main_while0b_v85 : Ref sig .tc := ⟨.hbm, 157, rfl⟩
abbrev main_while0b_v86 : Ref sig .tc := ⟨.hbm, 158, rfl⟩
abbrev main_while0b_v87 : Ref sig .tc := ⟨.hbm, 159, rfl⟩
abbrev main_while0b_v88 : Ref sig .tc := ⟨.hbm, 160, rfl⟩
abbrev main_while0b_cst_30 : Ref sig .tc := ⟨.hbm, 161, rfl⟩
abbrev main_while0b_v89 : Ref sig .tc := ⟨.hbm, 162, rfl⟩
abbrev main_while0b_v90 : Ref sig .tc := ⟨.hbm, 163, rfl⟩
abbrev main_while0b_v91 : Ref sig .tc := ⟨.hbm, 164, rfl⟩
abbrev main_while0b_v92 : Ref sig .tc := ⟨.hbm, 165, rfl⟩
abbrev main_while0b_v93 : Ref sig .tc := ⟨.hbm, 166, rfl⟩
abbrev main_while0b_v94 : Ref sig .tc := ⟨.hbm, 167, rfl⟩
abbrev main_while0b_v95 : Ref sig .tc := ⟨.hbm, 168, rfl⟩
abbrev main_while0b_v96 : Ref sig .tc := ⟨.hbm, 169, rfl⟩
abbrev main_while0b_v97 : Ref sig .tc := ⟨.hbm, 170, rfl⟩
abbrev main_while0b_v98 : Ref sig .tc := ⟨.hbm, 171, rfl⟩
abbrev main_while0b_v99 : Ref sig .tc := ⟨.hbm, 172, rfl⟩
abbrev main_while0b_v100 : Ref sig .tc := ⟨.hbm, 173, rfl⟩
abbrev main_while0b_v101 : Ref sig .tc := ⟨.hbm, 174, rfl⟩
abbrev main_while0b_v102 : Ref sig .tc := ⟨.hbm, 175, rfl⟩
abbrev main_while0b_v103 : Ref sig .tc := ⟨.hbm, 176, rfl⟩
abbrev main_while0b_v104 : Ref sig .tc := ⟨.hbm, 177, rfl⟩
abbrev main_while0b_v105 : Ref sig .tc := ⟨.hbm, 178, rfl⟩
abbrev main_while0b_v106 : Ref sig .tc := ⟨.hbm, 179, rfl⟩
abbrev main_while0b_v107 : Ref sig .tc := ⟨.hbm, 180, rfl⟩
abbrev main_while0b_v108 : Ref sig .tc := ⟨.hbm, 181, rfl⟩
abbrev main_while0b_v109 : Ref sig .tc := ⟨.hbm, 182, rfl⟩
abbrev main_while0b_v110 : Ref sig .tc := ⟨.hbm, 183, rfl⟩
abbrev main_while0b_v111 : Ref sig .tc := ⟨.hbm, 184, rfl⟩
abbrev main_while0b_v112 : Ref sig .tc := ⟨.hbm, 185, rfl⟩
abbrev main_while0b_v113 : Ref sig .tc := ⟨.hbm, 186, rfl⟩
abbrev main_while0b_v114 : Ref sig .tc := ⟨.hbm, 187, rfl⟩
abbrev main_while0b_v115 : Ref sig .tc := ⟨.hbm, 188, rfl⟩
abbrev main_while0b_v116 : Ref sig .tc := ⟨.hbm, 189, rfl⟩
abbrev main_while0b_v117 : Ref sig .tc := ⟨.hbm, 190, rfl⟩
abbrev main_while0b_v118 : Ref sig .tc := ⟨.hbm, 191, rfl⟩
abbrev main_while0b_cst_31 : Ref sig .tc := ⟨.hbm, 192, rfl⟩
abbrev main_while0b_v119 : Ref sig .tc := ⟨.hbm, 193, rfl⟩
abbrev main_while0b_v120 : Ref sig .tc := ⟨.hbm, 194, rfl⟩
abbrev main_while0b_cst_32 : Ref sig .tc := ⟨.hbm, 195, rfl⟩
abbrev main_while0b_v121 : Ref sig .tc := ⟨.hbm, 196, rfl⟩
abbrev main_while0b_v122 : Ref sig .tc := ⟨.hbm, 197, rfl⟩
abbrev main_while0b_cst_33 : Ref sig .tc := ⟨.hbm, 198, rfl⟩
abbrev main_while0b_v123 : Ref sig .tc := ⟨.hbm, 199, rfl⟩
abbrev main_while0b_v124 : Ref sig .tc := ⟨.hbm, 200, rfl⟩
abbrev main_while0b_v125 : Ref sig .tc := ⟨.hbm, 201, rfl⟩
abbrev main_while0b_v126 : Ref sig .tc := ⟨.hbm, 202, rfl⟩
abbrev main_while0b_cst_34 : Ref sig .tc := ⟨.hbm, 203, rfl⟩
abbrev main_while0b_v127 : Ref sig .tc := ⟨.hbm, 204, rfl⟩
abbrev main_while0b_v128 : Ref sig .tc := ⟨.hbm, 205, rfl⟩
abbrev main_while0b_v129 : Ref sig .tc := ⟨.hbm, 206, rfl⟩
abbrev main_while0b_v130 : Ref sig .tc := ⟨.hbm, 207, rfl⟩
abbrev main_while0b_v131 : Ref sig .tc := ⟨.hbm, 208, rfl⟩
abbrev main_while0b_v132 : Ref sig .tc := ⟨.hbm, 209, rfl⟩
abbrev main_while0b_v133 : Ref sig .tc := ⟨.hbm, 210, rfl⟩
abbrev main_while0b_call12_v0 : Ref sig .tc := ⟨.hbm, 211, rfl⟩
abbrev main_while0b_call12_v1 : Ref sig .tc := ⟨.hbm, 212, rfl⟩
abbrev main_while0b_call12_cst : Ref sig .tc := ⟨.hbm, 213, rfl⟩
abbrev main_while0b_call12_v2 : Ref sig .tc := ⟨.hbm, 214, rfl⟩
abbrev main_while0b_call12_v3 : Ref sig .tc := ⟨.hbm, 215, rfl⟩
abbrev main_while0b_call12_cst_0 : Ref sig .tc := ⟨.hbm, 216, rfl⟩
abbrev main_while0b_call12_v4 : Ref sig .tc := ⟨.hbm, 217, rfl⟩
abbrev main_while0b_v134_2 : Ref sig .tc := ⟨.hbm, 218, rfl⟩
abbrev main_while0b_call12_cst_1 : Ref sig .tc := ⟨.hbm, 219, rfl⟩
abbrev main_while0b_call12_v6 : Ref sig .tc := ⟨.hbm, 220, rfl⟩
abbrev main_while0b_call12_v7 : Ref sig .tc := ⟨.hbm, 221, rfl⟩
abbrev main_while0b_v134_1 : Ref sig .tc := ⟨.hbm, 222, rfl⟩
abbrev main_while0b_v134_0 : Ref sig .tc := ⟨.hbm, 223, rfl⟩
abbrev main_while0b_v135 : Ref sig .tc := ⟨.hbm, 224, rfl⟩
abbrev main_while0b_v136 : Ref sig .tc := ⟨.hbm, 225, rfl⟩
abbrev main_while0b_v137 : Ref sig .tc := ⟨.hbm, 226, rfl⟩
abbrev main_while0b_call13_v0 : Ref sig .tc := ⟨.hbm, 227, rfl⟩
abbrev main_while0b_call13_v1 : Ref sig .tc := ⟨.hbm, 228, rfl⟩
abbrev main_while0b_call13_v2 : Ref sig .tc := ⟨.hbm, 229, rfl⟩
abbrev main_while0b_v138 : Ref sig .tc := ⟨.hbm, 230, rfl⟩
abbrev main_while0b_v139 : Ref sig .tc := ⟨.hbm, 231, rfl⟩
abbrev main_while0b_cst_35 : Ref sig .tc := ⟨.hbm, 232, rfl⟩
abbrev main_while0b_v140 : Ref sig .tc := ⟨.hbm, 233, rfl⟩
abbrev main_while0b_v141 : Ref sig .tc := ⟨.hbm, 234, rfl⟩
abbrev main_while0b_v142 : Ref sig .tc := ⟨.hbm, 235, rfl⟩
abbrev main_while0b_v143 : Ref sig .tc := ⟨.hbm, 236, rfl⟩
abbrev main_while0b_cst_36 : Ref sig .tc := ⟨.hbm, 237, rfl⟩
abbrev main_while0b_v144 : Ref sig .tc := ⟨.hbm, 238, rfl⟩
abbrev main_while0b_v145 : Ref sig .tc := ⟨.hbm, 239, rfl⟩
abbrev main_while0b_v146 : Ref sig .tc := ⟨.hbm, 240, rfl⟩
abbrev main_while0b_cst_37 : Ref sig .tc := ⟨.hbm, 241, rfl⟩
abbrev main_while0b_v147 : Ref sig .tc := ⟨.hbm, 242, rfl⟩
abbrev main_while0b_v148 : Ref sig .tc := ⟨.hbm, 243, rfl⟩
abbrev main_while0b_v149 : Ref sig .tc := ⟨.hbm, 244, rfl⟩
abbrev main_while0b_v150 : Ref sig .tc := ⟨.hbm, 245, rfl⟩
abbrev main_while0b_v151 : Ref sig .tc := ⟨.hbm, 246, rfl⟩
abbrev main_while0b_cst_38 : Ref sig .tc := ⟨.hbm, 247, rfl⟩
abbrev main_while0b_v152 : Ref sig .tc := ⟨.hbm, 248, rfl⟩
abbrev main_while0b_v153 : Ref sig .tc := ⟨.hbm, 249, rfl⟩
abbrev main_while0b_cst_39 : Ref sig .tc := ⟨.hbm, 250, rfl⟩
abbrev main_while0b_v154 : Ref sig .tc := ⟨.hbm, 251, rfl⟩
abbrev main_while0b_v155 : Ref sig .tc := ⟨.hbm, 252, rfl⟩
abbrev main_while0b_v156 : Ref sig .tc := ⟨.hbm, 253, rfl⟩
abbrev main_while0b_v157 : Ref sig .tc := ⟨.hbm, 254, rfl⟩
abbrev main_while0b_v158 : Ref sig .tc := ⟨.hbm, 255, rfl⟩
abbrev main_while0b_v159 : Ref sig .tc := ⟨.hbm, 256, rfl⟩
abbrev main_while0b_v160 : Ref sig .tc := ⟨.hbm, 257, rfl⟩
abbrev main_while0b_v161 : Ref sig .tc := ⟨.hbm, 258, rfl⟩
abbrev main_while0b_v162 : Ref sig .tc := ⟨.hbm, 259, rfl⟩
abbrev main_while0b_v163 : Ref sig .tc := ⟨.hbm, 260, rfl⟩
abbrev main_while0b_v164 : Ref sig .tc := ⟨.hbm, 261, rfl⟩
abbrev main_while0b_cst_40 : Ref sig .tc := ⟨.hbm, 262, rfl⟩
abbrev main_while0b_v165 : Ref sig .tc := ⟨.hbm, 263, rfl⟩
abbrev main_while0b_v166 : Ref sig .tc := ⟨.hbm, 264, rfl⟩
abbrev main_while0b_v167 : Ref sig .tc := ⟨.hbm, 265, rfl⟩
abbrev main_while0b_v168 : Ref sig .tc := ⟨.hbm, 266, rfl⟩
abbrev main_while0b_cst_41 : Ref sig .tc := ⟨.hbm, 267, rfl⟩
abbrev main_while0b_v169 : Ref sig .tc := ⟨.hbm, 268, rfl⟩
abbrev main_while0b_v170 : Ref sig .tc := ⟨.hbm, 269, rfl⟩
abbrev main_while0b_v171 : Ref sig .tc := ⟨.hbm, 270, rfl⟩
abbrev main_while0b_v172 : Ref sig .tc := ⟨.hbm, 271, rfl⟩
abbrev main_while0b_v173 : Ref sig .tc := ⟨.hbm, 272, rfl⟩
abbrev main_while0b_v174 : Ref sig .tc := ⟨.hbm, 273, rfl⟩
abbrev main_while0b_v175 : Ref sig .tc := ⟨.hbm, 274, rfl⟩
abbrev main_while0b_v176 : Ref sig .tc := ⟨.hbm, 275, rfl⟩
abbrev main_while0b_v177 : Ref sig .tc := ⟨.hbm, 276, rfl⟩
abbrev main_while0b_v178 : Ref sig .tc := ⟨.hbm, 277, rfl⟩
abbrev main_while0b_v179 : Ref sig .tc := ⟨.hbm, 278, rfl⟩
abbrev main_while0b_v180 : Ref sig .tc := ⟨.hbm, 279, rfl⟩
abbrev main_while0b_v181 : Ref sig .tc := ⟨.hbm, 280, rfl⟩
abbrev main_while0b_v182 : Ref sig .tc := ⟨.hbm, 281, rfl⟩
abbrev main_while0b_v183 : Ref sig .tc := ⟨.hbm, 282, rfl⟩
abbrev main_while0b_v184 : Ref sig .tc := ⟨.hbm, 283, rfl⟩
abbrev main_while0b_cst_42 : Ref sig .tc := ⟨.hbm, 284, rfl⟩
abbrev main_while0b_v185 : Ref sig .tc := ⟨.hbm, 285, rfl⟩
abbrev main_while0b_v186 : Ref sig .tc := ⟨.hbm, 286, rfl⟩
abbrev main_while0b_v187 : Ref sig .tc := ⟨.hbm, 287, rfl⟩
abbrev main_while0b_v188 : Ref sig .tc := ⟨.hbm, 288, rfl⟩
abbrev main_while0b_cst_43 : Ref sig .tc := ⟨.hbm, 289, rfl⟩
abbrev main_while0b_v189 : Ref sig .tc := ⟨.hbm, 290, rfl⟩
abbrev main_while0b_v190 : Ref sig .tc := ⟨.hbm, 291, rfl⟩
abbrev main_while0b_cst_44 : Ref sig .tc := ⟨.hbm, 292, rfl⟩
abbrev main_while0b_v191 : Ref sig .tc := ⟨.hbm, 293, rfl⟩
abbrev main_while0b_v192 : Ref sig .tc := ⟨.hbm, 294, rfl⟩
abbrev main_while0b_v193 : Ref sig .tc := ⟨.hbm, 295, rfl⟩
abbrev main_while0b_cst_45 : Ref sig .tc := ⟨.hbm, 296, rfl⟩
abbrev main_while0b_v194 : Ref sig .tc := ⟨.hbm, 297, rfl⟩
abbrev main_while0b_v195 : Ref sig .tc := ⟨.hbm, 298, rfl⟩
abbrev main_while0b_v196 : Ref sig .tc := ⟨.hbm, 299, rfl⟩
abbrev main_while0b_cst_46 : Ref sig .tc := ⟨.hbm, 300, rfl⟩
abbrev main_while0b_v197 : Ref sig .tc := ⟨.hbm, 301, rfl⟩
abbrev main_while0b_v198 : Ref sig .tc := ⟨.hbm, 302, rfl⟩
abbrev main_while0b_v199 : Ref sig .tc := ⟨.hbm, 303, rfl⟩
abbrev main_while0b_cst_47 : Ref sig .tc := ⟨.hbm, 304, rfl⟩
abbrev main_while0b_v200 : Ref sig .tc := ⟨.hbm, 305, rfl⟩
abbrev main_while0b_v201 : Ref sig .tc := ⟨.hbm, 306, rfl⟩
abbrev main_while0b_v202 : Ref sig .tc := ⟨.hbm, 307, rfl⟩
abbrev main_while0b_v203 : Ref sig .tc := ⟨.hbm, 308, rfl⟩
abbrev main_while0b_v204 : Ref sig .tc := ⟨.hbm, 309, rfl⟩
abbrev main_while0b_v205 : Ref sig .tc := ⟨.hbm, 310, rfl⟩
abbrev main_while0b_v206 : Ref sig .tc := ⟨.hbm, 311, rfl⟩
abbrev main_while0b_v207 : Ref sig .tc := ⟨.hbm, 312, rfl⟩
abbrev main_while0b_v208 : Ref sig .tc := ⟨.hbm, 313, rfl⟩
abbrev main_while0b_v209 : Ref sig .tc := ⟨.hbm, 314, rfl⟩
abbrev main_while0b_cst_48 : Ref sig .tc := ⟨.hbm, 315, rfl⟩
abbrev main_while0b_v210 : Ref sig .tc := ⟨.hbm, 316, rfl⟩
abbrev main_while0b_cst_49 : Ref sig .tc := ⟨.hbm, 317, rfl⟩
abbrev main_while0b_v211 : Ref sig .tc := ⟨.hbm, 318, rfl⟩
abbrev main_while0b_v212 : Ref sig .tc := ⟨.hbm, 319, rfl⟩
abbrev main_while0b_v213 : Ref sig .tc := ⟨.hbm, 320, rfl⟩
abbrev main_while0b_v214 : Ref sig .tc := ⟨.hbm, 321, rfl⟩
abbrev main_while0b_v215 : Ref sig .tc := ⟨.hbm, 322, rfl⟩
abbrev main_while0b_v216 : Ref sig .tc := ⟨.hbm, 323, rfl⟩
abbrev main_while0b_v217 : Ref sig .tc := ⟨.hbm, 324, rfl⟩
abbrev main_while0b_v218 : Ref sig .tc := ⟨.hbm, 325, rfl⟩
abbrev main_while0b_v219 : Ref sig .tc := ⟨.hbm, 326, rfl⟩
abbrev main_while0b_v220 : Ref sig .tc := ⟨.hbm, 327, rfl⟩
abbrev main_while0b_cst_50 : Ref sig .tc := ⟨.hbm, 328, rfl⟩
abbrev main_while0b_v221 : Ref sig .tc := ⟨.hbm, 329, rfl⟩
abbrev main_while0b_v222 : Ref sig .tc := ⟨.hbm, 330, rfl⟩
abbrev main_while0b_v223 : Ref sig .tc := ⟨.hbm, 331, rfl⟩
abbrev main_while0b_v224 : Ref sig .tc := ⟨.hbm, 332, rfl⟩
abbrev main_while0b_v225 : Ref sig .tc := ⟨.hbm, 333, rfl⟩
abbrev main_while0b_v226 : Ref sig .tc := ⟨.hbm, 334, rfl⟩
abbrev main_while0b_cst_51 : Ref sig .tc := ⟨.hbm, 335, rfl⟩
abbrev main_while0b_v227 : Ref sig .tc := ⟨.hbm, 336, rfl⟩
abbrev main_while0b_v228 : Ref sig .tc := ⟨.hbm, 337, rfl⟩
abbrev main_while0b_v229 : Ref sig .tc := ⟨.hbm, 338, rfl⟩
abbrev main_while0b_v230 : Ref sig .tc := ⟨.hbm, 339, rfl⟩
abbrev main_while0b_cst_52 : Ref sig .tc := ⟨.hbm, 340, rfl⟩
abbrev main_while0b_v231 : Ref sig .tc := ⟨.hbm, 341, rfl⟩
abbrev main_while0b_cst_53 : Ref sig .tc := ⟨.hbm, 342, rfl⟩
abbrev main_while0b_v232 : Ref sig .tc := ⟨.hbm, 343, rfl⟩
abbrev main_while0b_v233 : Ref sig .tc := ⟨.hbm, 344, rfl⟩
abbrev main_while0b_v234 : Ref sig .tc := ⟨.hbm, 345, rfl⟩
abbrev main_while0b_call14_cst : Ref sig .tc := ⟨.hbm, 346, rfl⟩
abbrev main_while0b_call14_v0 : Ref sig .tc := ⟨.hbm, 347, rfl⟩
abbrev main_while0b_v235 : Ref sig .tc := ⟨.hbm, 348, rfl⟩
abbrev main_while0b_v236 : Ref sig .tc := ⟨.hbm, 349, rfl⟩
abbrev main_while0b_v237 : Ref sig .tc := ⟨.hbm, 350, rfl⟩
abbrev main_while0b_v238 : Ref sig .tc := ⟨.hbm, 351, rfl⟩
abbrev main_while0b_v239 : Ref sig .tc := ⟨.hbm, 352, rfl⟩
abbrev main_while0b_v240 : Ref sig .tc := ⟨.hbm, 353, rfl⟩
abbrev main_while0b_v241 : Ref sig .tc := ⟨.hbm, 354, rfl⟩
abbrev main_while0b_v242 : Ref sig .tc := ⟨.hbm, 355, rfl⟩
abbrev main_while0b_v243 : Ref sig .tc := ⟨.hbm, 356, rfl⟩
abbrev main_while0b_cst_54 : Ref sig .tc := ⟨.hbm, 357, rfl⟩
abbrev main_while0b_v244 : Ref sig .tc := ⟨.hbm, 358, rfl⟩
abbrev main_while0b_v245 : Ref sig .tc := ⟨.hbm, 359, rfl⟩
abbrev main_while0b_v246 : Ref sig .tc := ⟨.hbm, 360, rfl⟩
abbrev main_while0b_v247 : Ref sig .tc := ⟨.hbm, 361, rfl⟩
abbrev main_while0b_v248 : Ref sig .tc := ⟨.hbm, 362, rfl⟩
abbrev main_while0b_cst_55 : Ref sig .tc := ⟨.hbm, 363, rfl⟩
abbrev main_while0b_v249 : Ref sig .tc := ⟨.hbm, 364, rfl⟩
abbrev main_while0b_v250 : Ref sig .tc := ⟨.hbm, 365, rfl⟩
abbrev main_while0b_v251 : Ref sig .tc := ⟨.hbm, 366, rfl⟩
abbrev main_while0b_call15_cst : Ref sig .tc := ⟨.hbm, 367, rfl⟩
abbrev main_while0b_call15_v0 : Ref sig .tc := ⟨.hbm, 368, rfl⟩
abbrev main_while0b_v252 : Ref sig .tc := ⟨.hbm, 369, rfl⟩
abbrev main_while0b_cst_56 : Ref sig .tc := ⟨.hbm, 370, rfl⟩
abbrev main_while0b_v253 : Ref sig .tc := ⟨.hbm, 371, rfl⟩
abbrev main_while0b_v254 : Ref sig .tc := ⟨.hbm, 372, rfl⟩
abbrev main_while0b_v255 : Ref sig .tc := ⟨.hbm, 373, rfl⟩
abbrev main_while0b_cst_57 : Ref sig .tc := ⟨.hbm, 374, rfl⟩
abbrev main_while0b_v256 : Ref sig .tc := ⟨.hbm, 375, rfl⟩
abbrev main_while0b_v257 : Ref sig .tc := ⟨.hbm, 376, rfl⟩
abbrev main_while0b_cst_58 : Ref sig .tc := ⟨.hbm, 377, rfl⟩
abbrev main_while0b_v258 : Ref sig .tc := ⟨.hbm, 378, rfl⟩
abbrev main_while0b_v259 : Ref sig .tc := ⟨.hbm, 379, rfl⟩
abbrev main_while0b_cst_59 : Ref sig .tc := ⟨.hbm, 380, rfl⟩
abbrev main_while0b_v260 : Ref sig .tc := ⟨.hbm, 381, rfl⟩
abbrev main_while0b_v261 : Ref sig .tc := ⟨.hbm, 382, rfl⟩
abbrev main_while0b_call16_call0_cst : Ref sig .tc := ⟨.hbm, 383, rfl⟩
abbrev main_while0b_call16_call0_v0 : Ref sig .tc := ⟨.hbm, 384, rfl⟩
abbrev main_while0b_v262 : Ref sig .tc := ⟨.hbm, 385, rfl⟩
abbrev main_while0b_v263 : Ref sig .tc := ⟨.hbm, 386, rfl⟩
abbrev main_while0b_call17_v0 : Ref sig .tc := ⟨.hbm, 387, rfl⟩
abbrev main_while0b_call17_c : Ref sig .tc := ⟨.hbm, 388, rfl⟩
abbrev main_while0b_call17_c_0 : Ref sig .tc := ⟨.hbm, 389, rfl⟩
abbrev main_while0b_call17_c_1 : Ref sig .tc := ⟨.hbm, 390, rfl⟩
abbrev main_while0b_v264 : Ref sig .tc := ⟨.hbm, 391, rfl⟩
abbrev main_while0b_call18_v0 : Ref sig .tc := ⟨.hbm, 392, rfl⟩
abbrev main_while0b_call18_c : Ref sig .tc := ⟨.hbm, 393, rfl⟩
abbrev main_while0b_call18_c_0 : Ref sig .tc := ⟨.hbm, 394, rfl⟩
abbrev main_while0b_call18_c_1 : Ref sig .tc := ⟨.hbm, 395, rfl⟩
abbrev main_while0b_v265 : Ref sig .tc := ⟨.hbm, 396, rfl⟩
abbrev main_while0b_call19_v0 : Ref sig .tc := ⟨.hbm, 397, rfl⟩
abbrev main_while0b_call19_c : Ref sig .tc := ⟨.hbm, 398, rfl⟩
abbrev main_while0b_call19_c_0 : Ref sig .tc := ⟨.hbm, 399, rfl⟩
abbrev main_while0b_call19_c_1 : Ref sig .tc := ⟨.hbm, 400, rfl⟩
abbrev main_while0b_v266 : Ref sig .tc := ⟨.hbm, 401, rfl⟩
abbrev main_while0b_call20_v0 : Ref sig .tc := ⟨.hbm, 402, rfl⟩
abbrev main_while0b_call20_c : Ref sig .tc := ⟨.hbm, 403, rfl⟩
abbrev main_while0b_call20_c_0 : Ref sig .tc := ⟨.hbm, 404, rfl⟩
abbrev main_while0b_v267 : Ref sig .tc := ⟨.hbm, 405, rfl⟩
abbrev main_while0b_call21_v0 : Ref sig .tc := ⟨.hbm, 406, rfl⟩
abbrev main_while0b_call21_c : Ref sig .tc := ⟨.hbm, 407, rfl⟩
abbrev main_while0b_call21_c_0 : Ref sig .tc := ⟨.hbm, 408, rfl⟩
abbrev main_while0b_v268 : Ref sig .tc := ⟨.hbm, 409, rfl⟩
abbrev main_while0b_call22_v0 : Ref sig .tc := ⟨.hbm, 410, rfl⟩
abbrev main_while0b_call22_c : Ref sig .tc := ⟨.hbm, 411, rfl⟩
abbrev main_while0b_call22_c_0 : Ref sig .tc := ⟨.hbm, 412, rfl⟩
abbrev main_while0b_call22_c_1 : Ref sig .tc := ⟨.hbm, 413, rfl⟩
abbrev main_while0b_v269 : Ref sig .tc := ⟨.hbm, 414, rfl⟩
abbrev main_while0b_c_60 : Ref sig .tc := ⟨.hbm, 415, rfl⟩
abbrev main_while0b_v270 : Ref sig .tc := ⟨.hbm, 416, rfl⟩
abbrev main_v29 : Ref sig .tc := ⟨.hbm, 417, rfl⟩
abbrev main_v30 : Ref sig .tc := ⟨.hbm, 418, rfl⟩
abbrev main_v31 : Ref sig .tc := ⟨.hbm, 419, rfl⟩
abbrev main_v32 : Ref sig .tc := ⟨.hbm, 420, rfl⟩
abbrev main_v33 : Ref sig .tc := ⟨.hbm, 421, rfl⟩
abbrev main_v34 : Ref sig .tc := ⟨.hbm, 422, rfl⟩
abbrev main_v35 : Ref sig .tc := ⟨.hbm, 423, rfl⟩
abbrev main_v36 : Ref sig .tc := ⟨.hbm, 424, rfl⟩
abbrev main_v37 : Ref sig .tc := ⟨.hbm, 425, rfl⟩
abbrev main_v38 : Ref sig .tc := ⟨.hbm, 426, rfl⟩
abbrev main_v39 : Ref sig .tc := ⟨.hbm, 427, rfl⟩
abbrev main_v40 : Ref sig .tc := ⟨.hbm, 428, rfl⟩
abbrev main_v41 : Ref sig .tc := ⟨.hbm, 429, rfl⟩
abbrev main_c_7 : Ref sig .tc := ⟨.hbm, 430, rfl⟩
abbrev main_call23_v0 : Ref sig .tc := ⟨.hbm, 431, rfl⟩
abbrev main_v42 : Ref sig .tc := ⟨.hbm, 432, rfl⟩
abbrev main_v43 : Ref sig .tc := ⟨.hbm, 433, rfl⟩
abbrev main_v44 : Ref sig .tc := ⟨.hbm, 434, rfl⟩

abbrev nD : Nat := 1
abbrev τ : Topo := Topo.v7x

variable {F : FTy → Type} [FloatOps F]

abbrev main_while0_count : Scf.Loop 32 := ⟨0#32, 64#32, 1#32⟩
-- ==== Kernel2.lean ====
abbrev S4096x1024 : Shape := ⟨2, ![4096, 1024]⟩
abbrev S4096x4096 : Shape := ⟨2, ![4096, 4096]⟩
abbrev S1024x1024 : Shape := ⟨2, ![1024, 1024]⟩

abbrev nBuf : Space → Nat
  | .hbm => 4
  | .vmem => 8
  | .smem => 0
  | _ => 0

abbrev bufTy : (tb : Table) → Fin (tcTables nBuf tb) → BufTy
  | .hbm, ⟨0, _⟩ => ⟨S4096x1024, .f32⟩
  | .hbm, ⟨1, _⟩ => ⟨S4096x1024, .bf16⟩
  | .hbm, ⟨2, _⟩ => ⟨S4096x4096, .bf16⟩
  | .hbm, ⟨3, _⟩ => ⟨S4096x4096, .bf16⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference2Ideal.lean ====
abbrev S4096x1024 : Shape := ⟨2, ![4096, 1024]⟩
abbrev S4096x4096 : Shape := ⟨2, ![4096, 4096]⟩
abbrev S_ : Shape := ⟨0, ![]⟩

abbrev nBuf : Space → Nat
  | .hbm => 24
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .bf16⟩
  | .hbm, ⟨2, _⟩ => ⟨S4096x4096, .bf16⟩
  | .hbm, ⟨3, _⟩ => ⟨S4096x4096, .f32⟩
  | .hbm, ⟨4, _⟩ => ⟨S4096x1024, .f32⟩
  | .hbm, ⟨5, _⟩ => ⟨S_, .f32⟩
  | .hbm, ⟨6, _⟩ => ⟨S4096x4096, .f32⟩
  | .hbm, ⟨7, _⟩ => ⟨S4096x4096, .f32⟩
  | .hbm, ⟨8, _⟩ => ⟨S_, .f32⟩
  | .hbm, ⟨9, _⟩ => ⟨S4096x4096, .f32⟩
  | .hbm, ⟨10, _⟩ => ⟨S4096x4096, .i1⟩
  | .hbm, ⟨11, _⟩ => ⟨S_, .f32⟩
  | .hbm, ⟨12, _⟩ => ⟨S4096x4096, .f32⟩
  | .hbm, ⟨13, _⟩ => ⟨S4096x4096, .f32⟩
  | .hbm, ⟨14, _⟩ => ⟨S_, .f32⟩
  | .hbm, ⟨15, _⟩ => ⟨S4096x4096, .f32⟩
  | .hbm, ⟨16, _⟩ => ⟨S4096x4096, .f32⟩
  | .hbm, ⟨17, _⟩ => ⟨S4096x1024, .f32⟩
  | .hbm, ⟨18, _⟩ => ⟨S4096x4096, .f32⟩
  | .hbm, ⟨19, _⟩ => ⟨S4096x4096, .f32⟩
  | .hbm, ⟨20, _⟩ => ⟨S_, .f32⟩
  | .hbm, ⟨21, _⟩ => ⟨S4096x4096, .f32⟩
  | .hbm, ⟨22, _⟩ => ⟨S4096x4096, .f32⟩
  | .hbm, ⟨23, _⟩ => ⟨S4096x4096, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_call0_cst : Ref sig .tc := ⟨.hbm, 5, rfl⟩
abbrev main_call0_v0 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩

abbrev nD : Nat := 1
abbrev τ : Topo := Topo.v7x

variable {F : FTy → Type} [FloatOps F]
-- ==== Kernel3.lean ====
abbrev S4096x4096 : Shape := ⟨2, ![4096, 4096]⟩
abbrev S4096x1024 : Shape := ⟨2, ![4096, 1024]⟩
abbrev S1024x2048 : Shape := ⟨2, ![1024, 2048]⟩
abbrev S1024x1024 : Shape := ⟨2, ![1024, 1024]⟩
abbrev S2048x1024 : Shape := ⟨2, ![2048, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x4096, .bf16⟩
  | .hbm, ⟨1, _⟩ => ⟨S4096x1024, .f32⟩
  | .hbm, ⟨2, _⟩ => ⟨S4096x1024, .bf16⟩
  | .local _ .vmem, ⟨0, _⟩ => ⟨S1024x2048, .bf16⟩
  | .local _ .vmem, ⟨1, _⟩ => ⟨S1024x2048, .bf16⟩
  | .local _ .vmem, ⟨2, _⟩ => ⟨S1024x1024, .f32⟩
  | .local _ .vmem, ⟨3, _⟩ => ⟨S1024x1024, .f32⟩
  | .local _ .vmem, ⟨4, _⟩ => ⟨S2048x1024, .bf16⟩
  | .local _ .vmem, ⟨5, _⟩ => ⟨S2048x1024, .bf16⟩
  | .local _ .vmem, ⟨6, _⟩ => ⟨S2048x1024, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 4], ![false, false, false]⟩

def k0_cond2 (i : grid0.Coords) : BitVec 1 :=
  let arg2 : BitVec 32 := BitVec.ofNat 32 (i 2).val
  let c3_i32 : BitVec 32 := 3#32
  let v17 : BitVec 1 := Scalar.cmpi .eq arg2 c3_i32
  let v18 : BitVec 32 := Scalar.extui v17
  let c0_i32_9 : BitVec 32 := 0#32
  let v19 : BitVec 1 := Scalar.cmpi .ne v18 c0_i32_9
  v19

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S4096x4096 : Shape := ⟨2, ![4096, 4096]⟩
abbrev S4096x1024 : Shape := ⟨2, ![4096, 1024]⟩
abbrev S_ : Shape := ⟨0, ![]⟩
abbrev S1024x4096 : Shape := ⟨2, ![1024, 4096]⟩

abbrev nBuf : Space → Nat
  | .hbm => 13
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x1024, .f32⟩
  | .hbm, ⟨2, _⟩ => ⟨S_, .f32⟩
  | .hbm, ⟨3, _⟩ => ⟨S4096x1024, .f32⟩
  | .hbm, ⟨4, _⟩ => ⟨S4096x4096, .f32⟩
  | .hbm, ⟨5, _⟩ => ⟨S_, .f32⟩
  | .hbm, ⟨6, _⟩ => ⟨S4096x4096, .f32⟩
  | .hbm, ⟨7, _⟩ => ⟨S4096x4096, .f32⟩
  | .hbm, ⟨8, _⟩ => ⟨S4096x4096, .f32⟩
  | .hbm, ⟨9, _⟩ => ⟨S4096x1024, .f32⟩
  | .hbm, ⟨10, _⟩ => ⟨S1024x4096, .f32⟩
  | .hbm, ⟨11, _⟩ => ⟨S4096x1024, .f32⟩
  | .hbm, ⟨12, _⟩ => ⟨S4096x1024, .bf16⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_call0_cst : Ref sig .tc := ⟨.hbm, 5, rfl⟩
abbrev main_call0_v0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩

abbrev nD : Nat := 1
abbrev τ : Topo := Topo.v7x

variable {F : FTy → Type} [FloatOps F]
-- ==== Kernel4.lean ====
abbrev S4096x1024 : Shape := ⟨2, ![4096, 1024]⟩
abbrev S4096x4096 : Shape := ⟨2, ![4096, 4096]⟩
abbrev S8x1024x512 : Shape := ⟨3, ![8, 1024, 512]⟩
abbrev S2048x1024 : Shape := ⟨2, ![2048, 1024]⟩
abbrev S2048x2048 : Shape := ⟨2, ![2048, 2048]⟩
abbrev S4x1024x512 : Shape := ⟨3, ![4, 1024, 512]⟩
abbrev S1024x2048 : Shape := ⟨2, ![1024, 2048]⟩
abbrev S1024x512 : Shape := ⟨2, ![1024, 512]⟩
abbrev S1x1024x512 : Shape := ⟨3, ![1, 1024, 512]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S4096x4096, .bf16⟩
  | .hbm, ⟨2, _⟩ => ⟨S8x1024x512, .bf16⟩
  | .local _ .vmem, ⟨0, _⟩ => ⟨S2048x1024, .bf16⟩
  | .local _ .vmem, ⟨1, _⟩ => ⟨S2048x1024, .bf16⟩
  | .local _ .vmem, ⟨2, _⟩ => ⟨S2048x2048, .bf16⟩
  | .local _ .vmem, ⟨3, _⟩ => ⟨S2048x2048, .bf16⟩
  | .local _ .vmem, ⟨4, _⟩ => ⟨S4x1024x512, .bf16⟩
  | .local _ .vmem, ⟨5, _⟩ => ⟨S4x1024x512, .bf16⟩
  | .local _ .vmem, ⟨6, _⟩ => ⟨S1024x2048, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S2048x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S4x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S4096x1024 : Shape := ⟨2, ![4096, 1024]⟩
abbrev S4096x4096 : Shape := ⟨2, ![4096, 4096]⟩
abbrev S_ : Shape := ⟨0, ![]⟩
abbrev S1024x4096 : Shape := ⟨2, ![1024, 4096]⟩
abbrev S1024x8x512 : Shape := ⟨3, ![1024, 8, 512]⟩
abbrev S8x1024x512 : Shape := ⟨3, ![8, 1024, 512]⟩

abbrev nBuf : Space → Nat
  | .hbm => 12
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x4096, .bf16⟩
  | .hbm, ⟨2, _⟩ => ⟨S_, .f32⟩
  | .hbm, ⟨3, _⟩ => ⟨S1024x4096, .f32⟩
  | .hbm, ⟨4, _⟩ => ⟨S4096x1024, .f32⟩
  | .hbm, ⟨5, _⟩ => ⟨S4096x4096, .f32⟩
  | .hbm, ⟨6, _⟩ => ⟨S4096x4096, .f32⟩
  | .hbm, ⟨7, _⟩ => ⟨S4096x1024, .f32⟩
  | .hbm, ⟨8, _⟩ => ⟨S1024x4096, .f32⟩
  | .hbm, ⟨9, _⟩ => ⟨S1024x8x512, .f32⟩
  | .hbm, ⟨10, _⟩ => ⟨S8x1024x512, .f32⟩
  | .hbm, ⟨11, _⟩ => ⟨S8x1024x512, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel5.lean ====
abbrev S4096x4096 : Shape := ⟨2, ![4096, 4096]⟩
abbrev S8x1024x512 : Shape := ⟨3, ![8, 1024, 512]⟩
abbrev S4096x1024 : Shape := ⟨2, ![4096, 1024]⟩
abbrev S1x1024 : Shape := ⟨2, ![1, 1024]⟩
abbrev S1024x2048 : Shape := ⟨2, ![1024, 2048]⟩
abbrev S4x1024x512 : Shape := ⟨3, ![4, 1024, 512]⟩
abbrev S1024x1024 : Shape := ⟨2, ![1024, 1024]⟩
abbrev S1024x512 : Shape := ⟨2, ![1024, 512]⟩
abbrev S1x1024x512 : Shape := ⟨3, ![1, 1024, 512]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 7
  | .vmem => 13
  | .smem => 0
  | _ => 0

abbrev bufTy : (tb : Table) → Fin (tcTables nBuf tb) → BufTy
  | .hbm, ⟨0, _⟩ => ⟨S4096x4096, .bf16⟩
  | .hbm, ⟨1, _⟩ => ⟨S8x1024x512, .bf16⟩
  | .hbm, ⟨2, _⟩ => ⟨S4096x1024, .f32⟩
  | .hbm, ⟨3, _⟩ => ⟨S4096x1024, .f32⟩
  | .hbm, ⟨4, _⟩ => ⟨S1x1024, .f32⟩
  | .hbm, ⟨5, _⟩ => ⟨S4096x1024, .f32⟩
  | .hbm, ⟨6, _⟩ => ⟨S1x1024, .f32⟩
  | .local _ .vmem, ⟨0, _⟩ => ⟨S1024x2048, .bf16⟩
  | .local _ .vmem, ⟨1, _⟩ => ⟨S1024x2048, .bf16⟩
  | .local _ .vmem, ⟨2, _⟩ => ⟨S4x1024x512, .bf16⟩
  | .local _ .vmem, ⟨3, _⟩ => ⟨S4x1024x512, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1x1024, .f32⟩
  | .local _ .vmem, ⟨9, _⟩ => ⟨S1024x1024, .f32⟩
  | .local _ .vmem, ⟨10, _⟩ => ⟨S1024x1024, .f32⟩
  | .local _ .vmem, ⟨11, _⟩ => ⟨S1x1024, .f32⟩
  | .local _ .vmem, ⟨12, _⟩ => ⟨S1024x1024, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨3, ![1, 4, 2], ![false, false, false]⟩

def k0_cond2 (i : grid0.Coords) : BitVec 1 :=
  let arg2 : BitVec 32 := BitVec.ofNat 32 (i 2).val
  let c1_i32 : BitVec 32 := 1#32
  let v28 : BitVec 1 := Scalar.cmpi .eq arg2 c1_i32
  let v29 : BitVec 32 := Scalar.extui v28
  let c0_i32_18 : BitVec 32 := 0#32
  let v30 : BitVec 1 := Scalar.cmpi .ne v29 c0_i32_18
  v30

def k0_cond3 (i : grid0.Coords) : BitVec 1 :=
  let arg1 : BitVec 32 := BitVec.ofNat 32 (i 1).val
  let c0_i32_54 : BitVec 32 := 0#32
  let v110 : BitVec 1 := Scalar.cmpi .eq arg1 c0_i32_54
  let v111 : BitVec 32 := Scalar.extui v110
  let c0_i32_55 : BitVec 32 := 0#32
  let v112 : BitVec 1 := Scalar.cmpi .ne v111 c0_i32_55
  v112

def k0_cond4 (i : grid0.Coords) : BitVec 1 :=
  let arg1 : BitVec 32 := BitVec.ofNat 32 (i 1).val
  let c0_i32_56 : BitVec 32 := 0#32
  let v113 : BitVec 1 := Scalar.cmpi .sgt arg1 c0_i32_56
  let v114 : BitVec 32 := Scalar.extui v113
  let c0_i32_57 : BitVec 32 := 0#32
  let v115 : BitVec 1 := Scalar.cmpi .ne v114 c0_i32_57
  v115

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg0.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S4x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, false, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, false, false]
-- ==== Reference5Ideal.lean ====
abbrev S4096x4096 : Shape := ⟨2, ![4096, 4096]⟩
abbrev S8x1024x512 : Shape := ⟨3, ![8, 1024, 512]⟩
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024x8x512 : Shape := ⟨3, ![1024, 8, 512]⟩
abbrev S1024x4096 : Shape := ⟨2, ![1024, 4096]⟩
abbrev S1024 : Shape := ⟨1, ![1024]⟩

abbrev nBuf : Space → Nat
  | .hbm => 54
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S8x1024x512, .bf16⟩
  | .hbm, ⟨2, _⟩ => ⟨S4096x1024, .f32⟩
  | .hbm, ⟨3, _⟩ => ⟨S4096x1024, .f32⟩
  | .hbm, ⟨4, _⟩ => ⟨S1x1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S1024x8x512, .bf16⟩
  | .hbm, ⟨25, _⟩ => ⟨S1024x4096, .bf16⟩
  | .hbm, ⟨26, _⟩ => ⟨S1024x4096, .f32⟩
  | .hbm, ⟨27, _⟩ => ⟨S4096x4096, .f32⟩
  | .hbm, ⟨28, _⟩ => ⟨S4096x4096, .f32⟩
  | .hbm, ⟨29, _⟩ => ⟨S4096x1024, .f32⟩
  | .hbm, ⟨30, _⟩ => ⟨S4096x1024, .f32⟩
  | .hbm, ⟨31, _⟩ => ⟨S_, .f32⟩
  | .hbm, ⟨32, _⟩ => ⟨S1024, .f32⟩
  | .hbm, ⟨33, _⟩ => ⟨S1x1024, .f32⟩
  | .hbm, ⟨34, _⟩ => ⟨S4096x1024, .f32⟩
  | .hbm, ⟨35, _⟩ => ⟨S4096x1024, .f32⟩
  | .hbm, ⟨36, _⟩ => ⟨S4096x1024, .f32⟩
  | .hbm, ⟨37, _⟩ => ⟨S_, .f32⟩
  | .hbm, ⟨38, _⟩ => ⟨S4096, .f32⟩
  | .hbm, ⟨39, _⟩ => ⟨S4096x1, .f32⟩
  | .hbm, ⟨40, _⟩ => ⟨S4096x1024, .f32⟩
  | .hbm, ⟨41, _⟩ => ⟨S4096x1024, .f32⟩
  | .hbm, ⟨42, _⟩ => ⟨S4096x1024, .f32⟩
  | .hbm, ⟨43, _⟩ => ⟨S4096x1, .f32⟩
  | .hbm, ⟨44, _⟩ => ⟨S_, .f32⟩
  | .hbm, ⟨45, _⟩ => ⟨S4096x1, .f32⟩
  | .hbm, ⟨46, _⟩ => ⟨S4096x1, .f32⟩
  | .hbm, ⟨47, _⟩ => ⟨S_, .f32⟩
  | .hbm, ⟨48, _⟩ => ⟨S4096, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S4096x1024, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_4 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_cst_5 : Ref sig .tc := ⟨.hbm, 44, rfl⟩
abbrev main_v33 : Ref sig .tc := ⟨.hbm, 45, rfl⟩
abbrev main_v34 : Ref sig .tc := ⟨.hbm, 46, rfl⟩
abbrev main_cst_6 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩

abbrev nD : Nat := 1
abbrev τ : Topo := Topo.v7x

variable {F : FTy → Type} [FloatOps F]
-- ==== Kernel6.lean ====
abbrev S4096x1024 : Shape := ⟨2, ![4096, 1024]⟩
abbrev S8x1024x512 : Shape := ⟨3, ![8, 1024, 512]⟩
abbrev S4096x4096 : Shape := ⟨2, ![4096, 4096]⟩
abbrev S1024x1024 : Shape := ⟨2, ![1024, 1024]⟩
abbrev S4x1024x512 : Shape := ⟨3, ![4, 1024, 512]⟩
abbrev S1024x2048 : Shape := ⟨2, ![1024, 2048]⟩
abbrev S1x1024x512 : Shape := ⟨3, ![1, 1024, 512]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S8x1024x512, .bf16⟩
  | .hbm, ⟨2, _⟩ => ⟨S4096x4096, .bf16⟩
  | .local _ .vmem, ⟨0, _⟩ => ⟨S1024x1024, .bf16⟩
  | .local _ .vmem, ⟨1, _⟩ => ⟨S1024x1024, .bf16⟩
  | .local _ .vmem, ⟨2, _⟩ => ⟨S4x1024x512, .bf16⟩
  | .local _ .vmem, ⟨3, _⟩ => ⟨S4x1024x512, .bf16⟩
  | .local _ .vmem, ⟨4, _⟩ => ⟨S1024x2048, .bf16⟩
  | .local _ .vmem, ⟨5, _⟩ => ⟨S1024x2048, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S4x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S4096x1024 : Shape := ⟨2, ![4096, 1024]⟩
abbrev S8x1024x512 : Shape := ⟨3, ![8, 1024, 512]⟩
abbrev S1024x8x512 : Shape := ⟨3, ![1024, 8, 512]⟩
abbrev S1024x4096 : Shape := ⟨2, ![1024, 4096]⟩
abbrev S4096x4096 : Shape := ⟨2, ![4096, 4096]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S8x1024x512, .bf16⟩
  | .hbm, ⟨2, _⟩ => ⟨S4096x1024, .f32⟩
  | .hbm, ⟨3, _⟩ => ⟨S1024x8x512, .bf16⟩
  | .hbm, ⟨4, _⟩ => ⟨S1024x4096, .bf16⟩
  | .hbm, ⟨5, _⟩ => ⟨S1024x4096, .f32⟩
  | .hbm, ⟨6, _⟩ => ⟨S4096x4096, .f32⟩
  | .hbm, ⟨7, _⟩ => ⟨S4096x4096, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== Kernel7.lean ====
abbrev S4096x4096 : Shape := ⟨2, ![4096, 4096]⟩
abbrev S4096x1024 : Shape := ⟨2, ![4096, 1024]⟩
abbrev S1x1024 : Shape := ⟨2, ![1, 1024]⟩
abbrev S1024x2048 : Shape := ⟨2, ![1024, 2048]⟩
abbrev S2048x1024 : Shape := ⟨2, ![2048, 1024]⟩
abbrev S1024x1024 : Shape := ⟨2, ![1024, 1024]⟩
abbrev S512x1024 : Shape := ⟨2, ![512, 1024]⟩
abbrev S512 : Shape := ⟨1, ![512]⟩
abbrev S512x1 : Shape := ⟨2, ![512, 1]⟩

abbrev nBuf : Space → Nat
  | .hbm => 6
  | .vmem => 12
  | .smem => 0
  | _ => 0

abbrev bufTy : (tb : Table) → Fin (tcTables nBuf tb) → BufTy
  | .hbm, ⟨0, _⟩ => ⟨S4096x4096, .bf16⟩
  | .hbm, ⟨1, _⟩ => ⟨S4096x1024, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S4096x1024, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .bf16⟩
  | .local _ .vmem, ⟨10, _⟩ => ⟨S1024x1024, .bf16⟩
  | .local _ .vmem, ⟨11, _⟩ => ⟨S1024x1024, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨3, ![1, 4, 2], ![false, false, false]⟩

def k0_cond2 (i : grid0.Coords) : BitVec 1 :=
  let arg2 : BitVec 32 := BitVec.ofNat 32 (i 2).val
  let c1_i32 : BitVec 32 := 1#32
  let v16 : BitVec 1 := Scalar.cmpi .eq arg2 c1_i32
  let v17 : BitVec 32 := Scalar.extui v16
  let c0_i32_9 : BitVec 32 := 0#32
  let v18 : BitVec 1 := Scalar.cmpi .ne v17 c0_i32_9
  v18

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== Reference7Ideal.lean ====
abbrev S4096x4096 : Shape := ⟨2, ![4096, 4096]⟩
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩

abbrev nBuf : Space → Nat
  | .hbm => 28
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x1024, .bf16⟩
  | .hbm, ⟨2, _⟩ => ⟨S4096x1024, .f32⟩
  | .hbm, ⟨3, _⟩ => ⟨S1x1024, .f32⟩
  | .hbm, ⟨4, _⟩ => ⟨S4096x4096, .f32⟩
  | .hbm, ⟨5, _⟩ => ⟨S4096x1024, .f32⟩
  | .hbm, ⟨6, _⟩ => ⟨S_, .f32⟩
  | .hbm, ⟨7, _⟩ => ⟨S4096x4096, .f32⟩
  | .hbm, ⟨8, _⟩ => ⟨S4096x4096, .f32⟩
  | .hbm, ⟨9, _⟩ => ⟨S4096x4096, .f32⟩
  | .hbm, ⟨10, _⟩ => ⟨S4096x1024, .f32⟩
  | .hbm, ⟨11, _⟩ => ⟨S4096x1024, .f32⟩
  | .hbm, ⟨12, _⟩ => ⟨S4096x1024, .f32⟩
  | .hbm, ⟨13, _⟩ => ⟨S_, .f32⟩
  | .hbm, ⟨14, _⟩ => ⟨S4096, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S4096x1, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S4096x1024, .bf16⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_call0_cst : Ref sig .tc := ⟨.hbm, 6, rfl⟩
abbrev main_call0_v0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩

abbrev nD : Nat := 1
abbrev τ : Topo := Topo.v7x

variable {F : FTy → Type} [FloatOps F]
-- ==== Kernel8.lean ====
abbrev S4096x1024 : Shape := ⟨2, ![4096, 1024]⟩
abbrev S4112x1024 : Shape := ⟨2, ![4112, 1024]⟩
abbrev S4096x4096 : Shape := ⟨2, ![4096, 4096]⟩
abbrev S1024x1024 : Shape := ⟨2, ![1024, 1024]⟩
abbrev S2048x1024 : Shape := ⟨2, ![2048, 1024]⟩
abbrev S1024x2048 : Shape := ⟨2, ![1024, 2048]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4112x1024, .bf16⟩
  | .hbm, ⟨2, _⟩ => ⟨S4096x4096, .f32⟩
  | .local _ .vmem, ⟨0, _⟩ => ⟨S1024x1024, .bf16⟩
  | .local _ .vmem, ⟨1, _⟩ => ⟨S1024x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x2048, .f32⟩
  | .local _ .vmem, ⟨5, _⟩ => ⟨S1024x2048, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference8Ideal.lean ====
abbrev S4096x1024 : Shape := ⟨2, ![4096, 1024]⟩
abbrev S4112x1024 : Shape := ⟨2, ![4112, 1024]⟩
abbrev S1024x4112 : Shape := ⟨2, ![1024, 4112]⟩
abbrev S4096x4112 : Shape := ⟨2, ![4096, 4112]⟩
abbrev S4096x4096 : Shape := ⟨2, ![4096, 4096]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4112x1024, .bf16⟩
  | .hbm, ⟨2, _⟩ => ⟨S4096x1024, .f32⟩
  | .hbm, ⟨3, _⟩ => ⟨S4112x1024, .f32⟩
  | .hbm, ⟨4, _⟩ => ⟨S1024x4112, .f32⟩
  | .hbm, ⟨5, _⟩ => ⟨S4096x4112, .f32⟩
  | .hbm, ⟨6, _⟩ => ⟨S4096x4096, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel9.lean ====
abbrev S4096x4096 : Shape := ⟨2, ![4096, 4096]⟩
abbrev S4096x1024 : Shape := ⟨2, ![4096, 1024]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x4096, .bf16⟩
  | .hbm, ⟨1, _⟩ => ⟨S4096x1024, .bf16⟩
  | .hbm, ⟨2, _⟩ => ⟨S4096x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference9Ideal.lean ====
abbrev S4096x4096 : Shape := ⟨2, ![4096, 4096]⟩
abbrev S4096x1024 : Shape := ⟨2, ![4096, 1024]⟩
abbrev S_ : Shape := ⟨0, ![]⟩
abbrev S1024x4096 : Shape := ⟨2, ![1024, 4096]⟩

abbrev nBuf : Space → Nat
  | .hbm => 12
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x1024, .bf16⟩
  | .hbm, ⟨2, _⟩ => ⟨S_, .f32⟩
  | .hbm, ⟨3, _⟩ => ⟨S4096x1024, .f32⟩
  | .hbm, ⟨4, _⟩ => ⟨S4096x1024, .f32⟩
  | .hbm, ⟨5, _⟩ => ⟨S1024x4096, .f32⟩
  | .hbm, ⟨6, _⟩ => ⟨S4096x4096, .f32⟩
  | .hbm, ⟨7, _⟩ => ⟨S4096x4096, .f32⟩
  | .hbm, ⟨8, _⟩ => ⟨S4096x1024, .f32⟩
  | .hbm, ⟨9, _⟩ => ⟨S1024x4096, .f32⟩
  | .hbm, ⟨10, _⟩ => ⟨S4096x1024, .f32⟩
  | .hbm, ⟨11, _⟩ => ⟨S4096x1024, .bf16⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel10.lean ====
abbrev S4096x4096 : Shape := ⟨2, ![4096, 4096]⟩
abbrev S4112x1024 : Shape := ⟨2, ![4112, 1024]⟩
abbrev S4096x1024 : Shape := ⟨2, ![4096, 1024]⟩
abbrev S1x1024 : Shape := ⟨2, ![1, 1024]⟩
abbrev S1024x1024 : Shape := ⟨2, ![1024, 1024]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 8
  | .vmem => 15
  | .smem => 0
  | _ => 0

abbrev bufTy : (tb : Table) → Fin (tcTables nBuf tb) → BufTy
  | .hbm, ⟨0, _⟩ => ⟨S4096x4096, .bf16⟩
  | .hbm, ⟨1, _⟩ => ⟨S4112x1024, .bf16⟩
  | .hbm, ⟨2, _⟩ => ⟨S4096x1024, .f32⟩
  | .hbm, ⟨3, _⟩ => ⟨S4096x1024, .f32⟩
  | .hbm, ⟨4, _⟩ => ⟨S4096x1024, .f32⟩
  | .hbm, ⟨5, _⟩ => ⟨S1x1024, .f32⟩
  | .hbm, ⟨6, _⟩ => ⟨S4096x1024, .f32⟩
  | .hbm, ⟨7, _⟩ => ⟨S1x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .f32⟩
  | .local _ .vmem, ⟨10, _⟩ => ⟨S1x1024, .f32⟩
  | .local _ .vmem, ⟨11, _⟩ => ⟨S1024x1024, .f32⟩
  | .local _ .vmem, ⟨12, _⟩ => ⟨S1024x1024, .f32⟩
  | .local _ .vmem, ⟨13, _⟩ => ⟨S1x1024, .f32⟩
  | .local _ .vmem, ⟨14, _⟩ => ⟨S1024x1024, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13

abbrev nD : Nat := 1
abbrev τ : Topo := Topo.v7x

variable {F : FTy → Type} [FloatOps F]

abbrev grid0 : Pipeline.Grid := ⟨3, ![1, 4, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def k0_cond3 (i : grid0.Coords) : BitVec 1 :=
  let arg1 : BitVec 32 := BitVec.ofNat 32 (i 1).val
  let c0_i32_48 : BitVec 32 := 0#32
  let v97 : BitVec 1 := Scalar.cmpi .eq arg1 c0_i32_48
  let v98 : BitVec 32 := Scalar.extui v97
  let c0_i32_49 : BitVec 32 := 0#32
  let v99 : BitVec 1 := Scalar.cmpi .ne v98 c0_i32_49
  v99

def k0_cond4 (i : grid0.Coords) : BitVec 1 :=
  let arg1 : BitVec 32 := BitVec.ofNat 32 (i 1).val
  let c0_i32_50 : BitVec 32 := 0#32
  let v100 : BitVec 1 := Scalar.cmpi .sgt arg1 c0_i32_50
  let v101 : BitVec 32 := Scalar.extui v100
  let c0_i32_51 : BitVec 32 := 0#32
  let v102 : BitVec 1 := Scalar.cmpi .ne v101 c0_i32_51
  v102

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, false, false]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, false, false]
-- ==== Reference10Ideal.lean ====
abbrev S4096x4096 : Shape := ⟨2, ![4096, 4096]⟩
abbrev S4112x1024 : Shape := ⟨2, ![4112, 1024]⟩
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024x4112 : Shape := ⟨2, ![1024, 4112]⟩
abbrev S4096x4112 : Shape := ⟨2, ![4096, 4112]⟩
abbrev S1024 : Shape := ⟨1, ![1024]⟩

abbrev nBuf : Space → Nat
  | .hbm => 58
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4112x1024, .bf16⟩
  | .hbm, ⟨2, _⟩ => ⟨S4096x1024, .f32⟩
  | .hbm, ⟨3, _⟩ => ⟨S4096x1024, .f32⟩
  | .hbm, ⟨4, _⟩ => ⟨S4096x1024, .f32⟩
  | .hbm, ⟨5, _⟩ => ⟨S1x1024, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4112x1024, .f32⟩
  | .hbm, ⟨26, _⟩ => ⟨S1024x4112, .f32⟩
  | .hbm, ⟨27, _⟩ => ⟨S4096x4112, .f32⟩
  | .hbm, ⟨28, _⟩ => ⟨S4096x4096, .f32⟩
  | .hbm, ⟨29, _⟩ => ⟨S4096x4096, .f32⟩
  | .hbm, ⟨30, _⟩ => ⟨S_, .f32⟩
  | .hbm, ⟨31, _⟩ => ⟨S4096x4112, .f32⟩
  | .hbm, ⟨32, _⟩ => ⟨S4096x1024, .f32⟩
  | .hbm, ⟨33, _⟩ => ⟨S4096x1024, .f32⟩
  | .hbm, ⟨34, _⟩ => ⟨S4096x1024, .f32⟩
  | .hbm, ⟨35, _⟩ => ⟨S_, .f32⟩
  | .hbm, ⟨36, _⟩ => ⟨S1024, .f32⟩
  | .hbm, ⟨37, _⟩ => ⟨S1x1024, .f32⟩
  | .hbm, ⟨38, _⟩ => ⟨S4096x1024, .f32⟩
  | .hbm, ⟨39, _⟩ => ⟨S4096x1024, .f32⟩
  | .hbm, ⟨40, _⟩ => ⟨S4096x1024, .f32⟩
  | .hbm, ⟨41, _⟩ => ⟨S_, .f32⟩
  | .hbm, ⟨42, _⟩ => ⟨S4096, .f32⟩
  | .hbm, ⟨43, _⟩ => ⟨S4096x1, .f32⟩
  | .hbm, ⟨44, _⟩ => ⟨S4096x1024, .f32⟩
  | .hbm, ⟨45, _⟩ => ⟨S4096x1024, .f32⟩
  | .hbm, ⟨46, _⟩ => ⟨S4096x1024, .f32⟩
  | .hbm, ⟨47, _⟩ => ⟨S4096x1, .f32⟩
  | .hbm, ⟨48, _⟩ => ⟨S_, .f32⟩
  | .hbm, ⟨49, _⟩ => ⟨S4096x1, .f32⟩
  | .hbm, ⟨50, _⟩ => ⟨S4096x1, .f32⟩
  | .hbm, ⟨51, _⟩ => ⟨S_, .f32⟩
  | .hbm, ⟨52, _⟩ => ⟨S4096, .f32⟩
  | .hbm, ⟨53, _⟩ => ⟨S4096x1024, .f32⟩
  | .hbm, ⟨54, _⟩ => ⟨S4096x1024, .f32⟩
  | .hbm, ⟨55, _⟩ => ⟨S4096x1024, .f32⟩
  | .hbm, ⟨56, _⟩ => ⟨S4096x1024, .f32⟩
  | .hbm, ⟨57, _⟩ => ⟨S4096x1024, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_3 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_4 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_5 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_cst_6 : Ref sig .tc := ⟨.hbm, 48, rfl⟩
abbrev main_v35 : Ref sig .tc := ⟨.hbm, 49, rfl⟩
abbrev main_v36 : Ref sig .tc := ⟨.hbm, 50, rfl⟩
abbrev main_cst_7 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩

abbrev nD : Nat := 1
abbrev τ : Topo := Topo.v7x

variable {F : FTy → Type} [FloatOps F]
-- ==== Kernel11.lean ====
abbrev S4096x1024 : Shape := ⟨2, ![4096, 1024]⟩
abbrev S1024x1024 : Shape := ⟨2, ![1024, 1024]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .f32⟩
  | .hbm, ⟨2, _⟩ => ⟨S1024x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .f32⟩
  | .local _ .vmem, ⟨3, _⟩ => ⟨S2048x1024, .f32⟩
  | .local _ .vmem, ⟨4, _⟩ => ⟨S1024x1024, .bf16⟩
  | .local _ .vmem, ⟨5, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 2], ![false, false, false]⟩

def k0_cond2 (i : grid0.Coords) : BitVec 1 :=
  let arg2 : BitVec 32 := BitVec.ofNat 32 (i 2).val
  let c1_i32 : BitVec 32 := 1#32
  let v12 : BitVec 1 := Scalar.cmpi .eq arg2 c1_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference11Ideal.lean ====
abbrev S4096x1024 : Shape := ⟨2, ![4096, 1024]⟩
abbrev S_ : Shape := ⟨0, ![]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .f32⟩
  | .hbm, ⟨2, _⟩ => ⟨S_, .f32⟩
  | .hbm, ⟨3, _⟩ => ⟨S1024x1024, .f32⟩
  | .hbm, ⟨4, _⟩ => ⟨S4096x1024, .f32⟩
  | .hbm, ⟨5, _⟩ => ⟨S4096x1024, .f32⟩
  | .hbm, ⟨6, _⟩ => ⟨S1024x1024, .f32⟩
  | .hbm, ⟨7, _⟩ => ⟨S1024x1024, .f32⟩
  | .hbm, ⟨8, _⟩ => ⟨S1024x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel12.lean ====
abbrev S4096x1024 : Shape := ⟨2, ![4096, 1024]⟩
abbrev S1024x1024 : Shape := ⟨2, ![1024, 1024]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S1024x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference12Ideal.lean ====
abbrev S4096x1024 : Shape := ⟨2, ![4096, 1024]⟩
abbrev S_ : Shape := ⟨0, ![]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S_, .f32⟩
  | .hbm, ⟨3, _⟩ => ⟨S1024x1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel13.lean ====
abbrev S4096x1024 : Shape := ⟨2, ![4096, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1024x1024, .bf16⟩
  | .hbm, ⟨2, _⟩ => ⟨S4096x1024, .bf16⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference13Ideal.lean ====
abbrev S4096x1024 : Shape := ⟨2, ![4096, 1024]⟩
abbrev S1024x1024 : Shape := ⟨2, ![1024, 1024]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024, .bf16⟩
  | .hbm, ⟨2, _⟩ => ⟨S_, .f32⟩
  | .hbm, ⟨3, _⟩ => ⟨S4096x1024, .f32⟩
  | .hbm, ⟨4, _⟩ => ⟨S1024x1024, .f32⟩
  | .hbm, ⟨5, _⟩ => ⟨S4096x1024, .f32⟩
  | .hbm, ⟨6, _⟩ => ⟨S4096x1024, .f32⟩
  | .hbm, ⟨7, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel14.lean ====
abbrev S4096x1024 : Shape := ⟨2, ![4096, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference14Ideal.lean ====
abbrev S4096x1024 : Shape := ⟨2, ![4096, 1024]⟩
abbrev S1024x1024 : Shape := ⟨2, ![1024, 1024]⟩

abbrev nBuf : Space → Nat
  | .hbm => 6
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S1024x1024, .f32⟩
  | .hbm, ⟨4, _⟩ => ⟨S4096x1024, .f32⟩
  | .hbm, ⟨5, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel15.lean ====
abbrev S4096x1024 : Shape := ⟨2, ![4096, 1024]⟩
abbrev S1024x1024 : Shape := ⟨2, ![1024, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 6
  | .vmem => 10
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S4096x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .bf16⟩
  | .local _ .vmem, ⟨9, _⟩ => ⟨S1024x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![1, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== Reference15Ideal.lean ====
abbrev S4096x1024 : Shape := ⟨2, ![4096, 1024]⟩
abbrev S1024x1024 : Shape := ⟨2, ![1024, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩

abbrev nBuf : Space → Nat
  | .hbm => 24
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S1024x1024, .f32⟩
  | .hbm, ⟨6, _⟩ => ⟨S4096x1024, .f32⟩
  | .hbm, ⟨7, _⟩ => ⟨S4096x1024, .f32⟩
  | .hbm, ⟨8, _⟩ => ⟨S4096x1024, .f32⟩
  | .hbm, ⟨9, _⟩ => ⟨S_, .f32⟩
  | .hbm, ⟨10, _⟩ => ⟨S4096, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]
-- ==== Kernel16.lean ====
abbrev S4096x1024 : Shape := ⟨2, ![4096, 1024]⟩
abbrev S8x1024x256 : Shape := ⟨3, ![8, 1024, 256]⟩
abbrev S1x2048 : Shape := ⟨2, ![1, 2048]⟩
abbrev S4096x2048 : Shape := ⟨2, ![4096, 2048]⟩
abbrev S1024x1024 : Shape := ⟨2, ![1024, 1024]⟩
abbrev S1024x2048 : Shape := ⟨2, ![1024, 2048]⟩
abbrev S1x1024x256 : Shape := ⟨3, ![1, 1024, 256]⟩
abbrev S1024x256 : Shape := ⟨2, ![1024, 256]⟩

abbrev nBuf : Space → Nat
  | .hbm => 4
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S8x1024x256, .bf16⟩
  | .hbm, ⟨2, _⟩ => ⟨S1x2048, .f32⟩
  | .hbm, ⟨3, _⟩ => ⟨S4096x2048, .f32⟩
  | .local _ .vmem, ⟨0, _⟩ => ⟨S1024x1024, .bf16⟩
  | .local _ .vmem, ⟨1, _⟩ => ⟨S1024x1024, .bf16⟩
  | .local _ .vmem, ⟨2, _⟩ => ⟨S8x1024x256, .bf16⟩
  | .local _ .vmem, ⟨3, _⟩ => ⟨S1x2048, .f32⟩
  | .local _ .vmem, ⟨4, _⟩ => ⟨S1024x2048, .f32⟩
  | .local _ .vmem, ⟨5, _⟩ => ⟨S1024x2048, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨3, ![1, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S8x1024x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false, false]

abbrev stage0_3 : Fin 2 → Memref sig .tc .vmem S1024x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference16Ideal.lean ====
abbrev S4096x1024 : Shape := ⟨2, ![4096, 1024]⟩
abbrev S8x1024x256 : Shape := ⟨3, ![8, 1024, 256]⟩
abbrev S1x2048 : Shape := ⟨2, ![1, 2048]⟩
abbrev S1024x8x256 : Shape := ⟨3, ![1024, 8, 256]⟩
abbrev S1024x2048 : Shape := ⟨2, ![1024, 2048]⟩
abbrev S4096x2048 : Shape := ⟨2, ![4096, 2048]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S8x1024x256, .bf16⟩
  | .hbm, ⟨2, _⟩ => ⟨S1x2048, .f32⟩
  | .hbm, ⟨3, _⟩ => ⟨S4096x1024, .f32⟩
  | .hbm, ⟨4, _⟩ => ⟨S1024x8x256, .bf16⟩
  | .hbm, ⟨5, _⟩ => ⟨S1024x2048, .bf16⟩
  | .hbm, ⟨6, _⟩ => ⟨S1024x2048, .f32⟩
  | .hbm, ⟨7, _⟩ => ⟨S4096x2048, .f32⟩
  | .hbm, ⟨8, _⟩ => ⟨S4096x2048, .f32⟩
  | .hbm, ⟨9, _⟩ => ⟨S4096x2048, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel17.lean ====
abbrev S4096x1024 : Shape := ⟨2, ![4096, 1024]⟩
abbrev S4096x2048 : Shape := ⟨2, ![4096, 2048]⟩
abbrev S8x1024x256 : Shape := ⟨3, ![8, 1024, 256]⟩
abbrev S2048x1024 : Shape := ⟨2, ![2048, 1024]⟩
abbrev S4x1024x256 : Shape := ⟨3, ![4, 1024, 256]⟩
abbrev S1024x1024 : Shape := ⟨2, ![1024, 1024]⟩
abbrev S1024x256 : Shape := ⟨2, ![1024, 256]⟩
abbrev S1x1024x256 : Shape := ⟨3, ![1, 1024, 256]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S4096x2048, .bf16⟩
  | .hbm, ⟨2, _⟩ => ⟨S8x1024x256, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S4x1024x256, .bf16⟩
  | .local _ .vmem, ⟨5, _⟩ => ⟨S4x1024x256, .bf16⟩
  | .local _ .vmem, ⟨6, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S4x1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference17Ideal.lean ====
abbrev S4096x1024 : Shape := ⟨2, ![4096, 1024]⟩
abbrev S4096x2048 : Shape := ⟨2, ![4096, 2048]⟩
abbrev S_ : Shape := ⟨0, ![]⟩
abbrev S1024x2048 : Shape := ⟨2, ![1024, 2048]⟩
abbrev S2048x1024 : Shape := ⟨2, ![2048, 1024]⟩
abbrev S1024x8x256 : Shape := ⟨3, ![1024, 8, 256]⟩
abbrev S8x1024x256 : Shape := ⟨3, ![8, 1024, 256]⟩

abbrev nBuf : Space → Nat
  | .hbm => 12
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x2048, .bf16⟩
  | .hbm, ⟨2, _⟩ => ⟨S_, .f32⟩
  | .hbm, ⟨3, _⟩ => ⟨S1024x2048, .f32⟩
  | .hbm, ⟨4, _⟩ => ⟨S4096x1024, .f32⟩
  | .hbm, ⟨5, _⟩ => ⟨S4096x2048, .f32⟩
  | .hbm, ⟨6, _⟩ => ⟨S4096x2048, .f32⟩
  | .hbm, ⟨7, _⟩ => ⟨S2048x1024, .f32⟩
  | .hbm, ⟨8, _⟩ => ⟨S1024x2048, .f32⟩
  | .hbm, ⟨9, _⟩ => ⟨S1024x8x256, .f32⟩
  | .hbm, ⟨10, _⟩ => ⟨S8x1024x256, .f32⟩
  | .hbm, ⟨11, _⟩ => ⟨S8x1024x256, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel18.lean ====
abbrev S4096x2048 : Shape := ⟨2, ![4096, 2048]⟩
abbrev S8x1024x256 : Shape := ⟨3, ![8, 1024, 256]⟩
abbrev S4096x1024 : Shape := ⟨2, ![4096, 1024]⟩
abbrev S1x1024 : Shape := ⟨2, ![1, 1024]⟩
abbrev S1024x2048 : Shape := ⟨2, ![1024, 2048]⟩
abbrev S1024x1024 : Shape := ⟨2, ![1024, 1024]⟩
abbrev S1024x256 : Shape := ⟨2, ![1024, 256]⟩
abbrev S1x1024x256 : Shape := ⟨3, ![1, 1024, 256]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 7
  | .vmem => 11
  | .smem => 0
  | _ => 0

abbrev bufTy : (tb : Table) → Fin (tcTables nBuf tb) → BufTy
  | .hbm, ⟨0, _⟩ => ⟨S4096x2048, .bf16⟩
  | .hbm, ⟨1, _⟩ => ⟨S8x1024x256, .bf16⟩
  | .hbm, ⟨2, _⟩ => ⟨S4096x1024, .f32⟩
  | .hbm, ⟨3, _⟩ => ⟨S4096x1024, .f32⟩
  | .hbm, ⟨4, _⟩ => ⟨S1x1024, .f32⟩
  | .hbm, ⟨5, _⟩ => ⟨S4096x1024, .f32⟩
  | .hbm, ⟨6, _⟩ => ⟨S1x1024, .f32⟩
  | .local _ .vmem, ⟨0, _⟩ => ⟨S1024x2048, .bf16⟩
  | .local _ .vmem, ⟨1, _⟩ => ⟨S1024x2048, .bf16⟩
  | .local _ .vmem, ⟨2, _⟩ => ⟨S8x1024x256, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1x1024, .f32⟩
  | .local _ .vmem, ⟨8, _⟩ => ⟨S1024x1024, .f32⟩
  | .local _ .vmem, ⟨9, _⟩ => ⟨S1024x1024, .f32⟩
  | .local _ .vmem, ⟨10, _⟩ => ⟨S1x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨3, ![1, 4, 1], ![false, false, false]⟩

def k0_cond1 (i : grid0.Coords) : BitVec 1 :=
  let arg1 : BitVec 32 := BitVec.ofNat 32 (i 1).val
  let c0_i32 : BitVec 32 := 0#32
  let v119 : BitVec 1 := Scalar.cmpi .eq arg1 c0_i32
  let v120 : BitVec 32 := Scalar.extui v119
  let c0_i32_56 : BitVec 32 := 0#32
  let v121 : BitVec 1 := Scalar.cmpi .ne v120 c0_i32_56
  v121

def k0_cond2 (i : grid0.Coords) : BitVec 1 :=
  let arg1 : BitVec 32 := BitVec.ofNat 32 (i 1).val
  let c0_i32_57 : BitVec 32 := 0#32
  let v122 : BitVec 1 := Scalar.cmpi .sgt arg1 c0_i32_57
  let v123 : BitVec 32 := Scalar.extui v122
  let c0_i32_58 : BitVec 32 := 0#32
  let v124 : BitVec 1 := Scalar.cmpi .ne v123 c0_i32_58
  v124

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg0.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S8x1024x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, false, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, false, false]
-- ==== Reference18Ideal.lean ====
abbrev S4096x2048 : Shape := ⟨2, ![4096, 2048]⟩
abbrev S8x1024x256 : Shape := ⟨3, ![8, 1024, 256]⟩
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024x8x256 : Shape := ⟨3, ![1024, 8, 256]⟩
abbrev S1024x2048 : Shape := ⟨2, ![1024, 2048]⟩
abbrev S1024 : Shape := ⟨1, ![1024]⟩

abbrev nBuf : Space → Nat
  | .hbm => 54
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S8x1024x256, .bf16⟩
  | .hbm, ⟨2, _⟩ => ⟨S4096x1024, .f32⟩
  | .hbm, ⟨3, _⟩ => ⟨S4096x1024, .f32⟩
  | .hbm, ⟨4, _⟩ => ⟨S1x1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S1024x8x256, .bf16⟩
  | .hbm, ⟨25, _⟩ => ⟨S1024x2048, .bf16⟩
  | .hbm, ⟨26, _⟩ => ⟨S1024x2048, .f32⟩
  | .hbm, ⟨27, _⟩ => ⟨S4096x2048, .f32⟩
  | .hbm, ⟨28, _⟩ => ⟨S4096x2048, .f32⟩
  | .hbm, ⟨29, _⟩ => ⟨S4096x1024, .f32⟩
  | .hbm, ⟨30, _⟩ => ⟨S4096x1024, .f32⟩
  | .hbm, ⟨31, _⟩ => ⟨S_, .f32⟩
  | .hbm, ⟨32, _⟩ => ⟨S1024, .f32⟩
  | .hbm, ⟨33, _⟩ => ⟨S1x1024, .f32⟩
  | .hbm, ⟨34, _⟩ => ⟨S4096x1024, .f32⟩
  | .hbm, ⟨35, _⟩ => ⟨S4096x1024, .f32⟩
  | .hbm, ⟨36, _⟩ => ⟨S4096x1024, .f32⟩
  | .hbm, ⟨37, _⟩ => ⟨S_, .f32⟩
  | .hbm, ⟨38, _⟩ => ⟨S4096, .f32⟩
  | .hbm, ⟨39, _⟩ => ⟨S4096x1, .f32⟩
  | .hbm, ⟨40, _⟩ => ⟨S4096x1024, .f32⟩
  | .hbm, ⟨41, _⟩ => ⟨S4096x1024, .f32⟩
  | .hbm, ⟨42, _⟩ => ⟨S4096x1024, .f32⟩
  | .hbm, ⟨43, _⟩ => ⟨S4096x1, .f32⟩
  | .hbm, ⟨44, _⟩ => ⟨S_, .f32⟩
  | .hbm, ⟨45, _⟩ => ⟨S4096x1, .f32⟩
  | .hbm, ⟨46, _⟩ => ⟨S4096x1, .f32⟩
  | .hbm, ⟨47, _⟩ => ⟨S_, .f32⟩
  | .hbm, ⟨48, _⟩ => ⟨S4096, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S4096x1024, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_4 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_cst_5 : Ref sig .tc := ⟨.hbm, 44, rfl⟩
abbrev main_v33 : Ref sig .tc := ⟨.hbm, 45, rfl⟩
abbrev main_v34 : Ref sig .tc := ⟨.hbm, 46, rfl⟩
abbrev main_cst_6 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩

abbrev nD : Nat := 1
abbrev τ : Topo := Topo.v7x

variable {F : FTy → Type} [FloatOps F]
-- ==== Kernel19.lean ====
abbrev S4096x1024 : Shape := ⟨2, ![4096, 1024]⟩
abbrev S1024x1024 : Shape := ⟨2, ![1024, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 8
  | .vmem => 12
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S4096x1024, .f32⟩
  | .hbm, ⟨4, _⟩ => ⟨S1x1024, .f32⟩
  | .hbm, ⟨5, _⟩ => ⟨S4096x1024, .f32⟩
  | .hbm, ⟨6, _⟩ => ⟨S1x1024, .f32⟩
  | .hbm, ⟨7, _⟩ => ⟨S1x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1x1024, .f32⟩
  | .local _ .vmem, ⟨8, _⟩ => ⟨S1024x1024, .f32⟩
  | .local _ .vmem, ⟨9, _⟩ => ⟨S1024x1024, .f32⟩
  | .local _ .vmem, ⟨10, _⟩ => ⟨S1x1024, .f32⟩
  | .local _ .vmem, ⟨11, _⟩ => ⟨S1x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem7_0 : DmaSem sig := 11

abbrev nD : Nat := 1
abbrev τ : Topo := Topo.v7x

variable {F : FTy → Type} [FloatOps F]

abbrev grid0 : Pipeline.Grid := ⟨3, ![1, 4, 1], ![false, false, false]⟩

def k0_cond1 (i : grid0.Coords) : BitVec 1 :=
  let arg1 : BitVec 32 := BitVec.ofNat 32 (i 1).val
  let c0_i32 : BitVec 32 := 0#32
  let v87 : BitVec 1 := Scalar.cmpi .eq arg1 c0_i32
  let v88 : BitVec 32 := Scalar.extui v87
  let c0_i32_36 : BitVec 32 := 0#32
  let v89 : BitVec 1 := Scalar.cmpi .ne v88 c0_i32_36
  v89

def k0_cond2 (i : grid0.Coords) : BitVec 1 :=
  let arg1 : BitVec 32 := BitVec.ofNat 32 (i 1).val
  let c0_i32_37 : BitVec 32 := 0#32
  let v90 : BitVec 1 := Scalar.cmpi .sgt arg1 c0_i32_37
  let v91 : BitVec 32 := Scalar.extui v90
  let c0_i32_38 : BitVec 32 := 0#32
  let v92 : BitVec 1 := Scalar.cmpi .ne v91 c0_i32_38
  v92

def k0_cond3 (i : grid0.Coords) : BitVec 1 :=
  let arg1 : BitVec 32 := BitVec.ofNat 32 (i 1).val
  let c0_i32_39 : BitVec 32 := 0#32
  let v93 : BitVec 1 := Scalar.cmpi .eq arg1 c0_i32_39
  let v94 : BitVec 32 := Scalar.extui v93
  let c0_i32_40 : BitVec 32 := 0#32
  let v95 : BitVec 1 := Scalar.cmpi .ne v94 c0_i32_40
  v95

def k0_cond4 (i : grid0.Coords) : BitVec 1 :=
  let arg1 : BitVec 32 := BitVec.ofNat 32 (i 1).val
  let c0_i32_41 : BitVec 32 := 0#32
  let v96 : BitVec 1 := Scalar.cmpi .sgt arg1 c0_i32_41
  let v97 : BitVec 32 := Scalar.extui v96
  let c0_i32_42 : BitVec 32 := 0#32
  let v98 : BitVec 1 := Scalar.cmpi .ne v97 c0_i32_42
  v98

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, false, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, false, false]
-- ==== Reference19Ideal.lean ====
abbrev S4096x1024 : Shape := ⟨2, ![4096, 1024]⟩
abbrev S1024x1024 : Shape := ⟨2, ![1024, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 55
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S4096x1024, .f32⟩
  | .hbm, ⟨4, _⟩ => ⟨S1x1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S1024x1024, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S_, .f32⟩
  | .hbm, ⟨30, _⟩ => ⟨S1024, .f32⟩
  | .hbm, ⟨31, _⟩ => ⟨S1x1024, .f32⟩
  | .hbm, ⟨32, _⟩ => ⟨S4096x1024, .f32⟩
  | .hbm, ⟨33, _⟩ => ⟨S4096x1024, .f32⟩
  | .hbm, ⟨34, _⟩ => ⟨S4096x1024, .f32⟩
  | .hbm, ⟨35, _⟩ => ⟨S_, .f32⟩
  | .hbm, ⟨36, _⟩ => ⟨S4096, .f32⟩
  | .hbm, ⟨37, _⟩ => ⟨S4096x1, .f32⟩
  | .hbm, ⟨38, _⟩ => ⟨S4096x1024, .f32⟩
  | .hbm, ⟨39, _⟩ => ⟨S4096x1024, .f32⟩
  | .hbm, ⟨40, _⟩ => ⟨S4096x1024, .f32⟩
  | .hbm, ⟨41, _⟩ => ⟨S4096x1, .f32⟩
  | .hbm, ⟨42, _⟩ => ⟨S_, .f32⟩
  | .hbm, ⟨43, _⟩ => ⟨S4096x1, .f32⟩
  | .hbm, ⟨44, _⟩ => ⟨S4096x1, .f32⟩
  | .hbm, ⟨45, _⟩ => ⟨S_, .f32⟩
  | .hbm, ⟨46, _⟩ => ⟨S4096, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S_, .f32⟩
  | .hbm, ⟨53, _⟩ => ⟨S1024, .f32⟩
  | .hbm, ⟨54, _⟩ => ⟨S1x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_5 : Ref sig .tc := ⟨.hbm, 42, rfl⟩
abbrev main_v31 : Ref sig .tc := ⟨.hbm, 43, rfl⟩
abbrev main_v32 : Ref sig .tc := ⟨.hbm, 44, rfl⟩
abbrev main_cst_6 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_cst_7 : Ref sig .tc := ⟨.hbm, 52, rfl⟩
abbrev main_v39 : Ref sig .tc := ⟨.hbm, 53, rfl⟩
abbrev main_v40 : Ref sig .tc := ⟨.hbm, 54, rfl⟩

abbrev nD : Nat := 1
abbrev τ : Topo := Topo.v7x

variable {F : FTy → Type} [FloatOps F]
-- ==== Kernel20.lean ====
abbrev S4096x1024 : Shape := ⟨2, ![4096, 1024]⟩
abbrev S1024x1024 : Shape := ⟨2, ![1024, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 7
  | .vmem => 11
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S1x1024, .f32⟩
  | .hbm, ⟨4, _⟩ => ⟨S1x1024, .f32⟩
  | .hbm, ⟨5, _⟩ => ⟨S4096x1024, .f32⟩
  | .hbm, ⟨6, _⟩ => ⟨S4096x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1x1024, .f32⟩
  | .local _ .vmem, ⟨6, _⟩ => ⟨S1x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .bf16⟩
  | .local _ .vmem, ⟨10, _⟩ => ⟨S1024x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨3, ![1, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, false, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]
-- ==== Reference20Ideal.lean ====
abbrev S4096x1024 : Shape := ⟨2, ![4096, 1024]⟩
abbrev S1024x1024 : Shape := ⟨2, ![1024, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩

abbrev nBuf : Space → Nat
  | .hbm => 27
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S1x1024, .f32⟩
  | .hbm, ⟨4, _⟩ => ⟨S1x1024, .f32⟩
  | .hbm, ⟨5, _⟩ => ⟨S4096x1024, .f32⟩
  | .hbm, ⟨6, _⟩ => ⟨S1024x1024, .f32⟩
  | .hbm, ⟨7, _⟩ => ⟨S4096x1024, .f32⟩
  | .hbm, ⟨8, _⟩ => ⟨S4096x1024, .f32⟩
  | .hbm, ⟨9, _⟩ => ⟨S4096x1024, .f32⟩
  | .hbm, ⟨10, _⟩ => ⟨S4096x1024, .f32⟩
  | .hbm, ⟨11, _⟩ => ⟨S4096x1024, .f32⟩
  | .hbm, ⟨12, _⟩ => ⟨S_, .f32⟩
  | .hbm, ⟨13, _⟩ => ⟨S4096, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x1, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩

abbrev nD : Nat := 1
abbrev τ : Topo := Topo.v7x

variable {F : FTy → Type} [FloatOps F]
-- ==== Kernel21.lean ====
abbrev S4096x4096 : Shape := ⟨2, ![4096, 4096]⟩
abbrev S4096x1024 : Shape := ⟨2, ![4096, 1024]⟩
abbrev S1x1024 : Shape := ⟨2, ![1, 1024]⟩
abbrev S1024x2048 : Shape := ⟨2, ![1024, 2048]⟩
abbrev S2048x1024 : Shape := ⟨2, ![2048, 1024]⟩
abbrev S1024x1024 : Shape := ⟨2, ![1024, 1024]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 8
  | .vmem => 14
  | .smem => 0
  | _ => 0

abbrev bufTy : (tb : Table) → Fin (tcTables nBuf tb) → BufTy
  | .hbm, ⟨0, _⟩ => ⟨S4096x4096, .bf16⟩
  | .hbm, ⟨1, _⟩ => ⟨S4096x1024, .bf16⟩
  | .hbm, ⟨2, _⟩ => ⟨S4096x1024, .f32⟩
  | .hbm, ⟨3, _⟩ => ⟨S4096x1024, .f32⟩
  | .hbm, ⟨4, _⟩ => ⟨S1x1024, .f32⟩
  | .hbm, ⟨5, _⟩ => ⟨S4096x1024, .f32⟩
  | .hbm, ⟨6, _⟩ => ⟨S1x1024, .f32⟩
  | .hbm, ⟨7, _⟩ => ⟨S1x1024, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1x1024, .f32⟩
  | .local _ .vmem, ⟨9, _⟩ => ⟨S1024x1024, .f32⟩
  | .local _ .vmem, ⟨10, _⟩ => ⟨S1024x1024, .f32⟩
  | .local _ .vmem, ⟨11, _⟩ => ⟨S1x1024, .f32⟩
  | .local _ .vmem, ⟨12, _⟩ => ⟨S1x1024, .f32⟩
  | .local _ .vmem, ⟨13, _⟩ => ⟨S1024x1024, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem7_0 : DmaSem sig := 12

abbrev nD : Nat := 1
abbrev τ : Topo := Topo.v7x

variable {F : FTy → Type} [FloatOps F]

abbrev grid0 : Pipeline.Grid := ⟨3, ![1, 4, 2], ![false, false, false]⟩

def k0_cond2 (i : grid0.Coords) : BitVec 1 :=
  let arg2 : BitVec 32 := BitVec.ofNat 32 (i 2).val
  let c1_i32 : BitVec 32 := 1#32
  let v16 : BitVec 1 := Scalar.cmpi .eq arg2 c1_i32
  let v17 : BitVec 32 := Scalar.extui v16
  let c0_i32_9 : BitVec 32 := 0#32
  let v18 : BitVec 1 := Scalar.cmpi .ne v17 c0_i32_9
  v18

def k0_cond3 (i : grid0.Coords) : BitVec 1 :=
  let arg1 : BitVec 32 := BitVec.ofNat 32 (i 1).val
  let c0_i32_55 : BitVec 32 := 0#32
  let v133 : BitVec 1 := Scalar.cmpi .eq arg1 c0_i32_55
  let v134 : BitVec 32 := Scalar.extui v133
  let c0_i32_56 : BitVec 32 := 0#32
  let v135 : BitVec 1 := Scalar.cmpi .ne v134 c0_i32_56
  v135

def k0_cond4 (i : grid0.Coords) : BitVec 1 :=
  let arg1 : BitVec 32 := BitVec.ofNat 32 (i 1).val
  let c0_i32_57 : BitVec 32 := 0#32
  let v136 : BitVec 1 := Scalar.cmpi .sgt arg1 c0_i32_57
  let v137 : BitVec 32 := Scalar.extui v136
  let c0_i32_58 : BitVec 32 := 0#32
  let v138 : BitVec 1 := Scalar.cmpi .ne v137 c0_i32_58
  v138

def k0_cond5 (i : grid0.Coords) : BitVec 1 :=
  let arg1 : BitVec 32 := BitVec.ofNat 32 (i 1).val
  let c0_i32_59 : BitVec 32 := 0#32
  let v139 : BitVec 1 := Scalar.cmpi .eq arg1 c0_i32_59
  let v140 : BitVec 32 := Scalar.extui v139
  let c0_i32_60 : BitVec 32 := 0#32
  let v141 : BitVec 1 := Scalar.cmpi .ne v140 c0_i32_60
  v141

def k0_cond6 (i : grid0.Coords) : BitVec 1 :=
  let arg1 : BitVec 32 := BitVec.ofNat 32 (i 1).val
  let c0_i32_61 : BitVec 32 := 0#32
  let v142 : BitVec 1 := Scalar.cmpi .sgt arg1 c0_i32_61
  let v143 : BitVec 32 := Scalar.extui v142
  let c0_i32_62 : BitVec 32 := 0#32
  let v144 : BitVec 1 := Scalar.cmpi .ne v143 c0_i32_62
  v144

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, false, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, false, false]
-- ==== Reference21Ideal.lean ====
abbrev S4096x4096 : Shape := ⟨2, ![4096, 4096]⟩
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 81
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x1024, .bf16⟩
  | .hbm, ⟨2, _⟩ => ⟨S4096x1024, .f32⟩
  | .hbm, ⟨3, _⟩ => ⟨S4096x1024, .f32⟩
  | .hbm, ⟨4, _⟩ => ⟨S1x1024, .f32⟩
  | .hbm, ⟨5, _⟩ => ⟨S4096x4096, .f32⟩
  | .hbm, ⟨6, _⟩ => ⟨S4096x1024, .f32⟩
  | .hbm, ⟨7, _⟩ => ⟨S_, .f32⟩
  | .hbm, ⟨8, _⟩ => ⟨S4096x4096, .f32⟩
  | .hbm, ⟨9, _⟩ => ⟨S4096x4096, .f32⟩
  | .hbm, ⟨10, _⟩ => ⟨S4096x4096, .f32⟩
  | .hbm, ⟨11, _⟩ => ⟨S4096x1024, .f32⟩
  | .hbm, ⟨12, _⟩ => ⟨S4096x1024, .f32⟩
  | .hbm, ⟨13, _⟩ => ⟨S4096x1024, .f32⟩
  | .hbm, ⟨14, _⟩ => ⟨S_, .f32⟩
  | .hbm, ⟨15, _⟩ => ⟨S4096, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S_, .f32⟩
  | .hbm, ⟨21, _⟩ => ⟨S4096x1, .f32⟩
  | .hbm, ⟨22, _⟩ => ⟨S4096x1, .f32⟩
  | .hbm, ⟨23, _⟩ => ⟨S4096x1, .f32⟩
  | .hbm, ⟨24, _⟩ => ⟨S4096x1, .f32⟩
  | .hbm, ⟨25, _⟩ => ⟨S_, .f32⟩
  | .hbm, ⟨26, _⟩ => ⟨S4096x1, .f32⟩
  | .hbm, ⟨27, _⟩ => ⟨S4096x1, .f32⟩
  | .hbm, ⟨28, _⟩ => ⟨S4096x1024, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S4096x1024, .f32⟩
  | .hbm, ⟨34, _⟩ => ⟨S_, .f32⟩
  | .hbm, ⟨35, _⟩ => ⟨S4096x1024, .f32⟩
  | .hbm, ⟨36, _⟩ => ⟨S4096x1024, .f32⟩
  | .hbm, ⟨37, _⟩ => ⟨S_, .f32⟩
  | .hbm, ⟨38, _⟩ => ⟨S4096x1024, .f32⟩
  | .hbm, ⟨39, _⟩ => ⟨S4096x1024, .f32⟩
  | .hbm, ⟨40, _⟩ => ⟨S_, .f32⟩
  | .hbm, ⟨41, _⟩ => ⟨S1024, .f32⟩
  | .hbm, ⟨42, _⟩ => ⟨S1x1024, .f32⟩
  | .hbm, ⟨43, _⟩ => ⟨S_, .f32⟩
  | .hbm, ⟨44, _⟩ => ⟨S1x1024, .f32⟩
  | .hbm, ⟨45, _⟩ => ⟨S1x1024, .f32⟩
  | .hbm, ⟨46, _⟩ => ⟨S_, .f32⟩
  | .hbm, ⟨47, _⟩ => ⟨S1x1024, .f32⟩
  | .hbm, ⟨48, _⟩ => ⟨S_, .f32⟩
  | .hbm, ⟨49, _⟩ => ⟨S1x1024, .f32⟩
  | .hbm, ⟨50, _⟩ => ⟨S1x1024, .f32⟩
  | .hbm, ⟨51, _⟩ => ⟨S_, .f32⟩
  | .hbm, ⟨52, _⟩ => ⟨S1024, .f32⟩
  | .hbm, ⟨53, _⟩ => ⟨S4096x1024, .f32⟩
  | .hbm, ⟨54, _⟩ => ⟨S_, .f32⟩
  | .hbm, ⟨55, _⟩ => ⟨S4096x1024, .f32⟩
  | .hbm, ⟨56, _⟩ => ⟨S4096x1024, .f32⟩
  | .hbm, ⟨57, _⟩ => ⟨S4096x1024, .f32⟩
  | .hbm, ⟨58, _⟩ => ⟨S4096x1024, .f32⟩
  | .hbm, ⟨59, _⟩ => ⟨S_, .f32⟩
  | .hbm, ⟨60, _⟩ => ⟨S1024, .f32⟩
  | .hbm, ⟨61, _⟩ => ⟨S1x1024, .f32⟩
  | .hbm, ⟨62, _⟩ => ⟨S4096x1024, .f32⟩
  | .hbm, ⟨63, _⟩ => ⟨S4096x1024, .f32⟩
  | .hbm, ⟨64, _⟩ => ⟨S4096x1024, .f32⟩
  | .hbm, ⟨65, _⟩ => ⟨S_, .f32⟩
  | .hbm, ⟨66, _⟩ => ⟨S4096, .f32⟩
  | .hbm, ⟨67, _⟩ => ⟨S4096x1, .f32⟩
  | .hbm, ⟨68, _⟩ => ⟨S4096x1024, .f32⟩
  | .hbm, ⟨69, _⟩ => ⟨S4096x1024, .f32⟩
  | .hbm, ⟨70, _⟩ => ⟨S4096x1, .f32⟩
  | .hbm, ⟨71, _⟩ => ⟨S_, .f32⟩
  | .hbm, ⟨72, _⟩ => ⟨S4096x1, .f32⟩
  | .hbm, ⟨73, _⟩ => ⟨S4096x1, .f32⟩
  | .hbm, ⟨74, _⟩ => ⟨S_, .f32⟩
  | .hbm, ⟨75, _⟩ => ⟨S4096, .f32⟩
  | .hbm, ⟨76, _⟩ => ⟨S4096x1024, .f32⟩
  | .hbm, ⟨77, _⟩ => ⟨S4096x1024, .f32⟩
  | .hbm, ⟨78, _⟩ => ⟨S4096x1024, .f32⟩
  | .hbm, ⟨79, _⟩ => ⟨S4096x1024, .f32⟩
  | .hbm, ⟨80, _⟩ => ⟨S4096x1024, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_call0_cst : Ref sig .tc := ⟨.hbm, 7, rfl⟩
abbrev main_call0_v0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_3 : Ref sig .tc := ⟨.hbm, 34, rfl⟩
abbrev main_v23 : Ref sig .tc := ⟨.hbm, 35, rfl⟩
abbrev main_v24 : Ref sig .tc := ⟨.hbm, 36, rfl⟩
abbrev main_cst_4 : Ref sig .tc := ⟨.hbm, 37, rfl⟩
abbrev main_v25 : Ref sig .tc := ⟨.hbm, 38, rfl⟩
abbrev main_v26 : Ref sig .tc := ⟨.hbm, 39, rfl⟩
abbrev main_cst_5 : Ref sig .tc := ⟨.hbm, 40, rfl⟩
abbrev main_v27 : Ref sig .tc := ⟨.hbm, 41, rfl⟩
abbrev main_v28 : Ref sig .tc := ⟨.hbm, 42, rfl⟩
abbrev main_cst_6 : Ref sig .tc := ⟨.hbm, 43, rfl⟩
abbrev main_v29 : Ref sig .tc := ⟨.hbm, 44, rfl⟩
abbrev main_v30 : Ref sig .tc := ⟨.hbm, 45, rfl⟩
abbrev main_cst_7 : Ref sig .tc := ⟨.hbm, 46, rfl⟩
abbrev main_v31 : Ref sig .tc := ⟨.hbm, 47, rfl⟩
abbrev main_cst_8 : Ref sig .tc := ⟨.hbm, 48, rfl⟩
abbrev main_v32 : Ref sig .tc := ⟨.hbm, 49, rfl⟩
abbrev main_v33 : Ref sig .tc := ⟨.hbm, 50, rfl⟩
abbrev main_cst_9 : Ref sig .tc := ⟨.hbm, 51, rfl⟩
abbrev main_v34 : Ref sig .tc := ⟨.hbm, 52, rfl⟩
abbrev main_v35 : Ref sig .tc := ⟨.hbm, 53, rfl⟩
abbrev main_cst_10 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_11 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_cst_12 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_cst_13 : Ref sig .tc := ⟨.hbm, 71, rfl⟩
abbrev main_v50 : Ref sig .tc := ⟨.hbm, 72, rfl⟩
abbrev main_v51 : Ref sig .tc := ⟨.hbm, 73, rfl⟩
abbrev main_cst_14 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩

abbrev nD : Nat := 1
abbrev τ : Topo := Topo.v7x

variable {F : FTy → Type} [FloatOps F]
-- ==== Kernel22.lean ====
abbrev S4096x1024 : Shape := ⟨2, ![4096, 1024]⟩
abbrev S256x1024 : Shape := ⟨2, ![256, 1024]⟩
abbrev S2048x1024 : Shape := ⟨2, ![2048, 1024]⟩
abbrev S2048x256 : Shape := ⟨2, ![2048, 256]⟩
abbrev S256x256 : Shape := ⟨2, ![256, 256]⟩
abbrev S2048 : Shape := ⟨1, ![2048]⟩
abbrev S2048x1 : Shape := ⟨2, ![2048, 1]⟩

abbrev nBuf : Space → Nat
  | .hbm => 4
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S256x1024, .bf16⟩
  | .hbm, ⟨2, _⟩ => ⟨S256x1024, .bf16⟩
  | .hbm, ⟨3, _⟩ => ⟨S4096x1024, .bf16⟩
  | .local _ .vmem, ⟨0, _⟩ => ⟨S2048x1024, .bf16⟩
  | .local _ .vmem, ⟨1, _⟩ => ⟨S2048x1024, .bf16⟩
  | .local _ .vmem, ⟨2, _⟩ => ⟨S256x1024, .bf16⟩
  | .local _ .vmem, ⟨3, _⟩ => ⟨S256x1024, .bf16⟩
  | .local _ .vmem, ⟨4, _⟩ => ⟨S2048x1024, .bf16⟩
  | .local _ .vmem, ⟨5, _⟩ => ⟨S2048x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference22Ideal.lean ====
abbrev S4096x1024 : Shape := ⟨2, ![4096, 1024]⟩
abbrev S256x1024 : Shape := ⟨2, ![256, 1024]⟩
abbrev S4096x4x256 : Shape := ⟨3, ![4096, 4, 256]⟩
abbrev S256x4x256 : Shape := ⟨3, ![256, 4, 256]⟩
abbrev S4x4096x256 : Shape := ⟨3, ![4, 4096, 256]⟩
abbrev S_ : Shape := ⟨0, ![]⟩
abbrev S4x4096 : Shape := ⟨2, ![4, 4096]⟩
abbrev S4x4096x1 : Shape := ⟨3, ![4, 4096, 1]⟩
abbrev S4x256x4096 : Shape := ⟨3, ![4, 256, 4096]⟩

abbrev nBuf : Space → Nat
  | .hbm => 31
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S256x1024, .bf16⟩
  | .hbm, ⟨2, _⟩ => ⟨S256x1024, .bf16⟩
  | .hbm, ⟨3, _⟩ => ⟨S4096x1024, .f32⟩
  | .hbm, ⟨4, _⟩ => ⟨S4096x4x256, .f32⟩
  | .hbm, ⟨5, _⟩ => ⟨S256x1024, .f32⟩
  | .hbm, ⟨6, _⟩ => ⟨S256x4x256, .f32⟩
  | .hbm, ⟨7, _⟩ => ⟨S256x1024, .f32⟩
  | .hbm, ⟨8, _⟩ => ⟨S256x4x256, .f32⟩
  | .hbm, ⟨9, _⟩ => ⟨S4x4096x256, .f32⟩
  | .hbm, ⟨10, _⟩ => ⟨S_, .f32⟩
  | .hbm, ⟨11, _⟩ => ⟨S4x4096x256, .f32⟩
  | .hbm, ⟨12, _⟩ => ⟨S4x4096x256, .f32⟩
  | .hbm, ⟨13, _⟩ => ⟨S_, .f32⟩
  | .hbm, ⟨14, _⟩ => ⟨S4x4096, .f32⟩
  | .hbm, ⟨15, _⟩ => ⟨S_, .f32⟩
  | .hbm, ⟨16, _⟩ => ⟨S4x4096, .f32⟩
  | .hbm, ⟨17, _⟩ => ⟨S4x4096, .f32⟩
  | .hbm, ⟨18, _⟩ => ⟨S4x4096x1, .f32⟩
  | .hbm, ⟨19, _⟩ => ⟨S4x4096x256, .f32⟩
  | .hbm, ⟨20, _⟩ => ⟨S4x4096x256, .f32⟩
  | .hbm, ⟨21, _⟩ => ⟨S4x4096x256, .f32⟩
  | .hbm, ⟨22, _⟩ => ⟨S_, .f32⟩
  | .hbm, ⟨23, _⟩ => ⟨S4x4096, .f32⟩
  | .hbm, ⟨24, _⟩ => ⟨S4x4096x1, .f32⟩
  | .hbm, ⟨25, _⟩ => ⟨S4x4096x256, .f32⟩
  | .hbm, ⟨26, _⟩ => ⟨S4x4096x256, .f32⟩
  | .hbm, ⟨27, _⟩ => ⟨S4x256x4096, .f32⟩
  | .hbm, ⟨28, _⟩ => ⟨S4096x4x256, .f32⟩
  | .hbm, ⟨29, _⟩ => ⟨S4096x1024, .f32⟩
  | .hbm, ⟨30, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_2 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩

abbrev nD : Nat := 1
abbrev τ : Topo := Topo.v7x

variable {F : FTy → Type} [FloatOps F]
-- ==== Proof.Gate.lean ====
module

public import Idealize.ShloMosaic.Lib.Pointwise
public import Idealize.ShloMosaic.PureOps.Ideal

@[expose] public section

noncomputable section

namespace Cert.Proof.Gate

open Idealize.ShloMosaic

theorem half_word : Ideal.ofBits .f32 1056964608#32 = ((1 / 2 : ℝ) : EReal) := by
  simp [Ideal.ofBits, Ideal.ieee]
  rw [← EReal.coe_mul]
  congr 1
  norm_num

/-- Half a hyperbolic tangent of half the argument, plus one half, is the logistic function. -/
theorem tanh_half (x : EReal) : ∃ t : ℝ, Ideal.tanh (Ideal.ofBits .f32 1056964608#32 * x) = (t : EReal)
    ∧ Ideal.div 1 (1 + Ideal.exp (-x)) = (((1 + t) / 2 : ℝ) : EReal) := by
  rw [half_word]
  change ∃ t : ℝ, _ ∧ Ideal.logistic x = _
  induction x with
  | bot =>
    refine ⟨-1, ?_, ?_⟩
    · rw [EReal.coe_mul_bot_of_pos (by norm_num)]
      simp
    · simp
  | top =>
    refine ⟨1, ?_, ?_⟩
    · rw [EReal.coe_mul_top_of_pos (by norm_num)]
      simp
    · simp
  | coe r =>
    refine ⟨Real.tanh (1 / 2 * r), ?_, ?_⟩
    · rw [← EReal.coe_mul, Ideal.tanh_coe]
    · rw [Ideal.logistic_coe]
      congr 1
      rw [Real.tanh_eq_sinh_div_cosh, Real.sinh_eq, Real.cosh_eq]
      have h1 : Real.exp (-r) = Real.exp (-(1 / 2 * r)) * Real.exp (-(1 / 2 * r)) := by
        rw [← Real.exp_add]; congr 1; ring
      have h2 : Real.exp (1 / 2 * r) * Real.exp (-(1 / 2 * r)) = 1 := by
        rw [← Real.exp_add]; simp
      rw [h1]
      generalize Real.exp (-(1 / 2 * r)) = b at *
      have ha := Real.exp_pos (1 / 2 * r)
      generalize Real.exp (1 / 2 * r) = a at *
      have hb : 0 < b := by
        by_contra hn
        nlinarith
      field_simp
      nlinarith

theorem gate_word (x : EReal) : Ideal.ofBits .f32 1056964608#32 * (Ideal.tanh (Ideal.ofBits .f32 1056964608#32 * x) + 1)
    = Ideal.div 1 (1 + Ideal.exp (-x)) := by
  obtain ⟨t, h1, h2⟩ := tanh_half x
  rw [h1, h2, half_word, ← EReal.coe_one, ← EReal.coe_add, ← EReal.coe_mul]
  congr 1
  ring

theorem dgate_word (x w : EReal) : Ideal.ofBits .f32 1056964608#32 * (Ideal.ofBits .f32 1056964608#32 * w
      * ((1 + Ideal.tanh (Ideal.ofBits .f32 1056964608#32 * x)) * (1 - Ideal.tanh (Ideal.ofBits .f32 1056964608#32 * x))))
    = w * (Ideal.div 1 (1 + Ideal.exp (-x)) * (1 - Ideal.div 1 (1 + Ideal.exp (-x)))) := by
  obtain ⟨t, h1, h2⟩ := tanh_half x
  have e : (1 : EReal) = ((1 : ℝ) : EReal) := rfl
  rw [h1, h2, half_word, e, ← EReal.coe_add, ← EReal.coe_sub, ← EReal.coe_sub, ← EReal.coe_mul, ← EReal.coe_mul]
  rw [mul_comm _ w, mul_assoc w, ← EReal.coe_mul, mul_left_comm, ← EReal.coe_mul]
  congr 2
  ring

end Cert.Proof.Gate
-- ==== Proof.Sums.lean ====
module

public import proofs.«01_k».proof.Proof.Gen.KernelIdeal.Value
public import proofs.«01_k».proof.Proof.Gen.ReferenceIdeal.Run
public import Idealize.ShloMosaic.Lib.Pointwise
public import Idealize.ShloMosaic.Lib.Tactic.CleanTypes

@[expose] public section

set_option maxRecDepth 16384
set_option maxHeartbeats 2000000

noncomputable section

namespace Cert.Proof.Sums

open Idealize.ShloMosaic Idealize.ShloMosaic.TcCoe
open Cert.KernelIdeal Cert.KernelIdeal.Gen

/-- The contents of the reference loop's variables before one of its turns. -/
abbrev Vals := Valuation Cert.ReferenceIdeal.τ Cert.ReferenceIdeal.sig (Elt Ideal)

variable (V0 : Vals)

open Cert.ReferenceIdeal.Value

/-- A left fold of sums from zero is the sum over the list's positions. -/
theorem foldl_sum {n : Nat} (f : Fin n → EReal) :
    (List.finRange n).foldl (fun r k => r + f k) 0 = ∑ k, f k := by
  rw [Fin.sum_univ_def, List.sum_eq_foldl, List.foldl_map]

/-- A window of 64 that ends at position `t` of a row of 64 sums the positions up to `t`. -/
theorem window_upto (x : Fin 64 → EReal) (t : Fin 64) :
    (∑ b : Fin 64, if h : 63 ≤ t.val + b.val ∧ t.val + b.val - 63 < 64 then x ⟨t.val + b.val - 63, h.2⟩ else 0)
      = ∑ s : Fin 64, if s ≤ t then x s else 0 := by
  rw [← Equiv.sum_comp (Equiv.addLeft (t + 1)) (fun s => if s ≤ t then x s else 0)]
  refine Finset.sum_congr rfl fun b _ => ?_
  have hv : (t + 1 + b).val = (t.val + 1 + b.val) % 64 := by
    simp only [Fin.val_add, Fin.val_one]
    omega
  simp only [Equiv.coe_addLeft, Fin.le_def, hv]
  split <;> rename_i h
  · rw [if_pos (by omega)]
    exact congrArg x (Fin.ext (by simp only [hv]; omega))
  · rw [if_neg (by omega)]

/-- A window of 64 that begins at position `t` of a row of 64 sums the positions from `t`. -/
theorem window_from (x : Fin 64 → EReal) (t : Fin 64) :
    (∑ b : Fin 64, if h : t.val + b.val < 64 then x ⟨t.val + b.val, h⟩ else 0)
      = ∑ s : Fin 64, if t ≤ s then x s else 0 := by
  rw [← Equiv.sum_comp (Equiv.addLeft t) (fun s => if t ≤ s then x s else 0)]
  refine Finset.sum_congr rfl fun b _ => ?_
  have hv : (t + b).val = (t.val + b.val) % 64 := by simp only [Fin.val_add]
  simp only [Equiv.coe_addLeft, Fin.le_def, hv]
  split <;> rename_i h
  · rw [if_pos (by omega)]
    exact congrArg x (Fin.ext (by simp only [hv]; omega))
  · rw [if_neg (by omega)]

/-- A running sum along the second axis, read at a position. -/
theorem cumsum_apply (x : FVec Ideal S8x64 .f32) {u : Shape} (init : u.Idx → EReal) (hi : ∀ i, init i = 0)
    (h : S8x64.ReduceWindows ![1, 64] ![1, 1] ![0, 63] ![0, 0] S8x64) (hu : 0 < u.numel) (a : Fin 8) (t : Fin 64) :
    Host.reduceWindowAdd (F := Ideal) (φ := .f32) ![1, 64] ![1, 1] ![0, 63] ![0, 0] x init h hu (ix2 a t)
      = ∑ s : Fin 64, if s ≤ t then x (ix2 a s) else 0 := by
  show Host.reduceWindow (fun r y : EReal => r + y) ![1, 64] ![1, 1] ![0, 63] ![0, 0] x (fun _ : u.Idx => init (Shape.Idx.first hu)) h hu (ix2 a t) = _
  unfold Host.reduceWindow
  simp only [hi]
  rw [foldl_sum, ← Equiv.sum_comp (Shape.rowMajor (⟨2, ![1, 64]⟩ : Shape))]
  simp only [Equiv.symm_apply_apply]
  rw [sum_idx2 (n0 := 1) (n1 := 64)]
  rw [← window_upto, Fin.sum_univ_one]
  refine Finset.sum_congr rfl fun b _ => ?_
  have hab := b.isLt
  have ha := a.isLt
  by_cases hc : 63 ≤ t.val + b.val ∧ t.val + b.val - 63 < 64
  · rw [dif_pos hc, dif_pos (Fin.forall_fin_two.2
      ⟨by show 0 ≤ a.val * 1 + 0 ∧ a.val * 1 + 0 - 0 < 8; omega, by show 63 ≤ t.val * 1 + b.val ∧ t.val * 1 + b.val - 63 < 64; omega⟩)]
    refine congrArg x (funext fun k => Fin.ext ?_)
    match k with
    | ⟨0, _⟩ => show a.val * 1 + 0 - 0 = a.val; omega
    | ⟨1, _⟩ => show t.val * 1 + b.val - 63 = t.val + b.val - 63; omega
  · rw [dif_neg hc, dif_neg fun hh => hc (by
      have h1 : 63 ≤ t.val * 1 + b.val ∧ t.val * 1 + b.val - 63 < 64 := hh 1
      omega)]

/-- A running sum from the end along the second axis, read at a position. -/
theorem revcumsum_apply (x : FVec Ideal S8x64 .f32) {u : Shape} (init : u.Idx → EReal) (hi : ∀ i, init i = 0)
    (h : S8x64.ReduceWindows ![1, 64] ![1, 1] ![0, 0] ![0, 63] S8x64) (hu : 0 < u.numel) (a : Fin 8) (t : Fin 64) :
    Host.reduceWindowAdd (F := Ideal) (φ := .f32) ![1, 64] ![1, 1] ![0, 0] ![0, 63] x init h hu (ix2 a t)
      = ∑ s : Fin 64, if t ≤ s then x (ix2 a s) else 0 := by
  show Host.reduceWindow (fun r y : EReal => r + y) ![1, 64] ![1, 1] ![0, 0] ![0, 63] x (fun _ : u.Idx => init (Shape.Idx.first hu)) h hu (ix2 a t) = _
  unfold Host.reduceWindow
  simp only [hi]
  rw [foldl_sum, ← Equiv.sum_comp (Shape.rowMajor (⟨2, ![1, 64]⟩ : Shape))]
  simp only [Equiv.symm_apply_apply]
  rw [sum_idx2 (n0 := 1) (n1 := 64)]
  rw [← window_from, Fin.sum_univ_one]
  refine Finset.sum_congr rfl fun b _ => ?_
  have hab := b.isLt
  have ha := a.isLt
  by_cases hc : t.val + b.val < 64
  · rw [dif_pos hc, dif_pos (Fin.forall_fin_two.2
      ⟨by show 0 ≤ a.val * 1 + 0 ∧ a.val * 1 + 0 - 0 < 8; omega, by show 0 ≤ t.val * 1 + b.val ∧ t.val * 1 + b.val - 0 < 64; omega⟩)]
    refine congrArg x (funext fun k => Fin.ext ?_)
    match k with
    | ⟨0, _⟩ => show a.val * 1 + 0 - 0 = a.val; omega
    | ⟨1, _⟩ => show t.val * 1 + b.val - 0 = t.val + b.val; omega
  · rw [dif_neg hc, dif_neg fun hh => hc (by
      have h1 : 0 ≤ t.val * 1 + b.val ∧ t.val * 1 + b.val - 0 < 64 := hh 1
      omega)]

/-- A row of a unit matrix picks its entry out of a sum. -/
theorem sum_eye_mul (c : Fin 64) (f : Fin 64 → EReal) : (∑ k : Fin 64, (if k = c then (1 : EReal) else 0) * f k) = f c := by
  rw [Finset.sum_eq_single c (fun k _ hk => by rw [if_neg hk, zero_mul]) (fun h => absurd (Finset.mem_univ c) h), if_pos rfl, one_mul]

theorem sum_eye_mul' (c : Fin 64) (f : Fin 64 → EReal) : (∑ k : Fin 64, (if c = k then (1 : EReal) else 0) * f k) = f c := by
  rw [← sum_eye_mul c f]
  exact Finset.sum_congr rfl fun k _ => by simp only [eq_comm]

/-- The comparison of two positions of a row of 64, as a bit. -/
theorem sge_word (i k : Fin 64) : IntOp.cmpi .sge (BitVec.ofNat 32 i.val) (BitVec.ofNat 32 k.val) = BitVec.ofBool (decide (k ≤ i)) := by
  revert i k; decide +kernel

theorem sgt_word (i k : Fin 64) : IntOp.cmpi .sgt (BitVec.ofNat 32 i.val) (BitVec.ofNat 32 k.val) = BitVec.ofBool (decide (k < i)) := by
  revert i k; decide +kernel

theorem eq_word (i k : Fin 64) : BitVec.setWidth 32 (IntOp.cmpi .eq (BitVec.ofNat 32 i.val) (BitVec.ofNat 32 k.val)) = if i = k then 1#32 else 0#32 := by
  revert i k; decide +kernel

theorem select_ofBool (p : Prop) [Decidable p] (x y : EReal) : Scalar.select (BitVec.ofBool (decide p)) x y = if p then x else y := by
  by_cases h : p <;> simp [Scalar.select, h]

theorem eye_word (i k : Fin 64) : (FloatOps.sitofp (F := Ideal) .f32 (BitVec.setWidth 32 (IntOp.cmpi .eq (BitVec.ofNat 32 i.val) (BitVec.ofNat 32 k.val))) : EReal) = if i = k then (1 : EReal) else 0 := by
  rw [eq_word]
  by_cases h : i = k
  · rw [if_pos h, if_pos h]
    show (((1#32 : BitVec 32).toInt : ℝ) : EReal) = 1
    norm_num
  · rw [if_neg h, if_neg h]
    show (((0#32 : BitVec 32).toInt : ℝ) : EReal) = 0
    norm_num

/-- The sum over the elements of a box that one column holds is the sum over its first two axes. -/
theorem sum_drop01 {n m l : Nat} (h : (⟨3, ![n, m, l]⟩ : Shape).ReducesTo [0, 1] ⟨1, ![l]⟩) (v : (⟨3, ![n, m, l]⟩ : Shape).Idx → EReal) (c : Fin l) :
    (∑ i ∈ Finset.univ.filter (fun i => h.drop i = ix1 c), v i) = ∑ a : Fin n, ∑ t : Fin m, v (ix3 a t c) := by
  rw [Finset.sum_filter, sum_idx3]
  refine Finset.sum_congr rfl fun a _ => Finset.sum_congr rfl fun t _ => ?_
  have hd (b : Fin l) : h.drop (ix3 a t b) = ix1 c ↔ b = c := by
    constructor
    · intro e
      exact Fin.ext (congrArg Fin.val (congrFun e (0 : Fin 1)) : b.val = c.val)
    · rintro rfl
      funext k
      match k with
      | ⟨0, _⟩ => rfl
  simp only [hd]
  rw [Finset.sum_ite_eq' Finset.univ c (fun b => v (ix3 a t b)), if_pos (Finset.mem_univ c)]

theorem reduceAdd01 {n m l : Nat} (h : (⟨3, ![n, m, l]⟩ : Shape).Reduces [0, 1] ⟨1, ![l]⟩) (v : (⟨3, ![n, m, l]⟩ : Shape).Idx → EReal) (c : Fin l) :
    Ideal.reduceAdd h v (ix1 c) = ∑ a : Fin n, ∑ t : Fin m, v (ix3 a t c) :=
  sum_drop01 h.reducesTo v c

theorem hostReduceAdd01 {n m l : Nat} (h : (⟨3, ![n, m, l]⟩ : Shape).ReducesTo [0, 1] ⟨1, ![l]⟩) (v : (⟨3, ![n, m, l]⟩ : Shape).Idx → EReal) (x : EReal) (c : Fin l) :
    Ideal.hostReduceAdd h v x (ix1 c) = x + ∑ a : Fin n, ∑ t : Fin m, v (ix3 a t c) :=
  congrArg (x + ·) (sum_drop01 h v c)

open Cert.ReferenceIdeal.Value

/-- The gates' column the reference's running sum takes. -/
def gin : FVec Ideal S8x64x1 .f32 := fun j =>
  shapeCast Cert.ReferenceIdeal.S8x64 (Host.dynamicSlice Cert.ReferenceIdeal.S1x8x64 (V0 (Proc.devRef .tc Cert.ReferenceIdeal.main_v28_3)) (fun k => (((![res_main_while0b_v46 V0, constantI Cert.ReferenceIdeal.S_ 32 0#32, constantI Cert.ReferenceIdeal.S_ 32 0#32] : Fin 3 → (⟨Cert.ReferenceIdeal.S_, .i32⟩ : BufTy).Contents (Elt Ideal))) k (Shape.Idx.first Cert.ReferenceIdeal.Gen.h_S_)).toInt) Cert.ReferenceIdeal.Gen.sliceFits_S64x8x64_S1x8x64) Cert.ReferenceIdeal.Gen.shapeCasts_S1x8x64_S8x64 (ix2 (j 0) (j 1))

theorem v56_apply (a : Fin 8) (t : Fin 64) :
    res_main_while0b_v56 V0 (ix2 a t) = ∑ s : Fin 64, if s ≤ t then gin V0 (ix3 a s 0) else 0 := by
  unfold res_main_while0b_v56
  refine (cumsum_apply _ _ (fun i => ?_) _ _ a t).trans rfl
  pointwise []

/-- The running sum of the gates as a column. -/
def gcol : FVec Ideal S8x64x1 .f32 := fun j => res_main_while0b_v56 V0 (ix2 (j 0) (j 1))

def grow : FVec Ideal S8x1x64 .f32 := fun j => gin V0 (ix3 (j 0) (j 2) 0)

theorem growL : k0_pay16 (F := Ideal) (gin V0) = grow V0 := by
  funext j; idx_vars j
  unfold grow
  pointwise [k0_pay16, k0_pay15, k0_pay13]
  simp only [eye_word, sum_eye_mul]

theorem gcolL : k0_pay18 (F := Ideal) (gin V0) = gcol V0 := by
  funext j; idx_vars j
  unfold gcol
  pointwise [k0_pay18, k0_pay17, k0_pay14, growL, v56_apply, grow]
  simp only [sge_word, select_ofBool]
-- ==== Proof.Chunk.lean ====
module

public import proofs.«01_k».proof.Proof.Gen.KernelIdeal.Value
public import proofs.«01_k».proof.Proof.Gen.ReferenceIdeal.Run
public import Idealize.ShloMosaic.Lib.Pointwise
public import Idealize.ShloMosaic.Lib.Tactic.CleanTypes
public import proofs.«01_k».proof.Proof.Sums

@[expose] public section

set_option maxRecDepth 16384
set_option maxHeartbeats 2000000

noncomputable section

namespace Cert.Proof.Chunk

open Idealize.ShloMosaic Idealize.ShloMosaic.TcCoe
open Cert.KernelIdeal Cert.KernelIdeal.Gen

/-- The contents of the reference loop's variables before one of its turns. -/
abbrev Vals := Valuation Cert.ReferenceIdeal.τ Cert.ReferenceIdeal.sig (Elt Ideal)

variable (V0 : Vals)

open Cert.ReferenceIdeal.Value
open Cert.Proof.Sums hiding Vals

theorem kbetaL : k0_pay22 (F := Ideal) (res_main_while0b_v75 V0) (res_main_while0b_v48 V0) = res_main_while0b_v77 V0 := by
  funext j; idx_vars j
  unfold res_main_while0b_v77
  clean_types
  pointwise! [k0_pay22]

theorem v83_eq : res_main_while0b_v83 V0 = res_main_while0b_v75 V0 := by
  unfold res_main_while0b_v83 res_main_while0b_v75
  rfl

theorem gramL : k0_pay25 (F := Ideal) (res_main_while0b_v75 V0) (res_main_while0b_v47 V0) (res_main_while0b_v48 V0) = res_main_while0b_v78 V0 := by
  funext j; idx_vars j
  unfold res_main_while0b_v78
  clean_types
  pointwise [k0_pay25, k0_pay24, k0_pay23, kbetaL]

theorem qkL : k0_pay28 (F := Ideal) (k0_pay24 (res_main_while0b_v75 V0) (res_main_while0b_v47 V0) (res_main_while0b_v48 V0)) = res_main_while0b_v94 V0 := by
  funext j; idx_vars j
  unfold res_main_while0b_v94
  clean_types
  pointwise [k0_pay28, k0_pay24, k0_pay23, kbetaL]

theorem scoreL : k0_pay29 (F := Ideal) (res_main_while0b_v74 V0) (k0_pay24 (res_main_while0b_v75 V0) (res_main_while0b_v47 V0) (res_main_while0b_v48 V0)) = res_main_while0b_v95 V0 := by
  funext j; idx_vars j
  unfold res_main_while0b_v95
  clean_types
  pointwise [k0_pay29, qkL]

theorem decayL : k0_pay21 (F := Ideal) (gin V0) = res_main_while0b_v74 V0 := by
  funext j; idx_vars j
  unfold res_main_while0b_v74 res_main_while0b_v73_1 res_main_while0b_v57
  clean_types
  pointwise [k0_pay21, k0_pay20, k0_pay19, k0_pay13, k0_pay14, gcolL, gcol]
  simp only [eye_word, sum_eye_mul]
  rfl

theorem decayInL : k0_pay30 (F := Ideal) (gcol V0) = res_main_while0b_v82 V0 := by
  funext j; idx_vars j
  unfold res_main_while0b_v82 res_main_while0b_v81 gcol
  clean_types
  pointwise [k0_pay30]

theorem solvedL : k0_pay31 (F := Ideal) (res_main_while0b_v54 V0) (res_main_while0b_v75 V0) (res_main_while0b_v49 V0) (gcol V0) (res_main_while0b_v77 V0) = res_main_while0b_v91 V0 := by
  funext j; idx_vars j
  unfold res_main_while0b_v91 res_main_while0b_v88
  clean_types
  pointwise [k0_pay31, decayInL, v83_eq]

theorem total (a : Fin 8) : (∑ s : Fin 64, gin V0 (ix3 a s 0)) = res_main_while0b_v99 V0 (ix1 a) := by
  unfold res_main_while0b_v99
  clean_types
  pointwise [v56_apply]
  refine Finset.sum_congr rfl fun s _ => ?_
  rw [if_pos]
  rw [Fin.le_def]
  show s.val ≤ 63
  omega

theorem lastL : k0_pay32 (F := Ideal) (grow V0) = fun j => res_main_while0b_v99 V0 (ix1 (j 0)) := by
  funext j; idx_vars j
  pointwise [k0_pay32, grow, total]

theorem decayOutL : k0_pay33 (F := Ideal) (grow V0) (gcol V0) = res_main_while0b_v104 V0 := by
  funext j; idx_vars j
  unfold res_main_while0b_v104 res_main_while0b_v103
  clean_types
  pointwise [k0_pay33, lastL, gcol]

theorem kdecL : k0_pay34 (F := Ideal) (res_main_while0b_v48 V0) (grow V0) (gcol V0) = res_main_while0b_v106 V0 := by
  funext j; idx_vars j
  unfold res_main_while0b_v106
  clean_types
  pointwise [k0_pay34, decayOutL]

theorem vnewL : k0_pay37 (F := Ideal) (res_main_while0b_v54 V0) (res_main_while0b_v75 V0) (res_main_while0b_v47 V0) (res_main_while0b_v49 V0) (res_main_while0b_v53 V0) (gcol V0) (res_main_while0b_v77 V0) = res_main_while0b_v108 V0 := by
  funext j; idx_vars j
  unfold res_main_while0b_v108 res_main_while0b_v93
  clean_types
  pointwise [k0_pay37, k0_pay36, k0_pay35, solvedL]

theorem outL : k0_pay38 (F := Ideal) (res_main_while0b_v54 V0) (res_main_while0b_v75 V0) (res_main_while0b_v47 V0) (res_main_while0b_v49 V0) (res_main_while0b_v53 V0) (gcol V0) (res_main_while0b_v74 V0) (res_main_while0b_v77 V0) (k0_pay24 (res_main_while0b_v75 V0) (res_main_while0b_v47 V0) (res_main_while0b_v48 V0)) = res_main_while0b_v111 V0 := by
  funext j; idx_vars j
  unfold res_main_while0b_v111 res_main_while0b_v97
  clean_types
  pointwise [k0_pay38, k0_pay36, k0_pay35, vnewL, scoreL, decayInL]

theorem keepL : k0_pay39 (F := Ideal) (grow V0) = res_main_while0b_v113 V0 := by
  funext j; idx_vars j
  unfold res_main_while0b_v113 res_main_while0b_v112
  clean_types
  pointwise [k0_pay39, lastL]
-- ==== Proof.Chunk2.lean ====
module

public import proofs.«01_k».proof.Proof.Gen.KernelIdeal.Value
public import proofs.«01_k».proof.Proof.Gen.ReferenceIdeal.Run
public import Idealize.ShloMosaic.Lib.Pointwise
public import proofs.«01_k».proof.Proof.Gate
public import Idealize.ShloMosaic.Lib.Tactic.CleanTypes
public import proofs.«01_k».proof.Proof.Chunk

@[expose] public section

set_option maxRecDepth 16384
set_option maxHeartbeats 2000000

noncomputable section

namespace Cert.Proof.Chunk

open Idealize.ShloMosaic Idealize.ShloMosaic.TcCoe
open Cert.KernelIdeal Cert.KernelIdeal.Gen

variable (V0 : Vals)

open Cert.ReferenceIdeal.Value
open Cert.Proof.Sums hiding Vals

theorem varL : k0_pay40 (F := Ideal) (res_main_while0b_v54 V0) (res_main_while0b_v75 V0) (res_main_while0b_v47 V0) (res_main_while0b_v49 V0) (res_main_while0b_v53 V0) (gcol V0) (res_main_while0b_v74 V0) (res_main_while0b_v77 V0) (k0_pay24 (res_main_while0b_v75 V0) (res_main_while0b_v47 V0) (res_main_while0b_v48 V0)) = res_main_while0b_v124 V0 := by
  funext j; idx_vars j
  unfold res_main_while0b_v124
  clean_types
  pointwise [k0_pay40, outL]

theorem rstdL : k0_pay41 (F := Ideal) (res_main_while0b_v54 V0) (res_main_while0b_v75 V0) (res_main_while0b_v47 V0) (res_main_while0b_v49 V0) (res_main_while0b_v53 V0) (gcol V0) (res_main_while0b_v74 V0) (res_main_while0b_v77 V0) (k0_pay24 (res_main_while0b_v75 V0) (res_main_while0b_v47 V0) (res_main_while0b_v48 V0)) = res_main_while0b_v125 V0 := by
  funext j; idx_vars j
  unfold res_main_while0b_v125
  clean_types
  pointwise [k0_pay41, varL]

/-- The factor of the derivative of the reciprocal root: minus one half of the root over the variance. -/
def coef : FVec Ideal S8x64x1 .f32 := fun j => Ideal.ofBits .f32 0xBF000000#32 * Ideal.div (res_main_while0b_v125 V0 j) (res_main_while0b_v124 V0 j)

theorem coefL : k0_pay42 (F := Ideal) (res_main_while0b_v54 V0) (res_main_while0b_v75 V0) (res_main_while0b_v47 V0) (res_main_while0b_v49 V0) (res_main_while0b_v53 V0) (gcol V0) (res_main_while0b_v74 V0) (res_main_while0b_v77 V0) (k0_pay24 (res_main_while0b_v75 V0) (res_main_while0b_v47 V0) (res_main_while0b_v48 V0)) = coef V0 := by
  funext j; idx_vars j
  pointwise [k0_pay42, varL, rstdL, coef]

theorem normedL : k0_pay43 (F := Ideal) (res_main_while0b_v54 V0) (res_main_while0b_v75 V0) (res_main_while0b_v47 V0) (res_main_while0b_v49 V0) (res_main_while0b_v53 V0) (gcol V0) (res_main_while0b_v74 V0) (res_main_while0b_v77 V0) (k0_pay24 (res_main_while0b_v75 V0) (res_main_while0b_v47 V0) (res_main_while0b_v48 V0)) = res_main_while0b_v130 V0 := by
  funext j; idx_vars j
  unfold res_main_while0b_v130
  clean_types
  pointwise [k0_pay43, outL, rstdL]

theorem onormL : k0_pay44 (F := Ideal) (V0 (Proc.devRef .tc Cert.ReferenceIdeal.main_v28_9)) = res_main_while0b_v131 V0 := by
  funext j; idx_vars j
  unfold res_main_while0b_v131
  clean_types
  pointwise [k0_pay44]

theorem scaledL : k0_pay45 (F := Ideal) (res_main_while0b_v54 V0) (res_main_while0b_v75 V0) (res_main_while0b_v47 V0) (res_main_while0b_v49 V0) (res_main_while0b_v53 V0) (V0 (Proc.devRef .tc Cert.ReferenceIdeal.main_v28_9)) (gcol V0) (res_main_while0b_v74 V0) (res_main_while0b_v77 V0) (k0_pay24 (res_main_while0b_v75 V0) (res_main_while0b_v47 V0) (res_main_while0b_v48 V0)) = res_main_while0b_v133 V0 := by
  funext j; idx_vars j
  unfold res_main_while0b_v133
  clean_types
  pointwise [k0_pay45, normedL, onormL]

theorem gateL : k0_pay48 (F := Ideal) (res_main_while0b_v52 V0) = res_main_while0b_v134_2 V0 := by
  funext j; idx_vars j
  unfold res_main_while0b_v134_2
  clean_types
  pointwise [k0_pay48, k0_pay46]
  exact Gate.gate_word _

section
variable (p0 p1 p2 p3 p4 p5 p6 p7 : FVec Ideal S64x128 .bf16)

theorem ctgateL (h : k0_pay49 (F := Ideal) p0 p1 p2 p3 p4 p5 p6 p7 = res_main_while0b_v55 V0) : k0_pay51 (F := Ideal) (res_main_while0b_v52 V0) p0 p1 p2 p3 p4 p5 p6 p7 = res_main_while0b_v137 V0 := by
  funext j; idx_vars j
  unfold res_main_while0b_v137 res_main_while0b_v134_0
  clean_types
  pointwise [k0_pay51, gateL, h]

theorem ctnormL (h : k0_pay49 (F := Ideal) p0 p1 p2 p3 p4 p5 p6 p7 = res_main_while0b_v55 V0) : k0_pay50 (F := Ideal) (res_main_while0b_v133 V0) p0 p1 p2 p3 p4 p5 p6 p7 = res_main_while0b_v136 V0 := by
  funext j; idx_vars j
  unfold res_main_while0b_v136
  clean_types
  pointwise [k0_pay50, h]

/-- The cotangent of the gate's argument. -/
def dz : FVec Ideal S8x64x128 .f32 :=
  addf (mulf (res_main_while0b_v136 V0) (res_main_while0b_v134_2 V0)) (mulf (mulf (res_main_while0b_v52 V0) (res_main_while0b_v136 V0)) (mulf (res_main_while0b_v134_2 V0) (subf (broadcastInDim S8x64x128 ![] Cert.ReferenceIdeal.Gen.bcast_S_S8x64x128 (constant Cert.ReferenceIdeal.S_ .f32 0x3F800000#32)) (res_main_while0b_v134_2 V0))))

theorem dzL (h : k0_pay49 (F := Ideal) p0 p1 p2 p3 p4 p5 p6 p7 = res_main_while0b_v55 V0) :
    k0_pay54 (F := Ideal) (k0_pay47 (res_main_while0b_v52 V0)) (k0_pay52 (res_main_while0b_v52 V0) (res_main_while0b_v133 V0) p0 p1 p2 p3 p4 p5 p6 p7) (k0_pay53 (res_main_while0b_v52 V0) (res_main_while0b_v133 V0) p0 p1 p2 p3 p4 p5 p6 p7) = dz V0 := by
  funext j; idx_vars j
  have hv : res_main_while0b_v134_2 V0 (ix3 j0 j1 j2) = Ideal.div 1 (1 + Ideal.exp ((fun x : EReal => -x) (res_main_while0b_v52 V0 (ix3 j0 j1 j2)))) := by
    unfold res_main_while0b_v134_2
    clean_types
    pointwise []
  unfold dz
  clean_types
  pointwise [k0_pay54, k0_pay47, k0_pay46, k0_pay52, k0_pay53, ctnormL _ _ _ _ _ _ _ _ _ h, gateL]
  rw [hv]
  exact congrArg₂ (fun a b : EReal => a + b) rfl (Gate.dgate_word _ _)
end

/-- One chunk's part of the cotangent of the output norm's weight. -/
def dnormPart : FVec Ideal S1x128 .f32 := fun j =>
  let x : FVec Ideal S8x64x128 .f32 := res_main_while0b_v130 V0
  let y : FVec Ideal S8x64x128 .f32 := res_main_while0b_v137 V0
  ∑ a : Fin 8, ∑ t : Fin 64, x (ix3 a t (j 1)) * y (ix3 a t (j 1))

theorem dnormL : k0_pay55 (F := Ideal) (res_main_while0b_v130 V0) (res_main_while0b_v137 V0) = dnormPart V0 := by
  funext j; idx_vars j
  pointwise [k0_pay55, dnormPart, reduceAdd01]
  simp only [Fin.sum_univ_one]

theorem douL : k0_pay56 (F := Ideal) (res_main_while0b_v111 V0) (res_main_while0b_v125 V0) (coef V0) (res_main_while0b_v131 V0) (res_main_while0b_v137 V0) = res_main_while0b_v159 V0 := by
  funext j; idx_vars j
  unfold res_main_while0b_v159 res_main_while0b_v155 res_main_while0b_v143
  clean_types
  pointwise [k0_pay56, coef]

abbrev dS : FVec Ideal S8x128x128 .f32 := V0 (Proc.devRef .tc Cert.ReferenceIdeal.main_v28_11)

theorem dkdecL : k0_pay59 (F := Ideal) (res_main_while0b_v108 V0) (dS V0) = res_main_while0b_v163 V0 := by
  funext j; idx_vars j
  unfold res_main_while0b_v163 dS
  clean_types
  pointwise! [k0_pay59, k0_pay58]

theorem dscoreL : k0_pay63 (F := Ideal) (res_main_while0b_v108 V0) (res_main_while0b_v111 V0) (res_main_while0b_v125 V0) (coef V0) (res_main_while0b_v131 V0) (res_main_while0b_v137 V0) = res_main_while0b_v174 V0 := by
  funext j; idx_vars j
  unfold res_main_while0b_v174
  clean_types
  pointwise [k0_pay63, douL]

theorem dvnewL : k0_pay65 (F := Ideal) (k0_pay60 (res_main_while0b_v106 V0) (dS V0)) (k0_pay64 (res_main_while0b_v95 V0) (res_main_while0b_v111 V0) (res_main_while0b_v125 V0) (coef V0) (res_main_while0b_v131 V0) (res_main_while0b_v137 V0)) = res_main_while0b_v173 V0 := by
  funext j; idx_vars j
  unfold res_main_while0b_v173 dS
  clean_types
  pointwise! [k0_pay65, k0_pay64, k0_pay60, k0_pay58, douL]
-- ==== Proof.Chunk3.lean ====
module

public import proofs.«01_k».proof.Proof.Gen.KernelIdeal.Value
public import proofs.«01_k».proof.Proof.Gen.ReferenceIdeal.Run
public import Idealize.ShloMosaic.Lib.Pointwise
public import Idealize.ShloMosaic.Lib.Tactic.CleanTypes
public import proofs.«01_k».proof.Proof.Chunk2

@[expose] public section

set_option maxRecDepth 16384
set_option maxHeartbeats 2000000

noncomputable section

namespace Cert.Proof.Chunk

open Idealize.ShloMosaic Idealize.ShloMosaic.TcCoe
open Cert.KernelIdeal Cert.KernelIdeal.Gen

variable (V0 : Vals)

open Cert.ReferenceIdeal.Value
open Cert.Proof.Sums hiding Vals

/-- The two parts of the cotangent of the chunk's corrected values, as the kernel forms them. -/
abbrev dvA : FVec Ideal S8x64x128 .f32 := k0_pay60 (F := Ideal) (res_main_while0b_v106 V0) (dS V0)
abbrev dvB : FVec Ideal S8x64x128 .f32 :=
  k0_pay64 (F := Ideal) (res_main_while0b_v95 V0) (res_main_while0b_v111 V0) (res_main_while0b_v125 V0) (coef V0) (res_main_while0b_v131 V0) (res_main_while0b_v137 V0)

theorem dstateL : k0_pay68 (F := Ideal) (k0_pay35 (res_main_while0b_v54 V0) (res_main_while0b_v75 V0) (res_main_while0b_v47 V0) (res_main_while0b_v49 V0) (gcol V0) (res_main_while0b_v77 V0)) (res_main_while0b_v159 V0) (dvA V0) (k0_pay61 (res_main_while0b_v113 V0) (dS V0)) (dvB V0) = step_main_v28_11 V0 := by
  funext j; idx_vars j
  unfold step_main_v28_11 res_main_while0b_v179 res_main_while0b_v93 res_main_while0b_v97 dS
  rw [id_eq]
  clean_types
  pointwise [k0_pay68, k0_pay66, k0_pay61, k0_pay57, k0_pay35, dvnewL, solvedL, decayInL]
  simp only [zero_sub]
  rw [add_assoc]
  exact congrArg₂ (fun a b : EReal => a + b) rfl ((@add_comm EReal _ _ _).trans (congrArg₂ (fun a b : EReal => a + b)
    (Finset.sum_congr rfl fun x _ => @mul_comm EReal _ _ _) (Finset.sum_congr rfl fun x _ => @mul_comm EReal _ _ _)))

/-- The inter-chunk cotangent of the query, with the decay into the chunk. -/
def dqIn : FVec Ideal S8x64x128 .f32 := mulf (res_main_while0b_v178 V0) (broadcastTo S8x64x128 (res_main_while0b_v82 V0 : FVec Ideal S8x64x1 .f32) broadcasts_S8x64x1_S8x64x128)

theorem dqdecL : k0_pay69 (F := Ideal) (res_main_while0b_v53 V0) (res_main_while0b_v159 V0) (dvA V0) (dvB V0) = res_main_while0b_v178 V0 := by
  funext j; idx_vars j
  unfold res_main_while0b_v178
  clean_types
  pointwise [k0_pay69, k0_pay67, k0_pay66, dvnewL]

theorem dqInL : k0_pay71 (F := Ideal) (res_main_while0b_v53 V0) (res_main_while0b_v82 V0) (res_main_while0b_v159 V0) (dvA V0) (dvB V0) = dqIn V0 := by
  funext j; idx_vars j
  unfold dqIn
  pointwise [k0_pay71, dqdecL]

/-- The row sums of the query against its cotangent. -/
def qdq : FVec Ideal S8x64x1 .f32 := fun j =>
  let x : FVec Ideal S8x64x128 .f32 := res_main_while0b_v47 V0
  let y : FVec Ideal S8x64x128 .f32 := res_main_while0b_v178 V0
  ∑ l : Fin 128, x (ix3 (j 0) (j 1) l) * y (ix3 (j 0) (j 1) l)

theorem qdqL : k0_pay70 (F := Ideal) (res_main_while0b_v47 V0) (res_main_while0b_v53 V0) (res_main_while0b_v159 V0) (dvA V0) (dvB V0) = qdq V0 := by
  funext j; idx_vars j
  pointwise [k0_pay70, dqdecL, qdq]

theorem dsolvedL : k0_pay76 (F := Ideal) (res_main_while0b_v54 V0) (res_main_while0b_v53 V0) (res_main_while0b_v159 V0) (dvA V0) (dvB V0) = res_main_while0b_v215 V0 := by
  funext j; idx_vars j
  unfold res_main_while0b_v215 res_main_while0b_v212 res_main_while0b_v179
  clean_types
  pointwise [k0_pay76, k0_pay67, k0_pay66, dvnewL]
  have hj := j2.isLt
  simp only [zero_sub]
  by_cases h : j2.val < 128
  · have h' : ¬(128 ≤ j2.val ∧ j2.val - 128 < 128) := by omega
    simp only [dif_pos h, dif_neg h']
    refine congrArg₂ (fun a b : EReal => a + b) rfl ?_
    exact Finset.sum_congr rfl fun x _ => mul_comm _ _
  · have h' : 128 ≤ j2.val ∧ j2.val - 128 < 128 := by omega
    simp only [dif_neg h, dif_pos h']
    refine congrArg₂ (fun a b : EReal => a + b) rfl ?_
    exact Finset.sum_congr rfl fun x _ => mul_comm _ _

theorem dsolvedL' : k0_pay77 (F := Ideal) (res_main_while0b_v54 V0) (res_main_while0b_v53 V0) (res_main_while0b_v159 V0) (dvA V0) (dvB V0) = (res_main_while0b_v215 V0 : FVec Ideal S8x64x256 .f32) := by
  rw [← dsolvedL]
  rfl

/-- The cotangent of the chunk's values. -/
def dv : FVec Ideal S8x64x128 .f32 := mulf (res_main_while0b_v218 V0) (broadcastTo S8x64x128 (res_main_while0b_v75 V0 : FVec Ideal S8x64x1 .f32) broadcasts_S8x64x1_S8x64x128)

theorem drhsL : k0_pay78 (F := Ideal) (res_main_while0b_v215 V0) = res_main_while0b_v218 V0 := by
  funext j; idx_vars j
  unfold res_main_while0b_v218
  clean_types
  pointwise [k0_pay78]

theorem drhsL' : k0_pay79 (F := Ideal) (res_main_while0b_v215 V0) = res_main_while0b_v219 V0 := by
  funext j; idx_vars j
  unfold res_main_while0b_v219
  clean_types
  pointwise [k0_pay79]

theorem dvL : k0_pay80 (F := Ideal) (res_main_while0b_v75 V0) (res_main_while0b_v215 V0) = dv V0 := by
  funext j; idx_vars j
  unfold dv
  pointwise [k0_pay80, drhsL]

theorem dlowerL : k0_pay82 (F := Ideal) (k0_pay27 k0_pay26) (res_main_while0b_v91 V0) (res_main_while0b_v215 V0 : FVec Ideal S8x64x256 .f32) = res_main_while0b_v235 V0 := by
  funext j; idx_vars j
  unfold res_main_while0b_v235 res_main_while0b_v80_1 res_main_while0b_v57
  clean_types
  pointwise [k0_pay82, k0_pay27, k0_pay26]
  rw [zero_sub]

/-- The cotangent of the chunk's queries. -/
def dq : FVec Ideal S8x64x128 .f32 :=
  addf (mulf (res_main_while0b_v178 V0) (broadcastInDim Cert.ReferenceIdeal.S8x64x128 ![0, 1, 2] Cert.ReferenceIdeal.Gen.bcast_S8x64x1_S8x64x128_0_1_2 (res_main_while0b_v82 V0))) (Host.dotGeneral (F := Ideal) (φ₁ := .f32) (φ₂ := .f32) Cert.ReferenceIdeal.dot_S8x64x64_S8x64x128_S8x64x128_2_1_1_2_0_0 none (res_main_while0b_v205 V0) (res_main_while0b_v48 V0))

theorem dqL : k0_pay86 (F := Ideal) (res_main_while0b_v48 V0) (res_main_while0b_v74 V0) (k0_pay27 k0_pay26) (res_main_while0b_v91 V0) (res_main_while0b_v174 V0) (dqIn V0) (res_main_while0b_v215 V0 : FVec Ideal S8x64x256 .f32) = dq V0 := by
  funext j; idx_vars j
  unfold dq dqIn res_main_while0b_v205
  clean_types
  pointwise [k0_pay86, k0_pay84, k0_pay83, dlowerL]

theorem dkbetaL : k0_pay85 (F := Ideal) (res_main_while0b_v48 V0) (res_main_while0b_v74 V0) (k0_pay27 k0_pay26) (res_main_while0b_v82 V0) (res_main_while0b_v91 V0) (res_main_while0b_v174 V0) (res_main_while0b_v215 V0) (res_main_while0b_v215 V0 : FVec Ideal S8x64x256 .f32) = res_main_while0b_v242 V0 := by
  funext j; idx_vars j
  unfold res_main_while0b_v242 res_main_while0b_v238
  clean_types
  pointwise [k0_pay85, k0_pay84, k0_pay83, dlowerL, drhsL']

/-- The cotangent of the chunk's write strengths, as a column. -/
def dbeta : FVec Ideal S8x64x1 .f32 := fun j =>
  let v : FVec Ideal S8x64x128 .f32 := res_main_while0b_v49 V0
  let x : FVec Ideal S8x64x128 .f32 := res_main_while0b_v218 V0
  let k : FVec Ideal S8x64x128 .f32 := res_main_while0b_v48 V0
  let y : FVec Ideal S8x64x128 .f32 := res_main_while0b_v242 V0
  (∑ l : Fin 128, v (ix3 (j 0) (j 1) l) * x (ix3 (j 0) (j 1) l)) + ∑ l : Fin 128, k (ix3 (j 0) (j 1) l) * y (ix3 (j 0) (j 1) l)

theorem dbetaL : k0_pay87 (F := Ideal) (res_main_while0b_v48 V0) (res_main_while0b_v49 V0) (res_main_while0b_v74 V0) (k0_pay27 k0_pay26) (res_main_while0b_v82 V0) (res_main_while0b_v91 V0) (res_main_while0b_v174 V0) (res_main_while0b_v215 V0) (res_main_while0b_v215 V0 : FVec Ideal S8x64x256 .f32) = dbeta V0 := by
  funext j; idx_vars j
  pointwise [k0_pay87, dkbetaL, drhsL, dbeta]

/-- The cotangent of the chunk's keys. -/
def dk : FVec Ideal S8x64x128 .f32 :=
  addf (addf (addf (mulf (res_main_while0b_v163 V0) (broadcastInDim Cert.ReferenceIdeal.S8x64x128 ![0, 1, 2] Cert.ReferenceIdeal.Gen.bcast_S8x64x1_S8x64x128_0_1_2 (res_main_while0b_v104 V0))) (Host.dotGeneral (F := Ideal) (φ₁ := .f32) (φ₂ := .f32) Cert.ReferenceIdeal.dot_S8x64x64_S8x64x128_S8x64x128_1_1_2_2_0_0 none (res_main_while0b_v205 V0) (res_main_while0b_v47 V0))) (Host.dotGeneral (F := Ideal) (φ₁ := .f32) (φ₂ := .f32) Cert.ReferenceIdeal.dot_S8x64x64_S8x64x128_S8x64x128_1_1_2_2_0_0 none (res_main_while0b_v238 V0) (res_main_while0b_v77 V0))) (mulf (res_main_while0b_v242 V0) (broadcastInDim Cert.ReferenceIdeal.S8x64x128 ![0, 1, 2] Cert.ReferenceIdeal.Gen.bcast_S8x64x1_S8x64x128_0_1_2 (res_main_while0b_v75 V0)))

theorem dkL : k0_pay88 (F := Ideal) (res_main_while0b_v75 V0) (res_main_while0b_v48 V0) (res_main_while0b_v74 V0) (k0_pay23 (res_main_while0b_v75 V0) (res_main_while0b_v47 V0) (res_main_while0b_v48 V0)) (k0_pay27 k0_pay26) (res_main_while0b_v82 V0) (res_main_while0b_v91 V0) (res_main_while0b_v174 V0) (k0_pay72 (res_main_while0b_v104 V0) (res_main_while0b_v163 V0)) (res_main_while0b_v215 V0) (res_main_while0b_v215 V0 : FVec Ideal S8x64x256 .f32) = dk V0 := by
  funext j; idx_vars j
  unfold dk res_main_while0b_v205 res_main_while0b_v238
  clean_types
  pointwise [k0_pay88, k0_pay83, k0_pay72, k0_pay23, dkbetaL, dlowerL, kbetaL]
  exact congrArg₂ (fun a b : EReal => a + b) ((congrArg₂ (fun a b : EReal => a + b) rfl (@add_comm EReal _ _ _)).trans (@add_assoc EReal _ _ _ _).symm) rfl

/-- The share of the decay into the state in the cotangent of the running gates. -/
def dgap : FVec Ideal S8x64x1 .f32 := fun j =>
  let x : FVec Ideal S8x64 .f32 := res_main_while0b_v190 V0
  x (ix2 (j 0) (j 1))

theorem dgapL : k0_pay73 (F := Ideal) (res_main_while0b_v48 V0) (res_main_while0b_v104 V0) (res_main_while0b_v163 V0) = dgap V0 := by
  funext j; idx_vars j
  unfold dgap res_main_while0b_v190 res_main_while0b_v104
  clean_types
  pointwise [k0_pay73]
  simp only [Fin.sum_univ_one]

/-- What the last gate of the chunk receives besides. -/
def dlast : FVec Ideal S8x1x64 .f32 := fun j =>
  let S : FVec Ideal S8x128x128 .f32 := res_main_while0b_v53 V0
  let e : FVec Ideal Cert.ReferenceIdeal.S8 .f32 := res_main_while0b_v112 V0
  (∑ a : Fin 128, ∑ b : Fin 128, S (ix3 (j 0) a b) * dS V0 (ix3 (j 0) a b)) * e (ix1 (j 0)) + ∑ t : Fin 64, dgap V0 (ix3 (j 0) t 0)

theorem dlastL : k0_pay75 (F := Ideal) (res_main_while0b_v48 V0) (res_main_while0b_v104 V0) (res_main_while0b_v163 V0) (k0_pay62 (res_main_while0b_v53 V0) (res_main_while0b_v113 V0) (dS V0)) = dlast V0 := by
  funext j; idx_vars j
  unfold dlast res_main_while0b_v113
  clean_types
  pointwise [k0_pay75, k0_pay62, k0_pay57, dgapL]
  simp only [Fin.sum_univ_one]

/-- The cotangent of the running gates before the last gate's extra part. -/
def dgRun : FVec Ideal S8x64 .f32 := fun j =>
  let n : FVec Ideal S8x64 .f32 := res_main_while0b_v190 V0
  let q : FVec Ideal S8x64x1 .f32 := qdq V0
  let b : FVec Ideal S8x64x128 .f32 := res_main_while0b_v77 V0
  let x : FVec Ideal S8x64x128 .f32 := res_main_while0b_v219 V0
  let e : FVec Ideal S8x64x1 .f32 := res_main_while0b_v82 V0
  let w : FVec Ideal S8x64x64 .f32 := res_main_while0b_v252 V0
  let m : EReal := -n (ix2 (j 0) (j 1))
  m + (q (ix3 (j 0) (j 1) 0) + ∑ l : Fin 128, b (ix3 (j 0) (j 1) l) * x (ix3 (j 0) (j 1) l)) * e (ix3 (j 0) (j 1) 0)
    + (∑ l : Fin 64, w (ix3 (j 0) (j 1) l)) + ∑ l : Fin 64, -w (ix3 (j 0) l (j 1))

/-- The cotangent of the chunk's gates, as a column. -/
def dgate : FVec Ideal S8x64x1 .f32 := fun j =>
  dlast V0 (ix3 (j 0) 0 (j 1)) + ∑ s : Fin 64, if j 1 ≤ s then dgRun V0 (ix2 (j 0) s) else 0

theorem dgateL : k0_pay90 (F := Ideal) k0_pay15 k0_pay17 k0_pay19 k0_pay20 (dlast V0)
    (k0_pay81 (res_main_while0b_v77 V0) (res_main_while0b_v82 V0) (qdq V0) (k0_pay74 (res_main_while0b_v48 V0) (res_main_while0b_v104 V0) (res_main_while0b_v163 V0)) (res_main_while0b_v215 V0))
    (k0_pay89 (res_main_while0b_v74 V0) (res_main_while0b_v78 V0) (k0_pay27 k0_pay26) (res_main_while0b_v94 V0) (res_main_while0b_v91 V0) (res_main_while0b_v174 V0) (res_main_while0b_v215 V0 : FVec Ideal S8x64x256 .f32)) = dgate V0 := by
  funext j; idx_vars j
  unfold dgate dgRun res_main_while0b_v252 res_main_while0b_v73_1 res_main_while0b_v57
  clean_types
  pointwise [k0_pay90, k0_pay15, k0_pay17, k0_pay19, k0_pay20, k0_pay13, k0_pay14, k0_pay81, k0_pay74, k0_pay89, dlowerL, drhsL', dgapL, dgap]
  simp only [Fin.sum_univ_one]
  simp only [eye_word, sum_eye_mul', sge_word, select_ofBool, zero_sub]
  rfl
-- ==== Proof.Inputs.lean ====
module

public import proofs.«01_k».proof.Proof.Gen.KernelIdeal.Value
public import proofs.«01_k».proof.Proof.Gen.ReferenceIdeal.Run
public import Idealize.ShloMosaic.Lib.Pointwise
public import Idealize.ShloMosaic.Lib.Tactic.CleanTypes
public import Idealize.ShloMosaic.Lib.Pipeline.ValueKit.Tiles
public import proofs.«01_k».proof.Proof.Chunk3

@[expose] public section

set_option maxRecDepth 16384
set_option maxHeartbeats 2000000

noncomputable section

namespace Cert.Proof.Chunk

open Idealize.ShloMosaic Idealize.ShloMosaic.TcCoe
open Cert.KernelIdeal Cert.KernelIdeal.Gen

variable (V0 : Vals)

open Cert.ReferenceIdeal.Value
open Cert.Proof.Sums hiding Vals

/-- The eight heads of a row block, each its own 128 columns. -/
def headsOf {φ : FTy} (x : FVec Ideal S64x1024 φ) : FVec Ideal S8x64x128 .f32 := fun j =>
  x (ix2 (j 1) ⟨128 * (j 0).val + (j 2).val, by have h0 : (j 0).val < 8 := (j 0).isLt; have h2 : (j 2).val < 128 := (j 2).isLt; omega⟩)

section
variable (m : Memref sig .tc .vmem S64x1024 .f32) (hm : m.IsWhole) (x : Vec Ideal S64x1024 .f32)

theorem heads7 : k0_pay7 (F := Ideal) (View.readAt (Elt Ideal) m.view (Rect.unit (s := S64x1024) ![0, 0] S64x128.size inb_S64x1024_S64x128_0_0).toLoadRect (hm.unread x)) (View.readAt (Elt Ideal) m.view (Rect.unit (s := S64x1024) ![0, 128] S64x128.size inb_S64x1024_S64x128_0_128).toLoadRect (hm.unread x)) (View.readAt (Elt Ideal) m.view (Rect.unit (s := S64x1024) ![0, 256] S64x128.size inb_S64x1024_S64x128_0_256).toLoadRect (hm.unread x)) (View.readAt (Elt Ideal) m.view (Rect.unit (s := S64x1024) ![0, 384] S64x128.size inb_S64x1024_S64x128_0_384).toLoadRect (hm.unread x)) (View.readAt (Elt Ideal) m.view (Rect.unit (s := S64x1024) ![0, 512] S64x128.size inb_S64x1024_S64x128_0_512).toLoadRect (hm.unread x)) (View.readAt (Elt Ideal) m.view (Rect.unit (s := S64x1024) ![0, 640] S64x128.size inb_S64x1024_S64x128_0_640).toLoadRect (hm.unread x)) (View.readAt (Elt Ideal) m.view (Rect.unit (s := S64x1024) ![0, 768] S64x128.size inb_S64x1024_S64x128_0_768).toLoadRect (hm.unread x)) (View.readAt (Elt Ideal) m.view (Rect.unit (s := S64x1024) ![0, 896] S64x128.size inb_S64x1024_S64x128_0_896).toLoadRect (hm.unread x)) = headsOf (φ := .f32) x := by
  funext j; idx_vars j
  simp only [View.readAt_eq_ld, Memref.IsWhole.read_unread]
  unfold k0_pay7

  concat_tiles i h
  all_goals
    idx_vars i
    pointwise [headsOf]
    refine congrArg x ?_
    ext a
    fin_cases a <;> simp_all <;> omega

theorem heads8 : k0_pay8 (F := Ideal) (View.readAt (Elt Ideal) m.view (Rect.unit (s := S64x1024) ![0, 0] S64x128.size inb_S64x1024_S64x128_0_0).toLoadRect (hm.unread x)) (View.readAt (Elt Ideal) m.view (Rect.unit (s := S64x1024) ![0, 128] S64x128.size inb_S64x1024_S64x128_0_128).toLoadRect (hm.unread x)) (View.readAt (Elt Ideal) m.view (Rect.unit (s := S64x1024) ![0, 256] S64x128.size inb_S64x1024_S64x128_0_256).toLoadRect (hm.unread x)) (View.readAt (Elt Ideal) m.view (Rect.unit (s := S64x1024) ![0, 384] S64x128.size inb_S64x1024_S64x128_0_384).toLoadRect (hm.unread x)) (View.readAt (Elt Ideal) m.view (Rect.unit (s := S64x1024) ![0, 512] S64x128.size inb_S64x1024_S64x128_0_512).toLoadRect (hm.unread x)) (View.readAt (Elt Ideal) m.view (Rect.unit (s := S64x1024) ![0, 640] S64x128.size inb_S64x1024_S64x128_0_640).toLoadRect (hm.unread x)) (View.readAt (Elt Ideal) m.view (Rect.unit (s := S64x1024) ![0, 768] S64x128.size inb_S64x1024_S64x128_0_768).toLoadRect (hm.unread x)) (View.readAt (Elt Ideal) m.view (Rect.unit (s := S64x1024) ![0, 896] S64x128.size inb_S64x1024_S64x128_0_896).toLoadRect (hm.unread x)) = headsOf (φ := .f32) x := by
  funext j; idx_vars j
  simp only [View.readAt_eq_ld, Memref.IsWhole.read_unread]
  unfold k0_pay8

  concat_tiles i h
  all_goals
    idx_vars i
    pointwise [headsOf]
    refine congrArg x ?_
    ext a
    fin_cases a <;> simp_all <;> omega

theorem heads9 : k0_pay9 (F := Ideal) (View.readAt (Elt Ideal) m.view (Rect.unit (s := S64x1024) ![0, 0] S64x128.size inb_S64x1024_S64x128_0_0).toLoadRect (hm.unread x)) (View.readAt (Elt Ideal) m.view (Rect.unit (s := S64x1024) ![0, 128] S64x128.size inb_S64x1024_S64x128_0_128).toLoadRect (hm.unread x)) (View.readAt (Elt Ideal) m.view (Rect.unit (s := S64x1024) ![0, 256] S64x128.size inb_S64x1024_S64x128_0_256).toLoadRect (hm.unread x)) (View.readAt (Elt Ideal) m.view (Rect.unit (s := S64x1024) ![0, 384] S64x128.size inb_S64x1024_S64x128_0_384).toLoadRect (hm.unread x)) (View.readAt (Elt Ideal) m.view (Rect.unit (s := S64x1024) ![0, 512] S64x128.size inb_S64x1024_S64x128_0_512).toLoadRect (hm.unread x)) (View.readAt (Elt Ideal) m.view (Rect.unit (s := S64x1024) ![0, 640] S64x128.size inb_S64x1024_S64x128_0_640).toLoadRect (hm.unread x)) (View.readAt (Elt Ideal) m.view (Rect.unit (s := S64x1024) ![0, 768] S64x128.size inb_S64x1024_S64x128_0_768).toLoadRect (hm.unread x)) (View.readAt (Elt Ideal) m.view (Rect.unit (s := S64x1024) ![0, 896] S64x128.size inb_S64x1024_S64x128_0_896).toLoadRect (hm.unread x)) = headsOf (φ := .f32) x := by
  funext j; idx_vars j
  simp only [View.readAt_eq_ld, Memref.IsWhole.read_unread]
  unfold k0_pay9

  concat_tiles i h
  all_goals
    idx_vars i
    pointwise [headsOf]
    refine congrArg x ?_
    ext a
    fin_cases a <;> simp_all <;> omega

theorem heads12 : k0_pay12 (F := Ideal) (View.readAt (Elt Ideal) m.view (Rect.unit (s := S64x1024) ![0, 128] S64x128.size inb_S64x1024_S64x128_0_128).toLoadRect (hm.unread x)) (View.readAt (Elt Ideal) m.view (Rect.unit (s := S64x1024) ![0, 256] S64x128.size inb_S64x1024_S64x128_0_256).toLoadRect (hm.unread x)) (View.readAt (Elt Ideal) m.view (Rect.unit (s := S64x1024) ![0, 384] S64x128.size inb_S64x1024_S64x128_0_384).toLoadRect (hm.unread x)) (View.readAt (Elt Ideal) m.view (Rect.unit (s := S64x1024) ![0, 512] S64x128.size inb_S64x1024_S64x128_0_512).toLoadRect (hm.unread x)) (View.readAt (Elt Ideal) m.view (Rect.unit (s := S64x1024) ![0, 640] S64x128.size inb_S64x1024_S64x128_0_640).toLoadRect (hm.unread x)) (View.readAt (Elt Ideal) m.view (Rect.unit (s := S64x1024) ![0, 768] S64x128.size inb_S64x1024_S64x128_0_768).toLoadRect (hm.unread x)) (View.readAt (Elt Ideal) m.view (Rect.unit (s := S64x1024) ![0, 896] S64x128.size inb_S64x1024_S64x128_0_896).toLoadRect (hm.unread x)) (k0_pay11 (View.readAt (Elt Ideal) m.view (Rect.unit (s := S64x1024) ![0, 0] S64x128.size inb_S64x1024_S64x128_0_0).toLoadRect (hm.unread x))) = headsOf (φ := .f32) x := by
  funext j; idx_vars j
  simp only [View.readAt_eq_ld, Memref.IsWhole.read_unread]
  unfold k0_pay12 k0_pay11

  concat_tiles i h
  all_goals
    idx_vars i
    pointwise [headsOf]
    refine congrArg x ?_
    ext a
    fin_cases a <;> simp_all <;> omega

end

section
variable (m : Memref sig .tc .vmem S64x1024 .bf16) (hm : m.IsWhole) (x : Vec Ideal S64x1024 .bf16)

theorem heads49 : k0_pay49 (F := Ideal) (View.readAt (Elt Ideal) m.view (Rect.unit (s := S64x1024) ![0, 0] S64x128.size inb_S64x1024_S64x128_0_0).toLoadRect (hm.unread x)) (View.readAt (Elt Ideal) m.view (Rect.unit (s := S64x1024) ![0, 128] S64x128.size inb_S64x1024_S64x128_0_128).toLoadRect (hm.unread x)) (View.readAt (Elt Ideal) m.view (Rect.unit (s := S64x1024) ![0, 256] S64x128.size inb_S64x1024_S64x128_0_256).toLoadRect (hm.unread x)) (View.readAt (Elt Ideal) m.view (Rect.unit (s := S64x1024) ![0, 384] S64x128.size inb_S64x1024_S64x128_0_384).toLoadRect (hm.unread x)) (View.readAt (Elt Ideal) m.view (Rect.unit (s := S64x1024) ![0, 512] S64x128.size inb_S64x1024_S64x128_0_512).toLoadRect (hm.unread x)) (View.readAt (Elt Ideal) m.view (Rect.unit (s := S64x1024) ![0, 640] S64x128.size inb_S64x1024_S64x128_0_640).toLoadRect (hm.unread x)) (View.readAt (Elt Ideal) m.view (Rect.unit (s := S64x1024) ![0, 768] S64x128.size inb_S64x1024_S64x128_0_768).toLoadRect (hm.unread x)) (View.readAt (Elt Ideal) m.view (Rect.unit (s := S64x1024) ![0, 896] S64x128.size inb_S64x1024_S64x128_0_896).toLoadRect (hm.unread x)) = headsOf (φ := .bf16) x := by
  funext j; idx_vars j
  simp only [View.readAt_eq_ld, Memref.IsWhole.read_unread]
  unfold k0_pay49
  rw [show ∀ (v : FVec Ideal S8x64x128 .bf16) h j, extf (F := Ideal) .f32 v h j = v j from fun _ _ _ => rfl]
  concat_tiles i h
  all_goals
    idx_vars i
    pointwise [headsOf]
    refine congrArg x ?_
    ext a
    fin_cases a <;> simp_all <;> omega

end

section
variable (m : Memref sig .tc .vmem S64x128 .f32) (hm : m.IsWhole) (x : Vec Ideal S64x128 .f32)

/-- Eight neighbouring lanes of a row block as columns, from lane `o`. -/
def lanesOf (o : ℕ) (ho : o ≤ 8) (x : FVec Ideal S64x128 .f32) : FVec Ideal S8x64x1 .f32 := fun j =>
  x (ix2 (j 1) ⟨o + (j 0).val, by have h0 : (j 0).val < 8 := (j 0).isLt; omega⟩)

theorem lanes5 : k0_pay5 (F := Ideal) (View.readAt (Elt Ideal) m.view (Rect.unit (s := S64x128) ![0, 0] S64x128.size inb_S64x128_S64x128_0_0).toLoadRect (hm.unread x)) = lanesOf 8 (by decide) x := by
  funext j; idx_vars j
  simp (disch := decide) only [View.readAt_eq_ld, Memref.IsWhole.read_unread, View.ld_unit_lit']
  unfold k0_pay5
  concat_tiles i h
  all_goals
    idx_vars i
    pointwise [lanesOf]
    refine congrArg x ?_
    ext a
    fin_cases a <;> simp_all <;> omega

theorem lanes6 : k0_pay6 (F := Ideal) (View.readAt (Elt Ideal) m.view (Rect.unit (s := S64x128) ![0, 0] S64x128.size inb_S64x128_S64x128_0_0).toLoadRect (hm.unread x)) = lanesOf 0 (by decide) x := by
  funext j; idx_vars j
  simp (disch := decide) only [View.readAt_eq_ld, Memref.IsWhole.read_unread, View.ld_unit_lit']
  unfold k0_pay6
  concat_tiles i h
  all_goals
    idx_vars i
    pointwise [lanesOf]
    refine congrArg x ?_
    ext a
    fin_cases a <;> simp_all <;> omega

end

theorem load10 (m : Memref sig .tc .vmem S1x8x128x128 .f32) (hm : m.IsWhole) (x : Vec Ideal S1x8x128x128 .f32) :
    k0_pay10 (F := Ideal) (View.readAt (Elt Ideal) m.view (Rect.unit (s := S1x8x128x128) ![0, 0, 0, 0] S1x8x128x128.size inb_S1x8x128x128_S1x8x128x128_0_0_0_0).toLoadRect (hm.unread x)) = fun j => x (ix4 0 (j 0) (j 1) (j 2)) := by
  funext j; idx_vars j
  simp (disch := decide) only [View.readAt_eq_ld, Memref.IsWhole.read_unread, View.ld_unit_lit']
  pointwise [k0_pay10]

theorem load4 (m : Memref sig .tc .vmem S1x8x64x64 .f32) (hm : m.IsWhole) (x : Vec Ideal S1x8x64x64 .f32) :
    k0_pay4 (F := Ideal) (View.readAt (Elt Ideal) m.view (Rect.unit (s := S1x8x64x64) ![0, 0, 0, 0] S1x8x64x64.size inb_S1x8x64x64_S1x8x64x64_0_0_0_0).toLoadRect (hm.unread x)) = fun j => x (ix4 0 (j 0) (j 1) (j 2)) := by
  funext j; idx_vars j
  simp (disch := decide) only [View.readAt_eq_ld, Memref.IsWhole.read_unread, View.ld_unit_lit']
  pointwise [k0_pay4]

theorem load20 (m : Memref sig .tc .vmem S1x128 .f32) (hm : m.IsWhole) (x : Vec Ideal S1x128 .f32) :
    View.readAt (Elt Ideal) m.view (Rect.unit (s := S1x128) ![0, 0] S1x128.size inb_S1x128_S1x128_0_0).toLoadRect (hm.unread x) = x := by
  simp (disch := decide) only [View.readAt_eq_ld, Memref.IsWhole.read_unread, View.ld_unit_lit']

theorem load44 (m : Memref sig .tc .vmem S8x128x128 .f32) (hm : m.IsWhole) (x : Vec Ideal S8x128x128 .f32) :
    View.readAt (Elt Ideal) m.view (Rect.unit (s := S8x128x128) ![0, 0, 0] S8x128x128.size inb_S8x128x128_S8x128x128_0_0_0).toLoadRect (hm.unread x) = x := by
  simp (disch := decide) only [View.readAt_eq_ld, Memref.IsWhole.read_unread, View.ld_unit_lit']
-- ==== Proof.Out.lean ====
module

public import proofs.«01_k».proof.Proof.Gen.KernelIdeal.Value
public import proofs.«01_k».proof.Proof.Gen.ReferenceIdeal.Run
public import Idealize.ShloMosaic.Lib.Pointwise
public import Idealize.ShloMosaic.Lib.Tactic.CleanTypes
public import Idealize.ShloMosaic.Lib.Pipeline.ValueKit.Tiles
public import proofs.«01_k».proof.Proof.Inputs

@[expose] public section

set_option maxRecDepth 16384
set_option maxHeartbeats 2000000

noncomputable section

namespace Cert.Proof.Chunk

open Idealize.ShloMosaic Idealize.ShloMosaic.TcCoe
open Cert.KernelIdeal Cert.KernelIdeal.Gen

variable (V0 : Vals)

open Cert.ReferenceIdeal.Value
open Cert.Proof.Sums hiding Vals

/-- The kernel's blocks of one chunk hold what the reference reads at one turn of its loop. -/
structure Tied (x0 x1 x2 : Vec Ideal S64x1024 .f32) (x3 : Vec Ideal S64x128 .f32) (x4 : Vec Ideal S64x1024 .f32) (x5 : Vec Ideal S1x128 .f32)
    (x6 : Vec Ideal S1x8x128x128 .f32) (x7 : Vec Ideal S1x8x64x64 .f32) (x8 : Vec Ideal S64x1024 .bf16) : Prop where
  q : headsOf (φ := .f32) x0 = res_main_while0b_v47 V0
  k : headsOf (φ := .f32) x1 = res_main_while0b_v48 V0
  v : headsOf (φ := .f32) x2 = res_main_while0b_v49 V0
  g : lanesOf 8 (by decide) x3 = gin V0
  b : lanesOf 0 (by decide) x3 = res_main_while0b_v75 V0
  z : headsOf (φ := .f32) x4 = res_main_while0b_v52 V0
  w : x5 = V0 (Proc.devRef .tc Cert.ReferenceIdeal.main_v28_9)
  s : (fun j => x6 (ix4 0 (j 0) (j 1) (j 2))) = res_main_while0b_v53 V0
  a : (fun j => x7 (ix4 0 (j 0) (j 1) (j 2))) = res_main_while0b_v54 V0
  d : headsOf (φ := .bf16) x8 = res_main_while0b_v55 V0

/-- The rows that hold eight heads side by side, 128 columns each. -/
def rowsOf (X : FVec Ideal S8x64x128 .f32) : FVec Ideal S64x1024 .f32 := fun j =>
  X (ix3 ⟨(j 1).val / 128, by have h : (j 1).val < 1024 := (j 1).isLt; omega⟩ (j 0) ⟨(j 1).val % 128, Nat.mod_lt _ (by decide)⟩)

theorem at_head (X : FVec Ideal S8x64x128 .f32) (a : Fin 8) (x0 : Fin 64) (x1 : Fin 128) (j0 : Fin 64) (j1 : Fin 1024)
    (h0 : j0.val = x0.val) (h1 : j1.val = 128 * a.val + x1.val) : X (ix3 a x0 x1) = rowsOf X (ix2 j0 j1) := by
  refine congrArg X ?_
  ext b
  fin_cases b
  · show a.val = j1.val / 128
    omega
  · exact h0.symm
  · show x1.val = j1.val % 128
    omega

/-- The write strengths' cotangents in lanes 0 to 7, the gates' in lanes 8 to 15, zero elsewhere. -/
def lanesFrom (B G : FVec Ideal S8x64x1 .f32) : FVec Ideal S64x128 .f32 := fun j =>
  if h : (j 1).val < 8 then B (ix3 ⟨(j 1).val, h⟩ (j 0) 0)
  else if h' : (j 1).val < 16 then G (ix3 ⟨(j 1).val - 8, by omega⟩ (j 0) 0) else 0

theorem keptL (X : FVec Ideal S8x128x128 .f32) : k0_pay91 (F := Ideal) X = X := by
  funext j; idx_vars j
  pointwise [k0_pay91]

theorem donL : k0_pay92 (F := Ideal) (dnormPart V0) (V0 (Proc.devRef .tc Cert.ReferenceIdeal.main_v28_12)) = step_main_v28_12 V0 := by
  funext j; idx_vars j
  unfold step_main_v28_12
  rw [id_eq]
  clean_types
  pointwise [k0_pay92, dnormPart, hostReduceAdd01]
  simp only [Fin.sum_univ_one]

theorem lane_word (l : Fin 128) (k : ℕ) (hk : k < 128) : IntOp.cmpi .eq (BitVec.ofNat 32 l.val) (BitVec.ofNat 32 k) = BitVec.ofBool (decide (l.val = k)) := by
  have h : ∀ l k : Fin 128, IntOp.cmpi .eq (BitVec.ofNat 32 l.val) (BitVec.ofNat 32 k.val) = BitVec.ofBool (decide (l.val = k.val)) := by decide +kernel
  exact h l ⟨k, hk⟩

theorem lanesL (B G : FVec Ideal S8x64x1 .f32) : k0_pay1 (F := Ideal) G (iota Kind.tc S64x128 32 [1] iota_S64x128_d1_w32)
      (k0_pay133 B G (iota Kind.tc S64x128 32 [1] iota_S64x128_d1_w32)
        (k0_pay124 B G (iota Kind.tc S64x128 32 [1] iota_S64x128_d1_w32)
          (k0_pay119 B G (iota Kind.tc S64x128 32 [1] iota_S64x128_d1_w32)
            (k0_pay112 B G (iota Kind.tc S64x128 32 [1] iota_S64x128_d1_w32)
              (k0_pay102 B G (iota Kind.tc S64x128 32 [1] iota_S64x128_d1_w32)
                (k0_pay97 B G (iota Kind.tc S64x128 32 [1] iota_S64x128_d1_w32)))
              k0_pay107)
            (k0_pay113 (iota Kind.tc S64x128 32 [1] iota_S64x128_d1_w32)) (k0_pay114 G)))) 15#32 = lanesFrom B G := by
  funext j; idx_vars j
  pointwise [k0_pay1, k0_pay133, k0_pay124, k0_pay119, k0_pay112, k0_pay102, k0_pay97, k0_pay107, k0_pay113, k0_pay114]
  simp (disch := decide) only [lane_word, select_ofBool]
  obtain ⟨l, hl⟩ := j1
  by_cases h : l < 16
  · interval_cases l <;> simp [lanesFrom]
  · have hn : ∀ k, k < 16 → ¬ l = k := by intro k hk e; omega
    simp (disch := decide) only [hn, if_false, lanesFrom]
    simp [h, show ¬ l < 8 by omega]
-- ==== Proof.Steps.lean ====
module

public import proofs.«01_k».proof.Proof.Gen.KernelIdeal.Value
public import proofs.«01_k».proof.Proof.Gen.ReferenceIdeal.Run
public import Idealize.ShloMosaic.Lib.Pointwise
public import Idealize.ShloMosaic.Lib.Tactic.CleanTypes
public import Idealize.ShloMosaic.Lib.Pipeline.ValueKit.Tiles
public import proofs.«01_k».proof.Proof.Out

@[expose] public section

set_option maxRecDepth 16384
set_option maxHeartbeats 2000000

noncomputable section

namespace Cert.Proof.Chunk

open Idealize.ShloMosaic Idealize.ShloMosaic.TcCoe
open Cert.KernelIdeal Cert.KernelIdeal.Gen

variable (V0 : Vals)

open Cert.ReferenceIdeal.Value
open Cert.Proof.Sums hiding Vals

private theorem regroup (m d p n w : EReal) : m + d + p + n + w = m + p + w + n + d := by abel

theorem word_toInt (k : Fin 64) : (BitVec.ofNat 32 k.val).toInt = (k.val : ℤ) := by
  revert k; decide +kernel

section
variable {α : Type} {p q r : ℕ}

/-- A window of one row, at row `k`. -/
theorem slice4_at (x : (⟨4, ![64, p, q, r]⟩ : Shape).Idx → α) (st : Fin 4 → ℤ) (h : (⟨4, ![64, p, q, r]⟩ : Shape).Slices (fun _ => 0) ⟨4, ![1, p, q, r]⟩)
    (k : Fin 64) (h0 : st 0 = k.val) (h1 : st 1 = 0) (h2 : st 2 = 0) (h3 : st 3 = 0) (u : Fin 1) (a : Fin p) (b : Fin q) (c : Fin r) :
    Host.dynamicSlice ⟨4, ![1, p, q, r]⟩ x st h (ix4 u a b c) = x (ix4 k a b c) := by
  refine congrArg x ?_
  have hk := k.isLt
  ext i
  fin_cases i
  · simp [Host.clampedStart, h0]
    omega
  · simp [Host.clampedStart, h1]
  · simp [Host.clampedStart, h2]
  · simp [Host.clampedStart, h3]

theorem slice3_at (x : (⟨3, ![64, p, q]⟩ : Shape).Idx → α) (st : Fin 3 → ℤ) (h : (⟨3, ![64, p, q]⟩ : Shape).Slices (fun _ => 0) ⟨3, ![1, p, q]⟩)
    (k : Fin 64) (h0 : st 0 = k.val) (h1 : st 1 = 0) (h2 : st 2 = 0) (u : Fin 1) (a : Fin p) (b : Fin q) :
    Host.dynamicSlice ⟨3, ![1, p, q]⟩ x st h (ix3 u a b) = x (ix3 k a b) := by
  refine congrArg x ?_
  have hk := k.isLt
  ext i
  fin_cases i
  · simp [Host.clampedStart, h0]
    omega
  · simp [Host.clampedStart, h1]
  · simp [Host.clampedStart, h2]

/-- One row replaced, at row `k`. -/
theorem update4_at (x : (⟨4, ![64, p, q, r]⟩ : Shape).Idx → α) (w : (⟨4, ![1, p, q, r]⟩ : Shape).Idx → α) (st : Fin 4 → ℤ) (h : (⟨4, ![64, p, q, r]⟩ : Shape).Slices (fun _ => 0) ⟨4, ![1, p, q, r]⟩)
    (k : Fin 64) (h0 : st 0 = k.val) (h1 : st 1 = 0) (h2 : st 2 = 0) (h3 : st 3 = 0) (n : Fin 64) (a : Fin p) (b : Fin q) (c : Fin r) :
    Host.dynamicUpdateSlice x w st h (ix4 n a b c) = if n = k then w (ix4 0 a b c) else x (ix4 n a b c) := by
  have hk := k.isLt
  rw [Host.dynamicUpdateSlice_apply]
  by_cases e : n = k
  · subst e
    rw [dif_pos, if_pos rfl]
    · refine congrArg w ((Shape.Idx.norm_def _).trans ?_)
      ext i
      fin_cases i
      · simp [Host.clampedStart, h0]
        omega
      · simp [Host.clampedStart, h1]
      · simp [Host.clampedStart, h2]
      · simp [Host.clampedStart, h3]
    · intro i
      fin_cases i
      · simp [Host.clampedStart, h0]; omega
      · simp [Host.clampedStart, h1]
      · simp [Host.clampedStart, h2]
      · simp [Host.clampedStart, h3]
  · rw [dif_neg, if_neg e]
    intro hh
    have := hh 0
    simp [Host.clampedStart, h0] at this
    exact e (Fin.ext (by omega))

theorem update3_at (x : (⟨3, ![64, p, q]⟩ : Shape).Idx → α) (w : (⟨3, ![1, p, q]⟩ : Shape).Idx → α) (st : Fin 3 → ℤ) (h : (⟨3, ![64, p, q]⟩ : Shape).Slices (fun _ => 0) ⟨3, ![1, p, q]⟩)
    (k : Fin 64) (h0 : st 0 = k.val) (h1 : st 1 = 0) (h2 : st 2 = 0) (n : Fin 64) (a : Fin p) (b : Fin q) :
    Host.dynamicUpdateSlice x w st h (ix3 n a b) = if n = k then w (ix3 0 a b) else x (ix3 n a b) := by
  have hk := k.isLt
  rw [Host.dynamicUpdateSlice_apply]
  by_cases e : n = k
  · subst e
    rw [dif_pos, if_pos rfl]
    · refine congrArg w ((Shape.Idx.norm_def _).trans ?_)
      ext i
      fin_cases i
      · simp [Host.clampedStart, h0]
        omega
      · simp [Host.clampedStart, h1]
      · simp [Host.clampedStart, h2]
    · intro i
      fin_cases i
      · simp [Host.clampedStart, h0]; omega
      · simp [Host.clampedStart, h1]
      · simp [Host.clampedStart, h2]
  · rw [dif_neg, if_neg e]
    intro hh
    have := hh 0
    simp [Host.clampedStart, h0] at this
    exact e (Fin.ext (by omega))

end

theorem newAxis_at (x : FVec Ideal Cert.ReferenceIdeal.S8x64 .f32) (h : Cert.ReferenceIdeal.S8x64.BroadcastsInDim Cert.ReferenceIdeal.S1x8x64 ![1, 2]) (a : Fin 8) (t : Fin 64) :
    broadcastInDim Cert.ReferenceIdeal.S1x8x64 ![1, 2] h x (ix3 0 a t) = x (ix2 a t) := by
  pointwise []

/-- Where the loop's turn reads and writes: the row its counter names. -/
abbrev st4 : Fin 4 → ℤ := fun i => ((![res_main_while0b_v46 V0, constantI Cert.ReferenceIdeal.S_ 32 0#32, constantI Cert.ReferenceIdeal.S_ 32 0#32, constantI Cert.ReferenceIdeal.S_ 32 0#32] : Fin 4 → (⟨Cert.ReferenceIdeal.S_, .i32⟩ : BufTy).Contents (Elt Ideal)) i (Shape.Idx.first Cert.ReferenceIdeal.Gen.h_S_)).toInt

abbrev st3 : Fin 3 → ℤ := fun i => ((![res_main_while0b_v46 V0, constantI Cert.ReferenceIdeal.S_ 32 0#32, constantI Cert.ReferenceIdeal.S_ 32 0#32] : Fin 3 → (⟨Cert.ReferenceIdeal.S_, .i32⟩ : BufTy).Contents (Elt Ideal)) i (Shape.Idx.first Cert.ReferenceIdeal.Gen.h_S_)).toInt

variable (k : Fin 64) (hk : res_main_while0b_v46 V0 = fun _ => BitVec.ofNat 32 k.val)
include hk

theorem st4_row : st4 V0 0 = k.val := by
  show (res_main_while0b_v46 V0 (Shape.Idx.first Cert.ReferenceIdeal.Gen.h_S_)).toInt = _
  rw [hk]
  exact word_toInt k

theorem st3_row : st3 V0 0 = k.val := st4_row V0 k hk

/-! What the loop's turn reads: row `k` of each of the loop's arguments. -/

theorem v47_at (a : Fin 8) (t : Fin 64) (l : Fin 128) : res_main_while0b_v47 V0 (ix3 a t l) = V0 (Proc.devRef .tc Cert.ReferenceIdeal.main_v28_0) (ix4 k a t l) := by
  unfold res_main_while0b_v47
  refine Eq.trans ?_ (slice4_at (p := 8) (q := 64) (r := 128) (V0 (Proc.devRef .tc Cert.ReferenceIdeal.main_v28_0)) (st4 V0) Cert.ReferenceIdeal.Gen.sliceFits_S64x8x64x128_S1x8x64x128 k (st4_row V0 k hk) rfl rfl rfl 0 a t l)
  pointwise []
  rfl

theorem v48_at (a : Fin 8) (t : Fin 64) (l : Fin 128) : res_main_while0b_v48 V0 (ix3 a t l) = V0 (Proc.devRef .tc Cert.ReferenceIdeal.main_v28_1) (ix4 k a t l) := by
  unfold res_main_while0b_v48
  refine Eq.trans ?_ (slice4_at (p := 8) (q := 64) (r := 128) (V0 (Proc.devRef .tc Cert.ReferenceIdeal.main_v28_1)) (st4 V0) Cert.ReferenceIdeal.Gen.sliceFits_S64x8x64x128_S1x8x64x128 k (st4_row V0 k hk) rfl rfl rfl 0 a t l)
  pointwise []
  rfl

theorem v49_at (a : Fin 8) (t : Fin 64) (l : Fin 128) : res_main_while0b_v49 V0 (ix3 a t l) = V0 (Proc.devRef .tc Cert.ReferenceIdeal.main_v28_2) (ix4 k a t l) := by
  unfold res_main_while0b_v49
  refine Eq.trans ?_ (slice4_at (p := 8) (q := 64) (r := 128) (V0 (Proc.devRef .tc Cert.ReferenceIdeal.main_v28_2)) (st4 V0) Cert.ReferenceIdeal.Gen.sliceFits_S64x8x64x128_S1x8x64x128 k (st4_row V0 k hk) rfl rfl rfl 0 a t l)
  pointwise []
  rfl

theorem v52_at (a : Fin 8) (t : Fin 64) (l : Fin 128) : res_main_while0b_v52 V0 (ix3 a t l) = V0 (Proc.devRef .tc Cert.ReferenceIdeal.main_v28_5) (ix4 k a t l) := by
  unfold res_main_while0b_v52
  refine Eq.trans ?_ (slice4_at (p := 8) (q := 64) (r := 128) (V0 (Proc.devRef .tc Cert.ReferenceIdeal.main_v28_5)) (st4 V0) Cert.ReferenceIdeal.Gen.sliceFits_S64x8x64x128_S1x8x64x128 k (st4_row V0 k hk) rfl rfl rfl 0 a t l)
  pointwise []
  rfl

theorem v53_at (a : Fin 8) (t : Fin 128) (l : Fin 128) : res_main_while0b_v53 V0 (ix3 a t l) = V0 (Proc.devRef .tc Cert.ReferenceIdeal.main_v28_6) (ix4 k a t l) := by
  unfold res_main_while0b_v53
  refine Eq.trans ?_ (slice4_at (p := 8) (q := 128) (r := 128) (V0 (Proc.devRef .tc Cert.ReferenceIdeal.main_v28_6)) (st4 V0) Cert.ReferenceIdeal.Gen.sliceFits_S64x8x128x128_S1x8x128x128 k (st4_row V0 k hk) rfl rfl rfl 0 a t l)
  pointwise []
  rfl

theorem v54_at (a : Fin 8) (t : Fin 64) (l : Fin 64) : res_main_while0b_v54 V0 (ix3 a t l) = V0 (Proc.devRef .tc Cert.ReferenceIdeal.main_v28_7) (ix4 k a t l) := by
  unfold res_main_while0b_v54
  refine Eq.trans ?_ (slice4_at (p := 8) (q := 64) (r := 64) (V0 (Proc.devRef .tc Cert.ReferenceIdeal.main_v28_7)) (st4 V0) Cert.ReferenceIdeal.Gen.sliceFits_S64x8x64x64_S1x8x64x64 k (st4_row V0 k hk) rfl rfl rfl 0 a t l)
  pointwise []
  rfl

theorem v55_at (a : Fin 8) (t : Fin 64) (l : Fin 128) : res_main_while0b_v55 V0 (ix3 a t l) = V0 (Proc.devRef .tc Cert.ReferenceIdeal.main_v28_8) (ix4 k a t l) := by
  unfold res_main_while0b_v55
  refine Eq.trans ?_ (slice4_at (p := 8) (q := 64) (r := 128) (V0 (Proc.devRef .tc Cert.ReferenceIdeal.main_v28_8)) (st4 V0) Cert.ReferenceIdeal.Gen.sliceFits_S64x8x64x128_S1x8x64x128 k (st4_row V0 k hk) rfl rfl rfl 0 a t l)
  pointwise []
  rfl

theorem v51_at (a : Fin 8) (t : Fin 64) : res_main_while0b_v51 V0 (ix2 a t) = V0 (Proc.devRef .tc Cert.ReferenceIdeal.main_v28_4) (ix3 k a t) := by
  unfold res_main_while0b_v51
  refine Eq.trans ?_ (slice3_at (p := 8) (q := 64) (V0 (Proc.devRef .tc Cert.ReferenceIdeal.main_v28_4)) (st3 V0) Cert.ReferenceIdeal.Gen.sliceFits_S64x8x64_S1x8x64 k (st3_row V0 k hk) rfl rfl 0 a t)
  pointwise []
  rfl

theorem gin_at (a : Fin 8) (t : Fin 64) (u : Fin 1) : gin V0 (ix3 a t u) = V0 (Proc.devRef .tc Cert.ReferenceIdeal.main_v28_3) (ix3 k a t) := by
  unfold gin
  refine Eq.trans ?_ (slice3_at (p := 8) (q := 64) (V0 (Proc.devRef .tc Cert.ReferenceIdeal.main_v28_3)) (st3 V0) Cert.ReferenceIdeal.Gen.sliceFits_S64x8x64_S1x8x64 k (st3_row V0 k hk) rfl rfl 0 a t)
  pointwise []
  rfl

theorem v75_at (a : Fin 8) (t : Fin 64) (u : Fin 1) : res_main_while0b_v75 V0 (ix3 a t u) = V0 (Proc.devRef .tc Cert.ReferenceIdeal.main_v28_4) (ix3 k a t) := by
  rw [← v51_at V0 k hk]
  unfold res_main_while0b_v75
  pointwise []

/-! What the loop's turn writes: row `k` of each of the loop's results. -/

theorem step13_at (n : Fin 64) (a : Fin 8) (t : Fin 64) (l : Fin 128) : step_main_v28_13 V0 (ix4 n a t l) = if n = k then dq V0 (ix3 a t l) else V0 (Proc.devRef .tc Cert.ReferenceIdeal.main_v28_13) (ix4 n a t l) := by
  unfold step_main_v28_13
  rw [id_eq]
  refine (update4_at (p := 8) (q := 64) (r := 128) _ _ _ Cert.ReferenceIdeal.Gen.updateFits_S64x8x64x128_S1x8x64x128 k (st4_row V0 k hk) rfl rfl rfl n a t l).trans ?_
  refine congrArg (fun e : EReal => if n = k then e else _) ?_
  pointwise [dq]

theorem step14_at (n : Fin 64) (a : Fin 8) (t : Fin 64) (l : Fin 128) : step_main_v28_14 V0 (ix4 n a t l) = if n = k then dk V0 (ix3 a t l) else V0 (Proc.devRef .tc Cert.ReferenceIdeal.main_v28_14) (ix4 n a t l) := by
  unfold step_main_v28_14
  rw [id_eq]
  refine (update4_at (p := 8) (q := 64) (r := 128) _ _ _ Cert.ReferenceIdeal.Gen.updateFits_S64x8x64x128_S1x8x64x128 k (st4_row V0 k hk) rfl rfl rfl n a t l).trans ?_
  refine congrArg (fun e : EReal => if n = k then e else _) ?_
  pointwise [dk]

theorem step15_at (n : Fin 64) (a : Fin 8) (t : Fin 64) (l : Fin 128) : step_main_v28_15 V0 (ix4 n a t l) = if n = k then dv V0 (ix3 a t l) else V0 (Proc.devRef .tc Cert.ReferenceIdeal.main_v28_15) (ix4 n a t l) := by
  unfold step_main_v28_15
  rw [id_eq]
  refine (update4_at (p := 8) (q := 64) (r := 128) _ _ _ Cert.ReferenceIdeal.Gen.updateFits_S64x8x64x128_S1x8x64x128 k (st4_row V0 k hk) rfl rfl rfl n a t l).trans ?_
  refine congrArg (fun e : EReal => if n = k then e else _) ?_
  rw [v83_eq]
  pointwise [dv]

theorem step18_at (n : Fin 64) (a : Fin 8) (t : Fin 64) (l : Fin 128) : step_main_v28_18 V0 (ix4 n a t l) = if n = k then dz V0 (ix3 a t l) else V0 (Proc.devRef .tc Cert.ReferenceIdeal.main_v28_18) (ix4 n a t l) := by
  unfold step_main_v28_18
  rw [id_eq]
  refine (update4_at (p := 8) (q := 64) (r := 128) _ _ _ Cert.ReferenceIdeal.Gen.updateFits_S64x8x64x128_S1x8x64x128 k (st4_row V0 k hk) rfl rfl rfl n a t l).trans ?_
  refine congrArg (fun e : EReal => if n = k then e else _) ?_
  pointwise [dz]

theorem step17_at (n : Fin 64) (a : Fin 8) (t : Fin 64) : step_main_v28_17 V0 (ix3 n a t) = if n = k then dbeta V0 (ix3 a t 0) else V0 (Proc.devRef .tc Cert.ReferenceIdeal.main_v28_17) (ix3 n a t) := by
  unfold step_main_v28_17
  rw [id_eq]
  refine (update3_at (p := 8) (q := 64) _ _ _ Cert.ReferenceIdeal.Gen.updateFits_S64x8x64_S1x8x64 k (st3_row V0 k hk) rfl rfl n a t).trans ?_
  refine congrArg (fun e : EReal => if n = k then e else _) ?_
  clean_types
  pointwise [dbeta]
  simp only [Fin.sum_univ_one]

theorem step16_at (n : Fin 64) (a : Fin 8) (t : Fin 64) : step_main_v28_16 V0 (ix3 n a t) = if n = k then dgate V0 (ix3 a t 0) else V0 (Proc.devRef .tc Cert.ReferenceIdeal.main_v28_16) (ix3 n a t) := by
  unfold step_main_v28_16
  rw [id_eq]
  refine (update3_at (p := 8) (q := 64) _ _ _ Cert.ReferenceIdeal.Gen.updateFits_S64x8x64_S1x8x64 k (st3_row V0 k hk) rfl rfl n a t).trans ?_
  refine congrArg (fun e : EReal => if n = k then e else _) ?_
  clean_types
  refine (newAxis_at _ _ a t).trans ?_
  refine (revcumsum_apply _ _ (fun i => by pointwise []) _ _ a t).trans ?_
  pointwise [dgate]
  simp only [Fin.sum_univ_one]
  have e82 : ∀ s : Fin 64, res_main_while0b_v82 V0 (ix3 a s 0) = res_main_while0b_v81 V0 (ix2 a s) := fun s => by
    unfold res_main_while0b_v82 res_main_while0b_v81
    pointwise []
  refine (Finset.sum_congr rfl (fun s _ => (?_ : _ = (if t ≤ s then dgRun V0 (ix2 a s) else 0) + (if s = 63 then dlast V0 (ix3 a 0 t) else 0)))).trans ?_
  · by_cases h : t ≤ s
    · rw [if_pos h, if_pos h]
      unfold dgRun dlast qdq dgap
      pointwise [e82]
      by_cases h63 : s = 63
      · subst h63
        simp only [if_true]
        rw [dif_pos (by decide)]
        exact regroup _ _ _ _ _
      · rw [if_neg h63, dif_neg (by omega)]
        exact regroup _ _ _ _ _
    · rw [if_neg h, if_neg h, if_neg (by intro e; subst e; exact h (Fin.le_def.mpr (by have := t.isLt; show t.val ≤ 63; omega))), add_zero]
  · rw [Finset.sum_add_distrib, Finset.sum_ite_eq' Finset.univ (63 : Fin 64), if_pos (Finset.mem_univ _)]
    exact @add_comm EReal _ _ _
-- ==== Proof.Fold.lean ====
module

public import proofs.«01_k».proof.Proof.Gen.KernelIdeal.Value
public import proofs.«01_k».proof.Proof.Gen.ReferenceIdeal.Run
public import Idealize.ShloMosaic.Lib.Pointwise
public import Idealize.ShloMosaic.Lib.Tactic.CleanTypes
public import Idealize.ShloMosaic.Lib.Pipeline.ValueKit.Tiles
public import proofs.«01_k».proof.Proof.Steps

@[expose] public section

set_option maxRecDepth 16384
set_option maxHeartbeats 2000000

noncomputable section

namespace Cert.Proof.Chunk

open Idealize.ShloMosaic Idealize.ShloMosaic.TcCoe
open Cert.KernelIdeal Cert.KernelIdeal.Gen

variable (V0 : Vals)

open Cert.ReferenceIdeal.Value
open Cert.Proof.Sums hiding Vals

/-! The reference's loop, turn by turn: its arguments stay, its counter counts, and the row it
writes at a turn stays as that turn wrote it. -/

open Cert.ReferenceIdeal.Value

/-- A stack of 64 rows, the last row written first: after every turn, row `r` is what turn `63 - r` wrote. -/
theorem stacked {α : Type} (f : ℕ → Fin 64 → α) (d : ℕ → α)
    (h : ∀ n (hn : n < 64) (r : Fin 64), f (n + 1) r = if r = ⟨63 - n, by omega⟩ then d n else f n r) (r : Fin 64) : f 64 r = d (63 - r.val) := by
  have key : ∀ n, n ≤ 64 → 64 ≤ r.val + n → f n r = d (63 - r.val) := by
    intro n
    induction n with
    | zero => intro _ h2; have := r.isLt; omega
    | succ n ih =>
      intro h1 h2
      rw [h n (by omega) r]
      by_cases e : r = ⟨63 - n, by omega⟩
      · rw [if_pos e]
        have := congrArg Fin.val e
        dsimp only at this
        exact congrArg d (by omega)
      · rw [if_neg e]
        have : r.val ≠ 63 - n := fun q => e (Fin.ext q)
        exact ih (by omega) (by omega)
  exact key 64 le_rfl (by omega)

section Turns
variable (E : Vals)

/-- The contents after `n` turns. -/
def turn (n : ℕ) : Vals := STEP^[n] E

theorem turn_succ (n : ℕ) : turn E (n + 1) = STEP (turn E n) := Function.iterate_succ_apply' _ _ _

theorem turn_0 (n : ℕ) : turn E n (Proc.devRef .tc Cert.ReferenceIdeal.main_v28_0) = E (Proc.devRef .tc Cert.ReferenceIdeal.main_v28_0) := by
  induction n with
  | zero => rfl
  | succ n ih => rw [turn_succ, STEP_main_v28_0, ih]

theorem turn_1 (n : ℕ) : turn E n (Proc.devRef .tc Cert.ReferenceIdeal.main_v28_1) = E (Proc.devRef .tc Cert.ReferenceIdeal.main_v28_1) := by
  induction n with
  | zero => rfl
  | succ n ih => rw [turn_succ, STEP_main_v28_1, ih]

theorem turn_2 (n : ℕ) : turn E n (Proc.devRef .tc Cert.ReferenceIdeal.main_v28_2) = E (Proc.devRef .tc Cert.ReferenceIdeal.main_v28_2) := by
  induction n with
  | zero => rfl
  | succ n ih => rw [turn_succ, STEP_main_v28_2, ih]

theorem turn_3 (n : ℕ) : turn E n (Proc.devRef .tc Cert.ReferenceIdeal.main_v28_3) = E (Proc.devRef .tc Cert.ReferenceIdeal.main_v28_3) := by
  induction n with
  | zero => rfl
  | succ n ih => rw [turn_succ, STEP_main_v28_3, ih]

theorem turn_4 (n : ℕ) : turn E n (Proc.devRef .tc Cert.ReferenceIdeal.main_v28_4) = E (Proc.devRef .tc Cert.ReferenceIdeal.main_v28_4) := by
  induction n with
  | zero => rfl
  | succ n ih => rw [turn_succ, STEP_main_v28_4, ih]

theorem turn_5 (n : ℕ) : turn E n (Proc.devRef .tc Cert.ReferenceIdeal.main_v28_5) = E (Proc.devRef .tc Cert.ReferenceIdeal.main_v28_5) := by
  induction n with
  | zero => rfl
  | succ n ih => rw [turn_succ, STEP_main_v28_5, ih]

theorem turn_6 (n : ℕ) : turn E n (Proc.devRef .tc Cert.ReferenceIdeal.main_v28_6) = E (Proc.devRef .tc Cert.ReferenceIdeal.main_v28_6) := by
  induction n with
  | zero => rfl
  | succ n ih => rw [turn_succ, STEP_main_v28_6, ih]

theorem turn_7 (n : ℕ) : turn E n (Proc.devRef .tc Cert.ReferenceIdeal.main_v28_7) = E (Proc.devRef .tc Cert.ReferenceIdeal.main_v28_7) := by
  induction n with
  | zero => rfl
  | succ n ih => rw [turn_succ, STEP_main_v28_7, ih]

theorem turn_8 (n : ℕ) : turn E n (Proc.devRef .tc Cert.ReferenceIdeal.main_v28_8) = E (Proc.devRef .tc Cert.ReferenceIdeal.main_v28_8) := by
  induction n with
  | zero => rfl
  | succ n ih => rw [turn_succ, STEP_main_v28_8, ih]

theorem turn_9 (n : ℕ) : turn E n (Proc.devRef .tc Cert.ReferenceIdeal.main_v28_9) = E (Proc.devRef .tc Cert.ReferenceIdeal.main_v28_9) := by
  induction n with
  | zero => rfl
  | succ n ih => rw [turn_succ, STEP_main_v28_9, ih]

theorem turn_11 (n : ℕ) : turn E (n + 1) (Proc.devRef .tc Cert.ReferenceIdeal.main_v28_11) = step_main_v28_11 (turn E n) := by
  rw [turn_succ, STEP_main_v28_11]

theorem turn_12 (n : ℕ) : turn E (n + 1) (Proc.devRef .tc Cert.ReferenceIdeal.main_v28_12) = step_main_v28_12 (turn E n) := by
  rw [turn_succ, STEP_main_v28_12]

variable (h0 : E (Proc.devRef .tc Cert.ReferenceIdeal.main_v28_10) = fun _ => (0#32 : BitVec 32))
include h0

theorem turn_counter (n : ℕ) : turn E n (Proc.devRef .tc Cert.ReferenceIdeal.main_v28_10) = fun _ => BitVec.ofNat 32 n := by
  induction n with
  | zero => exact h0
  | succ n ih =>
    rw [turn_succ, STEP_main_v28_10]
    unfold step_main_v28_10
    rw [ih, BitVec.ofNat_add]
    rfl

theorem turn_row (n : ℕ) (hn : n < 64) : res_main_while0b_v46 (turn E n) = fun _ => BitVec.ofNat 32 ((⟨63 - n, by omega⟩ : Fin 64) : ℕ) := by
  have key : ∀ n : Fin 64, (64#32 : BitVec 32) - BitVec.ofNat 32 n.val - 1#32 = BitVec.ofNat 32 (63 - n.val) := by decide +kernel
  unfold res_main_while0b_v46
  rw [turn_counter E h0 n]
  funext j
  exact key ⟨n, hn⟩

theorem rows_dq (r : Fin 64) (a : Fin 8) (t : Fin 64) (l : Fin 128) :
    turn E 64 (Proc.devRef .tc Cert.ReferenceIdeal.main_v28_13) (ix4 r a t l) = dq (turn E (63 - r.val)) (ix3 a t l) := by
  refine stacked (α := EReal) (fun n r => turn E n (Proc.devRef .tc Cert.ReferenceIdeal.main_v28_13) (ix4 r a t l)) (fun n => dq (turn E n) (ix3 a t l)) (fun n hn r => ?_) r
  rw [turn_succ, STEP_main_v28_13]
  exact step13_at (turn E n) _ (turn_row E h0 n hn) r a t l

theorem rows_dk (r : Fin 64) (a : Fin 8) (t : Fin 64) (l : Fin 128) :
    turn E 64 (Proc.devRef .tc Cert.ReferenceIdeal.main_v28_14) (ix4 r a t l) = dk (turn E (63 - r.val)) (ix3 a t l) := by
  refine stacked (α := EReal) (fun n r => turn E n (Proc.devRef .tc Cert.ReferenceIdeal.main_v28_14) (ix4 r a t l)) (fun n => dk (turn E n) (ix3 a t l)) (fun n hn r => ?_) r
  rw [turn_succ, STEP_main_v28_14]
  exact step14_at (turn E n) _ (turn_row E h0 n hn) r a t l

theorem rows_dv (r : Fin 64) (a : Fin 8) (t : Fin 64) (l : Fin 128) :
    turn E 64 (Proc.devRef .tc Cert.ReferenceIdeal.main_v28_15) (ix4 r a t l) = dv (turn E (63 - r.val)) (ix3 a t l) := by
  refine stacked (α := EReal) (fun n r => turn E n (Proc.devRef .tc Cert.ReferenceIdeal.main_v28_15) (ix4 r a t l)) (fun n => dv (turn E n) (ix3 a t l)) (fun n hn r => ?_) r
  rw [turn_succ, STEP_main_v28_15]
  exact step15_at (turn E n) _ (turn_row E h0 n hn) r a t l

theorem rows_dz (r : Fin 64) (a : Fin 8) (t : Fin 64) (l : Fin 128) :
    turn E 64 (Proc.devRef .tc Cert.ReferenceIdeal.main_v28_18) (ix4 r a t l) = dz (turn E (63 - r.val)) (ix3 a t l) := by
  refine stacked (α := EReal) (fun n r => turn E n (Proc.devRef .tc Cert.ReferenceIdeal.main_v28_18) (ix4 r a t l)) (fun n => dz (turn E n) (ix3 a t l)) (fun n hn r => ?_) r
  rw [turn_succ, STEP_main_v28_18]
  exact step18_at (turn E n) _ (turn_row E h0 n hn) r a t l

theorem rows_dgate (r : Fin 64) (a : Fin 8) (t : Fin 64) :
    turn E 64 (Proc.devRef .tc Cert.ReferenceIdeal.main_v28_16) (ix3 r a t) = dgate (turn E (63 - r.val)) (ix3 a t 0) := by
  refine stacked (α := EReal) (fun n r => turn E n (Proc.devRef .tc Cert.ReferenceIdeal.main_v28_16) (ix3 r a t)) (fun n => dgate (turn E n) (ix3 a t 0)) (fun n hn r => ?_) r
  rw [turn_succ, STEP_main_v28_16]
  exact step16_at (turn E n) _ (turn_row E h0 n hn) r a t

theorem rows_dbeta (r : Fin 64) (a : Fin 8) (t : Fin 64) :
    turn E 64 (Proc.devRef .tc Cert.ReferenceIdeal.main_v28_17) (ix3 r a t) = dbeta (turn E (63 - r.val)) (ix3 a t 0) := by
  refine stacked (α := EReal) (fun n r => turn E n (Proc.devRef .tc Cert.ReferenceIdeal.main_v28_17) (ix3 r a t)) (fun n => dbeta (turn E n) (ix3 a t 0)) (fun n hn r => ?_) r
  rw [turn_succ, STEP_main_v28_17]
  exact step17_at (turn E n) _ (turn_row E h0 n hn) r a t

end Turns

end Cert.Proof.Chunk

end
-- ==== Proof.Blocks.lean ====
module

public import proofs.«01_k».proof.Proof.Gen.KernelIdeal.Value
public import proofs.«01_k».proof.Proof.Gen.ReferenceIdeal.Run
public import Idealize.ShloMosaic.Lib.Pointwise
public import Idealize.ShloMosaic.Lib.Tactic.CleanTypes
public import Idealize.ShloMosaic.Lib.Pipeline.ValueKit
public import proofs.«01_k».proof.Proof.Fold

@[expose] public section

set_option maxRecDepth 16384
set_option maxHeartbeats 2000000

noncomputable section

namespace Cert.Proof.Chunk

open Idealize.ShloMosaic Idealize.ShloMosaic.TcCoe
open Cert.KernelIdeal Cert.KernelIdeal.Gen

open Cert.ReferenceIdeal.Value
open Cert.Proof.Sums hiding Vals

/-! The blocks that grid point `t` reads: block `63 - t` of every argument but the norm's weights. -/

section Blocks
variable (m : (ℓ : Loc nD τ sig) → Buf (Elt Ideal) ℓ) (c : Dev nD) (t : Fin cfg0.N)

theorem point_lt : t.val < 64 := lt_of_lt_of_eq t.isLt (show cfg0.N = 64 from N_0)

theorem at0 : (cfg0.win 0).index t = ![63 - t.val, 0] := by
  revert t; decide +kernel

theorem at1 : (cfg0.win 1).index t = ![63 - t.val, 0] := by
  revert t; decide +kernel

theorem at2 : (cfg0.win 2).index t = ![63 - t.val, 0] := by
  revert t; decide +kernel

theorem at3 : (cfg0.win 3).index t = ![63 - t.val, 0] := by
  revert t; decide +kernel

theorem at4 : (cfg0.win 4).index t = ![63 - t.val, 3] := by
  revert t; decide +kernel

theorem at8 : (cfg0.win 8).index t = ![63 - t.val, 0] := by
  revert t; decide +kernel

theorem at9 : (cfg0.win 9).index t = ![63 - t.val, 0] := by
  revert t; decide +kernel

theorem at10 : (cfg0.win 10).index t = ![63 - t.val, 0] := by
  revert t; decide +kernel

theorem at11 : (cfg0.win 11).index t = ![63 - t.val, 0] := by
  revert t; decide +kernel

theorem at12 : (cfg0.win 12).index t = ![63 - t.val, 0] := by
  revert t; decide +kernel

theorem at13 : (cfg0.win 13).index t = ![63 - t.val, 0] := by
  revert t; decide +kernel

theorem at6 : (cfg0.win 6).index t = ![63 - t.val, 0, 0, 0] := by
  revert t; decide +kernel

theorem at7 : (cfg0.win 7).index t = ![63 - t.val, 0, 0, 0] := by
  revert t; decide +kernel

theorem at5 : (cfg0.win 5).index t = ![0, 0] := by
  revert t; decide +kernel

theorem block0 (i : Fin 64) (j : Fin 1024) : iblk m c 0 t (ix2 i j) = m ((c : Thread nD τ).loc main_arg0) (ix2 ⟨64 * (63 - t.val) + i.val, by omega⟩ j) := by
  have e := at0 t
  blk_ext [iblk, V, e]

theorem block1 (i : Fin 64) (j : Fin 1024) : iblk m c 1 t (ix2 i j) = m ((c : Thread nD τ).loc main_arg1) (ix2 ⟨64 * (63 - t.val) + i.val, by omega⟩ j) := by
  have e := at1 t
  blk_ext [iblk, V, e]

theorem block2 (i : Fin 64) (j : Fin 1024) : iblk m c 2 t (ix2 i j) = m ((c : Thread nD τ).loc main_arg2) (ix2 ⟨64 * (63 - t.val) + i.val, by omega⟩ j) := by
  have e := at2 t
  blk_ext [iblk, V, e]

theorem block3 (i : Fin 64) (j : Fin 128) : iblk m c 3 t (ix2 i j) = m ((c : Thread nD τ).loc main_arg3) (ix2 ⟨64 * (63 - t.val) + i.val, by omega⟩ j) := by
  have e := at3 t
  blk_ext [iblk, V, e]

theorem block8 (i : Fin 64) (j : Fin 1024) : iblk m c 8 t (ix2 i j) = m ((c : Thread nD τ).loc main_arg8) (ix2 ⟨64 * (63 - t.val) + i.val, by omega⟩ j) := by
  have e := at8 t
  blk_ext [iblk, V, e]

theorem block4 (i : Fin 64) (j : Fin 1024) : iblk m c 4 t (ix2 i j) = m ((c : Thread nD τ).loc main_arg4) (ix2 ⟨64 * (63 - t.val) + i.val, by omega⟩ ⟨3072 + j.val, by omega⟩) := by
  have e := at4 t
  blk_ext [iblk, V, e]

theorem block5 : iblk m c 5 t = m ((c : Thread nD τ).loc main_arg5) := by
  have e := at5 t
  funext j
  idx_vars j
  blk_ext [iblk, V, e]

theorem block6 (a : Fin 8) (p l : Fin 128) : iblk m c 6 t (ix4 0 a p l) = m ((c : Thread nD τ).loc main_arg6) (ix4 ⟨63 - t.val, by omega⟩ a p l) := by
  have e := at6 t
  blk_ext [iblk, V, e]

theorem block7 (a : Fin 8) (p l : Fin 64) : iblk m c 7 t (ix4 0 a p l) = m ((c : Thread nD τ).loc main_arg7) (ix4 ⟨63 - t.val, by omega⟩ a p l) := by
  have e := at7 t
  blk_ext [iblk, V, e]

end Blocks

end Cert.Proof.Chunk

end
-- ==== Proof.Entry.lean ====
module

public import proofs.«01_k».proof.Proof.Gen.KernelIdeal.Value
public import proofs.«01_k».proof.Proof.Gen.ReferenceIdeal.Run
public import Idealize.ShloMosaic.Lib.Pointwise
public import Idealize.ShloMosaic.Lib.StableHlo.RunRead
public import Idealize.ShloMosaic.Lib.Tactic.CleanTypes
public import Idealize.ShloMosaic.Lib.Pipeline.ValueKit
public import proofs.«01_k».proof.Proof.Fold

@[expose] public section

set_option maxRecDepth 16384
set_option maxHeartbeats 2000000

noncomputable section

namespace Cert.Proof.Chunk

open Idealize.ShloMosaic Idealize.ShloMosaic.TcCoe
open Cert.ReferenceIdeal Cert.ReferenceIdeal.Gen Idealize.ShloMosaic.StableHlo

open Cert.ReferenceIdeal.Value
open Cert.Proof.Sums hiding Vals

/-! The contents the reference's loop starts from, as entries of the arguments. -/

section Entry
variable (m : (ℓ : Loc nD τ sig) → Buf (Elt Ideal) ℓ) (c : Dev nD)

/-- The contents the loop starts from. -/
abbrev start : Vals := entryContents preI m c

theorem start_0 (r : Fin 64) (a : Fin 8) (t : Fin 64) (l : Fin 128) :
    start m c (Proc.devRef .tc main_v28_0) (ix4 r a t l) = m ((c.tc : Thread nD τ).loc main_arg0) (ix2 ⟨64 * r.val + t.val, by omega⟩ ⟨128 * a.val + l.val, by omega⟩) := by
  simp only [entryContents, afterL_cons, afterL_nil]
  after_reads_simp
  rw [id_eq]
  clean_types
  pointwise []
  blk_ext

theorem start_1 (r : Fin 64) (a : Fin 8) (t : Fin 64) (l : Fin 128) :
    start m c (Proc.devRef .tc main_v28_1) (ix4 r a t l) = m ((c.tc : Thread nD τ).loc main_arg1) (ix2 ⟨64 * r.val + t.val, by omega⟩ ⟨128 * a.val + l.val, by omega⟩) := by
  simp only [entryContents, afterL_cons, afterL_nil]
  after_reads_simp
  rw [id_eq]
  clean_types
  pointwise []
  blk_ext

theorem start_2 (r : Fin 64) (a : Fin 8) (t : Fin 64) (l : Fin 128) :
    start m c (Proc.devRef .tc main_v28_2) (ix4 r a t l) = m ((c.tc : Thread nD τ).loc main_arg2) (ix2 ⟨64 * r.val + t.val, by omega⟩ ⟨128 * a.val + l.val, by omega⟩) := by
  simp only [entryContents, afterL_cons, afterL_nil]
  after_reads_simp
  rw [id_eq]
  clean_types
  pointwise []
  blk_ext

theorem start_8 (r : Fin 64) (a : Fin 8) (t : Fin 64) (l : Fin 128) :
    start m c (Proc.devRef .tc main_v28_8) (ix4 r a t l) = m ((c.tc : Thread nD τ).loc main_arg8) (ix2 ⟨64 * r.val + t.val, by omega⟩ ⟨128 * a.val + l.val, by omega⟩) := by
  simp only [entryContents, afterL_cons, afterL_nil]
  after_reads_simp
  rw [id_eq]
  clean_types
  pointwise []
  blk_ext

theorem start_5 (r : Fin 64) (a : Fin 8) (t : Fin 64) (l : Fin 128) :
    start m c (Proc.devRef .tc main_v28_5) (ix4 r a t l) = m ((c.tc : Thread nD τ).loc main_arg4) (ix2 ⟨64 * r.val + t.val, by omega⟩ ⟨3072 + (128 * a.val + l.val), by omega⟩) := by
  simp only [entryContents, afterL_cons, afterL_nil]
  after_reads_simp
  rw [id_eq]
  clean_types
  pointwise []
  blk_ext

theorem start_4 (r : Fin 64) (a : Fin 8) (t : Fin 64) :
    start m c (Proc.devRef .tc main_v28_4) (ix3 r a t) = m ((c.tc : Thread nD τ).loc main_arg3) (ix2 ⟨64 * r.val + t.val, by omega⟩ ⟨0 + a.val, by omega⟩) := by
  simp only [entryContents, afterL_cons, afterL_nil]
  after_reads_simp
  rw [id_eq]
  clean_types
  pointwise []
  blk_ext

theorem start_3 (r : Fin 64) (a : Fin 8) (t : Fin 64) :
    start m c (Proc.devRef .tc main_v28_3) (ix3 r a t) = m ((c.tc : Thread nD τ).loc main_arg3) (ix2 ⟨64 * r.val + t.val, by omega⟩ ⟨8 + a.val, by omega⟩) := by
  simp only [entryContents, afterL_cons, afterL_nil]
  after_reads_simp
  rw [id_eq]
  clean_types
  pointwise []
  blk_ext

theorem start_6 : start m c (Proc.devRef .tc main_v28_6) = m ((c.tc : Thread nD τ).loc main_arg6) := by
  simp only [entryContents, afterL_cons, afterL_nil]
  after_reads_simp
  rfl

theorem start_7 : start m c (Proc.devRef .tc main_v28_7) = m ((c.tc : Thread nD τ).loc main_arg7) := by
  simp only [entryContents, afterL_cons, afterL_nil]
  after_reads_simp
  rfl

theorem start_9 : start m c (Proc.devRef .tc main_v28_9) = m ((c.tc : Thread nD τ).loc main_arg5) := by
  simp only [entryContents, afterL_cons, afterL_nil]
  after_reads_simp
  rfl

theorem start_11 : start m c (Proc.devRef .tc main_v28_11) = fun _ => (0 : EReal) := by
  simp only [entryContents, afterL_cons, afterL_nil]
  after_reads_simp
  rw [id_eq]
  clean_types
  funext j
  idx_vars j
  pointwise []

theorem start_12 : start m c (Proc.devRef .tc main_v28_12) = fun _ => (0 : EReal) := by
  simp only [entryContents, afterL_cons, afterL_nil]
  after_reads_simp
  rw [id_eq]
  clean_types
  funext j
  idx_vars j
  pointwise []

end Entry

end Cert.Proof.Chunk

end
-- ==== Proof.FirstChunk.lean ====
module

public import proofs.«01_k».proof.Proof.Gen.KernelIdeal.Value
public import proofs.«01_k».proof.Proof.Gen.ReferenceIdeal.Run
public import Idealize.ShloMosaic.Lib.Pointwise
public import Idealize.ShloMosaic.Lib.Tactic.CleanTypes
public import Idealize.ShloMosaic.Lib.Pipeline.ValueKit.Tiles
public import proofs.«01_k».proof.Proof.Out

@[expose] public section

set_option maxRecDepth 16384
set_option maxHeartbeats 2000000

noncomputable section

namespace Cert.Proof.Chunk

open Idealize.ShloMosaic Idealize.ShloMosaic.TcCoe
open Cert.KernelIdeal Cert.KernelIdeal.Gen

variable (V0 : Vals)

open Cert.ReferenceIdeal.Value
open Cert.Proof.Sums hiding Vals

section
variable (c : Dev nD) (i : grid0.Coords) (arg1 : Memref sig .tc .vmem S64x1024 .f32) (harg1 : arg1.IsWhole) (arg2 : Memref sig .tc .vmem S64x1024 .f32) (harg2 : arg2.IsWhole) (arg3 : Memref sig .tc .vmem S64x1024 .f32) (harg3 : arg3.IsWhole) (arg4 : Memref sig .tc .vmem S64x128 .f32) (harg4 : arg4.IsWhole) (arg5 : Memref sig .tc .vmem S64x1024 .f32) (harg5 : arg5.IsWhole) (arg6 : Memref sig .tc .vmem S1x128 .f32) (harg6 : arg6.IsWhole) (arg7 : Memref sig .tc .vmem S1x8x128x128 .f32) (harg7 : arg7.IsWhole) (arg8 : Memref sig .tc .vmem S1x8x64x64 .f32) (harg8 : arg8.IsWhole) (arg9 : Memref sig .tc .vmem S64x1024 .bf16) (harg9 : arg9.IsWhole) (arg10 : Memref sig .tc .vmem S64x1024 .f32) (harg10 : arg10.IsWhole) (arg11 : Memref sig .tc .vmem S64x1024 .f32) (harg11 : arg11.IsWhole) (arg12 : Memref sig .tc .vmem S64x1024 .f32) (harg12 : arg12.IsWhole) (arg13 : Memref sig .tc .vmem S64x128 .f32) (harg13 : arg13.IsWhole) (arg14 : Memref sig .tc .vmem S64x1024 .f32) (harg14 : arg14.IsWhole) (arg15 : Memref sig .tc .vmem S1x128 .f32) (harg15 : arg15.IsWhole) (arg16 : Memref sig .tc .vmem S8x128x128 .f32) (harg16 : arg16.IsWhole) (hc0 : cond0_0 i)
    (x0 : Vec Ideal S64x1024 .f32) (x1 : Vec Ideal S64x1024 .f32) (x2 : Vec Ideal S64x1024 .f32) (x3 : Vec Ideal S64x128 .f32) (x4 : Vec Ideal S64x1024 .f32) (x5 : Vec Ideal S1x128 .f32) (x6 : Vec Ideal S1x8x128x128 .f32) (x7 : Vec Ideal S1x8x64x64 .f32) (x8 : Vec Ideal S64x1024 .bf16)

/-- The cotangent of the state the run begins with. -/
def zeroS : Vec Ideal S8x128x128 .f32 := fun _ => (0 : EReal)

/-- The cotangent of the norm's scale the run begins with. -/
def zeroD : Vec Ideal S1x128 .f32 := fun _ => (0 : EReal)

/-- The state's scratch at the first chunk: the zeros just stored. -/
theorem zeros_read (c : Dev nD) (arg16 : Memref sig .tc .vmem S8x128x128 .f32) : kernelRun0_A.sl.v237 (F := Ideal) c arg16 = zeroS := by
  unfold kernelRun0_A.sl.v237 kernelRun0_A.sl.HS0_1
  simp (disch := decide) only [View.readCov_unit_lit']
  funext j; idx_vars j
  pointwise [k0_pay2, zeroS]

/-- The scale's sum at the first chunk: likewise. -/
theorem zeros_read14 (c : Dev nD) (arg15 : Memref sig .tc .vmem S1x128 .f32) : kernelRun0_A.sl.v422 (F := Ideal) c arg15 = zeroD := by
  unfold kernelRun0_A.sl.v422 kernelRun0_A.sl.H14_1
  simp (disch := decide) only [View.readCov_unit_lit']
  funext j; idx_vars j
  pointwise [k0_pay3, zeroD]

theorem out_dqA (T : Tied V0 x0 x1 x2 x3 x4 x5 x6 x7 x8) (hS : zeroS = dS V0) : out0_A_9 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 = rowsOf (dq V0) := by
  have h0 : kernelRun0_A.sl.r c arg8 harg8 x7 = res_main_while0b_v54 V0 := (load4 arg8 harg8 x7).trans T.a
  have h1 : kernelRun0_A.sl.r_1 c arg4 harg4 x3 = gin V0 := (lanes5 arg4 harg4 x3).trans T.g
  have h2 : kernelRun0_A.sl.r_2 c arg4 harg4 x3 = res_main_while0b_v75 V0 := (lanes6 arg4 harg4 x3).trans T.b
  have h6 : kernelRun0_A.sl.r_6 c arg1 harg1 x0 = res_main_while0b_v47 V0 := (heads7 arg1 harg1 x0).trans T.q
  have h7 : kernelRun0_A.sl.r_7 c arg2 harg2 x1 = res_main_while0b_v48 V0 := (heads8 arg2 harg2 x1).trans T.k
  have h9 : kernelRun0_A.sl.r_9 c arg3 harg3 x2 = res_main_while0b_v49 V0 := (heads9 arg3 harg3 x2).trans T.v
  have h10 : kernelRun0_A.sl.r_10 c arg7 harg7 x6 = res_main_while0b_v53 V0 := (load10 arg7 harg7 x6).trans T.s
  have h19 : kernelRun0_A.sl.r_19 c arg5 harg5 x4 = res_main_while0b_v52 V0 := (heads12 arg5 harg5 x4).trans T.z
  have h20 : kernelRun0_A.sl.r_20 c arg6 harg6 x5 = V0 (Proc.devRef .tc Cert.ReferenceIdeal.main_v28_9) := (load20 arg6 harg6 x5).trans T.w
  have h49 := (heads49 arg9 harg9 x8).trans T.d
  have h44 : kernelRun0_A.sl.v237 c arg16 = dS V0 := (zeros_read c arg16).trans hS
  unfold out0_A_9
  rw [View.read_writes_junk_eq_canon]
  unfold kernelRun0_A
  dsimp only
  simp only [kernelRun0_A.sl.r_26, kernelRun0_A.sl.r_52, kernelRun0_A.sl.r_33, kernelRun0_A.sl.r_65, kernelRun0_A.sl.r_74, kernelRun0_A.sl.r_34, kernelRun0_A.sl.r_28, kernelRun0_A.sl.r_25, kernelRun0_A.sl.r_41, kernelRun0_A.sl.r_59, kernelRun0_A.sl.r_66, kernelRun0_A.sl.r_48, kernelRun0_A.sl.r_77, kernelRun0_A.sl.r_22, kernelRun0_A.sl.r_62, kernelRun0_A.sl.r_54, kernelRun0_A.sl.r_60, kernelRun0_A.sl.r_46, kernelRun0_A.sl.r_44, kernelRun0_A.sl.v426, kernelRun0_A.sl.r_43, kernelRun0_A.sl.r_30, kernelRun0_A.sl.r_79, kernelRun0_A.sl.r_63, kernelRun0_A.sl.r_58, kernelRun0_A.sl.r_75, kernelRun0_A.sl.r_29, kernelRun0_A.sl.r_55, kernelRun0_A.sl.r_51, kernelRun0_A.sl.r_40, kernelRun0_A.sl.r_24, kernelRun0_A.sl.r_57, kernelRun0_A.sl.r_76, kernelRun0_A.sl.r_31, kernelRun0_A.sl.r_56, kernelRun0_A.sl.r_42, kernelRun0_A.sl.r_23, kernelRun0_A.sl.r_73, kernelRun0_A.sl.r_35, kernelRun0_A.sl.r_32, kernelRun0_A.sl.r_67, kernelRun0_A.sl.r_71, kernelRun0_A.sl.r_53, kernelRun0_A.sl.r_70, kernelRun0_A.sl.r_72, kernelRun0_A.sl.r_37, kernelRun0_A.sl.r_21, kernelRun0_A.sl.r_64, kernelRun0_A.sl.r_69, kernelRun0_A.sl.r_38, kernelRun0_A.sl.r_50, kernelRun0_A.sl.r_61, kernelRun0_A.sl.r_36, kernelRun0_A.sl.r_39, kernelRun0_A.sl.r_78, kernelRun0_A.sl.r_45, kernelRun0_A.sl.r_68, kernelRun0_A.sl.r_49, kernelRun0_A.sl.r_27, kernelRun0_A.sl.r_47, h0, h1, h2, h6, h7, h9, h10, h19, h20, h44, kbetaL, gramL, qkL, scoreL, decayL, decayInL, solvedL, lastL, decayOutL, kdecL, vnewL, outL, keepL, varL, rstdL, coefL, normedL, onormL, scaledL, gateL, dnormL, douL, dkdecL, dscoreL, dvnewL, dqdecL, dqInL, qdqL, dsolvedL, dsolvedL', drhsL, drhsL', dvL, dlowerL, dqL, dkbetaL, dbetaL, dkL, dgapL, dgateL, growL, gcolL, ctgateL V0 _ _ _ _ _ _ _ _ h49, ctnormL V0 _ _ _ _ _ _ _ _ h49, dzL V0 _ _ _ _ _ _ _ _ h49, dlastL, dstateL]
  funext j
  idx_vars j
  canon_tiles x h
  all_goals
    idx_vars x
    open_payloads
    pointwise []
    first
      | exact at_head _ _ _ _ _ _ h0 h1
      | exact at_head _ _ _ _ _ _ h0 (h1.trans (Nat.zero_add _).symm)

theorem out_dkA (T : Tied V0 x0 x1 x2 x3 x4 x5 x6 x7 x8) (hS : zeroS = dS V0) : out0_A_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 = rowsOf (dk V0) := by
  have h0 : kernelRun0_A.sl.r c arg8 harg8 x7 = res_main_while0b_v54 V0 := (load4 arg8 harg8 x7).trans T.a
  have h1 : kernelRun0_A.sl.r_1 c arg4 harg4 x3 = gin V0 := (lanes5 arg4 harg4 x3).trans T.g
  have h2 : kernelRun0_A.sl.r_2 c arg4 harg4 x3 = res_main_while0b_v75 V0 := (lanes6 arg4 harg4 x3).trans T.b
  have h6 : kernelRun0_A.sl.r_6 c arg1 harg1 x0 = res_main_while0b_v47 V0 := (heads7 arg1 harg1 x0).trans T.q
  have h7 : kernelRun0_A.sl.r_7 c arg2 harg2 x1 = res_main_while0b_v48 V0 := (heads8 arg2 harg2 x1).trans T.k
  have h9 : kernelRun0_A.sl.r_9 c arg3 harg3 x2 = res_main_while0b_v49 V0 := (heads9 arg3 harg3 x2).trans T.v
  have h10 : kernelRun0_A.sl.r_10 c arg7 harg7 x6 = res_main_while0b_v53 V0 := (load10 arg7 harg7 x6).trans T.s
  have h19 : kernelRun0_A.sl.r_19 c arg5 harg5 x4 = res_main_while0b_v52 V0 := (heads12 arg5 harg5 x4).trans T.z
  have h20 : kernelRun0_A.sl.r_20 c arg6 harg6 x5 = V0 (Proc.devRef .tc Cert.ReferenceIdeal.main_v28_9) := (load20 arg6 harg6 x5).trans T.w
  have h49 := (heads49 arg9 harg9 x8).trans T.d
  have h44 : kernelRun0_A.sl.v237 c arg16 = dS V0 := (zeros_read c arg16).trans hS
  unfold out0_A_10
  rw [View.read_writes_junk_eq_canon]
  unfold kernelRun0_A
  dsimp only
  simp only [kernelRun0_A.sl.r_26, kernelRun0_A.sl.r_52, kernelRun0_A.sl.r_33, kernelRun0_A.sl.r_65, kernelRun0_A.sl.r_74, kernelRun0_A.sl.r_34, kernelRun0_A.sl.r_28, kernelRun0_A.sl.r_25, kernelRun0_A.sl.r_41, kernelRun0_A.sl.r_59, kernelRun0_A.sl.r_66, kernelRun0_A.sl.r_48, kernelRun0_A.sl.r_77, kernelRun0_A.sl.r_22, kernelRun0_A.sl.r_62, kernelRun0_A.sl.r_54, kernelRun0_A.sl.r_60, kernelRun0_A.sl.r_46, kernelRun0_A.sl.r_44, kernelRun0_A.sl.v426, kernelRun0_A.sl.r_43, kernelRun0_A.sl.r_30, kernelRun0_A.sl.r_79, kernelRun0_A.sl.r_63, kernelRun0_A.sl.r_58, kernelRun0_A.sl.r_75, kernelRun0_A.sl.r_29, kernelRun0_A.sl.r_55, kernelRun0_A.sl.r_51, kernelRun0_A.sl.r_40, kernelRun0_A.sl.r_24, kernelRun0_A.sl.r_57, kernelRun0_A.sl.r_76, kernelRun0_A.sl.r_31, kernelRun0_A.sl.r_56, kernelRun0_A.sl.r_42, kernelRun0_A.sl.r_23, kernelRun0_A.sl.r_73, kernelRun0_A.sl.r_35, kernelRun0_A.sl.r_32, kernelRun0_A.sl.r_67, kernelRun0_A.sl.r_71, kernelRun0_A.sl.r_53, kernelRun0_A.sl.r_70, kernelRun0_A.sl.r_72, kernelRun0_A.sl.r_37, kernelRun0_A.sl.r_21, kernelRun0_A.sl.r_64, kernelRun0_A.sl.r_69, kernelRun0_A.sl.r_38, kernelRun0_A.sl.r_50, kernelRun0_A.sl.r_61, kernelRun0_A.sl.r_36, kernelRun0_A.sl.r_39, kernelRun0_A.sl.r_78, kernelRun0_A.sl.r_45, kernelRun0_A.sl.r_68, kernelRun0_A.sl.r_49, kernelRun0_A.sl.r_27, kernelRun0_A.sl.r_47, h0, h1, h2, h6, h7, h9, h10, h19, h20, h44, kbetaL, gramL, qkL, scoreL, decayL, decayInL, solvedL, lastL, decayOutL, kdecL, vnewL, outL, keepL, varL, rstdL, coefL, normedL, onormL, scaledL, gateL, dnormL, douL, dkdecL, dscoreL, dvnewL, dqdecL, dqInL, qdqL, dsolvedL, dsolvedL', drhsL, drhsL', dvL, dlowerL, dqL, dkbetaL, dbetaL, dkL, dgapL, dgateL, growL, gcolL, ctgateL V0 _ _ _ _ _ _ _ _ h49, ctnormL V0 _ _ _ _ _ _ _ _ h49, dzL V0 _ _ _ _ _ _ _ _ h49, dlastL, dstateL]
  funext j
  idx_vars j
  canon_tiles x h
  all_goals
    idx_vars x
    open_payloads
    pointwise []
    first
      | exact at_head _ _ _ _ _ _ h0 h1
      | exact at_head _ _ _ _ _ _ h0 (h1.trans (Nat.zero_add _).symm)

theorem out_dvA (T : Tied V0 x0 x1 x2 x3 x4 x5 x6 x7 x8) (hS : zeroS = dS V0) : out0_A_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 = rowsOf (dv V0) := by
  have h0 : kernelRun0_A.sl.r c arg8 harg8 x7 = res_main_while0b_v54 V0 := (load4 arg8 harg8 x7).trans T.a
  have h1 : kernelRun0_A.sl.r_1 c arg4 harg4 x3 = gin V0 := (lanes5 arg4 harg4 x3).trans T.g
  have h2 : kernelRun0_A.sl.r_2 c arg4 harg4 x3 = res_main_while0b_v75 V0 := (lanes6 arg4 harg4 x3).trans T.b
  have h6 : kernelRun0_A.sl.r_6 c arg1 harg1 x0 = res_main_while0b_v47 V0 := (heads7 arg1 harg1 x0).trans T.q
  have h7 : kernelRun0_A.sl.r_7 c arg2 harg2 x1 = res_main_while0b_v48 V0 := (heads8 arg2 harg2 x1).trans T.k
  have h9 : kernelRun0_A.sl.r_9 c arg3 harg3 x2 = res_main_while0b_v49 V0 := (heads9 arg3 harg3 x2).trans T.v
  have h10 : kernelRun0_A.sl.r_10 c arg7 harg7 x6 = res_main_while0b_v53 V0 := (load10 arg7 harg7 x6).trans T.s
  have h19 : kernelRun0_A.sl.r_19 c arg5 harg5 x4 = res_main_while0b_v52 V0 := (heads12 arg5 harg5 x4).trans T.z
  have h20 : kernelRun0_A.sl.r_20 c arg6 harg6 x5 = V0 (Proc.devRef .tc Cert.ReferenceIdeal.main_v28_9) := (load20 arg6 harg6 x5).trans T.w
  have h49 := (heads49 arg9 harg9 x8).trans T.d
  have h44 : kernelRun0_A.sl.v237 c arg16 = dS V0 := (zeros_read c arg16).trans hS
  unfold out0_A_11
  rw [View.read_writes_junk_eq_canon]
  unfold kernelRun0_A
  dsimp only
  simp only [kernelRun0_A.sl.r_26, kernelRun0_A.sl.r_52, kernelRun0_A.sl.r_33, kernelRun0_A.sl.r_65, kernelRun0_A.sl.r_74, kernelRun0_A.sl.r_34, kernelRun0_A.sl.r_28, kernelRun0_A.sl.r_25, kernelRun0_A.sl.r_41, kernelRun0_A.sl.r_59, kernelRun0_A.sl.r_66, kernelRun0_A.sl.r_48, kernelRun0_A.sl.r_77, kernelRun0_A.sl.r_22, kernelRun0_A.sl.r_62, kernelRun0_A.sl.r_54, kernelRun0_A.sl.r_60, kernelRun0_A.sl.r_46, kernelRun0_A.sl.r_44, kernelRun0_A.sl.v426, kernelRun0_A.sl.r_43, kernelRun0_A.sl.r_30, kernelRun0_A.sl.r_79, kernelRun0_A.sl.r_63, kernelRun0_A.sl.r_58, kernelRun0_A.sl.r_75, kernelRun0_A.sl.r_29, kernelRun0_A.sl.r_55, kernelRun0_A.sl.r_51, kernelRun0_A.sl.r_40, kernelRun0_A.sl.r_24, kernelRun0_A.sl.r_57, kernelRun0_A.sl.r_76, kernelRun0_A.sl.r_31, kernelRun0_A.sl.r_56, kernelRun0_A.sl.r_42, kernelRun0_A.sl.r_23, kernelRun0_A.sl.r_73, kernelRun0_A.sl.r_35, kernelRun0_A.sl.r_32, kernelRun0_A.sl.r_67, kernelRun0_A.sl.r_71, kernelRun0_A.sl.r_53, kernelRun0_A.sl.r_70, kernelRun0_A.sl.r_72, kernelRun0_A.sl.r_37, kernelRun0_A.sl.r_21, kernelRun0_A.sl.r_64, kernelRun0_A.sl.r_69, kernelRun0_A.sl.r_38, kernelRun0_A.sl.r_50, kernelRun0_A.sl.r_61, kernelRun0_A.sl.r_36, kernelRun0_A.sl.r_39, kernelRun0_A.sl.r_78, kernelRun0_A.sl.r_45, kernelRun0_A.sl.r_68, kernelRun0_A.sl.r_49, kernelRun0_A.sl.r_27, kernelRun0_A.sl.r_47, h0, h1, h2, h6, h7, h9, h10, h19, h20, h44, kbetaL, gramL, qkL, scoreL, decayL, decayInL, solvedL, lastL, decayOutL, kdecL, vnewL, outL, keepL, varL, rstdL, coefL, normedL, onormL, scaledL, gateL, dnormL, douL, dkdecL, dscoreL, dvnewL, dqdecL, dqInL, qdqL, dsolvedL, dsolvedL', drhsL, drhsL', dvL, dlowerL, dqL, dkbetaL, dbetaL, dkL, dgapL, dgateL, growL, gcolL, ctgateL V0 _ _ _ _ _ _ _ _ h49, ctnormL V0 _ _ _ _ _ _ _ _ h49, dzL V0 _ _ _ _ _ _ _ _ h49, dlastL, dstateL]
  funext j
  idx_vars j
  canon_tiles x h
  all_goals
    idx_vars x
    open_payloads
    pointwise []
    first
      | exact at_head _ _ _ _ _ _ h0 h1
      | exact at_head _ _ _ _ _ _ h0 (h1.trans (Nat.zero_add _).symm)

theorem out_dzA (T : Tied V0 x0 x1 x2 x3 x4 x5 x6 x7 x8) (hS : zeroS = dS V0) : out0_A_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 = rowsOf (dz V0) := by
  have h0 : kernelRun0_A.sl.r c arg8 harg8 x7 = res_main_while0b_v54 V0 := (load4 arg8 harg8 x7).trans T.a
  have h1 : kernelRun0_A.sl.r_1 c arg4 harg4 x3 = gin V0 := (lanes5 arg4 harg4 x3).trans T.g
  have h2 : kernelRun0_A.sl.r_2 c arg4 harg4 x3 = res_main_while0b_v75 V0 := (lanes6 arg4 harg4 x3).trans T.b
  have h6 : kernelRun0_A.sl.r_6 c arg1 harg1 x0 = res_main_while0b_v47 V0 := (heads7 arg1 harg1 x0).trans T.q
  have h7 : kernelRun0_A.sl.r_7 c arg2 harg2 x1 = res_main_while0b_v48 V0 := (heads8 arg2 harg2 x1).trans T.k
  have h9 : kernelRun0_A.sl.r_9 c arg3 harg3 x2 = res_main_while0b_v49 V0 := (heads9 arg3 harg3 x2).trans T.v
  have h10 : kernelRun0_A.sl.r_10 c arg7 harg7 x6 = res_main_while0b_v53 V0 := (load10 arg7 harg7 x6).trans T.s
  have h19 : kernelRun0_A.sl.r_19 c arg5 harg5 x4 = res_main_while0b_v52 V0 := (heads12 arg5 harg5 x4).trans T.z
  have h20 : kernelRun0_A.sl.r_20 c arg6 harg6 x5 = V0 (Proc.devRef .tc Cert.ReferenceIdeal.main_v28_9) := (load20 arg6 harg6 x5).trans T.w
  have h49 := (heads49 arg9 harg9 x8).trans T.d
  have h44 : kernelRun0_A.sl.v237 c arg16 = dS V0 := (zeros_read c arg16).trans hS
  unfold out0_A_13
  rw [View.read_writes_junk_eq_canon]
  unfold kernelRun0_A
  dsimp only
  simp only [kernelRun0_A.sl.r_26, kernelRun0_A.sl.r_52, kernelRun0_A.sl.r_33, kernelRun0_A.sl.r_65, kernelRun0_A.sl.r_74, kernelRun0_A.sl.r_34, kernelRun0_A.sl.r_28, kernelRun0_A.sl.r_25, kernelRun0_A.sl.r_41, kernelRun0_A.sl.r_59, kernelRun0_A.sl.r_66, kernelRun0_A.sl.r_48, kernelRun0_A.sl.r_77, kernelRun0_A.sl.r_22, kernelRun0_A.sl.r_62, kernelRun0_A.sl.r_54, kernelRun0_A.sl.r_60, kernelRun0_A.sl.r_46, kernelRun0_A.sl.r_44, kernelRun0_A.sl.v426, kernelRun0_A.sl.r_43, kernelRun0_A.sl.r_30, kernelRun0_A.sl.r_79, kernelRun0_A.sl.r_63, kernelRun0_A.sl.r_58, kernelRun0_A.sl.r_75, kernelRun0_A.sl.r_29, kernelRun0_A.sl.r_55, kernelRun0_A.sl.r_51, kernelRun0_A.sl.r_40, kernelRun0_A.sl.r_24, kernelRun0_A.sl.r_57, kernelRun0_A.sl.r_76, kernelRun0_A.sl.r_31, kernelRun0_A.sl.r_56, kernelRun0_A.sl.r_42, kernelRun0_A.sl.r_23, kernelRun0_A.sl.r_73, kernelRun0_A.sl.r_35, kernelRun0_A.sl.r_32, kernelRun0_A.sl.r_67, kernelRun0_A.sl.r_71, kernelRun0_A.sl.r_53, kernelRun0_A.sl.r_70, kernelRun0_A.sl.r_72, kernelRun0_A.sl.r_37, kernelRun0_A.sl.r_21, kernelRun0_A.sl.r_64, kernelRun0_A.sl.r_69, kernelRun0_A.sl.r_38, kernelRun0_A.sl.r_50, kernelRun0_A.sl.r_61, kernelRun0_A.sl.r_36, kernelRun0_A.sl.r_39, kernelRun0_A.sl.r_78, kernelRun0_A.sl.r_45, kernelRun0_A.sl.r_68, kernelRun0_A.sl.r_49, kernelRun0_A.sl.r_27, kernelRun0_A.sl.r_47, h0, h1, h2, h6, h7, h9, h10, h19, h20, h44, kbetaL, gramL, qkL, scoreL, decayL, decayInL, solvedL, lastL, decayOutL, kdecL, vnewL, outL, keepL, varL, rstdL, coefL, normedL, onormL, scaledL, gateL, dnormL, douL, dkdecL, dscoreL, dvnewL, dqdecL, dqInL, qdqL, dsolvedL, dsolvedL', drhsL, drhsL', dvL, dlowerL, dqL, dkbetaL, dbetaL, dkL, dgapL, dgateL, growL, gcolL, ctgateL V0 _ _ _ _ _ _ _ _ h49, ctnormL V0 _ _ _ _ _ _ _ _ h49, dzL V0 _ _ _ _ _ _ _ _ h49, dlastL, dstateL]
  funext j
  idx_vars j
  canon_tiles x h
  all_goals
    idx_vars x
    open_payloads
    pointwise []
    first
      | exact at_head _ _ _ _ _ _ h0 h1
      | exact at_head _ _ _ _ _ _ h0 (h1.trans (Nat.zero_add _).symm)

theorem out_dgbA (T : Tied V0 x0 x1 x2 x3 x4 x5 x6 x7 x8) (hS : zeroS = dS V0) : out0_A_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 = lanesFrom (dbeta V0) (dgate V0) := by
  have h0 : kernelRun0_A.sl.r c arg8 harg8 x7 = res_main_while0b_v54 V0 := (load4 arg8 harg8 x7).trans T.a
  have h1 : kernelRun0_A.sl.r_1 c arg4 harg4 x3 = gin V0 := (lanes5 arg4 harg4 x3).trans T.g
  have h2 : kernelRun0_A.sl.r_2 c arg4 harg4 x3 = res_main_while0b_v75 V0 := (lanes6 arg4 harg4 x3).trans T.b
  have h6 : kernelRun0_A.sl.r_6 c arg1 harg1 x0 = res_main_while0b_v47 V0 := (heads7 arg1 harg1 x0).trans T.q
  have h7 : kernelRun0_A.sl.r_7 c arg2 harg2 x1 = res_main_while0b_v48 V0 := (heads8 arg2 harg2 x1).trans T.k
  have h9 : kernelRun0_A.sl.r_9 c arg3 harg3 x2 = res_main_while0b_v49 V0 := (heads9 arg3 harg3 x2).trans T.v
  have h10 : kernelRun0_A.sl.r_10 c arg7 harg7 x6 = res_main_while0b_v53 V0 := (load10 arg7 harg7 x6).trans T.s
  have h19 : kernelRun0_A.sl.r_19 c arg5 harg5 x4 = res_main_while0b_v52 V0 := (heads12 arg5 harg5 x4).trans T.z
  have h20 : kernelRun0_A.sl.r_20 c arg6 harg6 x5 = V0 (Proc.devRef .tc Cert.ReferenceIdeal.main_v28_9) := (load20 arg6 harg6 x5).trans T.w
  have h49 := (heads49 arg9 harg9 x8).trans T.d
  have h44 : kernelRun0_A.sl.v237 c arg16 = dS V0 := (zeros_read c arg16).trans hS
  unfold out0_A_12
  rw [View.read_writes_junk_eq_canon]
  unfold kernelRun0_A
  dsimp only
  simp (disch := decide) only [View.canon_cons_unit_lit', kernelRun0_A.sl.r_71, kernelRun0_A.sl.r_72, kernelRun0_A.sl.r_73, kernelRun0_A.sl.r_74, kernelRun0_A.sl.r_75, kernelRun0_A.sl.r_76, kernelRun0_A.sl.r_77, kernelRun0_A.sl.r_78, kernelRun0_A.sl.r_79, kernelRun0_A.sl.v426]
  simp only [kernelRun0_A.sl.r_26, kernelRun0_A.sl.r_52, kernelRun0_A.sl.r_33, kernelRun0_A.sl.r_65, kernelRun0_A.sl.r_74, kernelRun0_A.sl.r_34, kernelRun0_A.sl.r_28, kernelRun0_A.sl.r_25, kernelRun0_A.sl.r_41, kernelRun0_A.sl.r_59, kernelRun0_A.sl.r_66, kernelRun0_A.sl.r_48, kernelRun0_A.sl.r_77, kernelRun0_A.sl.r_22, kernelRun0_A.sl.r_62, kernelRun0_A.sl.r_54, kernelRun0_A.sl.r_60, kernelRun0_A.sl.r_46, kernelRun0_A.sl.r_44, kernelRun0_A.sl.v426, kernelRun0_A.sl.r_43, kernelRun0_A.sl.r_30, kernelRun0_A.sl.r_79, kernelRun0_A.sl.r_63, kernelRun0_A.sl.r_58, kernelRun0_A.sl.r_75, kernelRun0_A.sl.r_29, kernelRun0_A.sl.r_55, kernelRun0_A.sl.r_51, kernelRun0_A.sl.r_40, kernelRun0_A.sl.r_24, kernelRun0_A.sl.r_57, kernelRun0_A.sl.r_76, kernelRun0_A.sl.r_31, kernelRun0_A.sl.r_56, kernelRun0_A.sl.r_42, kernelRun0_A.sl.r_23, kernelRun0_A.sl.r_73, kernelRun0_A.sl.r_35, kernelRun0_A.sl.r_32, kernelRun0_A.sl.r_67, kernelRun0_A.sl.r_71, kernelRun0_A.sl.r_53, kernelRun0_A.sl.r_70, kernelRun0_A.sl.r_72, kernelRun0_A.sl.r_37, kernelRun0_A.sl.r_21, kernelRun0_A.sl.r_64, kernelRun0_A.sl.r_69, kernelRun0_A.sl.r_38, kernelRun0_A.sl.r_50, kernelRun0_A.sl.r_61, kernelRun0_A.sl.r_36, kernelRun0_A.sl.r_39, kernelRun0_A.sl.r_78, kernelRun0_A.sl.r_45, kernelRun0_A.sl.r_68, kernelRun0_A.sl.r_49, kernelRun0_A.sl.r_27, kernelRun0_A.sl.r_47, h0, h1, h2, h6, h7, h9, h10, h19, h20, h44, kbetaL, gramL, qkL, scoreL, decayL, decayInL, solvedL, lastL, decayOutL, kdecL, vnewL, outL, keepL, varL, rstdL, coefL, normedL, onormL, scaledL, gateL, dnormL, douL, dkdecL, dscoreL, dvnewL, dqdecL, dqInL, qdqL, dsolvedL, dsolvedL', drhsL, drhsL', dvL, dlowerL, dqL, dkbetaL, dbetaL, dkL, dgapL, dgateL, growL, gcolL, ctgateL V0 _ _ _ _ _ _ _ _ h49, ctnormL V0 _ _ _ _ _ _ _ _ h49, dzL V0 _ _ _ _ _ _ _ _ h49, dlastL, dstateL]
  exact lanesL _ _

theorem out_donA (T : Tied V0 x0 x1 x2 x3 x4 x5 x6 x7 x8) (hS : zeroS = dS V0) (hD : zeroD = V0 (Proc.devRef .tc Cert.ReferenceIdeal.main_v28_12)) : out0_A_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 = step_main_v28_12 V0 := by
  have h0 : kernelRun0_A.sl.r c arg8 harg8 x7 = res_main_while0b_v54 V0 := (load4 arg8 harg8 x7).trans T.a
  have h1 : kernelRun0_A.sl.r_1 c arg4 harg4 x3 = gin V0 := (lanes5 arg4 harg4 x3).trans T.g
  have h2 : kernelRun0_A.sl.r_2 c arg4 harg4 x3 = res_main_while0b_v75 V0 := (lanes6 arg4 harg4 x3).trans T.b
  have h6 : kernelRun0_A.sl.r_6 c arg1 harg1 x0 = res_main_while0b_v47 V0 := (heads7 arg1 harg1 x0).trans T.q
  have h7 : kernelRun0_A.sl.r_7 c arg2 harg2 x1 = res_main_while0b_v48 V0 := (heads8 arg2 harg2 x1).trans T.k
  have h9 : kernelRun0_A.sl.r_9 c arg3 harg3 x2 = res_main_while0b_v49 V0 := (heads9 arg3 harg3 x2).trans T.v
  have h10 : kernelRun0_A.sl.r_10 c arg7 harg7 x6 = res_main_while0b_v53 V0 := (load10 arg7 harg7 x6).trans T.s
  have h19 : kernelRun0_A.sl.r_19 c arg5 harg5 x4 = res_main_while0b_v52 V0 := (heads12 arg5 harg5 x4).trans T.z
  have h20 : kernelRun0_A.sl.r_20 c arg6 harg6 x5 = V0 (Proc.devRef .tc Cert.ReferenceIdeal.main_v28_9) := (load20 arg6 harg6 x5).trans T.w
  have h49 := (heads49 arg9 harg9 x8).trans T.d
  have h44 : kernelRun0_A.sl.v237 c arg16 = dS V0 := (zeros_read c arg16).trans hS
  unfold out0_A_14
  rw [View.read_writes_junk_eq_canon]
  unfold kernelRun0_A
  dsimp only
  simp (disch := decide) only [View.canon_cons_unit_lit']
  simp only [kernelRun0_A.sl.r_26, kernelRun0_A.sl.r_52, kernelRun0_A.sl.r_33, kernelRun0_A.sl.r_65, kernelRun0_A.sl.r_74, kernelRun0_A.sl.r_34, kernelRun0_A.sl.r_28, kernelRun0_A.sl.r_25, kernelRun0_A.sl.r_41, kernelRun0_A.sl.r_59, kernelRun0_A.sl.r_66, kernelRun0_A.sl.r_48, kernelRun0_A.sl.r_77, kernelRun0_A.sl.r_22, kernelRun0_A.sl.r_62, kernelRun0_A.sl.r_54, kernelRun0_A.sl.r_60, kernelRun0_A.sl.r_46, kernelRun0_A.sl.r_44, kernelRun0_A.sl.v426, kernelRun0_A.sl.r_43, kernelRun0_A.sl.r_30, kernelRun0_A.sl.r_79, kernelRun0_A.sl.r_63, kernelRun0_A.sl.r_58, kernelRun0_A.sl.r_75, kernelRun0_A.sl.r_29, kernelRun0_A.sl.r_55, kernelRun0_A.sl.r_51, kernelRun0_A.sl.r_40, kernelRun0_A.sl.r_24, kernelRun0_A.sl.r_57, kernelRun0_A.sl.r_76, kernelRun0_A.sl.r_31, kernelRun0_A.sl.r_56, kernelRun0_A.sl.r_42, kernelRun0_A.sl.r_23, kernelRun0_A.sl.r_73, kernelRun0_A.sl.r_35, kernelRun0_A.sl.r_32, kernelRun0_A.sl.r_67, kernelRun0_A.sl.r_71, kernelRun0_A.sl.r_53, kernelRun0_A.sl.r_70, kernelRun0_A.sl.r_72, kernelRun0_A.sl.r_37, kernelRun0_A.sl.r_21, kernelRun0_A.sl.r_64, kernelRun0_A.sl.r_69, kernelRun0_A.sl.r_38, kernelRun0_A.sl.r_50, kernelRun0_A.sl.r_61, kernelRun0_A.sl.r_36, kernelRun0_A.sl.r_39, kernelRun0_A.sl.r_78, kernelRun0_A.sl.r_45, kernelRun0_A.sl.r_68, kernelRun0_A.sl.r_49, kernelRun0_A.sl.r_27, kernelRun0_A.sl.r_47, h0, h1, h2, h6, h7, h9, h10, h19, h20, h44, kbetaL, gramL, qkL, scoreL, decayL, decayInL, solvedL, lastL, decayOutL, kdecL, vnewL, outL, keepL, varL, rstdL, coefL, normedL, onormL, scaledL, gateL, dnormL, douL, dkdecL, dscoreL, dvnewL, dqdecL, dqInL, qdqL, dsolvedL, dsolvedL', drhsL, drhsL', dvL, dlowerL, dqL, dkbetaL, dbetaL, dkL, dgapL, dgateL, growL, gcolL, ctgateL V0 _ _ _ _ _ _ _ _ h49, ctnormL V0 _ _ _ _ _ _ _ _ h49, dzL V0 _ _ _ _ _ _ _ _ h49, dlastL, dstateL]
  rw [show kernelRun0_A.sl.v422 c arg15 = _ from (zeros_read14 c arg15).trans hD]
  exact donL V0

theorem out_dSA (T : Tied V0 x0 x1 x2 x3 x4 x5 x6 x7 x8) (hS : zeroS = dS V0) : sout0_A_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 = step_main_v28_11 V0 := by
  have h0 : kernelRun0_A.sl.r c arg8 harg8 x7 = res_main_while0b_v54 V0 := (load4 arg8 harg8 x7).trans T.a
  have h1 : kernelRun0_A.sl.r_1 c arg4 harg4 x3 = gin V0 := (lanes5 arg4 harg4 x3).trans T.g
  have h2 : kernelRun0_A.sl.r_2 c arg4 harg4 x3 = res_main_while0b_v75 V0 := (lanes6 arg4 harg4 x3).trans T.b
  have h6 : kernelRun0_A.sl.r_6 c arg1 harg1 x0 = res_main_while0b_v47 V0 := (heads7 arg1 harg1 x0).trans T.q
  have h7 : kernelRun0_A.sl.r_7 c arg2 harg2 x1 = res_main_while0b_v48 V0 := (heads8 arg2 harg2 x1).trans T.k
  have h9 : kernelRun0_A.sl.r_9 c arg3 harg3 x2 = res_main_while0b_v49 V0 := (heads9 arg3 harg3 x2).trans T.v
  have h10 : kernelRun0_A.sl.r_10 c arg7 harg7 x6 = res_main_while0b_v53 V0 := (load10 arg7 harg7 x6).trans T.s
  have h19 : kernelRun0_A.sl.r_19 c arg5 harg5 x4 = res_main_while0b_v52 V0 := (heads12 arg5 harg5 x4).trans T.z
  have h20 : kernelRun0_A.sl.r_20 c arg6 harg6 x5 = V0 (Proc.devRef .tc Cert.ReferenceIdeal.main_v28_9) := (load20 arg6 harg6 x5).trans T.w
  have h49 := (heads49 arg9 harg9 x8).trans T.d
  have h44 : kernelRun0_A.sl.v237 c arg16 = dS V0 := (zeros_read c arg16).trans hS
  unfold sout0_A_0
  rw [View.read_writes_junk_eq_canon]
  unfold kernelRun0_A
  dsimp only
  simp (disch := decide) only [View.canon_cons_unit_lit']
  simp only [kernelRun0_A.sl.r_26, kernelRun0_A.sl.r_52, kernelRun0_A.sl.r_33, kernelRun0_A.sl.r_65, kernelRun0_A.sl.r_74, kernelRun0_A.sl.r_34, kernelRun0_A.sl.r_28, kernelRun0_A.sl.r_25, kernelRun0_A.sl.r_41, kernelRun0_A.sl.r_59, kernelRun0_A.sl.r_66, kernelRun0_A.sl.r_48, kernelRun0_A.sl.r_77, kernelRun0_A.sl.r_22, kernelRun0_A.sl.r_62, kernelRun0_A.sl.r_54, kernelRun0_A.sl.r_60, kernelRun0_A.sl.r_46, kernelRun0_A.sl.r_44, kernelRun0_A.sl.v426, kernelRun0_A.sl.r_43, kernelRun0_A.sl.r_30, kernelRun0_A.sl.r_79, kernelRun0_A.sl.r_63, kernelRun0_A.sl.r_58, kernelRun0_A.sl.r_75, kernelRun0_A.sl.r_29, kernelRun0_A.sl.r_55, kernelRun0_A.sl.r_51, kernelRun0_A.sl.r_40, kernelRun0_A.sl.r_24, kernelRun0_A.sl.r_57, kernelRun0_A.sl.r_76, kernelRun0_A.sl.r_31, kernelRun0_A.sl.r_56, kernelRun0_A.sl.r_42, kernelRun0_A.sl.r_23, kernelRun0_A.sl.r_73, kernelRun0_A.sl.r_35, kernelRun0_A.sl.r_32, kernelRun0_A.sl.r_67, kernelRun0_A.sl.r_71, kernelRun0_A.sl.r_53, kernelRun0_A.sl.r_70, kernelRun0_A.sl.r_72, kernelRun0_A.sl.r_37, kernelRun0_A.sl.r_21, kernelRun0_A.sl.r_64, kernelRun0_A.sl.r_69, kernelRun0_A.sl.r_38, kernelRun0_A.sl.r_50, kernelRun0_A.sl.r_61, kernelRun0_A.sl.r_36, kernelRun0_A.sl.r_39, kernelRun0_A.sl.r_78, kernelRun0_A.sl.r_45, kernelRun0_A.sl.r_68, kernelRun0_A.sl.r_49, kernelRun0_A.sl.r_27, kernelRun0_A.sl.r_47, h0, h1, h2, h6, h7, h9, h10, h19, h20, h44, kbetaL, gramL, qkL, scoreL, decayL, decayInL, solvedL, lastL, decayOutL, kdecL, vnewL, outL, keepL, varL, rstdL, coefL, normedL, onormL, scaledL, gateL, dnormL, douL, dkdecL, dscoreL, dvnewL, dqdecL, dqInL, qdqL, dsolvedL, dsolvedL', drhsL, drhsL', dvL, dlowerL, dqL, dkbetaL, dbetaL, dkL, dgapL, dgateL, growL, gcolL, ctgateL V0 _ _ _ _ _ _ _ _ h49, ctnormL V0 _ _ _ _ _ _ _ _ h49, dzL V0 _ _ _ _ _ _ _ _ h49, dlastL, dstateL]
  exact keptL _
-- ==== Proof.LaterChunk.lean ====
module

public import proofs.«01_k».proof.Proof.Gen.KernelIdeal.Value
public import proofs.«01_k».proof.Proof.Gen.ReferenceIdeal.Run
public import Idealize.ShloMosaic.Lib.Pointwise
public import Idealize.ShloMosaic.Lib.Tactic.CleanTypes
public import Idealize.ShloMosaic.Lib.Pipeline.ValueKit.Tiles
public import proofs.«01_k».proof.Proof.Out

@[expose] public section

set_option maxRecDepth 16384
set_option maxHeartbeats 2000000

noncomputable section

namespace Cert.Proof.Chunk

open Idealize.ShloMosaic Idealize.ShloMosaic.TcCoe
open Cert.KernelIdeal Cert.KernelIdeal.Gen

variable (V0 : Vals)

open Cert.ReferenceIdeal.Value
open Cert.Proof.Sums hiding Vals

section
variable (c : Dev nD) (i : grid0.Coords) (arg1 : Memref sig .tc .vmem S64x1024 .f32) (harg1 : arg1.IsWhole) (arg2 : Memref sig .tc .vmem S64x1024 .f32) (harg2 : arg2.IsWhole) (arg3 : Memref sig .tc .vmem S64x1024 .f32) (harg3 : arg3.IsWhole) (arg4 : Memref sig .tc .vmem S64x128 .f32) (harg4 : arg4.IsWhole) (arg5 : Memref sig .tc .vmem S64x1024 .f32) (harg5 : arg5.IsWhole) (arg6 : Memref sig .tc .vmem S1x128 .f32) (harg6 : arg6.IsWhole) (arg7 : Memref sig .tc .vmem S1x8x128x128 .f32) (harg7 : arg7.IsWhole) (arg8 : Memref sig .tc .vmem S1x8x64x64 .f32) (harg8 : arg8.IsWhole) (arg9 : Memref sig .tc .vmem S64x1024 .bf16) (harg9 : arg9.IsWhole) (arg10 : Memref sig .tc .vmem S64x1024 .f32) (harg10 : arg10.IsWhole) (arg11 : Memref sig .tc .vmem S64x1024 .f32) (harg11 : arg11.IsWhole) (arg12 : Memref sig .tc .vmem S64x1024 .f32) (harg12 : arg12.IsWhole) (arg13 : Memref sig .tc .vmem S64x128 .f32) (harg13 : arg13.IsWhole) (arg14 : Memref sig .tc .vmem S64x1024 .f32) (harg14 : arg14.IsWhole) (arg15 : Memref sig .tc .vmem S1x128 .f32) (harg15 : arg15.IsWhole) (arg16 : Memref sig .tc .vmem S8x128x128 .f32) (harg16 : arg16.IsWhole) (hc0 : ¬cond0_0 i)
    (x0 : Vec Ideal S64x1024 .f32) (x1 : Vec Ideal S64x1024 .f32) (x2 : Vec Ideal S64x1024 .f32) (x3 : Vec Ideal S64x128 .f32) (x4 : Vec Ideal S64x1024 .f32) (x5 : Vec Ideal S1x128 .f32) (x6 : Vec Ideal S1x8x128x128 .f32) (x7 : Vec Ideal S1x8x64x64 .f32) (x8 : Vec Ideal S64x1024 .bf16) (xo14 : Vec Ideal S1x128 .f32) (xs0 : Vec Ideal S8x128x128 .f32)

theorem out_dqB (T : Tied V0 x0 x1 x2 x3 x4 x5 x6 x7 x8) (hS : xs0 = dS V0) : out0_B_9 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 xo14 xs0 = rowsOf (dq V0) := by
  have h0 : kernelRun0_B.sl.r c arg8 harg8 x7 = res_main_while0b_v54 V0 := (load4 arg8 harg8 x7).trans T.a
  have h1 : kernelRun0_B.sl.r_1 c arg4 harg4 x3 = gin V0 := (lanes5 arg4 harg4 x3).trans T.g
  have h2 : kernelRun0_B.sl.r_2 c arg4 harg4 x3 = res_main_while0b_v75 V0 := (lanes6 arg4 harg4 x3).trans T.b
  have h6 : kernelRun0_B.sl.r_6 c arg1 harg1 x0 = res_main_while0b_v47 V0 := (heads7 arg1 harg1 x0).trans T.q
  have h7 : kernelRun0_B.sl.r_7 c arg2 harg2 x1 = res_main_while0b_v48 V0 := (heads8 arg2 harg2 x1).trans T.k
  have h9 : kernelRun0_B.sl.r_9 c arg3 harg3 x2 = res_main_while0b_v49 V0 := (heads9 arg3 harg3 x2).trans T.v
  have h10 : kernelRun0_B.sl.r_10 c arg7 harg7 x6 = res_main_while0b_v53 V0 := (load10 arg7 harg7 x6).trans T.s
  have h19 : kernelRun0_B.sl.r_19 c arg5 harg5 x4 = res_main_while0b_v52 V0 := (heads12 arg5 harg5 x4).trans T.z
  have h20 : kernelRun0_B.sl.r_20 c arg6 harg6 x5 = V0 (Proc.devRef .tc Cert.ReferenceIdeal.main_v28_9) := (load20 arg6 harg6 x5).trans T.w
  have h49 := (heads49 arg9 harg9 x8).trans T.d
  have h44 : kernelRun0_B.sl.r_44 c arg16 harg16 xs0 = dS V0 := (load44 arg16 harg16 xs0).trans hS
  unfold out0_B_9
  rw [View.read_writes_junk_eq_canon]
  unfold kernelRun0_B
  dsimp only
  simp only [kernelRun0_B.sl.r_40, kernelRun0_B.sl.r_32, kernelRun0_B.sl.r_50, kernelRun0_B.sl.r_59, kernelRun0_B.sl.r_61, kernelRun0_B.sl.r_30, kernelRun0_B.sl.r_63, kernelRun0_B.sl.r_46, kernelRun0_B.sl.r_38, kernelRun0_B.sl.r_62, kernelRun0_B.sl.r_33, kernelRun0_B.sl.r_73, kernelRun0_B.sl.r_64, kernelRun0_B.sl.r_36, kernelRun0_B.sl.r_31, kernelRun0_B.sl.r_71, kernelRun0_B.sl.r_27, kernelRun0_B.sl.r_35, kernelRun0_B.sl.r_60, kernelRun0_B.sl.r_77, kernelRun0_B.sl.v426, kernelRun0_B.sl.r_21, kernelRun0_B.sl.r_47, kernelRun0_B.sl.r_42, kernelRun0_B.sl.r_57, kernelRun0_B.sl.r_52, kernelRun0_B.sl.r_69, kernelRun0_B.sl.r_28, kernelRun0_B.sl.r_34, kernelRun0_B.sl.r_68, kernelRun0_B.sl.r_66, kernelRun0_B.sl.r_56, kernelRun0_B.sl.r_43, kernelRun0_B.sl.r_74, kernelRun0_B.sl.r_55, kernelRun0_B.sl.r_76, kernelRun0_B.sl.r_80, kernelRun0_B.sl.r_65, kernelRun0_B.sl.r_26, kernelRun0_B.sl.r_79, kernelRun0_B.sl.r_70, kernelRun0_B.sl.r_51, kernelRun0_B.sl.r_53, kernelRun0_B.sl.r_39, kernelRun0_B.sl.r_78, kernelRun0_B.sl.r_45, kernelRun0_B.sl.r_58, kernelRun0_B.sl.r_54, kernelRun0_B.sl.r_67, kernelRun0_B.sl.r_37, kernelRun0_B.sl.r_22, kernelRun0_B.sl.r_29, kernelRun0_B.sl.r_23, kernelRun0_B.sl.r_72, kernelRun0_B.sl.r_24, kernelRun0_B.sl.r_75, kernelRun0_B.sl.r_49, kernelRun0_B.sl.r_48, kernelRun0_B.sl.r_41, kernelRun0_B.sl.r_25, h0, h1, h2, h6, h7, h9, h10, h19, h20, h44, kbetaL, gramL, qkL, scoreL, decayL, decayInL, solvedL, lastL, decayOutL, kdecL, vnewL, outL, keepL, varL, rstdL, coefL, normedL, onormL, scaledL, gateL, dnormL, douL, dkdecL, dscoreL, dvnewL, dqdecL, dqInL, qdqL, dsolvedL, dsolvedL', drhsL, drhsL', dvL, dlowerL, dqL, dkbetaL, dbetaL, dkL, dgapL, dgateL, growL, gcolL, ctgateL V0 _ _ _ _ _ _ _ _ h49, ctnormL V0 _ _ _ _ _ _ _ _ h49, dzL V0 _ _ _ _ _ _ _ _ h49, dlastL, dstateL]
  funext j
  idx_vars j
  canon_tiles x h
  all_goals
    idx_vars x
    open_payloads
    pointwise []
    first
      | exact at_head _ _ _ _ _ _ h0 h1
      | exact at_head _ _ _ _ _ _ h0 (h1.trans (Nat.zero_add _).symm)

theorem out_dkB (T : Tied V0 x0 x1 x2 x3 x4 x5 x6 x7 x8) (hS : xs0 = dS V0) : out0_B_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 xo14 xs0 = rowsOf (dk V0) := by
  have h0 : kernelRun0_B.sl.r c arg8 harg8 x7 = res_main_while0b_v54 V0 := (load4 arg8 harg8 x7).trans T.a
  have h1 : kernelRun0_B.sl.r_1 c arg4 harg4 x3 = gin V0 := (lanes5 arg4 harg4 x3).trans T.g
  have h2 : kernelRun0_B.sl.r_2 c arg4 harg4 x3 = res_main_while0b_v75 V0 := (lanes6 arg4 harg4 x3).trans T.b
  have h6 : kernelRun0_B.sl.r_6 c arg1 harg1 x0 = res_main_while0b_v47 V0 := (heads7 arg1 harg1 x0).trans T.q
  have h7 : kernelRun0_B.sl.r_7 c arg2 harg2 x1 = res_main_while0b_v48 V0 := (heads8 arg2 harg2 x1).trans T.k
  have h9 : kernelRun0_B.sl.r_9 c arg3 harg3 x2 = res_main_while0b_v49 V0 := (heads9 arg3 harg3 x2).trans T.v
  have h10 : kernelRun0_B.sl.r_10 c arg7 harg7 x6 = res_main_while0b_v53 V0 := (load10 arg7 harg7 x6).trans T.s
  have h19 : kernelRun0_B.sl.r_19 c arg5 harg5 x4 = res_main_while0b_v52 V0 := (heads12 arg5 harg5 x4).trans T.z
  have h20 : kernelRun0_B.sl.r_20 c arg6 harg6 x5 = V0 (Proc.devRef .tc Cert.ReferenceIdeal.main_v28_9) := (load20 arg6 harg6 x5).trans T.w
  have h49 := (heads49 arg9 harg9 x8).trans T.d
  have h44 : kernelRun0_B.sl.r_44 c arg16 harg16 xs0 = dS V0 := (load44 arg16 harg16 xs0).trans hS
  unfold out0_B_10
  rw [View.read_writes_junk_eq_canon]
  unfold kernelRun0_B
  dsimp only
  simp only [kernelRun0_B.sl.r_40, kernelRun0_B.sl.r_32, kernelRun0_B.sl.r_50, kernelRun0_B.sl.r_59, kernelRun0_B.sl.r_61, kernelRun0_B.sl.r_30, kernelRun0_B.sl.r_63, kernelRun0_B.sl.r_46, kernelRun0_B.sl.r_38, kernelRun0_B.sl.r_62, kernelRun0_B.sl.r_33, kernelRun0_B.sl.r_73, kernelRun0_B.sl.r_64, kernelRun0_B.sl.r_36, kernelRun0_B.sl.r_31, kernelRun0_B.sl.r_71, kernelRun0_B.sl.r_27, kernelRun0_B.sl.r_35, kernelRun0_B.sl.r_60, kernelRun0_B.sl.r_77, kernelRun0_B.sl.v426, kernelRun0_B.sl.r_21, kernelRun0_B.sl.r_47, kernelRun0_B.sl.r_42, kernelRun0_B.sl.r_57, kernelRun0_B.sl.r_52, kernelRun0_B.sl.r_69, kernelRun0_B.sl.r_28, kernelRun0_B.sl.r_34, kernelRun0_B.sl.r_68, kernelRun0_B.sl.r_66, kernelRun0_B.sl.r_56, kernelRun0_B.sl.r_43, kernelRun0_B.sl.r_74, kernelRun0_B.sl.r_55, kernelRun0_B.sl.r_76, kernelRun0_B.sl.r_80, kernelRun0_B.sl.r_65, kernelRun0_B.sl.r_26, kernelRun0_B.sl.r_79, kernelRun0_B.sl.r_70, kernelRun0_B.sl.r_51, kernelRun0_B.sl.r_53, kernelRun0_B.sl.r_39, kernelRun0_B.sl.r_78, kernelRun0_B.sl.r_45, kernelRun0_B.sl.r_58, kernelRun0_B.sl.r_54, kernelRun0_B.sl.r_67, kernelRun0_B.sl.r_37, kernelRun0_B.sl.r_22, kernelRun0_B.sl.r_29, kernelRun0_B.sl.r_23, kernelRun0_B.sl.r_72, kernelRun0_B.sl.r_24, kernelRun0_B.sl.r_75, kernelRun0_B.sl.r_49, kernelRun0_B.sl.r_48, kernelRun0_B.sl.r_41, kernelRun0_B.sl.r_25, h0, h1, h2, h6, h7, h9, h10, h19, h20, h44, kbetaL, gramL, qkL, scoreL, decayL, decayInL, solvedL, lastL, decayOutL, kdecL, vnewL, outL, keepL, varL, rstdL, coefL, normedL, onormL, scaledL, gateL, dnormL, douL, dkdecL, dscoreL, dvnewL, dqdecL, dqInL, qdqL, dsolvedL, dsolvedL', drhsL, drhsL', dvL, dlowerL, dqL, dkbetaL, dbetaL, dkL, dgapL, dgateL, growL, gcolL, ctgateL V0 _ _ _ _ _ _ _ _ h49, ctnormL V0 _ _ _ _ _ _ _ _ h49, dzL V0 _ _ _ _ _ _ _ _ h49, dlastL, dstateL]
  funext j
  idx_vars j
  canon_tiles x h
  all_goals
    idx_vars x
    open_payloads
    pointwise []
    first
      | exact at_head _ _ _ _ _ _ h0 h1
      | exact at_head _ _ _ _ _ _ h0 (h1.trans (Nat.zero_add _).symm)

theorem out_dvB (T : Tied V0 x0 x1 x2 x3 x4 x5 x6 x7 x8) (hS : xs0 = dS V0) : out0_B_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 xo14 xs0 = rowsOf (dv V0) := by
  have h0 : kernelRun0_B.sl.r c arg8 harg8 x7 = res_main_while0b_v54 V0 := (load4 arg8 harg8 x7).trans T.a
  have h1 : kernelRun0_B.sl.r_1 c arg4 harg4 x3 = gin V0 := (lanes5 arg4 harg4 x3).trans T.g
  have h2 : kernelRun0_B.sl.r_2 c arg4 harg4 x3 = res_main_while0b_v75 V0 := (lanes6 arg4 harg4 x3).trans T.b
  have h6 : kernelRun0_B.sl.r_6 c arg1 harg1 x0 = res_main_while0b_v47 V0 := (heads7 arg1 harg1 x0).trans T.q
  have h7 : kernelRun0_B.sl.r_7 c arg2 harg2 x1 = res_main_while0b_v48 V0 := (heads8 arg2 harg2 x1).trans T.k
  have h9 : kernelRun0_B.sl.r_9 c arg3 harg3 x2 = res_main_while0b_v49 V0 := (heads9 arg3 harg3 x2).trans T.v
  have h10 : kernelRun0_B.sl.r_10 c arg7 harg7 x6 = res_main_while0b_v53 V0 := (load10 arg7 harg7 x6).trans T.s
  have h19 : kernelRun0_B.sl.r_19 c arg5 harg5 x4 = res_main_while0b_v52 V0 := (heads12 arg5 harg5 x4).trans T.z
  have h20 : kernelRun0_B.sl.r_20 c arg6 harg6 x5 = V0 (Proc.devRef .tc Cert.ReferenceIdeal.main_v28_9) := (load20 arg6 harg6 x5).trans T.w
  have h49 := (heads49 arg9 harg9 x8).trans T.d
  have h44 : kernelRun0_B.sl.r_44 c arg16 harg16 xs0 = dS V0 := (load44 arg16 harg16 xs0).trans hS
  unfold out0_B_11
  rw [View.read_writes_junk_eq_canon]
  unfold kernelRun0_B
  dsimp only
  simp only [kernelRun0_B.sl.r_40, kernelRun0_B.sl.r_32, kernelRun0_B.sl.r_50, kernelRun0_B.sl.r_59, kernelRun0_B.sl.r_61, kernelRun0_B.sl.r_30, kernelRun0_B.sl.r_63, kernelRun0_B.sl.r_46, kernelRun0_B.sl.r_38, kernelRun0_B.sl.r_62, kernelRun0_B.sl.r_33, kernelRun0_B.sl.r_73, kernelRun0_B.sl.r_64, kernelRun0_B.sl.r_36, kernelRun0_B.sl.r_31, kernelRun0_B.sl.r_71, kernelRun0_B.sl.r_27, kernelRun0_B.sl.r_35, kernelRun0_B.sl.r_60, kernelRun0_B.sl.r_77, kernelRun0_B.sl.v426, kernelRun0_B.sl.r_21, kernelRun0_B.sl.r_47, kernelRun0_B.sl.r_42, kernelRun0_B.sl.r_57, kernelRun0_B.sl.r_52, kernelRun0_B.sl.r_69, kernelRun0_B.sl.r_28, kernelRun0_B.sl.r_34, kernelRun0_B.sl.r_68, kernelRun0_B.sl.r_66, kernelRun0_B.sl.r_56, kernelRun0_B.sl.r_43, kernelRun0_B.sl.r_74, kernelRun0_B.sl.r_55, kernelRun0_B.sl.r_76, kernelRun0_B.sl.r_80, kernelRun0_B.sl.r_65, kernelRun0_B.sl.r_26, kernelRun0_B.sl.r_79, kernelRun0_B.sl.r_70, kernelRun0_B.sl.r_51, kernelRun0_B.sl.r_53, kernelRun0_B.sl.r_39, kernelRun0_B.sl.r_78, kernelRun0_B.sl.r_45, kernelRun0_B.sl.r_58, kernelRun0_B.sl.r_54, kernelRun0_B.sl.r_67, kernelRun0_B.sl.r_37, kernelRun0_B.sl.r_22, kernelRun0_B.sl.r_29, kernelRun0_B.sl.r_23, kernelRun0_B.sl.r_72, kernelRun0_B.sl.r_24, kernelRun0_B.sl.r_75, kernelRun0_B.sl.r_49, kernelRun0_B.sl.r_48, kernelRun0_B.sl.r_41, kernelRun0_B.sl.r_25, h0, h1, h2, h6, h7, h9, h10, h19, h20, h44, kbetaL, gramL, qkL, scoreL, decayL, decayInL, solvedL, lastL, decayOutL, kdecL, vnewL, outL, keepL, varL, rstdL, coefL, normedL, onormL, scaledL, gateL, dnormL, douL, dkdecL, dscoreL, dvnewL, dqdecL, dqInL, qdqL, dsolvedL, dsolvedL', drhsL, drhsL', dvL, dlowerL, dqL, dkbetaL, dbetaL, dkL, dgapL, dgateL, growL, gcolL, ctgateL V0 _ _ _ _ _ _ _ _ h49, ctnormL V0 _ _ _ _ _ _ _ _ h49, dzL V0 _ _ _ _ _ _ _ _ h49, dlastL, dstateL]
  funext j
  idx_vars j
  canon_tiles x h
  all_goals
    idx_vars x
    open_payloads
    pointwise []
    first
      | exact at_head _ _ _ _ _ _ h0 h1
      | exact at_head _ _ _ _ _ _ h0 (h1.trans (Nat.zero_add _).symm)

theorem out_dzB (T : Tied V0 x0 x1 x2 x3 x4 x5 x6 x7 x8) (hS : xs0 = dS V0) : out0_B_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 xo14 xs0 = rowsOf (dz V0) := by
  have h0 : kernelRun0_B.sl.r c arg8 harg8 x7 = res_main_while0b_v54 V0 := (load4 arg8 harg8 x7).trans T.a
  have h1 : kernelRun0_B.sl.r_1 c arg4 harg4 x3 = gin V0 := (lanes5 arg4 harg4 x3).trans T.g
  have h2 : kernelRun0_B.sl.r_2 c arg4 harg4 x3 = res_main_while0b_v75 V0 := (lanes6 arg4 harg4 x3).trans T.b
  have h6 : kernelRun0_B.sl.r_6 c arg1 harg1 x0 = res_main_while0b_v47 V0 := (heads7 arg1 harg1 x0).trans T.q
  have h7 : kernelRun0_B.sl.r_7 c arg2 harg2 x1 = res_main_while0b_v48 V0 := (heads8 arg2 harg2 x1).trans T.k
  have h9 : kernelRun0_B.sl.r_9 c arg3 harg3 x2 = res_main_while0b_v49 V0 := (heads9 arg3 harg3 x2).trans T.v
  have h10 : kernelRun0_B.sl.r_10 c arg7 harg7 x6 = res_main_while0b_v53 V0 := (load10 arg7 harg7 x6).trans T.s
  have h19 : kernelRun0_B.sl.r_19 c arg5 harg5 x4 = res_main_while0b_v52 V0 := (heads12 arg5 harg5 x4).trans T.z
  have h20 : kernelRun0_B.sl.r_20 c arg6 harg6 x5 = V0 (Proc.devRef .tc Cert.ReferenceIdeal.main_v28_9) := (load20 arg6 harg6 x5).trans T.w
  have h49 := (heads49 arg9 harg9 x8).trans T.d
  have h44 : kernelRun0_B.sl.r_44 c arg16 harg16 xs0 = dS V0 := (load44 arg16 harg16 xs0).trans hS
  unfold out0_B_13
  rw [View.read_writes_junk_eq_canon]
  unfold kernelRun0_B
  dsimp only
  simp only [kernelRun0_B.sl.r_40, kernelRun0_B.sl.r_32, kernelRun0_B.sl.r_50, kernelRun0_B.sl.r_59, kernelRun0_B.sl.r_61, kernelRun0_B.sl.r_30, kernelRun0_B.sl.r_63, kernelRun0_B.sl.r_46, kernelRun0_B.sl.r_38, kernelRun0_B.sl.r_62, kernelRun0_B.sl.r_33, kernelRun0_B.sl.r_73, kernelRun0_B.sl.r_64, kernelRun0_B.sl.r_36, kernelRun0_B.sl.r_31, kernelRun0_B.sl.r_71, kernelRun0_B.sl.r_27, kernelRun0_B.sl.r_35, kernelRun0_B.sl.r_60, kernelRun0_B.sl.r_77, kernelRun0_B.sl.v426, kernelRun0_B.sl.r_21, kernelRun0_B.sl.r_47, kernelRun0_B.sl.r_42, kernelRun0_B.sl.r_57, kernelRun0_B.sl.r_52, kernelRun0_B.sl.r_69, kernelRun0_B.sl.r_28, kernelRun0_B.sl.r_34, kernelRun0_B.sl.r_68, kernelRun0_B.sl.r_66, kernelRun0_B.sl.r_56, kernelRun0_B.sl.r_43, kernelRun0_B.sl.r_74, kernelRun0_B.sl.r_55, kernelRun0_B.sl.r_76, kernelRun0_B.sl.r_80, kernelRun0_B.sl.r_65, kernelRun0_B.sl.r_26, kernelRun0_B.sl.r_79, kernelRun0_B.sl.r_70, kernelRun0_B.sl.r_51, kernelRun0_B.sl.r_53, kernelRun0_B.sl.r_39, kernelRun0_B.sl.r_78, kernelRun0_B.sl.r_45, kernelRun0_B.sl.r_58, kernelRun0_B.sl.r_54, kernelRun0_B.sl.r_67, kernelRun0_B.sl.r_37, kernelRun0_B.sl.r_22, kernelRun0_B.sl.r_29, kernelRun0_B.sl.r_23, kernelRun0_B.sl.r_72, kernelRun0_B.sl.r_24, kernelRun0_B.sl.r_75, kernelRun0_B.sl.r_49, kernelRun0_B.sl.r_48, kernelRun0_B.sl.r_41, kernelRun0_B.sl.r_25, h0, h1, h2, h6, h7, h9, h10, h19, h20, h44, kbetaL, gramL, qkL, scoreL, decayL, decayInL, solvedL, lastL, decayOutL, kdecL, vnewL, outL, keepL, varL, rstdL, coefL, normedL, onormL, scaledL, gateL, dnormL, douL, dkdecL, dscoreL, dvnewL, dqdecL, dqInL, qdqL, dsolvedL, dsolvedL', drhsL, drhsL', dvL, dlowerL, dqL, dkbetaL, dbetaL, dkL, dgapL, dgateL, growL, gcolL, ctgateL V0 _ _ _ _ _ _ _ _ h49, ctnormL V0 _ _ _ _ _ _ _ _ h49, dzL V0 _ _ _ _ _ _ _ _ h49, dlastL, dstateL]
  funext j
  idx_vars j
  canon_tiles x h
  all_goals
    idx_vars x
    open_payloads
    pointwise []
    first
      | exact at_head _ _ _ _ _ _ h0 h1
      | exact at_head _ _ _ _ _ _ h0 (h1.trans (Nat.zero_add _).symm)

theorem out_dgbB (T : Tied V0 x0 x1 x2 x3 x4 x5 x6 x7 x8) (hS : xs0 = dS V0) : out0_B_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 xo14 xs0 = lanesFrom (dbeta V0) (dgate V0) := by
  have h0 : kernelRun0_B.sl.r c arg8 harg8 x7 = res_main_while0b_v54 V0 := (load4 arg8 harg8 x7).trans T.a
  have h1 : kernelRun0_B.sl.r_1 c arg4 harg4 x3 = gin V0 := (lanes5 arg4 harg4 x3).trans T.g
  have h2 : kernelRun0_B.sl.r_2 c arg4 harg4 x3 = res_main_while0b_v75 V0 := (lanes6 arg4 harg4 x3).trans T.b
  have h6 : kernelRun0_B.sl.r_6 c arg1 harg1 x0 = res_main_while0b_v47 V0 := (heads7 arg1 harg1 x0).trans T.q
  have h7 : kernelRun0_B.sl.r_7 c arg2 harg2 x1 = res_main_while0b_v48 V0 := (heads8 arg2 harg2 x1).trans T.k
  have h9 : kernelRun0_B.sl.r_9 c arg3 harg3 x2 = res_main_while0b_v49 V0 := (heads9 arg3 harg3 x2).trans T.v
  have h10 : kernelRun0_B.sl.r_10 c arg7 harg7 x6 = res_main_while0b_v53 V0 := (load10 arg7 harg7 x6).trans T.s
  have h19 : kernelRun0_B.sl.r_19 c arg5 harg5 x4 = res_main_while0b_v52 V0 := (heads12 arg5 harg5 x4).trans T.z
  have h20 : kernelRun0_B.sl.r_20 c arg6 harg6 x5 = V0 (Proc.devRef .tc Cert.ReferenceIdeal.main_v28_9) := (load20 arg6 harg6 x5).trans T.w
  have h49 := (heads49 arg9 harg9 x8).trans T.d
  have h44 : kernelRun0_B.sl.r_44 c arg16 harg16 xs0 = dS V0 := (load44 arg16 harg16 xs0).trans hS
  unfold out0_B_12
  rw [View.read_writes_junk_eq_canon]
  unfold kernelRun0_B
  dsimp only
  simp (disch := decide) only [View.canon_cons_unit_lit', kernelRun0_B.sl.r_72, kernelRun0_B.sl.r_73, kernelRun0_B.sl.r_74, kernelRun0_B.sl.r_75, kernelRun0_B.sl.r_76, kernelRun0_B.sl.r_77, kernelRun0_B.sl.r_78, kernelRun0_B.sl.r_79, kernelRun0_B.sl.r_80, kernelRun0_B.sl.v426]
  simp only [kernelRun0_B.sl.r_40, kernelRun0_B.sl.r_32, kernelRun0_B.sl.r_50, kernelRun0_B.sl.r_59, kernelRun0_B.sl.r_61, kernelRun0_B.sl.r_30, kernelRun0_B.sl.r_63, kernelRun0_B.sl.r_46, kernelRun0_B.sl.r_38, kernelRun0_B.sl.r_62, kernelRun0_B.sl.r_33, kernelRun0_B.sl.r_73, kernelRun0_B.sl.r_64, kernelRun0_B.sl.r_36, kernelRun0_B.sl.r_31, kernelRun0_B.sl.r_71, kernelRun0_B.sl.r_27, kernelRun0_B.sl.r_35, kernelRun0_B.sl.r_60, kernelRun0_B.sl.r_77, kernelRun0_B.sl.v426, kernelRun0_B.sl.r_21, kernelRun0_B.sl.r_47, kernelRun0_B.sl.r_42, kernelRun0_B.sl.r_57, kernelRun0_B.sl.r_52, kernelRun0_B.sl.r_69, kernelRun0_B.sl.r_28, kernelRun0_B.sl.r_34, kernelRun0_B.sl.r_68, kernelRun0_B.sl.r_66, kernelRun0_B.sl.r_56, kernelRun0_B.sl.r_43, kernelRun0_B.sl.r_74, kernelRun0_B.sl.r_55, kernelRun0_B.sl.r_76, kernelRun0_B.sl.r_80, kernelRun0_B.sl.r_65, kernelRun0_B.sl.r_26, kernelRun0_B.sl.r_79, kernelRun0_B.sl.r_70, kernelRun0_B.sl.r_51, kernelRun0_B.sl.r_53, kernelRun0_B.sl.r_39, kernelRun0_B.sl.r_78, kernelRun0_B.sl.r_45, kernelRun0_B.sl.r_58, kernelRun0_B.sl.r_54, kernelRun0_B.sl.r_67, kernelRun0_B.sl.r_37, kernelRun0_B.sl.r_22, kernelRun0_B.sl.r_29, kernelRun0_B.sl.r_23, kernelRun0_B.sl.r_72, kernelRun0_B.sl.r_24, kernelRun0_B.sl.r_75, kernelRun0_B.sl.r_49, kernelRun0_B.sl.r_48, kernelRun0_B.sl.r_41, kernelRun0_B.sl.r_25, h0, h1, h2, h6, h7, h9, h10, h19, h20, h44, kbetaL, gramL, qkL, scoreL, decayL, decayInL, solvedL, lastL, decayOutL, kdecL, vnewL, outL, keepL, varL, rstdL, coefL, normedL, onormL, scaledL, gateL, dnormL, douL, dkdecL, dscoreL, dvnewL, dqdecL, dqInL, qdqL, dsolvedL, dsolvedL', drhsL, drhsL', dvL, dlowerL, dqL, dkbetaL, dbetaL, dkL, dgapL, dgateL, growL, gcolL, ctgateL V0 _ _ _ _ _ _ _ _ h49, ctnormL V0 _ _ _ _ _ _ _ _ h49, dzL V0 _ _ _ _ _ _ _ _ h49, dlastL, dstateL]
  exact lanesL _ _

theorem out_donB (T : Tied V0 x0 x1 x2 x3 x4 x5 x6 x7 x8) (hS : xs0 = dS V0) (hD : xo14 = V0 (Proc.devRef .tc Cert.ReferenceIdeal.main_v28_12)) : out0_B_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 xo14 xs0 = step_main_v28_12 V0 := by
  have h0 : kernelRun0_B.sl.r c arg8 harg8 x7 = res_main_while0b_v54 V0 := (load4 arg8 harg8 x7).trans T.a
  have h1 : kernelRun0_B.sl.r_1 c arg4 harg4 x3 = gin V0 := (lanes5 arg4 harg4 x3).trans T.g
  have h2 : kernelRun0_B.sl.r_2 c arg4 harg4 x3 = res_main_while0b_v75 V0 := (lanes6 arg4 harg4 x3).trans T.b
  have h6 : kernelRun0_B.sl.r_6 c arg1 harg1 x0 = res_main_while0b_v47 V0 := (heads7 arg1 harg1 x0).trans T.q
  have h7 : kernelRun0_B.sl.r_7 c arg2 harg2 x1 = res_main_while0b_v48 V0 := (heads8 arg2 harg2 x1).trans T.k
  have h9 : kernelRun0_B.sl.r_9 c arg3 harg3 x2 = res_main_while0b_v49 V0 := (heads9 arg3 harg3 x2).trans T.v
  have h10 : kernelRun0_B.sl.r_10 c arg7 harg7 x6 = res_main_while0b_v53 V0 := (load10 arg7 harg7 x6).trans T.s
  have h19 : kernelRun0_B.sl.r_19 c arg5 harg5 x4 = res_main_while0b_v52 V0 := (heads12 arg5 harg5 x4).trans T.z
  have h20 : kernelRun0_B.sl.r_20 c arg6 harg6 x5 = V0 (Proc.devRef .tc Cert.ReferenceIdeal.main_v28_9) := (load20 arg6 harg6 x5).trans T.w
  have h49 := (heads49 arg9 harg9 x8).trans T.d
  have h44 : kernelRun0_B.sl.r_44 c arg16 harg16 xs0 = dS V0 := (load44 arg16 harg16 xs0).trans hS
  unfold out0_B_14
  rw [View.read_writes_junk_eq_canon]
  unfold kernelRun0_B
  dsimp only
  simp (disch := decide) only [View.canon_cons_unit_lit']
  simp only [kernelRun0_B.sl.r_40, kernelRun0_B.sl.r_32, kernelRun0_B.sl.r_50, kernelRun0_B.sl.r_59, kernelRun0_B.sl.r_61, kernelRun0_B.sl.r_30, kernelRun0_B.sl.r_63, kernelRun0_B.sl.r_46, kernelRun0_B.sl.r_38, kernelRun0_B.sl.r_62, kernelRun0_B.sl.r_33, kernelRun0_B.sl.r_73, kernelRun0_B.sl.r_64, kernelRun0_B.sl.r_36, kernelRun0_B.sl.r_31, kernelRun0_B.sl.r_71, kernelRun0_B.sl.r_27, kernelRun0_B.sl.r_35, kernelRun0_B.sl.r_60, kernelRun0_B.sl.r_77, kernelRun0_B.sl.v426, kernelRun0_B.sl.r_21, kernelRun0_B.sl.r_47, kernelRun0_B.sl.r_42, kernelRun0_B.sl.r_57, kernelRun0_B.sl.r_52, kernelRun0_B.sl.r_69, kernelRun0_B.sl.r_28, kernelRun0_B.sl.r_34, kernelRun0_B.sl.r_68, kernelRun0_B.sl.r_66, kernelRun0_B.sl.r_56, kernelRun0_B.sl.r_43, kernelRun0_B.sl.r_74, kernelRun0_B.sl.r_55, kernelRun0_B.sl.r_76, kernelRun0_B.sl.r_80, kernelRun0_B.sl.r_65, kernelRun0_B.sl.r_26, kernelRun0_B.sl.r_79, kernelRun0_B.sl.r_70, kernelRun0_B.sl.r_51, kernelRun0_B.sl.r_53, kernelRun0_B.sl.r_39, kernelRun0_B.sl.r_78, kernelRun0_B.sl.r_45, kernelRun0_B.sl.r_58, kernelRun0_B.sl.r_54, kernelRun0_B.sl.r_67, kernelRun0_B.sl.r_37, kernelRun0_B.sl.r_22, kernelRun0_B.sl.r_29, kernelRun0_B.sl.r_23, kernelRun0_B.sl.r_72, kernelRun0_B.sl.r_24, kernelRun0_B.sl.r_75, kernelRun0_B.sl.r_49, kernelRun0_B.sl.r_48, kernelRun0_B.sl.r_41, kernelRun0_B.sl.r_25, h0, h1, h2, h6, h7, h9, h10, h19, h20, h44, kbetaL, gramL, qkL, scoreL, decayL, decayInL, solvedL, lastL, decayOutL, kdecL, vnewL, outL, keepL, varL, rstdL, coefL, normedL, onormL, scaledL, gateL, dnormL, douL, dkdecL, dscoreL, dvnewL, dqdecL, dqInL, qdqL, dsolvedL, dsolvedL', drhsL, drhsL', dvL, dlowerL, dqL, dkbetaL, dbetaL, dkL, dgapL, dgateL, growL, gcolL, ctgateL V0 _ _ _ _ _ _ _ _ h49, ctnormL V0 _ _ _ _ _ _ _ _ h49, dzL V0 _ _ _ _ _ _ _ _ h49, dlastL, dstateL]
  rw [load20, hD]
  exact donL V0

theorem out_dSB (T : Tied V0 x0 x1 x2 x3 x4 x5 x6 x7 x8) (hS : xs0 = dS V0) : sout0_B_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 xo14 xs0 = step_main_v28_11 V0 := by
  have h0 : kernelRun0_B.sl.r c arg8 harg8 x7 = res_main_while0b_v54 V0 := (load4 arg8 harg8 x7).trans T.a
  have h1 : kernelRun0_B.sl.r_1 c arg4 harg4 x3 = gin V0 := (lanes5 arg4 harg4 x3).trans T.g
  have h2 : kernelRun0_B.sl.r_2 c arg4 harg4 x3 = res_main_while0b_v75 V0 := (lanes6 arg4 harg4 x3).trans T.b
  have h6 : kernelRun0_B.sl.r_6 c arg1 harg1 x0 = res_main_while0b_v47 V0 := (heads7 arg1 harg1 x0).trans T.q
  have h7 : kernelRun0_B.sl.r_7 c arg2 harg2 x1 = res_main_while0b_v48 V0 := (heads8 arg2 harg2 x1).trans T.k
  have h9 : kernelRun0_B.sl.r_9 c arg3 harg3 x2 = res_main_while0b_v49 V0 := (heads9 arg3 harg3 x2).trans T.v
  have h10 : kernelRun0_B.sl.r_10 c arg7 harg7 x6 = res_main_while0b_v53 V0 := (load10 arg7 harg7 x6).trans T.s
  have h19 : kernelRun0_B.sl.r_19 c arg5 harg5 x4 = res_main_while0b_v52 V0 := (heads12 arg5 harg5 x4).trans T.z
  have h20 : kernelRun0_B.sl.r_20 c arg6 harg6 x5 = V0 (Proc.devRef .tc Cert.ReferenceIdeal.main_v28_9) := (load20 arg6 harg6 x5).trans T.w
  have h49 := (heads49 arg9 harg9 x8).trans T.d
  have h44 : kernelRun0_B.sl.r_44 c arg16 harg16 xs0 = dS V0 := (load44 arg16 harg16 xs0).trans hS
  unfold sout0_B_0
  rw [View.read_writes_junk_eq_canon]
  unfold kernelRun0_B
  dsimp only
  simp (disch := decide) only [View.canon_cons_unit_lit']
  simp only [kernelRun0_B.sl.r_40, kernelRun0_B.sl.r_32, kernelRun0_B.sl.r_50, kernelRun0_B.sl.r_59, kernelRun0_B.sl.r_61, kernelRun0_B.sl.r_30, kernelRun0_B.sl.r_63, kernelRun0_B.sl.r_46, kernelRun0_B.sl.r_38, kernelRun0_B.sl.r_62, kernelRun0_B.sl.r_33, kernelRun0_B.sl.r_73, kernelRun0_B.sl.r_64, kernelRun0_B.sl.r_36, kernelRun0_B.sl.r_31, kernelRun0_B.sl.r_71, kernelRun0_B.sl.r_27, kernelRun0_B.sl.r_35, kernelRun0_B.sl.r_60, kernelRun0_B.sl.r_77, kernelRun0_B.sl.v426, kernelRun0_B.sl.r_21, kernelRun0_B.sl.r_47, kernelRun0_B.sl.r_42, kernelRun0_B.sl.r_57, kernelRun0_B.sl.r_52, kernelRun0_B.sl.r_69, kernelRun0_B.sl.r_28, kernelRun0_B.sl.r_34, kernelRun0_B.sl.r_68, kernelRun0_B.sl.r_66, kernelRun0_B.sl.r_56, kernelRun0_B.sl.r_43, kernelRun0_B.sl.r_74, kernelRun0_B.sl.r_55, kernelRun0_B.sl.r_76, kernelRun0_B.sl.r_80, kernelRun0_B.sl.r_65, kernelRun0_B.sl.r_26, kernelRun0_B.sl.r_79, kernelRun0_B.sl.r_70, kernelRun0_B.sl.r_51, kernelRun0_B.sl.r_53, kernelRun0_B.sl.r_39, kernelRun0_B.sl.r_78, kernelRun0_B.sl.r_45, kernelRun0_B.sl.r_58, kernelRun0_B.sl.r_54, kernelRun0_B.sl.r_67, kernelRun0_B.sl.r_37, kernelRun0_B.sl.r_22, kernelRun0_B.sl.r_29, kernelRun0_B.sl.r_23, kernelRun0_B.sl.r_72, kernelRun0_B.sl.r_24, kernelRun0_B.sl.r_75, kernelRun0_B.sl.r_49, kernelRun0_B.sl.r_48, kernelRun0_B.sl.r_41, kernelRun0_B.sl.r_25, h0, h1, h2, h6, h7, h9, h10, h19, h20, h44, kbetaL, gramL, qkL, scoreL, decayL, decayInL, solvedL, lastL, decayOutL, kdecL, vnewL, outL, keepL, varL, rstdL, coefL, normedL, onormL, scaledL, gateL, dnormL, douL, dkdecL, dscoreL, dvnewL, dqdecL, dqInL, qdqL, dsolvedL, dsolvedL', drhsL, drhsL', dvL, dlowerL, dqL, dkbetaL, dbetaL, dkL, dgapL, dgateL, growL, gcolL, ctgateL V0 _ _ _ _ _ _ _ _ h49, ctnormL V0 _ _ _ _ _ _ _ _ h49, dzL V0 _ _ _ _ _ _ _ _ h49, dlastL, dstateL]
  exact keptL _
-- ==== Proof.Points.lean ====
module

public import proofs.«01_k».proof.Proof.Gen.KernelIdeal.Value
public import proofs.«01_k».proof.Proof.Gen.ReferenceIdeal.Run
public import Idealize.ShloMosaic.Lib.Pointwise
public import Idealize.ShloMosaic.Lib.Tactic.CleanTypes
public import Idealize.ShloMosaic.Lib.Pipeline.ValueKit.Tiles
public import proofs.«01_k».proof.Proof.Blocks
public import proofs.«01_k».proof.Proof.Entry
public import proofs.«01_k».proof.Proof.FirstChunk
public import proofs.«01_k».proof.Proof.LaterChunk

@[expose] public section

set_option maxRecDepth 16384
set_option maxHeartbeats 2000000

noncomputable section

namespace Cert.Proof.Chunk

open Idealize.ShloMosaic Idealize.ShloMosaic.TcCoe
open Cert.KernelIdeal Cert.KernelIdeal.Gen

open Cert.ReferenceIdeal.Value
open Cert.Proof.Sums hiding Vals

/-! Every grid point of the kernel does what the same turn of the reference's loop does. -/

section Points
variable (m : (ℓ : Loc nD τ sig) → Buf (Elt Ideal) ℓ)
  (m' : (ℓ : Loc Cert.ReferenceIdeal.nD Cert.ReferenceIdeal.τ Cert.ReferenceIdeal.sig) → Buf (Elt Ideal) ℓ) (c : Dev nD)

/-- The two programs are given the same arguments. -/
structure SameArgs : Prop where
  a0 : m' ((c.tc : Thread Cert.ReferenceIdeal.nD Cert.ReferenceIdeal.τ).loc Cert.ReferenceIdeal.main_arg0) = m ((c.tc : Thread nD τ).loc main_arg0)
  a1 : m' ((c.tc : Thread Cert.ReferenceIdeal.nD Cert.ReferenceIdeal.τ).loc Cert.ReferenceIdeal.main_arg1) = m ((c.tc : Thread nD τ).loc main_arg1)
  a2 : m' ((c.tc : Thread Cert.ReferenceIdeal.nD Cert.ReferenceIdeal.τ).loc Cert.ReferenceIdeal.main_arg2) = m ((c.tc : Thread nD τ).loc main_arg2)
  a3 : m' ((c.tc : Thread Cert.ReferenceIdeal.nD Cert.ReferenceIdeal.τ).loc Cert.ReferenceIdeal.main_arg3) = m ((c.tc : Thread nD τ).loc main_arg3)
  a4 : m' ((c.tc : Thread Cert.ReferenceIdeal.nD Cert.ReferenceIdeal.τ).loc Cert.ReferenceIdeal.main_arg4) = m ((c.tc : Thread nD τ).loc main_arg4)
  a5 : m' ((c.tc : Thread Cert.ReferenceIdeal.nD Cert.ReferenceIdeal.τ).loc Cert.ReferenceIdeal.main_arg5) = m ((c.tc : Thread nD τ).loc main_arg5)
  a6 : m' ((c.tc : Thread Cert.ReferenceIdeal.nD Cert.ReferenceIdeal.τ).loc Cert.ReferenceIdeal.main_arg6) = m ((c.tc : Thread nD τ).loc main_arg6)
  a7 : m' ((c.tc : Thread Cert.ReferenceIdeal.nD Cert.ReferenceIdeal.τ).loc Cert.ReferenceIdeal.main_arg7) = m ((c.tc : Thread nD τ).loc main_arg7)
  a8 : m' ((c.tc : Thread Cert.ReferenceIdeal.nD Cert.ReferenceIdeal.τ).loc Cert.ReferenceIdeal.main_arg8) = m ((c.tc : Thread nD τ).loc main_arg8)

variable (H : SameArgs m m' c) (t : Fin cfg0.N)
include H

/-- The contents of the reference's loop before turn `n`. -/
abbrev before (n : ℕ) : Vals := turn (start m' c) n

omit H in
theorem row_at : res_main_while0b_v46 (before m' c t.val) = fun _ => BitVec.ofNat 32 ((⟨63 - t.val, by omega⟩ : Fin 64) : ℕ) :=
  turn_row _ (ctr_entry m' c) t.val (point_lt t)

theorem tied : Tied (before m' c t.val) (iblk m c 0 t) (iblk m c 1 t) (iblk m c 2 t) (iblk m c 3 t) (iblk m c 4 t) (iblk m c 5 t) (iblk m c 6 t) (iblk m c 7 t) (iblk m c 8 t) where
  q := by
    funext j
    idx_vars j
    exact (block0 m c t j1 ⟨128 * j0.val + j2.val, by omega⟩).trans (((v47_at _ _ (row_at m' c t) ..).trans ((congrFun (turn_0 (start m' c) t.val) _).trans ((start_0 m' c ..).trans (congrFun H.a0 _)))).symm)
  k := by
    funext j
    idx_vars j
    exact (block1 m c t j1 ⟨128 * j0.val + j2.val, by omega⟩).trans (((v48_at _ _ (row_at m' c t) ..).trans ((congrFun (turn_1 (start m' c) t.val) _).trans ((start_1 m' c ..).trans (congrFun H.a1 _)))).symm)
  v := by
    funext j
    idx_vars j
    exact (block2 m c t j1 ⟨128 * j0.val + j2.val, by omega⟩).trans (((v49_at _ _ (row_at m' c t) ..).trans ((congrFun (turn_2 (start m' c) t.val) _).trans ((start_2 m' c ..).trans (congrFun H.a2 _)))).symm)
  z := by
    funext j
    idx_vars j
    exact (block4 m c t j1 ⟨128 * j0.val + j2.val, by omega⟩).trans (((v52_at _ _ (row_at m' c t) ..).trans ((congrFun (turn_5 (start m' c) t.val) _).trans ((start_5 m' c ..).trans (congrFun H.a4 _)))).symm)
  d := by
    funext j
    idx_vars j
    exact (block8 m c t j1 ⟨128 * j0.val + j2.val, by omega⟩).trans (((v55_at _ _ (row_at m' c t) ..).trans ((congrFun (turn_8 (start m' c) t.val) _).trans ((start_8 m' c ..).trans (congrFun H.a8 _)))).symm)
  g := by
    funext j
    idx_vars j
    exact (block3 m c t j1 ⟨8 + j0.val, by omega⟩).trans (((gin_at _ _ (row_at m' c t) ..).trans ((congrFun (turn_3 (start m' c) t.val) _).trans ((start_3 m' c ..).trans (congrFun H.a3 _)))).symm)
  b := by
    funext j
    idx_vars j
    exact (block3 m c t j1 ⟨0 + j0.val, by omega⟩).trans (((v75_at _ _ (row_at m' c t) ..).trans ((congrFun (turn_4 (start m' c) t.val) _).trans ((start_4 m' c ..).trans (congrFun H.a3 _)))).symm)
  w := by
    exact (block5 m c t).trans (((turn_9 (start m' c) t.val).trans ((start_9 m' c).trans H.a5)).symm)
  s := by
    funext j
    idx_vars j
    exact (block6 m c t j0 j1 j2).trans (((v53_at _ _ (row_at m' c t) ..).trans ((congrFun (turn_6 (start m' c) t.val) _).trans ((congrFun ((start_6 m' c).trans H.a6) _)))).symm)
  a := by
    funext j
    idx_vars j
    exact (block7 m c t j0 j1 j2).trans (((v54_at _ _ (row_at m' c t) ..).trans ((congrFun (turn_7 (start m' c) t.val) _).trans ((congrFun ((start_7 m' c).trans H.a7) _)))).symm)

omit H in
theorem first_state : zeroS = dS (before m' c 0) := (start_11 m' c).symm

omit H in
theorem first_norm : zeroD = before m' c 0 (Proc.devRef .tc Cert.ReferenceIdeal.main_v28_12) := (start_12 m' c).symm

/-- What a grid point leaves in the carried gradient of the state, and in the gradient of the norm's weights. -/
theorem carried : ∀ (n : ℕ) (hn : n < cfg0.N),
    (outsAt0 m c n hn).2.2.2.2.2.2 = dS (before m' c (n + 1)) ∧ (outsAt0 m c n hn).2.2.2.2.2.1 = before m' c (n + 1) (Proc.devRef .tc Cert.ReferenceIdeal.main_v28_12)
  | 0, hn => by
    have e := outsAt0_A m c ⟨0, hn⟩ rfl
    have T := tied m m' c H ⟨0, hn⟩
    dsimp only at e
    rw [e]
    dsimp only
    exact ⟨(out_dSA (before m' c 0)  (T := T) (hS := first_state m' c) ..).trans (turn_11 _ 0).symm,
      (out_donA (before m' c 0) (T := T) (hS := first_state m' c) (hD := first_norm m' c) ..).trans (turn_12 _ 0).symm⟩
  | n + 1, hn => by
    have ih := carried n (by omega)
    have hlt : n + 1 < 64 := point_lt ⟨n + 1, hn⟩
    have e := outsAt0_B m c ⟨n + 1, hn⟩ (by show ¬ (n + 1) % 64 = 0; omega)
    have T := tied m m' c H ⟨n + 1, hn⟩
    dsimp only at e
    rw [e]
    dsimp only
    exact ⟨(out_dSB (before m' c (n + 1)) (T := T) (hS := ih.1) ..).trans (turn_11 _ (n + 1)).symm,
      (out_donB (before m' c (n + 1)) (T := T) (hS := ih.1) (hD := ih.2) ..).trans (turn_12 _ (n + 1)).symm⟩

theorem point_dq : (outsAt0 m c t.val t.isLt).1 = rowsOf (dq (before m' c t.val)) := by
  have hlt := point_lt t
  have T := tied m m' c H t
  by_cases h0 : t.val % 64 = 0
  · have z : t.val = 0 := by omega
    rw [outsAt0_A m c t h0]
    dsimp only
    exact out_dqA (before m' c t.val) (T := T) (hS := by rw [z]; exact first_state m' c) ..
  · have e : t.val - 1 + 1 = t.val := by omega
    rw [outsAt0_B m c t h0]
    dsimp only
    refine out_dqB (before m' c t.val) (T := T) (hS := ?_) ..
    rw [(carried m m' c H (t.val - 1) (by omega)).1, e]

theorem point_dk : (outsAt0 m c t.val t.isLt).2.1 = rowsOf (dk (before m' c t.val)) := by
  have hlt := point_lt t
  have T := tied m m' c H t
  by_cases h0 : t.val % 64 = 0
  · have z : t.val = 0 := by omega
    rw [outsAt0_A m c t h0]
    dsimp only
    exact out_dkA (before m' c t.val) (T := T) (hS := by rw [z]; exact first_state m' c) ..
  · have e : t.val - 1 + 1 = t.val := by omega
    rw [outsAt0_B m c t h0]
    dsimp only
    refine out_dkB (before m' c t.val) (T := T) (hS := ?_) ..
    rw [(carried m m' c H (t.val - 1) (by omega)).1, e]

theorem point_dv : (outsAt0 m c t.val t.isLt).2.2.1 = rowsOf (dv (before m' c t.val)) := by
  have hlt := point_lt t
  have T := tied m m' c H t
  by_cases h0 : t.val % 64 = 0
  · have z : t.val = 0 := by omega
    rw [outsAt0_A m c t h0]
    dsimp only
    exact out_dvA (before m' c t.val) (T := T) (hS := by rw [z]; exact first_state m' c) ..
  · have e : t.val - 1 + 1 = t.val := by omega
    rw [outsAt0_B m c t h0]
    dsimp only
    refine out_dvB (before m' c t.val) (T := T) (hS := ?_) ..
    rw [(carried m m' c H (t.val - 1) (by omega)).1, e]

theorem point_dgb : (outsAt0 m c t.val t.isLt).2.2.2.1 = lanesFrom (dbeta (before m' c t.val)) (dgate (before m' c t.val)) := by
  have hlt := point_lt t
  have T := tied m m' c H t
  by_cases h0 : t.val % 64 = 0
  · have z : t.val = 0 := by omega
    rw [outsAt0_A m c t h0]
    dsimp only
    exact out_dgbA (before m' c t.val) (T := T) (hS := by rw [z]; exact first_state m' c) ..
  · have e : t.val - 1 + 1 = t.val := by omega
    rw [outsAt0_B m c t h0]
    dsimp only
    refine out_dgbB (before m' c t.val) (T := T) (hS := ?_) ..
    rw [(carried m m' c H (t.val - 1) (by omega)).1, e]

theorem point_dz : (outsAt0 m c t.val t.isLt).2.2.2.2.1 = rowsOf (dz (before m' c t.val)) := by
  have hlt := point_lt t
  have T := tied m m' c H t
  by_cases h0 : t.val % 64 = 0
  · have z : t.val = 0 := by omega
    rw [outsAt0_A m c t h0]
    dsimp only
    exact out_dzA (before m' c t.val) (T := T) (hS := by rw [z]; exact first_state m' c) ..
  · have e : t.val - 1 + 1 = t.val := by omega
    rw [outsAt0_B m c t h0]
    dsimp only
    refine out_dzB (before m' c t.val) (T := T) (hS := ?_) ..
    rw [(carried m m' c H (t.val - 1) (by omega)).1, e]

end Points

end Cert.Proof.Chunk

end
-- ==== Proof.Results.lean ====
module

public import proofs.«01_k».proof.Proof.Gen.KernelIdeal.Value
public import proofs.«01_k».proof.Proof.Gen.ReferenceIdeal.Run
public import Idealize.ShloMosaic.Lib.Pointwise
public import Idealize.ShloMosaic.Lib.Tactic.CleanTypes
public import Idealize.ShloMosaic.Lib.Pipeline.ValueKit
public import proofs.«01_k».proof.Proof.Points

@[expose] public section

set_option maxRecDepth 16384
set_option maxHeartbeats 2000000

noncomputable section

namespace Cert.Proof.Chunk

open Idealize.ShloMosaic Idealize.ShloMosaic.TcCoe
open Cert.KernelIdeal Cert.KernelIdeal.Gen

open Cert.ReferenceIdeal.Value
open Cert.Proof.Sums hiding Vals
open Idealize.ShloMosaic.Pipeline (Dat)

theorem layout_dq (V : Vals) (R : Fin 4096) (C : Fin 1024) : out_main_v37 V (ix2 R C) =
    V (Proc.devRef .tc Cert.ReferenceIdeal.main_v28_13) (ix4 ⟨R.val / 64, by omega⟩ ⟨C.val / 128, by omega⟩ ⟨R.val % 64, by omega⟩ ⟨C.val % 128, by omega⟩) := by
  unfold out_main_v37
  clean_types
  pointwise []

theorem layout_dk (V : Vals) (R : Fin 4096) (C : Fin 1024) : out_main_v39 V (ix2 R C) =
    V (Proc.devRef .tc Cert.ReferenceIdeal.main_v28_14) (ix4 ⟨R.val / 64, by omega⟩ ⟨C.val / 128, by omega⟩ ⟨R.val % 64, by omega⟩ ⟨C.val % 128, by omega⟩) := by
  unfold out_main_v39
  clean_types
  pointwise []

theorem layout_dv (V : Vals) (R : Fin 4096) (C : Fin 1024) : out_main_v41 V (ix2 R C) =
    V (Proc.devRef .tc Cert.ReferenceIdeal.main_v28_15) (ix4 ⟨R.val / 64, by omega⟩ ⟨C.val / 128, by omega⟩ ⟨R.val % 64, by omega⟩ ⟨C.val % 128, by omega⟩) := by
  unfold out_main_v41
  clean_types
  pointwise []

theorem layout_dz (V : Vals) (R : Fin 4096) (C : Fin 1024) : out_main_v44 V (ix2 R C) =
    V (Proc.devRef .tc Cert.ReferenceIdeal.main_v28_18) (ix4 ⟨R.val / 64, by omega⟩ ⟨C.val / 128, by omega⟩ ⟨R.val % 64, by omega⟩ ⟨C.val % 128, by omega⟩) := by
  unfold out_main_v44
  clean_types
  pointwise []

theorem layout_gb (V : Vals) (R : Fin 4096) (C : Fin 128) : out_main_v42 V (ix2 R C) =
    if h : C.val < 8 then V (Proc.devRef .tc Cert.ReferenceIdeal.main_v28_17) (ix3 ⟨R.val / 64, by omega⟩ ⟨C.val, h⟩ ⟨R.val % 64, by omega⟩)
    else if h2 : C.val < 16 then V (Proc.devRef .tc Cert.ReferenceIdeal.main_v28_16) (ix3 ⟨R.val / 64, by omega⟩ ⟨C.val - 8, by omega⟩ ⟨R.val % 64, by omega⟩)
    else (0 : EReal) := by
  have z : FloatOps.sitofp (F := Ideal) (w := 32) .f32 0#32 = (0 : EReal) := by
    show (((0#32 : BitVec 32).toInt : ℝ) : EReal) = 0
    simp
  unfold out_main_v42
  clean_types
  pointwise []
  by_cases h : C.val < 8
  · rw [dif_pos h, dif_pos (by omega), dif_pos h]
  · by_cases h2 : C.val < 16
    · rw [dif_neg h, dif_pos h2, dif_pos h2, dif_neg h]
    · rw [dif_neg h, dif_neg h2, dif_neg h2]
      exact z

section Points
variable (m : (ℓ : Loc nD τ sig) → Buf (Elt Ideal) ℓ)
  (m' : (ℓ : Loc Cert.ReferenceIdeal.nD Cert.ReferenceIdeal.τ Cert.ReferenceIdeal.sig) → Buf (Elt Ideal) ℓ) (c : Dev nD) (H : SameArgs m m' c)
include H

theorem final_dq : (dats m 0 c).arrAt 9 cfg0.N = out_main_v37 (before m' c 64) := by
  refine (dats m 0 c).arrAt_eq_of_covers 9 _ (by decide +kernel) fun t hf y => ?_
  have e := at9 t
  have hlt : t.val < 64 := point_lt t
  have h1 : (y 1).val < 1024 := (y 1).isLt
  have h0 : (y 0).val < 64 := (y 0).isLt
  have p : (win0_9.blk t).view.emb y = ix2 ⟨64 * (63 - t.val) + (y 0).val, by omega⟩ ⟨(y 1).val, h1⟩ := by
    blk_ext [e]
  blk_simp
  rw [after0_9, point_dq m m' c H t, p, layout_dq]
  refine Eq.trans ?_ (rows_dq (start m' c) (ctr_entry m' c) ..).symm
  have q : 63 - (64 * (63 - t.val) + (y 0).val) / 64 = t.val := by omega
  dsimp only
  rw [q]
  unfold rowsOf
  refine congrArg (dq (before m' c t.val)) ?_
  blk_ext

theorem final_dk : (dats m 0 c).arrAt 10 cfg0.N = out_main_v39 (before m' c 64) := by
  refine (dats m 0 c).arrAt_eq_of_covers 10 _ (by decide +kernel) fun t hf y => ?_
  have e := at10 t
  have hlt : t.val < 64 := point_lt t
  have h1 : (y 1).val < 1024 := (y 1).isLt
  have h0 : (y 0).val < 64 := (y 0).isLt
  have p : (win0_10.blk t).view.emb y = ix2 ⟨64 * (63 - t.val) + (y 0).val, by omega⟩ ⟨(y 1).val, h1⟩ := by
    blk_ext [e]
  blk_simp
  rw [after0_10, point_dk m m' c H t, p, layout_dk]
  refine Eq.trans ?_ (rows_dk (start m' c) (ctr_entry m' c) ..).symm
  have q : 63 - (64 * (63 - t.val) + (y 0).val) / 64 = t.val := by omega
  dsimp only
  rw [q]
  unfold rowsOf
  refine congrArg (dk (before m' c t.val)) ?_
  blk_ext

theorem final_dv : (dats m 0 c).arrAt 11 cfg0.N = out_main_v41 (before m' c 64) := by
  refine (dats m 0 c).arrAt_eq_of_covers 11 _ (by decide +kernel) fun t hf y => ?_
  have e := at11 t
  have hlt : t.val < 64 := point_lt t
  have h1 : (y 1).val < 1024 := (y 1).isLt
  have h0 : (y 0).val < 64 := (y 0).isLt
  have p : (win0_11.blk t).view.emb y = ix2 ⟨64 * (63 - t.val) + (y 0).val, by omega⟩ ⟨(y 1).val, h1⟩ := by
    blk_ext [e]
  blk_simp
  rw [after0_11, point_dv m m' c H t, p, layout_dv]
  refine Eq.trans ?_ (rows_dv (start m' c) (ctr_entry m' c) ..).symm
  have q : 63 - (64 * (63 - t.val) + (y 0).val) / 64 = t.val := by omega
  dsimp only
  rw [q]
  unfold rowsOf
  refine congrArg (dv (before m' c t.val)) ?_
  blk_ext

theorem final_dz : (dats m 0 c).arrAt 13 cfg0.N = out_main_v44 (before m' c 64) := by
  refine (dats m 0 c).arrAt_eq_of_covers 13 _ (by decide +kernel) fun t hf y => ?_
  have e := at13 t
  have hlt : t.val < 64 := point_lt t
  have h1 : (y 1).val < 1024 := (y 1).isLt
  have h0 : (y 0).val < 64 := (y 0).isLt
  have p : (win0_13.blk t).view.emb y = ix2 ⟨64 * (63 - t.val) + (y 0).val, by omega⟩ ⟨(y 1).val, h1⟩ := by
    blk_ext [e]
  blk_simp
  rw [after0_13, point_dz m m' c H t, p, layout_dz]
  refine Eq.trans ?_ (rows_dz (start m' c) (ctr_entry m' c) ..).symm
  have q : 63 - (64 * (63 - t.val) + (y 0).val) / 64 = t.val := by omega
  dsimp only
  rw [q]
  unfold rowsOf
  refine congrArg (dz (before m' c t.val)) ?_
  blk_ext

theorem final_dgb : (dats m 0 c).arrAt 12 cfg0.N = out_main_v42 (before m' c 64) := by
  refine (dats m 0 c).arrAt_eq_of_covers 12 _ (by decide +kernel) fun t hf y => ?_
  have e := at12 t
  have hlt : t.val < 64 := point_lt t
  have h1 : (y 1).val < 128 := (y 1).isLt
  have h0 : (y 0).val < 64 := (y 0).isLt
  have p : (win0_12.blk t).view.emb y = ix2 ⟨64 * (63 - t.val) + (y 0).val, by omega⟩ ⟨(y 1).val, h1⟩ := by
    blk_ext [e]
  have q : 63 - (64 * (63 - t.val) + (y 0).val) / 64 = t.val := by omega
  blk_simp
  rw [after0_12, point_dgb m m' c H t, p, layout_gb]
  unfold lanesFrom
  dsimp only
  by_cases h : (y 1).val < 8
  · rw [dif_pos h, dif_pos h]
    refine Eq.trans ?_ (rows_dbeta (start m' c) (ctr_entry m' c) ..).symm
    dsimp only
    rw [q]
    refine congrArg (dbeta (before m' c t.val)) ?_
    blk_ext
  · rw [dif_neg h, dif_neg h]
    by_cases h2 : (y 1).val < 16
    · rw [dif_pos h2, dif_pos h2]
      refine Eq.trans ?_ (rows_dgate (start m' c) (ctr_entry m' c) ..).symm
      dsimp only
      rw [q]
      refine congrArg (dgate (before m' c t.val)) ?_
      blk_ext
    · rw [dif_neg h2, dif_neg h2]

omit H in
theorem last_lt : 63 < cfg0.N := by decide

theorem final_don : (dats m 0 c).arrAt 14 cfg0.N = before m' c 64 (Proc.devRef .tc Cert.ReferenceIdeal.main_v28_12) := by
  obtain ⟨t, ht⟩ : ∃ t : Fin cfg0.N, t = ⟨63, last_lt⟩ := ⟨_, rfl⟩
  refine (dats m 0 c).arrAt_eq_of_after_last 14 t (by rw [ht]; decide +kernel) _ fun j => ?_
  blk_simp
  rw [after0_14]
  have k := (carried m m' c H t.val t.isLt).2
  have q : t.val = 63 := by rw [ht]
  rw [k, q]

end Points

end Cert.Proof.Chunk

end
-- ==== Proof.DownDx.lean ====
module

public import proofs.«01_k».proof.Proof.Gen.Kernel2Ideal.Value
public import proofs.«01_k».proof.Proof.Gen.Reference2Ideal.Run
public import Idealize.ShloMosaic.Lib.Pointwise
public import Idealize.ShloMosaic.Lib.Tactic.CleanTypes
public import Idealize.ShloMosaic.Lib.Pipeline.ValueKit

@[expose] public section

set_option maxRecDepth 16384
set_option maxHeartbeats 2000000

noncomputable section

namespace Cert.Proof.DownDx

open Idealize.ShloMosaic Idealize.ShloMosaic.TcCoe
open Cert.Kernel2Ideal Cert.Kernel2Ideal.Gen
open Idealize.ShloMosaic.Pipeline (Dat)

/-! The gradient that the MLP's second product sends back to its squared relu's argument. Each of the sixteen grid
    points holds a whole row of products, so it finishes its block of the result in one step. -/

section Blocks
variable (m : (ℓ : Loc nD τ sig) → Buf (Elt Ideal) ℓ) (c : Dev nD) (t : Fin cfg0.N)

theorem point_lt : t.val < 16 := lt_of_lt_of_eq t.isLt (show cfg0.N = 16 from N_0)

theorem at0 : (cfg0.win 0).index t = ![t.val % 4, 0] := by
  revert t; decide +kernel

theorem at1 : (cfg0.win 1).index t = ![t.val / 4, 0] := by
  revert t; decide +kernel

theorem at2 : (cfg0.win 2).index t = ![t.val % 4, t.val / 4] := by
  revert t; decide +kernel

theorem at3 : (cfg0.win 3).index t = ![t.val % 4, t.val / 4] := by
  revert t; decide +kernel

theorem block0 (i j : Fin 1024) : iblk m c 0 t (ix2 i j)
    = m ((c : Thread nD τ).loc main_arg0) (ix2 ⟨1024 * (t.val % 4) + i.val, by omega⟩ j) := by
  have e := at0 t
  blk_ext [iblk, V, e]

theorem block1 (i j : Fin 1024) : iblk m c 1 t (ix2 i j)
    = m ((c : Thread nD τ).loc main_arg1) (ix2 ⟨1024 * (t.val / 4) + i.val, by have := point_lt t; omega⟩ j) := by
  have e := at1 t
  blk_ext [iblk, V, e]

theorem block2 (i j : Fin 1024) : iblk m c 2 t (ix2 i j)
    = m ((c : Thread nD τ).loc main_arg2) (ix2 ⟨1024 * (t.val % 4) + i.val, by omega⟩ ⟨1024 * (t.val / 4) + j.val, by have := point_lt t; omega⟩) := by
  have e := at2 t
  blk_ext [iblk, V, e]

end Blocks

/-- The number two, as its single-precision word. -/
abbrev two : EReal := Ideal.ofBits FTy.f32 1073741824#32

/-- What the reference ends with, of its three arguments. -/
def result (a : Vec Ideal S4096x1024 .f32) (w : Vec Ideal S4096x1024 .bf16) (u : Vec Ideal S4096x4096 .bf16) : Vec Ideal S4096x4096 .bf16 :=
  fun i => ((∑ k : Fin 1024, a (ix2 (i 0) k) * w (ix2 (i 1) k)) * two) * max (u i) (0 : EReal)

theorem body (a : Vec Ideal S1024x1024 .f32) (w u : Vec Ideal S1024x1024 .bf16) (p q : Fin 1024) :
    out0_3 a w u (ix2 p q) = ((∑ k : Fin 1024, a (ix2 p k) * w (ix2 q k)) * two) * max (u (ix2 p q)) (0 : EReal) := by
  unfold out0_3
  rw [View.canon_unit_zero]
  · pointwise [k0_pay1]
  · decide

section
variable (m : (ℓ : Loc nD τ sig) → Buf (Elt Ideal) ℓ) (c : Dev nD)

theorem written : (dats m 0 c).arrAt 3 cfg0.N = result (m ((c : Thread nD τ).loc main_arg0)) (m ((c : Thread nD τ).loc main_arg1)) (m ((c : Thread nD τ).loc main_arg2)) := by
  refine (dats m 0 c).arrAt_eq_of_covers 3 _ (by decide +kernel) fun t hf y => ?_
  have e := at3 t
  blk_simp
  rw [after0_3]
  idx_vars y
  rw [body]
  simp only [block0, block1, block2]
  have := point_lt t
  have p : (win0_3.blk t).view.emb (ix2 y0 y1) = ix2 ⟨1024 * (t.val % 4) + y0.val, by omega⟩ ⟨1024 * (t.val / 4) + y1.val, by omega⟩ := by
    blk_ext [e]
  exact (congrArg (result _ _ _) p).symm

end

/-- The reference ends with `result` of its arguments, which it leaves as they were. -/
theorem reference_run (m : (ℓ : Loc Cert.Reference2Ideal.nD Cert.Reference2Ideal.τ Cert.Reference2Ideal.sig) → Buf (Elt Ideal) ℓ)
    (ρ : Dev Cert.Reference2Ideal.nD → PrngReg) :
    θ_run (Cert.Reference2Ideal.defs (F := Ideal)) (onTc (τ := Cert.Reference2Ideal.τ) (Cert.Reference2Ideal.main (F := Ideal))) ⟨m, fun _ => 0, ρ⟩ fun r => ∀ c : Dev Cert.Reference2Ideal.nD,
      r.2.mem ((c.tc : Thread Cert.Reference2Ideal.nD Cert.Reference2Ideal.τ).loc Cert.Reference2Ideal.main_v14)
        = result (m ((c.tc : Thread Cert.Reference2Ideal.nD Cert.Reference2Ideal.τ).loc Cert.Reference2Ideal.main_arg0))
            (m ((c.tc : Thread Cert.Reference2Ideal.nD Cert.Reference2Ideal.τ).loc Cert.Reference2Ideal.main_arg1))
            (m ((c.tc : Thread Cert.Reference2Ideal.nD Cert.Reference2Ideal.τ).loc Cert.Reference2Ideal.main_arg2))
      ∧ r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2) := by
  refine (θ_run Cert.Reference2Ideal.defs _ _).mono (fun r h c => ⟨(h c).1.trans ?_, (h c).2⟩) (Cert.Reference2Ideal.Value.run (F := Ideal) m ρ)
  funext j
  idx_vars j
  pointwise [result]
  split_ifs with hu
  · exact (mul_assoc _ _ _).symm
  · rw [max_eq_right (not_lt.mp hu), mul_zero]

end Cert.Proof.DownDx

end
-- ==== Proof.BlockSums.lean ====
module

public import Idealize.ShloMosaic.Lib.Pointwise

@[expose] public section

noncomputable section

namespace Cert.Proof.BlockSums

/-! A sum taken block by block: what an accumulator holds after its first blocks is the sum of the terms so far. -/

variable {N : ℕ} (f : Fin N → EReal)

/-- The sum of the first `n` terms. -/
def upto (n : ℕ) : EReal := ∑ k ∈ Finset.range n, if h : k < N then f ⟨k, h⟩ else 0

theorem upto_zero : upto f 0 = 0 := rfl

theorem upto_all : upto f N = ∑ k, f k := by
  unfold upto
  rw [Finset.sum_range]
  exact Finset.sum_congr rfl fun k _ => dif_pos k.isLt

/-- A further block of `b` terms. -/
theorem upto_add {b : ℕ} (n : ℕ) (h : n + b ≤ N) (g : Fin b → EReal) (hg : ∀ k : Fin b, g k = f ⟨n + k.val, by omega⟩) :
    upto f n + ∑ k, g k = upto f (n + b) := by
  unfold upto
  rw [Finset.sum_range_add, Finset.sum_range (fun x => dite (n + x < N) _ _)]
  congr 1
  refine Finset.sum_congr rfl fun k _ => ?_
  rw [hg k, dif_pos (show n + k.val < N by omega)]

end Cert.Proof.BlockSums
-- ==== Proof.DownDw.lean ====
module

public import proofs.«01_k».proof.Proof.Gen.Kernel3Ideal.Value
public import proofs.«01_k».proof.Proof.Gen.Reference3Ideal.Run
public import Idealize.ShloMosaic.Lib.Pointwise
public import Idealize.ShloMosaic.Lib.Tactic.CleanTypes
public import Idealize.ShloMosaic.Lib.Pipeline.ValueKit
public import proofs.«01_k».proof.Proof.BlockSums

@[expose] public section

set_option maxRecDepth 16384
set_option maxHeartbeats 2000000

noncomputable section

namespace Cert.Proof.DownDw

open Idealize.ShloMosaic Idealize.ShloMosaic.TcCoe
open Cert.Kernel3Ideal Cert.Kernel3Ideal.Gen
open Idealize.ShloMosaic.Pipeline (Dat)
open Cert.Proof.BlockSums

/-! The gradient of the MLP's second weights. A block of the result takes four grid points, each of which adds the
    products of 1024 rows to the block's accumulator. -/

section Steps
variable (c : Dev nD) (i : grid0.Coords) (arg3 : Memref sig .tc .vmem S1024x2048 .bf16) (harg3 : arg3.IsWhole) (arg4 : Memref sig .tc .vmem S1024x1024 .f32) (harg4 : arg4.IsWhole) (arg5 : Memref sig .tc .vmem S2048x1024 .bf16) (harg5 : arg5.IsWhole) (arg6 : Memref sig .tc .vmem S2048x1024 .f32) (harg6 : arg6.IsWhole)
    (u : Vec Ideal S1024x2048 .bf16) (d : Vec Ideal S1024x1024 .f32) (acc : Vec Ideal S2048x1024 .f32) (p : Fin 2048) (q : Fin 1024)

/-- What one grid point adds. -/
def part : EReal := ∑ k : Fin 1024, (max (u (ix2 k p)) (0 : EReal) * max (u (ix2 k p)) (0 : EReal)) * d (ix2 k q)

theorem first (hc0 : cond0_0 i) (hc1 : ¬cond0_1 i) :
    sout0_A_0 c i arg3 harg3 arg4 harg4 arg5 harg5 arg6 harg6 hc0 hc1 u d (ix2 p q) = part u d p q := by
  frame_out
  pointwise [k0_pay1, k0_pay2, k0_pay3, part]

theorem next (hc0 : ¬cond0_0 i) (hc1 : ¬cond0_1 i) :
    sout0_B_0 c i arg3 harg3 arg4 harg4 arg5 harg5 arg6 harg6 hc0 hc1 u d acc (ix2 p q) = acc (ix2 p q) + part u d p q := by
  frame_out
  pointwise [k0_pay1, k0_pay2, k0_pay3, part]

theorem last (hc0 : ¬cond0_0 i) (hc1 : cond0_1 i) :
    out0_C_2 c i arg3 harg3 arg4 harg4 arg5 harg5 arg6 harg6 hc0 hc1 u d acc (ix2 p q) = acc (ix2 p q) + part u d p q := by
  frame_out
  pointwise [k0_pay1, k0_pay2, k0_pay3, part]

end Steps

section Blocks
variable (m : (ℓ : Loc nD τ sig) → Buf (Elt Ideal) ℓ) (c : Dev nD) (t : Fin cfg0.N)

theorem point_lt : t.val < 8 := lt_of_lt_of_eq t.isLt (show cfg0.N = 8 from N_0)

theorem at0 : (cfg0.win 0).index t = ![t.val % 4, t.val / 4] := by
  revert t; decide +kernel

theorem at1 : (cfg0.win 1).index t = ![t.val % 4, 0] := by
  revert t; decide +kernel

theorem at2 : (cfg0.win 2).index t = ![t.val / 4, 0] := by
  revert t; decide +kernel

theorem block0 (i : Fin 1024) (j : Fin 2048) : iblk m c 0 t (ix2 i j)
    = m ((c : Thread nD τ).loc main_arg0) (ix2 ⟨1024 * (t.val % 4) + i.val, by omega⟩ ⟨2048 * (t.val / 4) + j.val, by have := point_lt t; omega⟩) := by
  have e := at0 t
  blk_ext [iblk, V, e]

theorem block1 (i j : Fin 1024) : iblk m c 1 t (ix2 i j)
    = m ((c : Thread nD τ).loc main_arg1) (ix2 ⟨1024 * (t.val % 4) + i.val, by omega⟩ j) := by
  have e := at1 t
  blk_ext [iblk, V, e]

end Blocks

/-- One product of the sum that makes an entry of the result. -/
def term (u : Vec Ideal S4096x4096 .bf16) (d : Vec Ideal S4096x1024 .f32) (p : Fin 4096) (q : Fin 1024) (k : Fin 4096) : EReal :=
  (max (u (ix2 k p)) (0 : EReal) * max (u (ix2 k p)) (0 : EReal)) * d (ix2 k q)

/-- The result, as a function of the arguments. -/
def result (u : Vec Ideal S4096x4096 .bf16) (d : Vec Ideal S4096x1024 .f32) : Vec Ideal S4096x1024 .bf16 :=
  fun i => ∑ k, term u d (i 0) (i 1) k

section Points
variable (m : (ℓ : Loc nD τ sig) → Buf (Elt Ideal) ℓ) (c : Dev nD)

/-- The products that make entry (`p`, `q`) of the block point `t` works on. -/
abbrev terms (t : Fin cfg0.N) (p : Fin 2048) (q : Fin 1024) : Fin 4096 → EReal :=
  term (m ((c : Thread nD τ).loc main_arg0)) (m ((c : Thread nD τ).loc main_arg1)) ⟨2048 * (t.val / 4) + p.val, by have := point_lt t; omega⟩ q

/-- A point takes the sum from the products before its own rows to those of its rows. -/
theorem adds (t : Fin cfg0.N) (p : Fin 2048) (q : Fin 1024) :
    upto (terms m c t p q) (1024 * (t.val % 4)) + part (iblk m c 0 t) (iblk m c 1 t) p q = upto (terms m c t p q) (1024 * (t.val % 4) + 1024) := by
  refine upto_add _ _ (by omega) _ fun k => ?_
  rw [block0, block1]
  rfl

theorem terms_pred {n : ℕ} (hn : n + 1 < cfg0.N) (h : ¬ (n + 1) % 4 = 0) (p : Fin 2048) (q : Fin 1024) :
    upto (terms m c ⟨n, by omega⟩ p q) (1024 * (n % 4) + 1024) = upto (terms m c ⟨n + 1, hn⟩ p q) (1024 * ((n + 1) % 4)) := by
  have e : n / 4 = (n + 1) / 4 := by omega
  have e' : 1024 * (n % 4) + 1024 = 1024 * ((n + 1) % 4) := by omega
  unfold terms
  simp only [e, e']

/-- What the accumulator holds after a point that is not its block's last. -/
theorem carried : ∀ (n : ℕ) (hn : n < cfg0.N), ¬ n % 4 = 3 → ∀ (p : Fin 2048) (q : Fin 1024),
    (outsAt0 m c n hn).2 (ix2 p q) = upto (terms m c ⟨n, hn⟩ p q) (1024 * (n % 4) + 1024)
  | 0, hn, h3, p, q => by
    have e := outsAt0_A m c ⟨0, hn⟩ rfl (show ¬ 0 % 4 = 3 by decide)
    dsimp only at e
    rw [e]
    dsimp only
    refine (first ..).trans ?_
    refine Eq.trans ?_ (adds m c ⟨0, hn⟩ p q)
    exact (zero_add _).symm
  | n + 1, hn, h3, p, q => by
    by_cases h0 : (n + 1) % 4 = 0
    · have e := outsAt0_A m c ⟨n + 1, hn⟩ h0 h3
      have a := adds m c ⟨n + 1, hn⟩ p q
      dsimp only at e a
      rw [e, ← a]
      dsimp only
      refine (first ..).trans (Eq.trans (zero_add _).symm (congrArg (· + _) ?_))
      rw [h0]
      rfl
    · have e := outsAt0_B m c ⟨n + 1, hn⟩ h0 h3
      have a := adds m c ⟨n + 1, hn⟩ p q
      dsimp only [Nat.add_sub_cancel] at e a
      rw [e, ← a, ← terms_pred m c hn h0]
      dsimp only
      exact (next ..).trans (congrArg (· + _) (carried n (by omega) (by omega) p q))

/-- What the accumulator holds when a point that is not its block's first begins. -/
theorem entering (t : Fin cfg0.N) (h0 : ¬ t.val % 4 = 0) (p : Fin 2048) (q : Fin 1024) :
    (outsAt0 m c (t.val - 1) (Nat.lt_of_le_of_lt (Nat.sub_le _ _) t.isLt)).2 (ix2 p q) = upto (terms m c t p q) (1024 * (t.val % 4)) := by
  obtain ⟨n, hn⟩ := t
  cases n with
  | zero => exact absurd rfl h0
  | succ n =>
    have h : ¬ (n + 1) % 4 = 0 := h0
    exact (carried m c n (by omega) (by omega) p q).trans (terms_pred m c hn h p q)

/-- What a block's last point stores. -/
theorem stored (t : Fin cfg0.N) (h3 : t.val % 4 = 3) (p : Fin 2048) (q : Fin 1024) :
    (outsAt0 m c t.val t.isLt).1 (ix2 p q) = ∑ k, terms m c t p q k := by
  have h0 : ¬ t.val % 4 = 0 := by omega
  have e : 1024 * (t.val % 4) + 1024 = 4096 := by omega
  refine Eq.trans ?_ ((congrArg (upto (terms m c t p q)) e).trans (upto_all _))
  refine Eq.trans ?_ (adds m c t p q)
  refine Eq.trans ?_ (congrArg (fun x : EReal => x + part (iblk m c 0 t) (iblk m c 1 t) p q) (entering m c t h0 p q))
  rw [outsAt0_C m c t h0 h3]
  dsimp only
  exact last ..

theorem written : (dats m 0 c).arrAt 2 cfg0.N
    = result (m ((c : Thread nD τ).loc main_arg0)) (m ((c : Thread nD τ).loc main_arg1)) := by
  refine (dats m 0 c).arrAt_eq_of_covers 2 _ (by decide +kernel) fun t hf y => ?_
  have e := at2 t
  have h3 : t.val % 4 = 3 := (flush0_2 t).mp hf
  have := point_lt t
  blk_simp
  rw [after0_2]
  idx_vars y
  have p : (win0_2.blk t).view.emb (ix2 y0 y1) = ix2 ⟨2048 * (t.val / 4) + y0.val, by omega⟩ y1 := by
    blk_ext [e]
  exact (stored m c t h3 y0 y1).trans (congrArg (result _ _) p).symm

end Points

/-- The reference ends with `result` of its arguments, which it leaves as they were. -/
theorem reference_run (m : (ℓ : Loc Cert.Reference3Ideal.nD Cert.Reference3Ideal.τ Cert.Reference3Ideal.sig) → Buf (Elt Ideal) ℓ)
    (ρ : Dev Cert.Reference3Ideal.nD → PrngReg) :
    θ_run (Cert.Reference3Ideal.defs (F := Ideal)) (onTc (τ := Cert.Reference3Ideal.τ) (Cert.Reference3Ideal.main (F := Ideal))) ⟨m, fun _ => 0, ρ⟩ fun r => ∀ c : Dev Cert.Reference3Ideal.nD,
      r.2.mem ((c.tc : Thread Cert.Reference3Ideal.nD Cert.Reference3Ideal.τ).loc Cert.Reference3Ideal.main_v7)
        = result (m ((c.tc : Thread Cert.Reference3Ideal.nD Cert.Reference3Ideal.τ).loc Cert.Reference3Ideal.main_arg0))
            (m ((c.tc : Thread Cert.Reference3Ideal.nD Cert.Reference3Ideal.τ).loc Cert.Reference3Ideal.main_arg1))
      ∧ r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1) := by
  refine (θ_run Cert.Reference3Ideal.defs _ _).mono (fun r h c => ⟨(h c).1.trans ?_, (h c).2⟩) (Cert.Reference3Ideal.Value.run (F := Ideal) m ρ)
  funext j
  idx_vars j
  pointwise [result, term]
  exact Finset.sum_congr rfl fun k _ => mul_comm _ _

end Cert.Proof.DownDw
-- ==== Proof.UpDw.lean ====
module

public import proofs.«01_k».proof.Proof.Gen.Kernel4Ideal.Value
public import proofs.«01_k».proof.Proof.Gen.Reference4Ideal.Run
public import Idealize.ShloMosaic.Lib.Pointwise
public import Idealize.ShloMosaic.Lib.Tactic.CleanTypes
public import Idealize.ShloMosaic.Lib.Pipeline.ValueKit
public import Idealize.ShloMosaic.Lib.Pipeline.ValueKit.Tiles
public import proofs.«01_k».proof.Proof.BlockSums

@[expose] public section

set_option maxRecDepth 16384
set_option maxHeartbeats 2000000

noncomputable section

namespace Cert.Proof.UpDw

open Idealize.ShloMosaic Idealize.ShloMosaic.TcCoe
open Cert.Kernel4Ideal Cert.Kernel4Ideal.Gen
open Idealize.ShloMosaic.Pipeline (Dat)
open Cert.Proof.BlockSums

/-! The gradient of the MLP's first weights. A block of the result, the columns of four devices, takes two grid points:
    the first sets the accumulator to the products of 2048 rows, the second adds those of the other 2048 and stores. -/

section Steps
variable (c : Dev nD) (i : grid0.Coords) (arg3 : Memref sig .tc .vmem S2048x1024 .bf16) (harg3 : arg3.IsWhole) (arg4 : Memref sig .tc .vmem S2048x2048 .bf16) (harg4 : arg4.IsWhole) (arg5 : Memref sig .tc .vmem S4x1024x512 .bf16) (harg5 : arg5.IsWhole) (arg6 : Memref sig .tc .vmem S1024x2048 .f32) (harg6 : arg6.IsWhole)
    (n : Vec Ideal S2048x1024 .bf16) (d : Vec Ideal S2048x2048 .bf16) (acc : Vec Ideal S1024x2048 .f32)

/-- What one grid point adds. -/
def part (p : Fin 1024) (q : Fin 2048) : EReal := ∑ k : Fin 2048, n (ix2 k p) * d (ix2 k q)

theorem first (hc0 : cond0_0 i) (hc1 : ¬cond0_1 i) (p : Fin 1024) (q : Fin 2048) :
    sout0_A_0 c i arg3 harg3 arg4 harg4 arg5 harg5 arg6 harg6 hc0 hc1 n d (ix2 p q) = part n d p q := by
  frame_out
  pointwise [k0_pay1, k0_pay2, part]

/-- The sum depends on the entry's place alone. -/
theorem same_entry {p p' : Fin 1024} {q q' : Fin 2048} (hp : p'.val = p.val) (hq : q'.val = q.val) :
    acc (ix2 p q) + part n d p q = acc (ix2 p' q') + part n d p' q' := by
  rw [Fin.ext hp, Fin.ext hq]

theorem last (hc0 : ¬cond0_0 i) (hc1 : cond0_1 i) (e : Fin 4) (p : Fin 1024) (l : Fin 512) :
    out0_B_2 c i arg3 harg3 arg4 harg4 arg5 harg5 arg6 harg6 hc0 hc1 n d acc (ix3 e p l)
      = acc (ix2 p ⟨512 * e.val + l.val, by omega⟩) + part n d p ⟨512 * e.val + l.val, by omega⟩ := by
  frame_out
  canon_tiles x h
  all_goals
    idx_vars x
    pointwise [k0_pay2, k0_pay3, k0_pay4, k0_pay5, k0_pay6]
    exact same_entry n d acc (by omega) (by dsimp only; omega)

end Steps

section Points
variable (m : (ℓ : Loc nD τ sig) → Buf (Elt Ideal) ℓ) (c : Dev nD) (t : Fin cfg0.N)

theorem point_lt : t.val < 4 := lt_of_lt_of_eq t.isLt (show cfg0.N = 4 from N_0)

theorem at0 : (cfg0.win 0).index t = ![t.val % 2, 0] := by
  revert t; decide +kernel

theorem at1 : (cfg0.win 1).index t = ![t.val % 2, t.val / 2] := by
  revert t; decide +kernel

theorem at2 : (cfg0.win 2).index t = ![t.val / 2, 0, 0] := by
  revert t; decide +kernel

theorem block0 (i : Fin 2048) (j : Fin 1024) : iblk m c 0 t (ix2 i j)
    = m ((c : Thread nD τ).loc main_arg0) (ix2 ⟨2048 * (t.val % 2) + i.val, by omega⟩ j) := by
  have e := at0 t
  blk_ext [iblk, V, e]

theorem block1 (i j : Fin 2048) : iblk m c 1 t (ix2 i j)
    = m ((c : Thread nD τ).loc main_arg1) (ix2 ⟨2048 * (t.val % 2) + i.val, by omega⟩ ⟨2048 * (t.val / 2) + j.val, by have := point_lt t; omega⟩) := by
  have e := at1 t
  blk_ext [iblk, V, e]

/-- One product of the sum that makes an entry of the gradient. -/
def term (n : Vec Ideal S4096x1024 .bf16) (d : Vec Ideal S4096x4096 .bf16) (p : Fin 1024) (q : Fin 4096) (k : Fin 4096) : EReal :=
  n (ix2 k p) * d (ix2 k q)

/-- The result, as a function of the arguments: the gradient's columns, device by device. -/
def result (n : Vec Ideal S4096x1024 .bf16) (d : Vec Ideal S4096x4096 .bf16) : Vec Ideal S8x1024x512 .bf16 :=
  fun i => ∑ k, term n d (i 1) ⟨512 * (i 0).val + (i 2).val, by have h : (i 0).val < 8 := (i 0).isLt; have h' : (i 2).val < 512 := (i 2).isLt; omega⟩ k

/-- The products that make entry (`p`, `q`) of the columns point `t` works on. -/
abbrev terms (p : Fin 1024) (q : Fin 2048) : Fin 4096 → EReal :=
  term (m ((c : Thread nD τ).loc main_arg0)) (m ((c : Thread nD τ).loc main_arg1)) p ⟨2048 * (t.val / 2) + q.val, by have := point_lt t; omega⟩

/-- A point takes the sum from the products before its own rows to those of its rows. -/
theorem adds (p : Fin 1024) (q : Fin 2048) :
    upto (terms m c t p q) (2048 * (t.val % 2)) + part (iblk m c 0 t) (iblk m c 1 t) p q = upto (terms m c t p q) (2048 * (t.val % 2) + 2048) := by
  refine upto_add _ _ (by omega) _ fun k => ?_
  rw [block0, block1]
  rfl

/-- What the accumulator holds after a block's first point. -/
theorem carried (h0 : t.val % 2 = 0) (p : Fin 1024) (q : Fin 2048) :
    (outsAt0 m c t.val t.isLt).2 (ix2 p q) = upto (terms m c t p q) 2048 := by
  have a := adds m c t p q
  rw [h0] at a
  rw [outsAt0_A m c t h0 (by omega)]
  dsimp only
  exact (first ..).trans ((zero_add _).symm.trans a)

theorem entering (h1 : t.val % 2 = 1) (p : Fin 1024) (q : Fin 2048) :
    (outsAt0 m c (t.val - 1) (Nat.lt_of_le_of_lt (Nat.sub_le _ _) t.isLt)).2 (ix2 p q) = upto (terms m c t p q) 2048 := by
  refine (carried m c ⟨t.val - 1, Nat.lt_of_le_of_lt (Nat.sub_le _ _) t.isLt⟩ (show (t.val - 1) % 2 = 0 by omega) p q).trans ?_
  have e : (t.val - 1) / 2 = t.val / 2 := by omega
  unfold terms
  simp only [e]

/-- What a block's last point stores. -/
theorem stored (h1 : t.val % 2 = 1) (e : Fin 4) (p : Fin 1024) (l : Fin 512) :
    (outsAt0 m c t.val t.isLt).1 (ix3 e p l) = ∑ k, terms m c t p ⟨512 * e.val + l.val, by omega⟩ k := by
  have a := adds m c t p ⟨512 * e.val + l.val, by omega⟩
  rw [h1] at a
  refine Eq.trans ?_ (a.trans (upto_all _))
  refine Eq.trans ?_ (congrArg (fun x : EReal => x + part (iblk m c 0 t) (iblk m c 1 t) p ⟨512 * e.val + l.val, by omega⟩) (entering m c t h1 p _))
  rw [outsAt0_B m c t (by omega) h1]
  dsimp only
  exact last ..

theorem written : (dats m 0 c).arrAt 2 cfg0.N
    = result (m ((c : Thread nD τ).loc main_arg0)) (m ((c : Thread nD τ).loc main_arg1)) := by
  refine (dats m 0 c).arrAt_eq_of_covers 2 _ (by decide +kernel) fun t hf y => ?_
  have e := at2 t
  have h1 : t.val % 2 = 1 := (flush0_2 t).mp hf
  have := point_lt t
  blk_simp
  rw [after0_2]
  idx_vars y
  have p : (win0_2.blk t).view.emb (ix3 y0 y1 y2) = ix3 ⟨4 * (t.val / 2) + y0.val, by omega⟩ y1 y2 := by
    blk_ext [e]
  refine (stored m c t h1 y0 y1 y2).trans (Eq.trans ?_ (congrArg (result _ _) p).symm)
  have q : 2048 * (t.val / 2) + (512 * y0.val + y2.val) = 512 * (4 * (t.val / 2) + y0.val) + y2.val := by omega
  unfold result terms
  simp only [q]
  rfl

end Points

/-- The reference ends with `result` of its arguments, which it leaves as they were. -/
theorem reference_run (m : (ℓ : Loc Cert.Reference4Ideal.nD Cert.Reference4Ideal.τ Cert.Reference4Ideal.sig) → Buf (Elt Ideal) ℓ)
    (ρ : Dev Cert.Reference4Ideal.nD → PrngReg) :
    θ_run (Cert.Reference4Ideal.defs (F := Ideal)) (onTc (τ := Cert.Reference4Ideal.τ) (Cert.Reference4Ideal.main (F := Ideal))) ⟨m, fun _ => 0, ρ⟩ fun r => ∀ c : Dev Cert.Reference4Ideal.nD,
      r.2.mem ((c.tc : Thread Cert.Reference4Ideal.nD Cert.Reference4Ideal.τ).loc Cert.Reference4Ideal.main_v8)
        = result (m ((c.tc : Thread Cert.Reference4Ideal.nD Cert.Reference4Ideal.τ).loc Cert.Reference4Ideal.main_arg0))
            (m ((c.tc : Thread Cert.Reference4Ideal.nD Cert.Reference4Ideal.τ).loc Cert.Reference4Ideal.main_arg1))
      ∧ r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1) := by
  refine (θ_run Cert.Reference4Ideal.defs _ _).mono (fun r h c => ⟨(h c).1.trans ?_, (h c).2⟩) (Cert.Reference4Ideal.Value.run (F := Ideal) m ρ)
  funext j
  idx_vars j
  pointwise [result, term]
  simp only [Nat.mul_comm j0.val 512]
  exact Finset.sum_congr rfl fun k _ => mul_comm _ _

end Cert.Proof.UpDw
-- ==== Proof.Rms.lean ====
module

public import Idealize.ShloMosaic.Lib.Pointwise

@[expose] public section

noncomputable section

namespace Cert.Proof.Rms

open Idealize.ShloMosaic

/-! The root-mean-square norm of one row of 1024 numbers, and its gradient. -/

/-- The number of entries of a row, as its single-precision word. -/
abbrev count : EReal := Ideal.ofBits FTy.f32 1149239296#32

/-- What is added to a row's mean square, as its single-precision word. -/
abbrev tiny : EReal := Ideal.ofBits FTy.f32 897988541#32

/-- Minus a half, as its single-precision word. -/
abbrev minusHalf : EReal := Ideal.ofBits FTy.f32 3204448256#32

variable (x a g d : Fin 1024 → EReal) (q : Fin 1024)

/-- A row's mean square, with the small number added. -/
def square : EReal := Ideal.div (∑ k, x k * x k) count + tiny

/-- What a row is multiplied by. -/
def scale : EReal := Ideal.rsqrt (square x)

/-- An entry of the normed row. -/
def norm : EReal := x q * scale x * g q

/-- What the gradient `a` of the normed row sends back to the row's mean square, for each entry. -/
def back : EReal := Ideal.div ((∑ k, x k * (a k * g k)) * (minusHalf * Ideal.div (scale x) (square x))) count

/-- An entry of the row's gradient: `d` from elsewhere, and what `a` sends back. -/
def grad : EReal := d q + (a q * g q * scale x + x q * back x a g + back x a g * x q)

variable {x a g d} {x' a' g' d' : Fin 1024 → EReal}

theorem norm_congr (hx : ∀ k, x k = x' k) (hg : ∀ k, g k = g' k) : norm x g q = norm x' g' q := by
  rw [funext hx, funext hg]

theorem grad_congr (hx : ∀ k, x k = x' k) (ha : ∀ k, a k = a' k) (hg : ∀ k, g k = g' k) (hd : ∀ k, d k = d' k) :
    grad x a g d q = grad x' a' g' d' q := by
  rw [funext hx, funext ha, funext hg, funext hd]

end Cert.Proof.Rms
-- ==== Proof.UpDx.lean ====
module

public import proofs.«01_k».proof.Proof.Gen.Kernel5Ideal.Value
public import proofs.«01_k».proof.Proof.Gen.Reference5Ideal.Run
public import Idealize.ShloMosaic.Lib.Pointwise
public import Idealize.ShloMosaic.Lib.Tactic.CleanTypes
public import Idealize.ShloMosaic.Lib.Pipeline.ValueKit
public import Idealize.ShloMosaic.Lib.Pipeline.ValueKit.Tiles
public import Idealize.ShloMosaic.Lib.Pipeline.ReadBack
public import proofs.«01_k».proof.Proof.BlockSums
public import proofs.«01_k».proof.Proof.Rms

@[expose] public section

set_option maxRecDepth 16384
set_option maxHeartbeats 2000000

noncomputable section

namespace Cert.Proof.UpDx

open Idealize.ShloMosaic Idealize.ShloMosaic.TcCoe
open Cert.Kernel5Ideal Cert.Kernel5Ideal.Gen
open Idealize.ShloMosaic.Pipeline (Dat)
open Cert.Proof.BlockSums Cert.Proof.Rms

/-! The gradient that the MLP sends back through its first product and its norm. A row block of the argument's gradient
    takes two grid points: the first sets the accumulator to the products with four devices' columns, the second adds
    those with the other four's and sends the sums back through the norm, half the rows at a time. The gains' gradient is
    summed over the row blocks as they finish. -/

section Slabs
variable (a h d : Vec Ideal S512x1024 .f32) (g : Vec Ideal S1x1024 .f32) (sum : FVec Ideal S1x1024 .f32) (p : Fin 512) (q : Fin 1024)

theorem slab_square : k0_pay2 h (ix2 p 0) = square (fun k => h (ix2 p k)) := by
  pointwise [k0_pay2, square]

theorem slab_scale : k0_pay3 h (ix2 p 0) = scale (fun k => h (ix2 p k)) := by
  pointwise [k0_pay3, scale, slab_square]

/-- What half a block's rows store. -/
theorem slab : k0_pay5 a h d g (ix2 p q)
    = grad (fun k => h (ix2 p k)) (fun k => a (ix2 p k)) (fun k => g (ix2 0 k)) (fun k => d (ix2 p k)) q := by
  pointwise [k0_pay5, grad, back, slab_square, slab_scale]
  simp only [Fin.sum_univ_one, slab_square, slab_scale]

theorem slab' : k0_pay8 a h d g (ix2 p q)
    = grad (fun k => h (ix2 p k)) (fun k => a (ix2 p k)) (fun k => g (ix2 0 k)) (fun k => d (ix2 p k)) q :=
  slab a h d g p q

/-- What half a block's rows add to the gains' gradient. -/
def gains : EReal := ∑ r : Fin 512, h (ix2 r q) * scale (fun k => h (ix2 r k)) * a (ix2 r q)

theorem slab_gain : k0_pay4 a h (ix2 0 q) = gains a h q := by
  pointwise [k0_pay4, gains, slab_scale]

theorem slab_gain' : k0_pay9 sum a h (ix2 0 q) = sum (ix2 0 q) + gains a h q := by
  rw [← slab_gain]
  pointwise [k0_pay9, k0_pay4]
  rfl

end Slabs

section Steps
variable (c : Dev nD) (i : grid0.Coords) (arg3 : Memref sig .tc .vmem S1024x2048 .bf16) (harg3 : arg3.IsWhole) (arg4 : Memref sig .tc .vmem S4x1024x512 .bf16) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1x1024 .f32) (harg9 : arg9.IsWhole) (arg10 : Memref sig .tc .vmem S1024x1024 .f32) (harg10 : arg10.IsWhole)
    (du : Vec Ideal S1024x2048 .bf16) (w : Vec Ideal S4x1024x512 .bf16) (h dh : Vec Ideal S1024x1024 .f32) (gain sum : Vec Ideal S1x1024 .f32) (acc : Vec Ideal S1024x1024 .f32) (p q : Fin 1024)

/-- The products with one device's columns. -/
def quarter (e : Fin 4) : EReal := ∑ l : Fin 512, du (ix2 p ⟨512 * e.val + l.val, by omega⟩) * w (ix3 e q l)

/-- What one grid point adds. -/
def part : EReal := quarter du w p q 0 + quarter du w p q 1 + quarter du w p q 2 + quarter du w p q 3

theorem added : k0_pay11 acc du (View.ld w (Rect.unit ![0, 0, 0] ![1, 1024, 512] inb_S4x1024x512_S1x1024x512_0_0_0))
    (View.ld w (Rect.unit ![1, 0, 0] ![1, 1024, 512] inb_S4x1024x512_S1x1024x512_1_0_0))
    (View.ld w (Rect.unit ![2, 0, 0] ![1, 1024, 512] inb_S4x1024x512_S1x1024x512_2_0_0))
    (View.ld w (Rect.unit ![3, 0, 0] ![1, 1024, 512] inb_S4x1024x512_S1x1024x512_3_0_0)) (ix2 p q) = acc (ix2 p q) + part du w p q := by
  pointwise [k0_pay11, part, quarter]

theorem first (hc0 : cond0_0 i) (hc1 : ¬cond0_1 i) :
    sout0_A_0 c i arg3 harg3 arg4 harg4 arg5 harg5 arg6 harg6 arg7 harg7 arg8 harg8 arg9 harg9 arg10 harg10 hc0 hc1 du w h dh gain (ix2 p q) = part du w p q := by
  frame_out
  pointwise [k0_pay10, k0_pay11, part, quarter]

/-- What a row block's last point stores of the argument's gradient. -/
def row : EReal := grad (fun k => h (ix2 p k)) (fun k => acc (ix2 p k) + part du w p k) (fun k => gain (ix2 0 k)) (fun k => dh (ix2 p k)) q

/-- What half the rows of a row block add to the gains' gradient. -/
def half (e : Fin 2) : EReal := ∑ r : Fin 512, h (ix2 ⟨512 * e.val + r.val, by omega⟩ q) * scale (fun k => h (ix2 ⟨512 * e.val + r.val, by omega⟩ k))
  * (acc (ix2 ⟨512 * e.val + r.val, by omega⟩ q) + part du w ⟨512 * e.val + r.val, by omega⟩ q)

/-- Half a block's rows, read through the load of that half. -/
theorem ld_upper (z : Vec Ideal S1024x1024 .f32) (r : Fin 512) (k p : Fin 1024) (hp : p.val = r.val) :
    View.ld z (Rect.unit ![0, 0] ![512, 1024] inb_S1024x1024_S512x1024_0_0) (ix2 r k) = z (ix2 p k) := by
  have e : p = ⟨r.val, by omega⟩ := Fin.ext hp
  rw [e]
  pointwise

theorem ld_lower (z : Vec Ideal S1024x1024 .f32) (r : Fin 512) (k p : Fin 1024) (hp : p.val = 512 + r.val) :
    View.ld z (Rect.unit ![512, 0] ![512, 1024] inb_S1024x1024_S512x1024_512_0) (ix2 r k) = z (ix2 p k) := by
  have e : p = ⟨512 + r.val, by omega⟩ := Fin.ext hp
  rw [e]
  pointwise

section
variable (a' h' d' : Vec Ideal S512x1024 .f32) (x0 : Fin 512) (x1 : Fin 1024)

theorem rows (e : q = x1) (ha : ∀ k, a' (ix2 x0 k) = acc (ix2 p k) + part du w p k) (hh : ∀ k, h' (ix2 x0 k) = h (ix2 p k)) (hd : ∀ k, d' (ix2 x0 k) = dh (ix2 p k)) :
    k0_pay5 a' h' d' gain (ix2 x0 x1) = row du w h dh gain acc p q := by
  rw [e]
  exact (slab ..).trans (grad_congr x1 hh ha (fun _ => rfl) hd)

theorem rows' (e : q = x1) (ha : ∀ k, a' (ix2 x0 k) = acc (ix2 p k) + part du w p k) (hh : ∀ k, h' (ix2 x0 k) = h (ix2 p k)) (hd : ∀ k, d' (ix2 x0 k) = dh (ix2 p k)) :
    k0_pay8 a' h' d' gain (ix2 x0 x1) = row du w h dh gain acc p q :=
  rows du w h dh gain acc p q a' h' d' x0 x1 e ha hh hd

theorem gains_half (e : Fin 2) (ha : ∀ (r : Fin 512) (k : Fin 1024), a' (ix2 r k) = acc (ix2 ⟨512 * e.val + r.val, by omega⟩ k) + part du w ⟨512 * e.val + r.val, by omega⟩ k)
    (hh : ∀ (r : Fin 512) (k : Fin 1024), h' (ix2 r k) = h (ix2 ⟨512 * e.val + r.val, by omega⟩ k)) : gains a' h' q = half du w h acc q e := by
  refine Finset.sum_congr rfl fun r _ => ?_
  rw [ha, funext (hh r), hh]

end

theorem last (hc0 : ¬cond0_0 i) (hc1 : cond0_1 i) (hc2 : cond0_2 i) (hc3 : ¬cond0_3 i) :
    out0_B_5 c i arg3 harg3 arg4 harg4 arg5 harg5 arg6 harg6 arg7 harg7 arg8 harg8 arg9 harg9 arg10 harg10 hc0 hc1 hc2 hc3 du w h dh gain acc (ix2 p q) = row du w h dh gain acc p q := by
  frame_out
  canon_tiles x h
  · idx_vars x
    rw [View.readCov_fill _ _ _ _ _ (by decide)]
    exact rows' du w h dh gain acc p q _ _ _ x0 x1 (Fin.ext h1)
      (fun k => (ld_lower _ x0 k p h0).trans (added ..)) (fun k => ld_lower _ x0 k p h0) (fun k => ld_lower _ x0 k p h0)
  · idx_vars x
    rw [View.readCov_fill _ _ _ _ _ (by decide)]
    exact rows du w h dh gain acc p q _ _ _ x0 x1 (Fin.ext h1)
      (fun k => (ld_upper _ x0 k p h0).trans (added ..)) (fun k => ld_upper _ x0 k p h0) (fun k => ld_upper _ x0 k p h0)

theorem last' (hc0 : ¬cond0_0 i) (hc1 : cond0_1 i) (hc2 : ¬cond0_2 i) (hc3 : cond0_3 i) :
    out0_C_5 c i arg3 harg3 arg4 harg4 arg5 harg5 arg6 harg6 arg7 harg7 arg8 harg8 arg9 harg9 arg10 harg10 hc0 hc1 hc2 hc3 du w h dh gain sum acc (ix2 p q) = row du w h dh gain acc p q := by
  frame_out
  canon_tiles x h
  · idx_vars x
    rw [View.readCov_fill _ _ _ _ _ (by decide)]
    exact rows' du w h dh gain acc p q _ _ _ x0 x1 (Fin.ext h1)
      (fun k => (ld_lower _ x0 k p h0).trans (added ..)) (fun k => ld_lower _ x0 k p h0) (fun k => ld_lower _ x0 k p h0)
  · idx_vars x
    rw [View.readCov_fill _ _ _ _ _ (by decide)]
    exact rows du w h dh gain acc p q _ _ _ x0 x1 (Fin.ext h1)
      (fun k => (ld_upper _ x0 k p h0).trans (added ..)) (fun k => ld_upper _ x0 k p h0) (fun k => ld_upper _ x0 k p h0)

theorem gain_first (hc0 : ¬cond0_0 i) (hc1 : cond0_1 i) (hc2 : cond0_2 i) (hc3 : ¬cond0_3 i) :
    out0_B_6 c i arg3 harg3 arg4 harg4 arg5 harg5 arg6 harg6 arg7 harg7 arg8 harg8 arg9 harg9 arg10 harg10 hc0 hc1 hc2 hc3 du w h dh gain acc (ix2 0 q)
      = half du w h acc q 0 + half du w h acc q 1 := by
  frame_out
  rw [View.readCov_fill _ _ _ _ _ (by decide), View.readCov_fill _ _ _ _ _ (by decide)]
  refine (slab_gain' ..).trans ?_
  rw [slab_gain]
  rw [gains_half du w h acc q _ _ 0 (fun r k => (ld_upper _ r k _ (by simp)).trans (added ..)) (fun r k => ld_upper _ r k _ (by simp)),
    gains_half du w h acc q _ _ 1 (fun r k => (ld_lower _ r k _ (by simp)).trans (added ..)) (fun r k => ld_lower _ r k _ (by simp))]

theorem gain_next (hc0 : ¬cond0_0 i) (hc1 : cond0_1 i) (hc2 : ¬cond0_2 i) (hc3 : cond0_3 i) :
    out0_C_6 c i arg3 harg3 arg4 harg4 arg5 harg5 arg6 harg6 arg7 harg7 arg8 harg8 arg9 harg9 arg10 harg10 hc0 hc1 hc2 hc3 du w h dh gain sum acc (ix2 0 q)
      = sum (ix2 0 q) + (half du w h acc q 0 + half du w h acc q 1) := by
  frame_out
  rw [View.readCov_fill _ _ _ _ _ (by decide), View.readCov_fill _ _ _ _ _ (by decide)]
  pointwise [k0_pay1]
  refine congrArg (sum (ix2 0 q) + ·) ((slab_gain' ..).trans ?_)
  rw [slab_gain]
  rw [gains_half du w h acc q _ _ 0 (fun r k => (ld_upper _ r k _ (by simp)).trans (added ..)) (fun r k => ld_upper _ r k _ (by simp)),
    gains_half du w h acc q _ _ 1 (fun r k => (ld_lower _ r k _ (by simp)).trans (added ..)) (fun r k => ld_lower _ r k _ (by simp))]

end Steps

section Points
variable (m : (ℓ : Loc nD τ sig) → Buf (Elt Ideal) ℓ) (c : Dev nD) (t : Fin cfg0.N)

theorem point_lt : t.val < 8 := lt_of_lt_of_eq t.isLt (show cfg0.N = 8 from N_0)

theorem at0 : (cfg0.win 0).index t = ![t.val / 2, t.val % 2] := by
  revert t; decide +kernel

theorem at1 : (cfg0.win 1).index t = ![t.val % 2, 0, 0] := by
  revert t; decide +kernel

theorem at2 : (cfg0.win 2).index t = ![t.val / 2, 0] := by
  revert t; decide +kernel

theorem at3 : (cfg0.win 3).index t = ![t.val / 2, 0] := by
  revert t; decide +kernel

theorem at4 : (cfg0.win 4).index t = ![0, 0] := by
  revert t; decide +kernel

theorem at5 : (cfg0.win 5).index t = ![t.val / 2, 0] := by
  revert t; decide +kernel

theorem at6 : (cfg0.win 6).index t = ![0, 0] := by
  revert t; decide +kernel

theorem block0 (i : Fin 1024) (j : Fin 2048) : iblk m c 0 t (ix2 i j)
    = m ((c : Thread nD τ).loc main_arg0) (ix2 ⟨1024 * (t.val / 2) + i.val, by have := point_lt t; omega⟩ ⟨2048 * (t.val % 2) + j.val, by omega⟩) := by
  have e := at0 t
  blk_ext [iblk, V, e]

theorem block1 (d : Fin 4) (i : Fin 1024) (j : Fin 512) : iblk m c 1 t (ix3 d i j)
    = m ((c : Thread nD τ).loc main_arg1) (ix3 ⟨4 * (t.val % 2) + d.val, by omega⟩ i j) := by
  have e := at1 t
  blk_ext [iblk, V, e]

theorem block2 (i j : Fin 1024) : iblk m c 2 t (ix2 i j)
    = m ((c : Thread nD τ).loc main_arg2) (ix2 ⟨1024 * (t.val / 2) + i.val, by have := point_lt t; omega⟩ j) := by
  have e := at2 t
  blk_ext [iblk, V, e]

theorem block3 (i j : Fin 1024) : iblk m c 3 t (ix2 i j)
    = m ((c : Thread nD τ).loc main_arg3) (ix2 ⟨1024 * (t.val / 2) + i.val, by have := point_lt t; omega⟩ j) := by
  have e := at3 t
  blk_ext [iblk, V, e]

theorem block4 (j : Fin 1024) : iblk m c 4 t (ix2 0 j) = m ((c : Thread nD τ).loc main_arg4) (ix2 0 j) := by
  have e := at4 t
  blk_ext [iblk, V, e]

/-- One product of the sum that makes an entry of the gradient of the normed rows: column `k` of the weights is column
    `k % 512` of device `k / 512`. -/
def term (du : Vec Ideal S4096x4096 .bf16) (w : Vec Ideal S8x1024x512 .bf16) (p : Fin 4096) (q : Fin 1024) (k : Fin 4096) : EReal :=
  du (ix2 p k) * w (ix3 ⟨k.val / 512, by omega⟩ q ⟨k.val % 512, by omega⟩)

/-- An entry of the gradient of the normed rows. -/
def sent (du : Vec Ideal S4096x4096 .bf16) (w : Vec Ideal S8x1024x512 .bf16) (p : Fin 4096) (q : Fin 1024) : EReal := ∑ k, term du w p q k

/-- The argument's gradient, as a function of the call's arguments. -/
def result (du : Vec Ideal S4096x4096 .bf16) (w : Vec Ideal S8x1024x512 .bf16) (h dh : Vec Ideal S4096x1024 .f32) (gain : Vec Ideal S1x1024 .f32) : Vec Ideal S4096x1024 .f32 :=
  fun i => grad (fun k => h (ix2 (i 0) k)) (fun k => sent du w (i 0) k) (fun k => gain (ix2 0 k)) (fun k => dh (ix2 (i 0) k)) (i 1)

/-- What one row gives the gradient of a gain. -/
def gainTerm (du : Vec Ideal S4096x4096 .bf16) (w : Vec Ideal S8x1024x512 .bf16) (h : Vec Ideal S4096x1024 .f32) (q : Fin 1024) (p : Fin 4096) : EReal :=
  h (ix2 p q) * scale (fun k => h (ix2 p k)) * sent du w p q

/-- The gains' gradient, as a function of the call's arguments. -/
def gainResult (du : Vec Ideal S4096x4096 .bf16) (w : Vec Ideal S8x1024x512 .bf16) (h : Vec Ideal S4096x1024 .f32) : Vec Ideal S1x1024 .f32 :=
  fun i => ∑ p, gainTerm du w h (i 1) p

/-- The products that make entry (`p`, `q`) of the rows point `t` works on. -/
abbrev terms (p q : Fin 1024) : Fin 4096 → EReal :=
  term (m ((c : Thread nD τ).loc main_arg0)) (m ((c : Thread nD τ).loc main_arg1)) ⟨1024 * (t.val / 2) + p.val, by have := point_lt t; omega⟩ q

/-- One device's products, among those of the whole sum. -/
theorem quarter_add (p q : Fin 1024) (e : Fin 4) (n : ℕ) (hn : n = 2048 * (t.val % 2) + 512 * e.val) :
    upto (terms m c t p q) n + quarter (iblk m c 0 t) (iblk m c 1 t) p q e = upto (terms m c t p q) (n + 512) := by
  refine upto_add _ _ (by omega) _ fun k => ?_
  rw [block0, block1]
  have h1 : 2048 * (t.val % 2) + (512 * e.val + k.val) = n + k.val := by omega
  have h2 : 4 * (t.val % 2) + e.val = (n + k.val) / 512 := by omega
  have h3 : k.val = (n + k.val) % 512 := by omega
  unfold terms term
  simp only [h1, h2]
  congr 3
  exact Fin.ext h3

/-- A point takes the sum from the products before its own columns to those of its columns. -/
theorem adds (p q : Fin 1024) :
    upto (terms m c t p q) (2048 * (t.val % 2)) + part (iblk m c 0 t) (iblk m c 1 t) p q = upto (terms m c t p q) (2048 * (t.val % 2) + 2048) := by
  unfold part
  rw [← add_assoc, ← add_assoc, ← add_assoc, quarter_add m c t p q 0 _ (by simp), quarter_add m c t p q 1 _ (by simp), quarter_add m c t p q 2 _ (by simp),
    quarter_add m c t p q 3 _ (by simp)]

/-- What the accumulator holds after a row block's first point. -/
theorem carried (h0 : t.val % 2 = 0) (p q : Fin 1024) :
    (outsAt0 m c t.val t.isLt).2.2 (ix2 p q) = upto (terms m c t p q) 2048 := by
  have a := adds m c t p q
  rw [h0] at a
  rw [outsAt0_A m c t h0 (by omega)]
  dsimp only
  exact (first ..).trans ((zero_add _).symm.trans a)

theorem entering (h1 : t.val % 2 = 1) (p q : Fin 1024) :
    (outsAt0 m c (t.val - 1) (Nat.lt_of_le_of_lt (Nat.sub_le _ _) t.isLt)).2.2 (ix2 p q) = upto (terms m c t p q) 2048 := by
  refine (carried m c ⟨t.val - 1, Nat.lt_of_le_of_lt (Nat.sub_le _ _) t.isLt⟩ (show (t.val - 1) % 2 = 0 by omega) p q).trans ?_
  have e : (t.val - 1) / 2 = t.val / 2 := by omega
  unfold terms
  simp only [e]

/-- The accumulator of a row block's last point and what that point adds, together. -/
theorem whole (h1 : t.val % 2 = 1) (p q : Fin 1024) :
    (outsAt0 m c (t.val - 1) (Nat.lt_of_le_of_lt (Nat.sub_le _ _) t.isLt)).2.2 (ix2 p q) + part (iblk m c 0 t) (iblk m c 1 t) p q
      = sent (m ((c : Thread nD τ).loc main_arg0)) (m ((c : Thread nD τ).loc main_arg1)) ⟨1024 * (t.val / 2) + p.val, by have := point_lt t; omega⟩ q := by
  have a := adds m c t p q
  rw [h1] at a
  exact (congrArg (fun x : EReal => x + part (iblk m c 0 t) (iblk m c 1 t) p q) (entering m c t h1 p q)).trans (a.trans (upto_all _))

/-- What a row block's last point stores of the argument's gradient. -/
theorem stored (h1 : t.val % 2 = 1) (p q : Fin 1024) :
    (outsAt0 m c t.val t.isLt).1 (ix2 p q)
      = result (m ((c : Thread nD τ).loc main_arg0)) (m ((c : Thread nD τ).loc main_arg1)) (m ((c : Thread nD τ).loc main_arg2)) (m ((c : Thread nD τ).loc main_arg3)) (m ((c : Thread nD τ).loc main_arg4)) (ix2 ⟨1024 * (t.val / 2) + p.val, by have := point_lt t; omega⟩ q) := by
  have r : row (iblk m c 0 t) (iblk m c 1 t) (iblk m c 2 t) (iblk m c 3 t) (iblk m c 4 t) (outsAt0 m c (t.val - 1) (Nat.lt_of_le_of_lt (Nat.sub_le _ _) t.isLt)).2.2 p q
      = result (m ((c : Thread nD τ).loc main_arg0)) (m ((c : Thread nD τ).loc main_arg1)) (m ((c : Thread nD τ).loc main_arg2)) (m ((c : Thread nD τ).loc main_arg3)) (m ((c : Thread nD τ).loc main_arg4)) (ix2 ⟨1024 * (t.val / 2) + p.val, by have := point_lt t; omega⟩ q) :=
    grad_congr q (fun k => block2 m c t p k) (fun k => whole m c t h1 p k) (fun k => block4 m c t k) (fun k => block3 m c t p k)
  by_cases h2 : t.val < 2
  · rw [outsAt0_B m c t (by omega) h1 h2 (by omega)]
    dsimp only
    exact (last ..).trans r
  · rw [outsAt0_C m c t (by omega) h1 h2 (by omega)]
    dsimp only
    exact (last' ..).trans r

/-- What each row gives the gradient of gain `q`. -/
abbrev gainTerms (q : Fin 1024) : Fin 4096 → EReal := gainTerm (m ((c : Thread nD τ).loc main_arg0)) (m ((c : Thread nD τ).loc main_arg1)) (m ((c : Thread nD τ).loc main_arg2)) q

/-- What a row block's last point adds to the gains' gradient. -/
theorem halves (h1 : t.val % 2 = 1) (q : Fin 1024) :
    upto (gainTerms m c q) (1024 * (t.val / 2)) + (half (iblk m c 0 t) (iblk m c 1 t) (iblk m c 2 t) (outsAt0 m c (t.val - 1) (Nat.lt_of_le_of_lt (Nat.sub_le _ _) t.isLt)).2.2 q 0
        + half (iblk m c 0 t) (iblk m c 1 t) (iblk m c 2 t) (outsAt0 m c (t.val - 1) (Nat.lt_of_le_of_lt (Nat.sub_le _ _) t.isLt)).2.2 q 1)
      = upto (gainTerms m c q) (1024 * (t.val / 2) + 1024) := by
  have := point_lt t
  have one : ∀ (e : Fin 2) (n : ℕ), n = 1024 * (t.val / 2) + 512 * e.val →
      upto (gainTerms m c q) n + half (iblk m c 0 t) (iblk m c 1 t) (iblk m c 2 t) (outsAt0 m c (t.val - 1) (Nat.lt_of_le_of_lt (Nat.sub_le _ _) t.isLt)).2.2 q e
        = upto (gainTerms m c q) (n + 512) := by
    intro e n hn
    refine upto_add _ _ (by omega) _ fun r => ?_
    have hr : (⟨1024 * (t.val / 2) + (512 * e.val + r.val), by omega⟩ : Fin 4096) = ⟨n + r.val, by omega⟩ := Fin.ext (by dsimp only; omega)
    rw [whole m c t h1, block2, funext (fun k => block2 m c t ⟨512 * e.val + r.val, by omega⟩ k)]
    simp only [hr]
    rfl
  rw [← add_assoc, one 0 _ (by simp), one 1 _ (by simp)]

/-- What the gains' gradient has come to after each point but the first. -/
theorem summed : ∀ (n : ℕ) (hn : n < cfg0.N), 1 ≤ n → ∀ q : Fin 1024,
    (outsAt0 m c n hn).2.1 (ix2 0 q) = upto (gainTerms m c q) (1024 * ((n + 1) / 2))
  | 0, _, h, _ => absurd h (by decide)
  | n + 1, hn, _, q => by
    by_cases h1 : (n + 1) % 2 = 1
    · have a := halves m c ⟨n + 1, hn⟩ h1 q
      dsimp only at a
      have e : 1024 * ((n + 1) / 2) + 1024 = 1024 * ((n + 1 + 1) / 2) := by omega
      rw [e] at a
      refine Eq.trans ?_ a
      by_cases h2 : n + 1 < 2
      · have e0 : (n + 1) / 2 = 0 := by omega
        have o := outsAt0_B m c ⟨n + 1, hn⟩ (show ¬ (n + 1) % 2 = 0 by omega) h1 h2 (show ¬ 2 ≤ n + 1 by omega)
        dsimp only at o
        rw [o, e0]
        dsimp only
        exact (gain_first ..).trans (zero_add _).symm
      · have o := outsAt0_C m c ⟨n + 1, hn⟩ (show ¬ (n + 1) % 2 = 0 by omega) h1 h2 (show 2 ≤ n + 1 by omega)
        dsimp only at o
        rw [o]
        dsimp only
        exact (gain_next ..).trans (congrArg (· + _) (summed n (by omega) (by omega) q))
    · have o := outsAt0_A m c ⟨n + 1, hn⟩ (show (n + 1) % 2 = 0 by omega) h1
      dsimp only at o
      have e : 1024 * ((n + 1) / 2) = 1024 * ((n + 1 + 1) / 2) := by omega
      rw [o, ← e]
      exact summed n (by omega) (by omega) q

theorem written : (dats m 0 c).arrAt 5 cfg0.N = result (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 5 _ (by decide +kernel) fun t hf y => ?_
  have e := at5 t
  have h1 : t.val % 2 = 1 := (flush0_5 t).mp hf
  have := point_lt t
  blk_simp
  rw [after0_5]
  idx_vars y
  have p : (win0_5.blk t).view.emb (ix2 y0 y1) = ix2 ⟨1024 * (t.val / 2) + y0.val, by omega⟩ y1 := by
    blk_ext [e]
  exact (stored m c t h1 y0 y1).trans (congrArg (result _ _ _ _ _) p).symm

theorem gain_written : (dats m 0 c).arrAt 6 cfg0.N = gainResult (m ((c : Thread nD τ).loc main_arg0)) (m ((c : Thread nD τ).loc main_arg1)) (m ((c : Thread nD τ).loc main_arg2)) := by
  refine (dats m 0 c).arrAt_eq_of_covers 6 _ (by decide +kernel) fun t hf y => ?_
  have e := at6 t
  have h7 : t.val % 8 = 7 := (flush0_6 t).mp hf
  have := point_lt t
  blk_simp
  rw [after0_6]
  idx_vars y
  have p : (win0_6.blk t).view.emb (ix2 y0 y1) = ix2 y0 y1 := by
    blk_ext [e]
  have z : y0 = 0 := Subsingleton.elim _ _
  have e' : 1024 * ((t.val + 1) / 2) = 4096 := by omega
  refine Eq.trans ?_ (congrArg (gainResult _ _ _) p).symm
  rw [z]
  exact (summed m c t.val t.isLt (by omega) y1).trans ((congrArg (upto _) e').trans (upto_all _))

end Points

/-- The reference ends with `result` and `gainResult` of its arguments, which it leaves as they were. -/
theorem reference_run (m : (ℓ : Loc Cert.Reference5Ideal.nD Cert.Reference5Ideal.τ Cert.Reference5Ideal.sig) → Buf (Elt Ideal) ℓ)
    (ρ : Dev Cert.Reference5Ideal.nD → PrngReg) :
    θ_run (Cert.Reference5Ideal.defs (F := Ideal)) (onTc (τ := Cert.Reference5Ideal.τ) (Cert.Reference5Ideal.main (F := Ideal))) ⟨m, fun _ => 0, ρ⟩ fun r => ∀ c : Dev Cert.Reference5Ideal.nD,
      r.2.mem ((c.tc : Thread Cert.Reference5Ideal.nD Cert.Reference5Ideal.τ).loc Cert.Reference5Ideal.main_v40) = result (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4))
      ∧ r.2.mem ((c.tc : Thread Cert.Reference5Ideal.nD Cert.Reference5Ideal.τ).loc Cert.Reference5Ideal.main_v23) = gainResult (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2))
      ∧ r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4) := by
  refine (θ_run Cert.Reference5Ideal.defs _ _).mono (fun r h c => ⟨(h c).1.trans ?_, (h c).2.1.trans ?_, (h c).2.2⟩) (Cert.Reference5Ideal.Value.run (F := Ideal) m ρ)
  · funext j
    idx_vars j
    pointwise [Cert.Reference5Ideal.Value.res_main_v40, result, grad, back, scale, square, sent, term]
    simp only [Finset.univ_unique, Finset.sum_singleton, add_assoc, Rms.count, tiny, minusHalf]
  · funext j
    idx_vars j
    pointwise [gainResult, gainTerm, scale, square, sent, term]

end Cert.Proof.UpDx
-- ==== Proof.Up.lean ====
module

public import proofs.«01_k».proof.Proof.Gen.Kernel6Ideal.Value
public import proofs.«01_k».proof.Proof.Gen.Reference6Ideal.Run
public import Idealize.ShloMosaic.Lib.Pointwise
public import Idealize.ShloMosaic.Lib.Tactic.CleanTypes
public import Idealize.ShloMosaic.Lib.Pipeline.ValueKit
public import Idealize.ShloMosaic.Lib.Pipeline.ValueKit.Tiles

@[expose] public section

set_option maxRecDepth 16384
set_option maxHeartbeats 2000000

noncomputable section

namespace Cert.Proof.Up

open Idealize.ShloMosaic Idealize.ShloMosaic.TcCoe
open Cert.Kernel6Ideal Cert.Kernel6Ideal.Gen
open Idealize.ShloMosaic.Pipeline (Dat)

/-! The MLP's first product. Each of the eight grid points holds whole rows and the weights' columns of four devices, so
    it finishes its block of the result in one step. -/

section Blocks
variable (m : (ℓ : Loc nD τ sig) → Buf (Elt Ideal) ℓ) (c : Dev nD) (t : Fin cfg0.N)

theorem point_lt : t.val < 8 := lt_of_lt_of_eq t.isLt (show cfg0.N = 8 from N_0)

theorem at0 : (cfg0.win 0).index t = ![t.val % 4, 0] := by
  revert t; decide +kernel

theorem at1 : (cfg0.win 1).index t = ![t.val / 4, 0, 0] := by
  revert t; decide +kernel

theorem at2 : (cfg0.win 2).index t = ![t.val % 4, t.val / 4] := by
  revert t; decide +kernel

theorem block0 (i j : Fin 1024) : iblk m c 0 t (ix2 i j)
    = m ((c : Thread nD τ).loc main_arg0) (ix2 ⟨1024 * (t.val % 4) + i.val, by omega⟩ j) := by
  have e := at0 t
  blk_ext [iblk, V, e]

theorem block1 (d : Fin 4) (i : Fin 1024) (j : Fin 512) : iblk m c 1 t (ix3 d i j)
    = m ((c : Thread nD τ).loc main_arg1) (ix3 ⟨4 * (t.val / 4) + d.val, by have := point_lt t; omega⟩ i j) := by
  have e := at1 t
  blk_ext [iblk, V, e]

end Blocks

/-- Entry (`p`, `q`) of the product: column `q` of the weights is column `q % 512` of device `q / 512`. -/
def result (n : Vec Ideal S4096x1024 .bf16) (w : Vec Ideal S8x1024x512 .bf16) : Vec Ideal S4096x4096 .bf16 :=
  fun i => ∑ k : Fin 1024, n (ix2 (i 0) k) * w (ix3 ⟨(i 1).val / 512, by have h : (i 1).val < 4096 := (i 1).isLt; omega⟩ k ⟨(i 1).val % 512, by omega⟩)

/-- A sum that reads device `d` is the one that reads device `q / 512`. -/
theorem same_device (n : Fin 1024 → EReal) (w : Vec Ideal S4x1024x512 .bf16) (q : Fin 2048) (d : Fin 4) (l : Fin 512) (h : q.val = 512 * d.val + l.val) :
    (∑ k : Fin 1024, n k * w (ix3 d k l)) = ∑ k : Fin 1024, n k * w (ix3 ⟨q.val / 512, by omega⟩ k ⟨q.val % 512, by omega⟩) := by
  have hd : d = ⟨q.val / 512, by omega⟩ := Fin.ext (by dsimp only; omega)
  have hl : l = ⟨q.val % 512, by omega⟩ := Fin.ext (by dsimp only; omega)
  rw [← hd, ← hl]

theorem body (n : Vec Ideal S1024x1024 .bf16) (w : Vec Ideal S4x1024x512 .bf16) (p : Fin 1024) (q : Fin 2048) :
    out0_2 n w (ix2 p q) = ∑ k : Fin 1024, n (ix2 p k) * w (ix3 ⟨q.val / 512, by omega⟩ k ⟨q.val % 512, by omega⟩) := by
  unfold out0_2
  rw [View.canon_unit_zero]
  · pointwise [k0_pay1]
    by_cases h0 : q.val < 512
    · rw [dif_pos h0]
      exact same_device (fun k => n (ix2 p k)) w q 0 ⟨q.val, h0⟩ (by dsimp only [Fin.val_zero]; omega)
    rw [dif_neg h0]
    by_cases h1 : q.val - 512 < 512
    · rw [dif_pos h1]
      exact same_device (fun k => n (ix2 p k)) w q 1 ⟨q.val - 512, h1⟩ (by show q.val = 512 * 1 + (q.val - 512); omega)
    rw [dif_neg h1]
    by_cases h2 : q.val - 512 - 512 < 512
    · rw [dif_pos h2]
      exact same_device (fun k => n (ix2 p k)) w q 2 ⟨q.val - 512 - 512, h2⟩ (by show q.val = 512 * 2 + (q.val - 512 - 512); omega)
    · rw [dif_neg h2]
      exact same_device (fun k => n (ix2 p k)) w q 3 ⟨q.val - 512 - 512 - 512, by omega⟩ (by show q.val = 512 * 3 + (q.val - 512 - 512 - 512); omega)
  · decide

section
variable (m : (ℓ : Loc nD τ sig) → Buf (Elt Ideal) ℓ) (c : Dev nD)

theorem written : (dats m 0 c).arrAt 2 cfg0.N = result (m ((c : Thread nD τ).loc main_arg0)) (m ((c : Thread nD τ).loc main_arg1)) := by
  refine (dats m 0 c).arrAt_eq_of_covers 2 _ (by decide +kernel) fun t hf y => ?_
  have e := at2 t
  have := point_lt t
  blk_simp
  rw [after0_2]
  idx_vars y
  have p : (win0_2.blk t).view.emb (ix2 y0 y1) = ix2 ⟨1024 * (t.val % 4) + y0.val, by omega⟩ ⟨2048 * (t.val / 4) + y1.val, by omega⟩ := by
    blk_ext [e]
  refine Eq.trans ?_ (congrArg (result _ _) p).symm
  refine (body ..).trans (Finset.sum_congr rfl fun k _ => ?_)
  rw [block0, block1]
  have hd : 4 * (t.val / 4) + y1.val / 512 = (2048 * (t.val / 4) + y1.val) / 512 := by omega
  have hl : y1.val % 512 = (2048 * (t.val / 4) + y1.val) % 512 := by omega
  simp only [hd, hl]
  rfl

end

/-- The reference ends with `result` of its arguments, which it leaves as they were. -/
theorem reference_run (m : (ℓ : Loc Cert.Reference6Ideal.nD Cert.Reference6Ideal.τ Cert.Reference6Ideal.sig) → Buf (Elt Ideal) ℓ)
    (ρ : Dev Cert.Reference6Ideal.nD → PrngReg) :
    θ_run (Cert.Reference6Ideal.defs (F := Ideal)) (onTc (τ := Cert.Reference6Ideal.τ) (Cert.Reference6Ideal.main (F := Ideal))) ⟨m, fun _ => 0, ρ⟩ fun r => ∀ c : Dev Cert.Reference6Ideal.nD,
      r.2.mem ((c.tc : Thread Cert.Reference6Ideal.nD Cert.Reference6Ideal.τ).loc Cert.Reference6Ideal.main_v5)
        = result (m ((c.tc : Thread Cert.Reference6Ideal.nD Cert.Reference6Ideal.τ).loc Cert.Reference6Ideal.main_arg0))
            (m ((c.tc : Thread Cert.Reference6Ideal.nD Cert.Reference6Ideal.τ).loc Cert.Reference6Ideal.main_arg1))
      ∧ r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1) := by
  refine (θ_run Cert.Reference6Ideal.defs _ _).mono (fun r h c => ⟨(h c).1.trans ?_, (h c).2⟩) (Cert.Reference6Ideal.Value.run (F := Ideal) m ρ)
  funext j
  idx_vars j
  pointwise [result]

end Cert.Proof.Up
-- ==== Proof.Down.lean ====
module

public import proofs.«01_k».proof.Proof.Gen.Kernel7Ideal.Value
public import proofs.«01_k».proof.Proof.Gen.Reference7Ideal.Run
public import Idealize.ShloMosaic.Lib.Pointwise
public import Idealize.ShloMosaic.Lib.Tactic.CleanTypes
public import Idealize.ShloMosaic.Lib.Pipeline.ValueKit
public import Idealize.ShloMosaic.Lib.Pipeline.ValueKit.Tiles
public import Idealize.ShloMosaic.Lib.Pipeline.ReadBack
public import proofs.«01_k».proof.Proof.BlockSums
public import proofs.«01_k».proof.Proof.Rms

@[expose] public section

set_option maxRecDepth 16384
set_option maxHeartbeats 2000000

noncomputable section

namespace Cert.Proof.Down

open Idealize.ShloMosaic Idealize.ShloMosaic.TcCoe
open Cert.Kernel7Ideal Cert.Kernel7Ideal.Gen
open Idealize.ShloMosaic.Pipeline (Dat)
open Cert.Proof.BlockSums Cert.Proof.Rms

/-! The MLP's second product, with the norm that follows it. A row block takes two grid points, which add the products with
    half of the columns each; the second adds the sums to the rows that went around the MLP and norms the result, half the
    rows at a time. -/

section Slabs
variable (a r : Vec Ideal S512x1024 .f32) (g : Vec Ideal S1x1024 .f32) (p : Fin 512) (q : Fin 1024)

theorem slab : k0_pay4 a r (ix2 p q) = r (ix2 p q) + a (ix2 p q) := by
  pointwise [k0_pay4]

theorem slab' : k0_pay6 a r (ix2 p q) = r (ix2 p q) + a (ix2 p q) :=
  slab a r p q

theorem slab_normed : k0_pay5 a r g (ix2 p q) = Rms.norm (fun k => r (ix2 p k) + a (ix2 p k)) (fun k => g (ix2 0 k)) q := by
  pointwise [k0_pay5, k0_pay4, Rms.norm, scale, square]

theorem slab_normed' : k0_pay3 (k0_pay7 a r g) (ix2 p q) = Rms.norm (fun k => r (ix2 p k) + a (ix2 p k)) (fun k => g (ix2 0 k)) q := by
  pointwise [k0_pay3, k0_pay7, k0_pay6, Rms.norm, scale, square]

end Slabs

section Steps
variable (c : Dev nD) (i : grid0.Coords) (arg3 : Memref sig .tc .vmem S1024x2048 .bf16) (harg3 : arg3.IsWhole) (arg4 : Memref sig .tc .vmem S2048x1024 .bf16) (harg4 : arg4.IsWhole) (arg5 : Memref sig .tc .vmem S1024x1024 .f32) (harg5 : arg5.IsWhole) (arg6 : Memref sig .tc .vmem S1x1024 .f32) (harg6 : arg6.IsWhole) (arg7 : Memref sig .tc .vmem S1024x1024 .f32) (harg7 : arg7.IsWhole) (arg8 : Memref sig .tc .vmem S1024x1024 .bf16) (harg8 : arg8.IsWhole) (arg9 : Memref sig .tc .vmem S1024x1024 .f32) (harg9 : arg9.IsWhole)
    (u : Vec Ideal S1024x2048 .bf16) (w : Vec Ideal S2048x1024 .bf16) (res : Vec Ideal S1024x1024 .f32) (gain : Vec Ideal S1x1024 .f32) (acc : Vec Ideal S1024x1024 .f32) (p q : Fin 1024)

/-- What one grid point adds. -/
def part : EReal := ∑ l : Fin 2048, max (u (ix2 p l)) (0 : EReal) * max (u (ix2 p l)) (0 : EReal) * w (ix2 l q)

theorem added : k0_pay2 acc u w (ix2 p q) = acc (ix2 p q) + part u w p q := by
  pointwise [k0_pay2, part]

theorem first (hc0 : cond0_0 i) (hc1 : ¬cond0_1 i) :
    sout0_A_0 c i arg3 harg3 arg4 harg4 arg5 harg5 arg6 harg6 arg7 harg7 arg8 harg8 arg9 harg9 hc0 hc1 u w res gain (ix2 p q) = part u w p q := by
  frame_out
  pointwise [k0_pay1, k0_pay2, part]

/-- What a row block's second point stores of the rows. -/
def row : EReal := res (ix2 p q) + (acc (ix2 p q) + part u w p q)

/-- Half a block's rows, read through the load of that half. -/
theorem ld_upper (z : Vec Ideal S1024x1024 .f32) (r : Fin 512) (k p : Fin 1024) (hp : p.val = r.val) :
    View.ld z (Rect.unit ![0, 0] ![512, 1024] inb_S1024x1024_S512x1024_0_0) (ix2 r k) = z (ix2 p k) := by
  have e : p = ⟨r.val, by omega⟩ := Fin.ext hp
  rw [e]
  pointwise

theorem ld_lower (z : Vec Ideal S1024x1024 .f32) (r : Fin 512) (k p : Fin 1024) (hp : p.val = 512 + r.val) :
    View.ld z (Rect.unit ![512, 0] ![512, 1024] inb_S1024x1024_S512x1024_512_0) (ix2 r k) = z (ix2 p k) := by
  have e : p = ⟨512 + r.val, by omega⟩ := Fin.ext hp
  rw [e]
  pointwise

theorem last (hc0 : ¬cond0_0 i) (hc1 : cond0_1 i) :
    out0_B_4 c i arg3 harg3 arg4 harg4 arg5 harg5 arg6 harg6 arg7 harg7 arg8 harg8 arg9 harg9 hc0 hc1 u w res gain acc (ix2 p q) = row u w res acc p q := by
  frame_out
  canon_tiles x h
  · idx_vars x
    rw [View.readCov_fill _ _ _ _ _ (by decide)]
    have e : q = x1 := Fin.ext h1
    rw [e]
    exact (slab' ..).trans (congrArg₂ (· + ·) (ld_lower _ x0 x1 p h0) ((ld_lower _ x0 x1 p h0).trans (added ..)))
  · idx_vars x
    rw [View.readCov_fill _ _ _ _ _ (by decide)]
    have e : q = x1 := Fin.ext h1
    rw [e]
    exact (slab ..).trans (congrArg₂ (· + ·) (ld_upper _ x0 x1 p h0) ((ld_upper _ x0 x1 p h0).trans (added ..)))

theorem last_normed (hc0 : ¬cond0_0 i) (hc1 : cond0_1 i) :
    out0_B_5 c i arg3 harg3 arg4 harg4 arg5 harg5 arg6 harg6 arg7 harg7 arg8 harg8 arg9 harg9 hc0 hc1 u w res gain acc (ix2 p q) = Rms.norm (fun k => row u w res acc p k) (fun k => gain (ix2 0 k)) q := by
  frame_out
  canon_tiles x h
  · idx_vars x
    rw [View.readCov_fill _ _ _ _ _ (by decide)]
    have e : q = x1 := Fin.ext h1
    rw [e]
    exact (slab_normed' ..).trans (norm_congr x1 (fun k => congrArg₂ (· + ·) (ld_lower _ x0 k p h0) ((ld_lower _ x0 k p h0).trans (added ..))) (fun _ => rfl))
  · idx_vars x
    rw [View.readCov_fill _ _ _ _ _ (by decide)]
    have e : q = x1 := Fin.ext h1
    rw [e]
    exact (slab_normed ..).trans (norm_congr x1 (fun k => congrArg₂ (· + ·) (ld_upper _ x0 k p h0) ((ld_upper _ x0 k p h0).trans (added ..))) (fun _ => rfl))

end Steps

section Points
variable (m : (ℓ : Loc nD τ sig) → Buf (Elt Ideal) ℓ) (c : Dev nD) (t : Fin cfg0.N)

theorem point_lt : t.val < 8 := lt_of_lt_of_eq t.isLt (show cfg0.N = 8 from N_0)

theorem at0 : (cfg0.win 0).index t = ![t.val / 2, t.val % 2] := by
  revert t; decide +kernel

theorem at1 : (cfg0.win 1).index t = ![t.val % 2, 0] := by
  revert t; decide +kernel

theorem at2 : (cfg0.win 2).index t = ![t.val / 2, 0] := by
  revert t; decide +kernel

theorem at3 : (cfg0.win 3).index t = ![0, 0] := by
  revert t; decide +kernel

theorem at4 : (cfg0.win 4).index t = ![t.val / 2, 0] := by
  revert t; decide +kernel

theorem at5 : (cfg0.win 5).index t = ![t.val / 2, 0] := by
  revert t; decide +kernel

theorem block0 (i : Fin 1024) (j : Fin 2048) : iblk m c 0 t (ix2 i j)
    = m ((c : Thread nD τ).loc main_arg0) (ix2 ⟨1024 * (t.val / 2) + i.val, by have := point_lt t; omega⟩ ⟨2048 * (t.val % 2) + j.val, by omega⟩) := by
  have e := at0 t
  blk_ext [iblk, V, e]

theorem block1 (i : Fin 2048) (j : Fin 1024) : iblk m c 1 t (ix2 i j)
    = m ((c : Thread nD τ).loc main_arg1) (ix2 ⟨2048 * (t.val % 2) + i.val, by omega⟩ j) := by
  have e := at1 t
  blk_ext [iblk, V, e]

theorem block2 (i j : Fin 1024) : iblk m c 2 t (ix2 i j)
    = m ((c : Thread nD τ).loc main_arg2) (ix2 ⟨1024 * (t.val / 2) + i.val, by have := point_lt t; omega⟩ j) := by
  have e := at2 t
  blk_ext [iblk, V, e]

theorem block3 (j : Fin 1024) : iblk m c 3 t (ix2 0 j) = m ((c : Thread nD τ).loc main_arg3) (ix2 0 j) := by
  have e := at3 t
  blk_ext [iblk, V, e]

/-- One product of the sum that makes an entry of the MLP's output. -/
def term (u : Vec Ideal S4096x4096 .bf16) (w : Vec Ideal S4096x1024 .bf16) (p : Fin 4096) (q : Fin 1024) (k : Fin 4096) : EReal :=
  max (u (ix2 p k)) (0 : EReal) * max (u (ix2 p k)) (0 : EReal) * w (ix2 k q)

/-- The rows, as a function of the call's arguments. -/
def result (u : Vec Ideal S4096x4096 .bf16) (w : Vec Ideal S4096x1024 .bf16) (res : Vec Ideal S4096x1024 .f32) : Vec Ideal S4096x1024 .f32 :=
  fun i => res (ix2 (i 0) (i 1)) + ∑ k, term u w (i 0) (i 1) k

/-- The normed rows, as a function of the call's arguments. -/
def normResult (u : Vec Ideal S4096x4096 .bf16) (w : Vec Ideal S4096x1024 .bf16) (res : Vec Ideal S4096x1024 .f32) (gain : Vec Ideal S1x1024 .f32) : Vec Ideal S4096x1024 .bf16 :=
  fun i => Rms.norm (fun k => result u w res (ix2 (i 0) k)) (fun k => gain (ix2 0 k)) (i 1)

/-- The products that make entry (`p`, `q`) of the rows point `t` works on. -/
abbrev terms (p q : Fin 1024) : Fin 4096 → EReal :=
  term (m ((c : Thread nD τ).loc main_arg0)) (m ((c : Thread nD τ).loc main_arg1)) ⟨1024 * (t.val / 2) + p.val, by have := point_lt t; omega⟩ q

/-- A point takes the sum from the products before its own columns to those of its columns. -/
theorem adds (p q : Fin 1024) :
    upto (terms m c t p q) (2048 * (t.val % 2)) + part (iblk m c 0 t) (iblk m c 1 t) p q = upto (terms m c t p q) (2048 * (t.val % 2) + 2048) := by
  refine upto_add _ _ (by omega) _ fun k => ?_
  rw [block0, block1]
  rfl

/-- What the accumulator holds after a row block's first point. -/
theorem carried (h0 : t.val % 2 = 0) (p q : Fin 1024) :
    (outsAt0 m c t.val t.isLt).2.2 (ix2 p q) = upto (terms m c t p q) 2048 := by
  have a := adds m c t p q
  rw [h0] at a
  rw [outsAt0_A m c t h0 (by omega)]
  dsimp only
  exact (first ..).trans ((zero_add _).symm.trans a)

theorem entering (h1 : t.val % 2 = 1) (p q : Fin 1024) :
    (outsAt0 m c (t.val - 1) (Nat.lt_of_le_of_lt (Nat.sub_le _ _) t.isLt)).2.2 (ix2 p q) = upto (terms m c t p q) 2048 := by
  refine (carried m c ⟨t.val - 1, Nat.lt_of_le_of_lt (Nat.sub_le _ _) t.isLt⟩ (show (t.val - 1) % 2 = 0 by omega) p q).trans ?_
  have e : (t.val - 1) / 2 = t.val / 2 := by omega
  unfold terms
  simp only [e]

/-- A row that a row block's second point stores. -/
theorem whole (h1 : t.val % 2 = 1) (p q : Fin 1024) :
    row (iblk m c 0 t) (iblk m c 1 t) (iblk m c 2 t) (outsAt0 m c (t.val - 1) (Nat.lt_of_le_of_lt (Nat.sub_le _ _) t.isLt)).2.2 p q = result (m ((c : Thread nD τ).loc main_arg0)) (m ((c : Thread nD τ).loc main_arg1)) (m ((c : Thread nD τ).loc main_arg2)) (ix2 ⟨1024 * (t.val / 2) + p.val, by have := point_lt t; omega⟩ q) := by
  have a := adds m c t p q
  rw [h1] at a
  refine congrArg₂ (· + ·) (block2 m c t p q) ?_
  exact (congrArg (fun x : EReal => x + part (iblk m c 0 t) (iblk m c 1 t) p q) (entering m c t h1 p q)).trans (a.trans (upto_all _))

theorem stored (h1 : t.val % 2 = 1) (p q : Fin 1024) :
    (outsAt0 m c t.val t.isLt).1 (ix2 p q) = result (m ((c : Thread nD τ).loc main_arg0)) (m ((c : Thread nD τ).loc main_arg1)) (m ((c : Thread nD τ).loc main_arg2)) (ix2 ⟨1024 * (t.val / 2) + p.val, by have := point_lt t; omega⟩ q) := by
  rw [outsAt0_B m c t (by omega) h1]
  dsimp only
  exact (last ..).trans (whole m c t h1 p q)

theorem stored_normed (h1 : t.val % 2 = 1) (p q : Fin 1024) :
    (outsAt0 m c t.val t.isLt).2.1 (ix2 p q) = normResult (m ((c : Thread nD τ).loc main_arg0)) (m ((c : Thread nD τ).loc main_arg1)) (m ((c : Thread nD τ).loc main_arg2)) (m ((c : Thread nD τ).loc main_arg3)) (ix2 ⟨1024 * (t.val / 2) + p.val, by have := point_lt t; omega⟩ q) := by
  rw [outsAt0_B m c t (by omega) h1]
  dsimp only
  exact (last_normed ..).trans (norm_congr q (fun k => whole m c t h1 p k) (fun k => block3 m c t k))

theorem written : (dats m 0 c).arrAt 4 cfg0.N = result (m ((c : Thread nD τ).loc main_arg0)) (m ((c : Thread nD τ).loc main_arg1)) (m ((c : Thread nD τ).loc main_arg2)) := by
  refine (dats m 0 c).arrAt_eq_of_covers 4 _ (by decide +kernel) fun t hf y => ?_
  have e := at4 t
  have h1 : t.val % 2 = 1 := (flush0_4 t).mp hf
  have := point_lt t
  blk_simp
  rw [after0_4]
  idx_vars y
  have p : (win0_4.blk t).view.emb (ix2 y0 y1) = ix2 ⟨1024 * (t.val / 2) + y0.val, by omega⟩ y1 := by
    blk_ext [e]
  exact (stored m c t h1 y0 y1).trans (congrArg (result _ _ _) p).symm

theorem norm_written : (dats m 0 c).arrAt 5 cfg0.N = normResult (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  have e := at5 t
  have h1 : t.val % 2 = 1 := (flush0_5 t).mp hf
  have := point_lt t
  blk_simp
  rw [after0_5]
  idx_vars y
  have p : (win0_5.blk t).view.emb (ix2 y0 y1) = ix2 ⟨1024 * (t.val / 2) + y0.val, by omega⟩ y1 := by
    blk_ext [e]
  exact (stored_normed m c t h1 y0 y1).trans (congrArg (normResult _ _ _ _) p).symm

end Points

/-- The reference ends with `result` and `normResult` of its arguments, which it leaves as they were. -/
theorem reference_run (m : (ℓ : Loc Cert.Reference7Ideal.nD Cert.Reference7Ideal.τ Cert.Reference7Ideal.sig) → Buf (Elt Ideal) ℓ)
    (ρ : Dev Cert.Reference7Ideal.nD → PrngReg) :
    θ_run (Cert.Reference7Ideal.defs (F := Ideal)) (onTc (τ := Cert.Reference7Ideal.τ) (Cert.Reference7Ideal.main (F := Ideal))) ⟨m, fun _ => 0, ρ⟩ fun r => ∀ c : Dev Cert.Reference7Ideal.nD,
      r.2.mem ((c.tc : Thread Cert.Reference7Ideal.nD Cert.Reference7Ideal.τ).loc Cert.Reference7Ideal.main_v5) = result (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2))
      ∧ r.2.mem ((c.tc : Thread Cert.Reference7Ideal.nD Cert.Reference7Ideal.τ).loc Cert.Reference7Ideal.main_v18) = normResult (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3))
      ∧ r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3) := by
  refine (θ_run Cert.Reference7Ideal.defs _ _).mono (fun r h c => ⟨(h c).1.trans ?_, (h c).2.1.trans ?_, (h c).2.2⟩) (Cert.Reference7Ideal.Value.run (F := Ideal) m ρ)
  · funext j
    idx_vars j
    pointwise [result, term]
  · funext j
    idx_vars j
    pointwise [normResult, Rms.norm, scale, square, result, term]

end Cert.Proof.Down
-- ==== Proof.InProj.lean ====
module

public import proofs.«01_k».proof.Proof.Gen.Kernel8Ideal.Value
public import proofs.«01_k».proof.Proof.Gen.Reference8Ideal.Run
public import Idealize.ShloMosaic.Lib.Pointwise
public import Idealize.ShloMosaic.Lib.Tactic.CleanTypes
public import Idealize.ShloMosaic.Lib.Pipeline.ValueKit

@[expose] public section

set_option maxRecDepth 16384
set_option maxHeartbeats 2000000

noncomputable section

namespace Cert.Proof.InProj

open Idealize.ShloMosaic Idealize.ShloMosaic.TcCoe
open Cert.Kernel8Ideal Cert.Kernel8Ideal.Gen
open Idealize.ShloMosaic.Pipeline (Dat)

/-! The DeltaNet's projections. Each of the eight grid points holds whole rows of both factors, so it finishes its block
    of the result in one step. -/

theorem body (c : Dev nD) (i : grid0.Coords) (arg3 : Memref sig .tc .vmem S1024x1024 .bf16) (harg3 : arg3.IsWhole) (arg4 : Memref sig .tc .vmem S2048x1024 .bf16) (harg4 : arg4.IsWhole) (arg5 : Memref sig .tc .vmem S1024x2048 .f32) (harg5 : arg5.IsWhole)
    (n : Vec Ideal S1024x1024 .bf16) (w : Vec Ideal S2048x1024 .bf16) (p : Fin 1024) (q : Fin 2048) :
    out0_A_2 c i arg3 harg3 arg4 harg4 arg5 harg5 n w (ix2 p q) = ∑ k : Fin 1024, n (ix2 p k) * w (ix2 q k) := by
  frame_out
  pointwise [k0_pay1]

section Points
variable (m : (ℓ : Loc nD τ sig) → Buf (Elt Ideal) ℓ) (c : Dev nD) (t : Fin cfg0.N)

theorem point_lt : t.val < 8 := lt_of_lt_of_eq t.isLt (show cfg0.N = 8 from N_0)

theorem at0 : (cfg0.win 0).index t = ![t.val % 4, 0] := by
  revert t; decide +kernel

theorem at1 : (cfg0.win 1).index t = ![t.val / 4, 0] := by
  revert t; decide +kernel

theorem at2 : (cfg0.win 2).index t = ![t.val % 4, t.val / 4] := by
  revert t; decide +kernel

theorem block0 (i j : Fin 1024) : iblk m c 0 t (ix2 i j)
    = m ((c : Thread nD τ).loc main_arg0) (ix2 ⟨1024 * (t.val % 4) + i.val, by omega⟩ j) := by
  have e := at0 t
  blk_ext [iblk, V, e]

/-- The weights' blocks that are read lie inside them. -/
theorem block1 (i : Fin 2048) (j : Fin 1024) : X0_1 m c t (ix2 i j)
    = m ((c : Thread nD τ).loc main_arg1) (ix2 ⟨2048 * (t.val / 4) + i.val, by have := point_lt t; omega⟩ j) := by
  have e := at1 t
  unfold X0_1 Idealize.ShloMosaic.Pipeline.Window.fill
  rw [dif_pos (moved0_1 t _)]
  blk_ext [iblk, V, e]

/-- The first 4096 columns of the product with the transposed weights. -/
def result (n : Vec Ideal S4096x1024 .bf16) (w : Vec Ideal S4112x1024 .bf16) : Vec Ideal S4096x4096 .f32 :=
  fun i => ∑ k : Fin 1024, n (ix2 (i 0) k) * w (ix2 ⟨(i 1).val, by have h : (i 1).val < 4096 := (i 1).isLt; omega⟩ k)

theorem written : (dats m 0 c).arrAt 2 cfg0.N
    = result (m ((c : Thread nD τ).loc main_arg0)) (m ((c : Thread nD τ).loc main_arg1)) := by
  refine (dats m 0 c).arrAt_eq_of_covers 2 _ (by decide +kernel) fun t hf y => ?_
  have e := at2 t
  have := point_lt t
  blk_simp
  rw [after0_2]
  idx_vars y
  have p : (win0_2.blk t).view.emb (ix2 y0 y1) = ix2 ⟨1024 * (t.val % 4) + y0.val, by omega⟩ ⟨2048 * (t.val / 4) + y1.val, by omega⟩ := by
    blk_ext [e]
  refine Eq.trans ?_ (congrArg (result _ _) p).symm
  unfold outsAt0
  refine (body ..).trans ?_
  refine Finset.sum_congr rfl fun k _ => ?_
  rw [block0, block1]
  rfl

end Points

/-- The reference ends with `result` of its arguments, which it leaves as they were. -/
theorem reference_run (m : (ℓ : Loc Cert.Reference8Ideal.nD Cert.Reference8Ideal.τ Cert.Reference8Ideal.sig) → Buf (Elt Ideal) ℓ)
    (ρ : Dev Cert.Reference8Ideal.nD → PrngReg) :
    θ_run (Cert.Reference8Ideal.defs (F := Ideal)) (onTc (τ := Cert.Reference8Ideal.τ) (Cert.Reference8Ideal.main (F := Ideal))) ⟨m, fun _ => 0, ρ⟩ fun r => ∀ c : Dev Cert.Reference8Ideal.nD,
      r.2.mem ((c.tc : Thread Cert.Reference8Ideal.nD Cert.Reference8Ideal.τ).loc Cert.Reference8Ideal.main_v4)
        = result (m ((c.tc : Thread Cert.Reference8Ideal.nD Cert.Reference8Ideal.τ).loc Cert.Reference8Ideal.main_arg0))
            (m ((c.tc : Thread Cert.Reference8Ideal.nD Cert.Reference8Ideal.τ).loc Cert.Reference8Ideal.main_arg1))
      ∧ r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1) := by
  refine (θ_run Cert.Reference8Ideal.defs _ _).mono (fun r h c => ⟨(h c).1.trans ?_, (h c).2⟩) (Cert.Reference8Ideal.Value.run (F := Ideal) m ρ)
  funext j
  idx_vars j
  pointwise [result]

end Cert.Proof.InProj
-- ==== Proof.InDw.lean ====
module

public import proofs.«01_k».proof.Proof.Gen.Kernel9Ideal.Value
public import proofs.«01_k».proof.Proof.Gen.Reference9Ideal.Run
public import Idealize.ShloMosaic.Lib.Pointwise
public import Idealize.ShloMosaic.Lib.Tactic.CleanTypes
public import Idealize.ShloMosaic.Lib.Pipeline.ValueKit
public import proofs.«01_k».proof.Proof.BlockSums

@[expose] public section

set_option maxRecDepth 16384
set_option maxHeartbeats 2000000

noncomputable section

namespace Cert.Proof.InDw

open Idealize.ShloMosaic Idealize.ShloMosaic.TcCoe
open Cert.Kernel9Ideal Cert.Kernel9Ideal.Gen
open Idealize.ShloMosaic.Pipeline (Dat)
open Cert.Proof.BlockSums

/-! The gradient of the DeltaNet's projections' weights. A block of the result takes two grid points: the first sets the
    accumulator to the products of 2048 rows, the second adds those of the other 2048 and stores. -/

section Steps
variable (c : Dev nD) (i : grid0.Coords) (arg3 : Memref sig .tc .vmem S2048x1024 .bf16) (harg3 : arg3.IsWhole) (arg4 : Memref sig .tc .vmem S2048x1024 .bf16) (harg4 : arg4.IsWhole) (arg5 : Memref sig .tc .vmem S1024x1024 .bf16) (harg5 : arg5.IsWhole) (arg6 : Memref sig .tc .vmem S1024x1024 .f32) (harg6 : arg6.IsWhole)
    (a : Vec Ideal S2048x1024 .bf16) (b : Vec Ideal S2048x1024 .bf16) (acc : Vec Ideal S1024x1024 .f32) (p q : Fin 1024)

/-- What one grid point adds. -/
def part : EReal := ∑ k : Fin 2048, a (ix2 k p) * b (ix2 k q)

theorem first (hc0 : cond0_0 i) (hc1 : ¬cond0_1 i) :
    sout0_A_0 c i arg3 harg3 arg4 harg4 arg5 harg5 arg6 harg6 hc0 hc1 a b (ix2 p q) = part a b p q := by
  frame_out
  pointwise [k0_pay1, k0_pay2, part]

theorem last (hc0 : ¬cond0_0 i) (hc1 : cond0_1 i) :
    out0_B_2 c i arg3 harg3 arg4 harg4 arg5 harg5 arg6 harg6 hc0 hc1 a b acc (ix2 p q) = acc (ix2 p q) + part a b p q := by
  frame_out
  pointwise [k0_pay2, k0_pay3, part]

end Steps

section Points
variable (m : (ℓ : Loc nD τ sig) → Buf (Elt Ideal) ℓ) (c : Dev nD) (t : Fin cfg0.N)

theorem point_lt : t.val < 8 := lt_of_lt_of_eq t.isLt (show cfg0.N = 8 from N_0)

theorem at0 : (cfg0.win 0).index t = ![t.val % 2, t.val / 2] := by
  revert t; decide +kernel

theorem at1 : (cfg0.win 1).index t = ![t.val % 2, 0] := by
  revert t; decide +kernel

theorem at2 : (cfg0.win 2).index t = ![t.val / 2, 0] := by
  revert t; decide +kernel

theorem block0 (i : Fin 2048) (j : Fin 1024) : iblk m c 0 t (ix2 i j)
    = m ((c : Thread nD τ).loc main_arg0) (ix2 ⟨2048 * (t.val % 2) + i.val, by omega⟩ ⟨1024 * (t.val / 2) + j.val, by have := point_lt t; omega⟩) := by
  have e := at0 t
  blk_ext [iblk, V, e]

theorem block1 (i : Fin 2048) (j : Fin 1024) : iblk m c 1 t (ix2 i j)
    = m ((c : Thread nD τ).loc main_arg1) (ix2 ⟨2048 * (t.val % 2) + i.val, by omega⟩ j) := by
  have e := at1 t
  blk_ext [iblk, V, e]

/-- One product of the sum that makes an entry of the gradient. -/
def term (a : Vec Ideal S4096x4096 .bf16) (b : Vec Ideal S4096x1024 .bf16) (p : Fin 4096) (q : Fin 1024) (k : Fin 4096) : EReal :=
  a (ix2 k p) * b (ix2 k q)

/-- The result, as a function of the arguments. -/
def result (a : Vec Ideal S4096x4096 .bf16) (b : Vec Ideal S4096x1024 .bf16) : Vec Ideal S4096x1024 .bf16 :=
  fun i => ∑ k, term a b (i 0) (i 1) k

/-- The products that make entry (`p`, `q`) of the block point `t` works on. -/
abbrev terms (p q : Fin 1024) : Fin 4096 → EReal :=
  term (m ((c : Thread nD τ).loc main_arg0)) (m ((c : Thread nD τ).loc main_arg1)) ⟨1024 * (t.val / 2) + p.val, by have := point_lt t; omega⟩ q

/-- A point takes the sum from the products before its own rows to those of its rows. -/
theorem adds (p q : Fin 1024) :
    upto (terms m c t p q) (2048 * (t.val % 2)) + part (iblk m c 0 t) (iblk m c 1 t) p q = upto (terms m c t p q) (2048 * (t.val % 2) + 2048) := by
  refine upto_add _ _ (by omega) _ fun k => ?_
  rw [block0, block1]
  rfl

/-- What the accumulator holds after a block's first point. -/
theorem carried (h0 : t.val % 2 = 0) (p q : Fin 1024) :
    (outsAt0 m c t.val t.isLt).2 (ix2 p q) = upto (terms m c t p q) 2048 := by
  have a := adds m c t p q
  rw [h0] at a
  rw [outsAt0_A m c t h0 (by omega)]
  dsimp only
  exact (first ..).trans ((zero_add _).symm.trans a)

theorem entering (h1 : t.val % 2 = 1) (p q : Fin 1024) :
    (outsAt0 m c (t.val - 1) (Nat.lt_of_le_of_lt (Nat.sub_le _ _) t.isLt)).2 (ix2 p q) = upto (terms m c t p q) 2048 := by
  refine (carried m c ⟨t.val - 1, Nat.lt_of_le_of_lt (Nat.sub_le _ _) t.isLt⟩ (show (t.val - 1) % 2 = 0 by omega) p q).trans ?_
  have e : (t.val - 1) / 2 = t.val / 2 := by omega
  unfold terms
  simp only [e]

/-- What a block's last point stores. -/
theorem stored (h1 : t.val % 2 = 1) (p q : Fin 1024) :
    (outsAt0 m c t.val t.isLt).1 (ix2 p q) = ∑ k, terms m c t p q k := by
  have a := adds m c t p q
  rw [h1] at a
  refine Eq.trans ?_ (a.trans (upto_all _))
  refine Eq.trans ?_ (congrArg (fun x : EReal => x + part (iblk m c 0 t) (iblk m c 1 t) p q) (entering m c t h1 p q))
  rw [outsAt0_B m c t (by omega) h1]
  dsimp only
  exact last ..

theorem written : (dats m 0 c).arrAt 2 cfg0.N
    = result (m ((c : Thread nD τ).loc main_arg0)) (m ((c : Thread nD τ).loc main_arg1)) := by
  refine (dats m 0 c).arrAt_eq_of_covers 2 _ (by decide +kernel) fun t hf y => ?_
  have e := at2 t
  have h1 : t.val % 2 = 1 := (flush0_2 t).mp hf
  have := point_lt t
  blk_simp
  rw [after0_2]
  idx_vars y
  have p : (win0_2.blk t).view.emb (ix2 y0 y1) = ix2 ⟨1024 * (t.val / 2) + y0.val, by omega⟩ y1 := by
    blk_ext [e]
  exact (stored m c t h1 y0 y1).trans (congrArg (result _ _) p).symm

end Points

/-- The reference ends with `result` of its arguments, which it leaves as they were. -/
theorem reference_run (m : (ℓ : Loc Cert.Reference9Ideal.nD Cert.Reference9Ideal.τ Cert.Reference9Ideal.sig) → Buf (Elt Ideal) ℓ)
    (ρ : Dev Cert.Reference9Ideal.nD → PrngReg) :
    θ_run (Cert.Reference9Ideal.defs (F := Ideal)) (onTc (τ := Cert.Reference9Ideal.τ) (Cert.Reference9Ideal.main (F := Ideal))) ⟨m, fun _ => 0, ρ⟩ fun r => ∀ c : Dev Cert.Reference9Ideal.nD,
      r.2.mem ((c.tc : Thread Cert.Reference9Ideal.nD Cert.Reference9Ideal.τ).loc Cert.Reference9Ideal.main_v8)
        = result (m ((c.tc : Thread Cert.Reference9Ideal.nD Cert.Reference9Ideal.τ).loc Cert.Reference9Ideal.main_arg0))
            (m ((c.tc : Thread Cert.Reference9Ideal.nD Cert.Reference9Ideal.τ).loc Cert.Reference9Ideal.main_arg1))
      ∧ r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1) := by
  refine (θ_run Cert.Reference9Ideal.defs _ _).mono (fun r h c => ⟨(h c).1.trans ?_, (h c).2⟩) (Cert.Reference9Ideal.Value.run (F := Ideal) m ρ)
  funext j
  idx_vars j
  pointwise [result, term]

end Cert.Proof.InDw
-- ==== Proof.InDx.lean ====
module

public import proofs.«01_k».proof.Proof.Gen.Kernel10Ideal.Value
public import proofs.«01_k».proof.Proof.Gen.Reference10Ideal.Run
public import Idealize.ShloMosaic.Lib.Pointwise
public import Idealize.ShloMosaic.Lib.Tactic.CleanTypes
public import Idealize.ShloMosaic.Lib.Pipeline.ValueKit
public import Idealize.ShloMosaic.Lib.Pipeline.ValueKit.Tiles
public import Idealize.ShloMosaic.Lib.Pipeline.ReadBack
public import proofs.«01_k».proof.Proof.BlockSums
public import proofs.«01_k».proof.Proof.Rms

@[expose] public section

set_option maxRecDepth 16384
set_option maxHeartbeats 2000000

noncomputable section

namespace Cert.Proof.InDx

open Idealize.ShloMosaic Idealize.ShloMosaic.TcCoe
open Cert.Kernel10Ideal Cert.Kernel10Ideal.Gen
open Idealize.ShloMosaic.Pipeline (Dat)
open Cert.Proof.BlockSums Cert.Proof.Rms

/-! The gradient that the DeltaNet mixer sends back through its first product and its norm. A row block of the argument's
    gradient takes four grid points, which add the products with a quarter of the columns each. The last of them adds what
    the mixer's other uses of the normed rows send back and takes the sums through the norm, half the rows at a time. The
    gains' gradient is summed over the row blocks as they finish. -/

section Slabs
variable (a b h d : Vec Ideal S512x1024 .f32) (g : Vec Ideal S1x1024 .f32) (p : Fin 512) (q : Fin 1024)

theorem slab_square : k0_pay6 h (ix2 p 0) = square (fun k => h (ix2 p k)) := by
  pointwise [k0_pay6, square]

theorem slab_scale : k0_pay7 h (ix2 p 0) = scale (fun k => h (ix2 p k)) := by
  pointwise [k0_pay7, scale, slab_square]

/-- What half a block's rows store. -/
theorem slab : k0_pay9 a b h d g (ix2 p q)
    = grad (fun k => h (ix2 p k)) (fun k => a (ix2 p k) + b (ix2 p k)) (fun k => g (ix2 0 k)) (fun k => d (ix2 p k)) q := by
  pointwise [k0_pay9, k0_pay5, grad, back, slab_square, slab_scale]
  simp only [Fin.sum_univ_one, slab_square, slab_scale]

theorem slab' : k0_pay14 a b h d g (ix2 p q)
    = grad (fun k => h (ix2 p k)) (fun k => a (ix2 p k) + b (ix2 p k)) (fun k => g (ix2 0 k)) (fun k => d (ix2 p k)) q :=
  slab a b h d g p q

/-- What half a block's rows add to the gains' gradient. -/
def gains : EReal := ∑ r : Fin 512, h (ix2 r q) * scale (fun k => h (ix2 r k)) * (a (ix2 r q) + b (ix2 r q))

theorem slab_gain : k0_pay8 a b h (ix2 0 q) = gains a b h q := by
  pointwise [k0_pay8, k0_pay5, gains, slab_scale]

theorem slab_gain' : k0_pay13 a b h (ix2 0 q) = gains a b h q :=
  slab_gain a b h q

end Slabs

section Steps
variable (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1024x1024 .f32) (harg7 : arg7.IsWhole) (arg8 : Memref sig .tc .vmem S1x1024 .f32) (harg8 : arg8.IsWhole) (arg9 : Memref sig .tc .vmem S1024x1024 .f32) (harg9 : arg9.IsWhole) (arg10 : Memref sig .tc .vmem S1x1024 .f32) (harg10 : arg10.IsWhole) (arg11 : Memref sig .tc .vmem S1024x1024 .f32) (harg11 : arg11.IsWhole)
    (du w : Vec Ideal S1024x1024 .bf16) (other h dh : Vec Ideal S1024x1024 .f32) (gain sum : Vec Ideal S1x1024 .f32) (acc : Vec Ideal S1024x1024 .f32) (p q : Fin 1024)

/-- What one grid point adds. -/
def part : EReal := ∑ l : Fin 1024, du (ix2 p l) * w (ix2 l q)

theorem added : k0_pay2 acc du w (ix2 p q) = acc (ix2 p q) + part du w p q := by
  pointwise [k0_pay2, part]

theorem first (hc0 : cond0_0 i) (hc1 : ¬cond0_1 i) :
    sout0_A_0 c i arg3 harg3 arg4 harg4 arg5 harg5 arg6 harg6 arg7 harg7 arg8 harg8 arg9 harg9 arg10 harg10 arg11 harg11 hc0 hc1 du w other h dh gain (ix2 p q) = part du w p q := by
  frame_out
  pointwise [k0_pay1, k0_pay2, part]

theorem next (hc0 : ¬cond0_0 i) (hc1 : ¬cond0_1 i) :
    sout0_B_0 c i arg3 harg3 arg4 harg4 arg5 harg5 arg6 harg6 arg7 harg7 arg8 harg8 arg9 harg9 arg10 harg10 arg11 harg11 hc0 hc1 du w other h dh gain acc (ix2 p q) = acc (ix2 p q) + part du w p q := by
  frame_out
  exact added ..

/-- What a row block's last point stores of the argument's gradient. -/
def row : EReal := grad (fun k => h (ix2 p k)) (fun k => acc (ix2 p k) + part du w p k + other (ix2 p k)) (fun k => gain (ix2 0 k)) (fun k => dh (ix2 p k)) q

/-- What half the rows of a row block add to the gains' gradient. -/
def half (e : Fin 2) : EReal := ∑ r : Fin 512, h (ix2 ⟨512 * e.val + r.val, by omega⟩ q) * scale (fun k => h (ix2 ⟨512 * e.val + r.val, by omega⟩ k))
  * (acc (ix2 ⟨512 * e.val + r.val, by omega⟩ q) + part du w ⟨512 * e.val + r.val, by omega⟩ q + other (ix2 ⟨512 * e.val + r.val, by omega⟩ q))

/-- Half a block's rows, read through the load of that half. -/
theorem ld_upper (z : Vec Ideal S1024x1024 .f32) (r : Fin 512) (k p : Fin 1024) (hp : p.val = r.val) :
    View.ld z (Rect.unit ![0, 0] ![512, 1024] inb_S1024x1024_S512x1024_0_0) (ix2 r k) = z (ix2 p k) := by
  have e : p = ⟨r.val, by omega⟩ := Fin.ext hp
  rw [e]
  pointwise

theorem ld_lower (z : Vec Ideal S1024x1024 .f32) (r : Fin 512) (k p : Fin 1024) (hp : p.val = 512 + r.val) :
    View.ld z (Rect.unit ![512, 0] ![512, 1024] inb_S1024x1024_S512x1024_512_0) (ix2 r k) = z (ix2 p k) := by
  have e : p = ⟨512 + r.val, by omega⟩ := Fin.ext hp
  rw [e]
  pointwise

section
variable (a' b' h' d' : Vec Ideal S512x1024 .f32) (x0 : Fin 512) (x1 : Fin 1024)

theorem rows (e : q = x1) (ha : ∀ k, a' (ix2 x0 k) = acc (ix2 p k) + part du w p k) (hb : ∀ k, b' (ix2 x0 k) = other (ix2 p k)) (hh : ∀ k, h' (ix2 x0 k) = h (ix2 p k))
    (hd : ∀ k, d' (ix2 x0 k) = dh (ix2 p k)) : k0_pay9 a' b' h' d' gain (ix2 x0 x1) = row du w other h dh gain acc p q := by
  rw [e]
  exact (slab ..).trans (grad_congr x1 hh (fun k => congrArg₂ (· + ·) (ha k) (hb k)) (fun _ => rfl) hd)

theorem rows' (e : q = x1) (ha : ∀ k, a' (ix2 x0 k) = acc (ix2 p k) + part du w p k) (hb : ∀ k, b' (ix2 x0 k) = other (ix2 p k)) (hh : ∀ k, h' (ix2 x0 k) = h (ix2 p k))
    (hd : ∀ k, d' (ix2 x0 k) = dh (ix2 p k)) : k0_pay14 a' b' h' d' gain (ix2 x0 x1) = row du w other h dh gain acc p q :=
  rows du w other h dh gain acc p q a' b' h' d' x0 x1 e ha hb hh hd

theorem gains_half (e : Fin 2) (ha : ∀ (r : Fin 512) (k : Fin 1024), a' (ix2 r k) = acc (ix2 ⟨512 * e.val + r.val, by omega⟩ k) + part du w ⟨512 * e.val + r.val, by omega⟩ k)
    (hb : ∀ (r : Fin 512) (k : Fin 1024), b' (ix2 r k) = other (ix2 ⟨512 * e.val + r.val, by omega⟩ k))
    (hh : ∀ (r : Fin 512) (k : Fin 1024), h' (ix2 r k) = h (ix2 ⟨512 * e.val + r.val, by omega⟩ k)) : gains a' b' h' q = half du w other h acc q e := by
  refine Finset.sum_congr rfl fun r _ => ?_
  rw [ha, hb, funext (hh r), hh]

end

theorem halves_sum (x y : FVec Ideal S1x1024 .f32) (u v : EReal) (hx : x (ix2 0 q) = u) (hy : y (ix2 0 q) = v) : k0_pay3 x y (ix2 0 q) = u + v := by
  rw [← hx, ← hy]
  pointwise [k0_pay3]

theorem halves_next (x y : FVec Ideal S1x1024 .f32) (u v : EReal) (hx : x (ix2 0 q) = u) (hy : y (ix2 0 q) = v) : k0_pay4 x y sum (ix2 0 q) = sum (ix2 0 q) + (u + v) := by
  rw [← hx, ← hy]
  pointwise [k0_pay4, k0_pay3]

theorem last (hc0 : ¬cond0_0 i) (hc1 : cond0_1 i) (hc2 : cond0_2 i) (hc3 : ¬cond0_3 i) :
    out0_C_6 c i arg3 harg3 arg4 harg4 arg5 harg5 arg6 harg6 arg7 harg7 arg8 harg8 arg9 harg9 arg10 harg10 arg11 harg11 hc0 hc1 hc2 hc3 du w other h dh gain acc (ix2 p q) = row du w other h dh gain acc p q := by
  frame_out
  canon_tiles x h
  · idx_vars x
    rw [View.readCov_fill _ _ _ _ _ (by decide)]
    exact rows' du w other h dh gain acc p q _ _ _ _ x0 x1 (Fin.ext h1)
      (fun k => (ld_lower _ x0 k p h0).trans (added ..)) (fun k => ld_lower _ x0 k p h0) (fun k => ld_lower _ x0 k p h0) (fun k => ld_lower _ x0 k p h0)
  · idx_vars x
    rw [View.readCov_fill _ _ _ _ _ (by decide)]
    exact rows du w other h dh gain acc p q _ _ _ _ x0 x1 (Fin.ext h1)
      (fun k => (ld_upper _ x0 k p h0).trans (added ..)) (fun k => ld_upper _ x0 k p h0) (fun k => ld_upper _ x0 k p h0) (fun k => ld_upper _ x0 k p h0)

theorem last' (hc0 : ¬cond0_0 i) (hc1 : cond0_1 i) (hc2 : ¬cond0_2 i) (hc3 : cond0_3 i) :
    out0_D_6 c i arg3 harg3 arg4 harg4 arg5 harg5 arg6 harg6 arg7 harg7 arg8 harg8 arg9 harg9 arg10 harg10 arg11 harg11 hc0 hc1 hc2 hc3 du w other h dh gain sum acc (ix2 p q) = row du w other h dh gain acc p q := by
  frame_out
  canon_tiles x h
  · idx_vars x
    rw [View.readCov_fill _ _ _ _ _ (by decide)]
    exact rows' du w other h dh gain acc p q _ _ _ _ x0 x1 (Fin.ext h1)
      (fun k => (ld_lower _ x0 k p h0).trans (added ..)) (fun k => ld_lower _ x0 k p h0) (fun k => ld_lower _ x0 k p h0) (fun k => ld_lower _ x0 k p h0)
  · idx_vars x
    rw [View.readCov_fill _ _ _ _ _ (by decide)]
    exact rows du w other h dh gain acc p q _ _ _ _ x0 x1 (Fin.ext h1)
      (fun k => (ld_upper _ x0 k p h0).trans (added ..)) (fun k => ld_upper _ x0 k p h0) (fun k => ld_upper _ x0 k p h0) (fun k => ld_upper _ x0 k p h0)

theorem gain_first (hc0 : ¬cond0_0 i) (hc1 : cond0_1 i) (hc2 : cond0_2 i) (hc3 : ¬cond0_3 i) :
    out0_C_7 c i arg3 harg3 arg4 harg4 arg5 harg5 arg6 harg6 arg7 harg7 arg8 harg8 arg9 harg9 arg10 harg10 arg11 harg11 hc0 hc1 hc2 hc3 du w other h dh gain acc (ix2 0 q)
      = half du w other h acc q 0 + half du w other h acc q 1 := by
  frame_out
  rw [View.readCov_fill _ _ _ _ _ (by decide), View.readCov_fill _ _ _ _ _ (by decide)]
  refine halves_sum _ _ _ _ _ ((slab_gain ..).trans ?_) ((slab_gain' ..).trans ?_)
  · exact gains_half du w other h acc q _ _ _ 0 (fun r k => (ld_upper _ r k _ (by simp)).trans (added ..)) (fun r k => ld_upper _ r k _ (by simp)) (fun r k => ld_upper _ r k _ (by simp))
  · exact gains_half du w other h acc q _ _ _ 1 (fun r k => (ld_lower _ r k _ (by simp)).trans (added ..)) (fun r k => ld_lower _ r k _ (by simp)) (fun r k => ld_lower _ r k _ (by simp))

theorem gain_next (hc0 : ¬cond0_0 i) (hc1 : cond0_1 i) (hc2 : ¬cond0_2 i) (hc3 : cond0_3 i) :
    out0_D_7 c i arg3 harg3 arg4 harg4 arg5 harg5 arg6 harg6 arg7 harg7 arg8 harg8 arg9 harg9 arg10 harg10 arg11 harg11 hc0 hc1 hc2 hc3 du w other h dh gain sum acc (ix2 0 q)
      = sum (ix2 0 q) + (half du w other h acc q 0 + half du w other h acc q 1) := by
  frame_out
  rw [View.readCov_fill _ _ _ _ _ (by decide), View.readCov_fill _ _ _ _ _ (by decide)]
  refine halves_next _ _ _ _ _ _ ((slab_gain ..).trans ?_) ((slab_gain' ..).trans ?_)
  · exact gains_half du w other h acc q _ _ _ 0 (fun r k => (ld_upper _ r k _ (by simp)).trans (added ..)) (fun r k => ld_upper _ r k _ (by simp)) (fun r k => ld_upper _ r k _ (by simp))
  · exact gains_half du w other h acc q _ _ _ 1 (fun r k => (ld_lower _ r k _ (by simp)).trans (added ..)) (fun r k => ld_lower _ r k _ (by simp)) (fun r k => ld_lower _ r k _ (by simp))

end Steps

section Points
variable (m : (ℓ : Loc nD τ sig) → Buf (Elt Ideal) ℓ) (c : Dev nD) (t : Fin cfg0.N)

theorem point_lt : t.val < 16 := lt_of_lt_of_eq t.isLt (show cfg0.N = 16 from N_0)

theorem at0 : (cfg0.win 0).index t = ![t.val / 4, t.val % 4] := by
  revert t; decide +kernel

theorem at1 : (cfg0.win 1).index t = ![t.val % 4, 0] := by
  revert t; decide +kernel

theorem at2 : (cfg0.win 2).index t = ![t.val / 4, 0] := by
  revert t; decide +kernel

theorem at3 : (cfg0.win 3).index t = ![t.val / 4, 0] := by
  revert t; decide +kernel

theorem at4 : (cfg0.win 4).index t = ![t.val / 4, 0] := by
  revert t; decide +kernel

theorem at5 : (cfg0.win 5).index t = ![0, 0] := by
  revert t; decide +kernel

theorem at6 : (cfg0.win 6).index t = ![t.val / 4, 0] := by
  revert t; decide +kernel

theorem at7 : (cfg0.win 7).index t = ![0, 0] := by
  revert t; decide +kernel

theorem block0 (i j : Fin 1024) : iblk m c 0 t (ix2 i j)
    = m ((c : Thread nD τ).loc main_arg0) (ix2 ⟨1024 * (t.val / 4) + i.val, by have := point_lt t; omega⟩ ⟨1024 * (t.val % 4) + j.val, by omega⟩) := by
  have e := at0 t
  blk_ext [iblk, V, e]

theorem block1 (i j : Fin 1024) : X0_1 m c t (ix2 i j)
    = m ((c : Thread nD τ).loc main_arg1) (ix2 ⟨1024 * (t.val % 4) + i.val, by omega⟩ j) := by
  have e := at1 t
  unfold X0_1 Idealize.ShloMosaic.Pipeline.Window.fill
  rw [dif_pos (moved0_1 t _)]
  blk_ext [iblk, V, e]

theorem block2 (i j : Fin 1024) : iblk m c 2 t (ix2 i j)
    = m ((c : Thread nD τ).loc main_arg2) (ix2 ⟨1024 * (t.val / 4) + i.val, by have := point_lt t; omega⟩ j) := by
  have e := at2 t
  blk_ext [iblk, V, e]

theorem block3 (i j : Fin 1024) : iblk m c 3 t (ix2 i j)
    = m ((c : Thread nD τ).loc main_arg3) (ix2 ⟨1024 * (t.val / 4) + i.val, by have := point_lt t; omega⟩ j) := by
  have e := at3 t
  blk_ext [iblk, V, e]

theorem block4 (i j : Fin 1024) : iblk m c 4 t (ix2 i j)
    = m ((c : Thread nD τ).loc main_arg4) (ix2 ⟨1024 * (t.val / 4) + i.val, by have := point_lt t; omega⟩ j) := by
  have e := at4 t
  blk_ext [iblk, V, e]

theorem block5 (j : Fin 1024) : iblk m c 5 t (ix2 0 j) = m ((c : Thread nD τ).loc main_arg5) (ix2 0 j) := by
  have e := at5 t
  blk_ext [iblk, V, e]

/-- One product of the sum that makes an entry of the gradient of the normed rows. -/
def term (du : Vec Ideal S4096x4096 .bf16) (w : Vec Ideal S4112x1024 .bf16) (p : Fin 4096) (q : Fin 1024) (k : Fin 4096) : EReal :=
  du (ix2 p k) * w (ix2 ⟨k.val, by omega⟩ q)

/-- An entry of the gradient of the normed rows. -/
def sent (du : Vec Ideal S4096x4096 .bf16) (w : Vec Ideal S4112x1024 .bf16) (other : Vec Ideal S4096x1024 .f32) (p : Fin 4096) (q : Fin 1024) : EReal := other (ix2 p q) + ∑ k, term du w p q k

/-- The argument's gradient, as a function of the call's arguments. -/
def result (du : Vec Ideal S4096x4096 .bf16) (w : Vec Ideal S4112x1024 .bf16) (other h dh : Vec Ideal S4096x1024 .f32) (gain : Vec Ideal S1x1024 .f32) : Vec Ideal S4096x1024 .f32 :=
  fun i => grad (fun k => h (ix2 (i 0) k)) (fun k => sent du w other (i 0) k) (fun k => gain (ix2 0 k)) (fun k => dh (ix2 (i 0) k)) (i 1)

/-- What one row gives the gradient of a gain. -/
def gainTerm (du : Vec Ideal S4096x4096 .bf16) (w : Vec Ideal S4112x1024 .bf16) (other h : Vec Ideal S4096x1024 .f32) (q : Fin 1024) (p : Fin 4096) : EReal :=
  h (ix2 p q) * scale (fun k => h (ix2 p k)) * sent du w other p q

/-- The gains' gradient, as a function of the call's arguments. -/
def gainResult (du : Vec Ideal S4096x4096 .bf16) (w : Vec Ideal S4112x1024 .bf16) (other h : Vec Ideal S4096x1024 .f32) : Vec Ideal S1x1024 .f32 :=
  fun i => ∑ p, gainTerm du w other h (i 1) p

/-- The products that make entry (`p`, `q`) of the rows point `t` works on. -/
abbrev terms (p q : Fin 1024) : Fin 4096 → EReal :=
  term (m ((c : Thread nD τ).loc main_arg0)) (m ((c : Thread nD τ).loc main_arg1)) ⟨1024 * (t.val / 4) + p.val, by have := point_lt t; omega⟩ q

/-- A point takes the sum from the products before its own columns to those of its columns. -/
theorem adds (p q : Fin 1024) :
    upto (terms m c t p q) (1024 * (t.val % 4)) + part (iblk m c 0 t) (X0_1 m c t) p q = upto (terms m c t p q) (1024 * (t.val % 4) + 1024) := by
  refine upto_add _ _ (by omega) _ fun k => ?_
  rw [block0, block1]
  rfl

theorem terms_pred {n : ℕ} (hn : n + 1 < cfg0.N) (h : ¬ (n + 1) % 4 = 0) (p q : Fin 1024) :
    upto (terms m c ⟨n, by omega⟩ p q) (1024 * (n % 4) + 1024) = upto (terms m c ⟨n + 1, hn⟩ p q) (1024 * ((n + 1) % 4)) := by
  have e : n / 4 = (n + 1) / 4 := by omega
  have e' : 1024 * (n % 4) + 1024 = 1024 * ((n + 1) % 4) := by omega
  unfold terms
  simp only [e, e']

/-- What the accumulator holds after a point that is not its block's last. -/
theorem carried : ∀ (n : ℕ) (hn : n < cfg0.N), ¬ n % 4 = 3 → ∀ (p q : Fin 1024),
    (outsAt0 m c n hn).2.2 (ix2 p q) = upto (terms m c ⟨n, hn⟩ p q) (1024 * (n % 4) + 1024)
  | 0, hn, h3, p, q => by
    have e := outsAt0_A m c ⟨0, hn⟩ rfl (show ¬ 0 % 4 = 3 by decide)
    dsimp only at e
    rw [e]
    dsimp only
    refine (first ..).trans ?_
    refine Eq.trans ?_ (adds m c ⟨0, hn⟩ p q)
    exact (zero_add _).symm
  | n + 1, hn, h3, p, q => by
    by_cases h0 : (n + 1) % 4 = 0
    · have e := outsAt0_A m c ⟨n + 1, hn⟩ h0 h3
      have a := adds m c ⟨n + 1, hn⟩ p q
      dsimp only at e a
      rw [e, ← a]
      dsimp only
      refine (first ..).trans (Eq.trans (zero_add _).symm (congrArg (· + _) ?_))
      rw [h0]
      rfl
    · have e := outsAt0_B m c ⟨n + 1, hn⟩ h0 h3
      have a := adds m c ⟨n + 1, hn⟩ p q
      dsimp only [Nat.add_sub_cancel] at e a
      rw [e, ← a, ← terms_pred m c hn h0]
      dsimp only
      exact (next ..).trans (congrArg (· + _) (carried n (by omega) (by omega) p q))

/-- What the accumulator holds when a point that is not its block's first begins. -/
theorem entering (h0 : ¬ t.val % 4 = 0) (p q : Fin 1024) :
    (outsAt0 m c (t.val - 1) (Nat.lt_of_le_of_lt (Nat.sub_le _ _) t.isLt)).2.2 (ix2 p q) = upto (terms m c t p q) (1024 * (t.val % 4)) := by
  obtain ⟨n, hn⟩ := t
  cases n with
  | zero => exact absurd rfl h0
  | succ n =>
    have h : ¬ (n + 1) % 4 = 0 := h0
    exact (carried m c n (by omega) (by omega) p q).trans (terms_pred m c hn h p q)

/-- The accumulator of a row block's last point, what that point adds and what came from elsewhere, together. -/
theorem whole (h3 : t.val % 4 = 3) (p q : Fin 1024) :
    (outsAt0 m c (t.val - 1) (Nat.lt_of_le_of_lt (Nat.sub_le _ _) t.isLt)).2.2 (ix2 p q) + part (iblk m c 0 t) (X0_1 m c t) p q + iblk m c 2 t (ix2 p q)
      = sent (m ((c : Thread nD τ).loc main_arg0)) (m ((c : Thread nD τ).loc main_arg1)) (m ((c : Thread nD τ).loc main_arg2)) ⟨1024 * (t.val / 4) + p.val, by have := point_lt t; omega⟩ q := by
  have e : 1024 * (t.val % 4) + 1024 = 4096 := by omega
  have a := (adds m c t p q).trans ((congrArg (upto (terms m c t p q)) e).trans (upto_all _))
  refine (add_comm _ _).trans (congrArg₂ (· + ·) (block2 m c t p q) ?_)
  exact (congrArg (fun x : EReal => x + part (iblk m c 0 t) (X0_1 m c t) p q) (entering m c t (by omega) p q)).trans a

/-- What a row block's last point stores of the argument's gradient. -/
theorem stored (h3 : t.val % 4 = 3) (p q : Fin 1024) :
    (outsAt0 m c t.val t.isLt).1 (ix2 p q)
      = result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (ix2 ⟨1024 * (t.val / 4) + p.val, by have := point_lt t; omega⟩ q) := by
  have r : row (iblk m c 0 t) (X0_1 m c t) (iblk m c 2 t) (iblk m c 3 t) (iblk m c 4 t) (iblk m c 5 t) (outsAt0 m c (t.val - 1) (Nat.lt_of_le_of_lt (Nat.sub_le _ _) t.isLt)).2.2 p q
      = result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (ix2 ⟨1024 * (t.val / 4) + p.val, by have := point_lt t; omega⟩ q) :=
    grad_congr q (fun k => block3 m c t p k) (fun k => whole m c t h3 p k) (fun k => block5 m c t k) (fun k => block4 m c t p k)
  by_cases h2 : t.val < 4
  · rw [outsAt0_C m c t (by omega) h3 h2 (by omega)]
    dsimp only
    exact (last ..).trans r
  · rw [outsAt0_D m c t (by omega) h3 h2 (by omega)]
    dsimp only
    exact (last' ..).trans r

/-- What each row gives the gradient of gain `q`. -/
abbrev gainTerms (q : Fin 1024) : Fin 4096 → EReal := gainTerm (m ((c : Thread nD τ).loc main_arg0)) (m ((c : Thread nD τ).loc main_arg1)) (m ((c : Thread nD τ).loc main_arg2)) (m ((c : Thread nD τ).loc main_arg3)) q

/-- What a row block's last point adds to the gains' gradient. -/
theorem halves (h3 : t.val % 4 = 3) (q : Fin 1024) :
    upto (gainTerms m c q) (1024 * (t.val / 4)) + (half (iblk m c 0 t) (X0_1 m c t) (iblk m c 2 t) (iblk m c 3 t) (outsAt0 m c (t.val - 1) (Nat.lt_of_le_of_lt (Nat.sub_le _ _) t.isLt)).2.2 q 0
        + half (iblk m c 0 t) (X0_1 m c t) (iblk m c 2 t) (iblk m c 3 t) (outsAt0 m c (t.val - 1) (Nat.lt_of_le_of_lt (Nat.sub_le _ _) t.isLt)).2.2 q 1)
      = upto (gainTerms m c q) (1024 * (t.val / 4) + 1024) := by
  have := point_lt t
  have one : ∀ (e : Fin 2) (n : ℕ), n = 1024 * (t.val / 4) + 512 * e.val →
      upto (gainTerms m c q) n + half (iblk m c 0 t) (X0_1 m c t) (iblk m c 2 t) (iblk m c 3 t) (outsAt0 m c (t.val - 1) (Nat.lt_of_le_of_lt (Nat.sub_le _ _) t.isLt)).2.2 q e
        = upto (gainTerms m c q) (n + 512) := by
    intro e n hn
    refine upto_add _ _ (by omega) _ fun r => ?_
    have hr : (⟨1024 * (t.val / 4) + (512 * e.val + r.val), by omega⟩ : Fin 4096) = ⟨n + r.val, by omega⟩ := Fin.ext (by dsimp only; omega)
    rw [whole m c t h3, block3, funext (fun k => block3 m c t ⟨512 * e.val + r.val, by omega⟩ k)]
    simp only [hr]
    rfl
  rw [← add_assoc, one 0 _ (by simp), one 1 _ (by simp)]

/-- What the gains' gradient has come to after each point from the first row block's last. -/
theorem summed : ∀ (n : ℕ) (hn : n < cfg0.N), 3 ≤ n → ∀ q : Fin 1024,
    (outsAt0 m c n hn).2.1 (ix2 0 q) = upto (gainTerms m c q) (1024 * ((n + 1) / 4))
  | 0, _, h, _ => absurd h (by decide)
  | n + 1, hn, h, q => by
    by_cases h3 : (n + 1) % 4 = 3
    · have a := halves m c ⟨n + 1, hn⟩ h3 q
      dsimp only at a
      have e : 1024 * ((n + 1) / 4) + 1024 = 1024 * ((n + 1 + 1) / 4) := by omega
      rw [e] at a
      refine Eq.trans ?_ a
      by_cases h2 : n + 1 < 4
      · have e0 : (n + 1) / 4 = 0 := by omega
        have o := outsAt0_C m c ⟨n + 1, hn⟩ (show ¬ (n + 1) % 4 = 0 by omega) h3 h2 (show ¬ 4 ≤ n + 1 by omega)
        dsimp only at o
        rw [o, e0]
        dsimp only
        exact (gain_first ..).trans (zero_add _).symm
      · have o := outsAt0_D m c ⟨n + 1, hn⟩ (show ¬ (n + 1) % 4 = 0 by omega) h3 h2 (show 4 ≤ n + 1 by omega)
        dsimp only at o
        rw [o]
        dsimp only
        exact (gain_next ..).trans (congrArg (· + _) (summed n (by omega) (by omega) q))
    · have e : 1024 * ((n + 1) / 4) = 1024 * ((n + 1 + 1) / 4) := by omega
      have before := summed n (by omega) (by omega) q
      rw [e] at before
      by_cases h0 : (n + 1) % 4 = 0
      · have o := outsAt0_A m c ⟨n + 1, hn⟩ h0 h3
        dsimp only at o
        rw [o]
        exact before
      · have o := outsAt0_B m c ⟨n + 1, hn⟩ h0 h3
        dsimp only at o
        rw [o]
        exact before

theorem written : (dats m 0 c).arrAt 6 cfg0.N = result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 6 _ (by decide +kernel) fun t hf y => ?_
  have e := at6 t
  have h3 : t.val % 4 = 3 := (flush0_6 t).mp hf
  have := point_lt t
  blk_simp
  rw [after0_6]
  idx_vars y
  have p : (win0_6.blk t).view.emb (ix2 y0 y1) = ix2 ⟨1024 * (t.val / 4) + y0.val, by omega⟩ y1 := by
    blk_ext [e]
  exact (stored m c t h3 y0 y1).trans (congrArg (result _ _ _ _ _ _) p).symm

theorem gain_written : (dats m 0 c).arrAt 7 cfg0.N = gainResult (m ((c : Thread nD τ).loc main_arg0)) (m ((c : Thread nD τ).loc main_arg1)) (m ((c : Thread nD τ).loc main_arg2)) (m ((c : Thread nD τ).loc main_arg3)) := by
  refine (dats m 0 c).arrAt_eq_of_covers 7 _ (by decide +kernel) fun t hf y => ?_
  have e := at7 t
  have h15 : t.val % 16 = 15 := (flush0_7 t).mp hf
  have := point_lt t
  blk_simp
  rw [after0_7]
  idx_vars y
  have p : (win0_7.blk t).view.emb (ix2 y0 y1) = ix2 y0 y1 := by
    blk_ext [e]
  have z : y0 = 0 := Subsingleton.elim _ _
  have e' : 1024 * ((t.val + 1) / 4) = 4096 := by omega
  refine Eq.trans ?_ (congrArg (gainResult _ _ _ _) p).symm
  rw [z]
  exact (summed m c t.val t.isLt (by omega) y1).trans ((congrArg (upto _) e').trans (upto_all _))

end Points

/-- What the product's gradient sends back to the normed rows: the columns that the slice left out get zeros. -/
theorem sent_back (du : Vec Ideal Cert.Reference10Ideal.S4096x4096 .bf16) (w : Vec Ideal Cert.Reference10Ideal.S4112x1024 .bf16) :
    Host.dotGeneral (F := Ideal) Cert.Reference10Ideal.dot_S4096x4112_S1024x4112_S4096x1024_1_1_0_0_n_n none
        (pad Cert.Reference10Ideal.S4096x4112 ![0, 0] ![0, 16] ![0, 0] (extf .f32 du Cert.Reference10Ideal.Gen.bitsLt_bf16_f32) (constant Cert.Reference10Ideal.S_ .f32 0#32)
          Cert.Reference10Ideal.Gen.pads_S4096x4096_S4096x4112_000_0160 Cert.Reference10Ideal.Gen.h_S_)
        (transpose Cert.Reference10Ideal.S1024x4112 [1, 0] (extf .f32 w Cert.Reference10Ideal.Gen.bitsLt_bf16_f32) Cert.Reference10Ideal.Gen.transposes_S4112x1024_S1024x4112_1_0)
      = (fun i => ∑ k, term du w (i 0) (i 1) k : FVec Ideal Cert.Reference10Ideal.S4096x1024 .f32) := by
  funext j
  idx_vars j
  pointwise
  simp only [zero_mul, Finset.sum_const_zero, add_zero]
  rfl

/-- The reference ends with `result` and `gainResult` of its arguments, which it leaves as they were. -/
theorem reference_run (m : (ℓ : Loc Cert.Reference10Ideal.nD Cert.Reference10Ideal.τ Cert.Reference10Ideal.sig) → Buf (Elt Ideal) ℓ)
    (ρ : Dev Cert.Reference10Ideal.nD → PrngReg) :
    θ_run (Cert.Reference10Ideal.defs (F := Ideal)) (onTc (τ := Cert.Reference10Ideal.τ) (Cert.Reference10Ideal.main (F := Ideal))) ⟨m, fun _ => 0, ρ⟩ fun r => ∀ c : Dev Cert.Reference10Ideal.nD,
      r.2.mem ((c.tc : Thread Cert.Reference10Ideal.nD Cert.Reference10Ideal.τ).loc Cert.Reference10Ideal.main_v42) = result (m ((c.tc : Thread Cert.Reference10Ideal.nD Cert.Reference10Ideal.τ).loc Cert.Reference10Ideal.main_arg0)) (m ((c.tc : Thread Cert.Reference10Ideal.nD Cert.Reference10Ideal.τ).loc Cert.Reference10Ideal.main_arg1)) (m ((c.tc : Thread Cert.Reference10Ideal.nD Cert.Reference10Ideal.τ).loc Cert.Reference10Ideal.main_arg2)) (m ((c.tc : Thread Cert.Reference10Ideal.nD Cert.Reference10Ideal.τ).loc Cert.Reference10Ideal.main_arg3)) (m ((c.tc : Thread Cert.Reference10Ideal.nD Cert.Reference10Ideal.τ).loc Cert.Reference10Ideal.main_arg4)) (m ((c.tc : Thread Cert.Reference10Ideal.nD Cert.Reference10Ideal.τ).loc Cert.Reference10Ideal.main_arg5))
      ∧ r.2.mem ((c.tc : Thread Cert.Reference10Ideal.nD Cert.Reference10Ideal.τ).loc Cert.Reference10Ideal.main_v25) = gainResult (m ((c.tc : Thread Cert.Reference10Ideal.nD Cert.Reference10Ideal.τ).loc Cert.Reference10Ideal.main_arg0)) (m ((c.tc : Thread Cert.Reference10Ideal.nD Cert.Reference10Ideal.τ).loc Cert.Reference10Ideal.main_arg1)) (m ((c.tc : Thread Cert.Reference10Ideal.nD Cert.Reference10Ideal.τ).loc Cert.Reference10Ideal.main_arg2)) (m ((c.tc : Thread Cert.Reference10Ideal.nD Cert.Reference10Ideal.τ).loc Cert.Reference10Ideal.main_arg3))
      ∧ r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4)
      ∧ r.2.mem ((c.tc : Thread Cert.Reference10Ideal.nD Cert.Reference10Ideal.τ).loc Cert.Reference10Ideal.main_arg5) = m ((c.tc : Thread Cert.Reference10Ideal.nD Cert.Reference10Ideal.τ).loc Cert.Reference10Ideal.main_arg5) := by
  refine (θ_run Cert.Reference10Ideal.defs _ _).mono (fun r h c => ⟨(h c).1.trans ?_, (h c).2.1.trans ?_, (h c).2.2⟩) (Cert.Reference10Ideal.Value.run (F := Ideal) m ρ)
  · unfold Cert.Reference10Ideal.Value.res_main_v42
    rw [sent_back (m ((c.tc : Thread Cert.Reference10Ideal.nD Cert.Reference10Ideal.τ).loc Cert.Reference10Ideal.main_arg0)) (m ((c.tc : Thread Cert.Reference10Ideal.nD Cert.Reference10Ideal.τ).loc Cert.Reference10Ideal.main_arg1))]
    funext j
    idx_vars j
    pointwise [result, grad, back, scale, square, sent, term]
    simp only [Finset.univ_unique, Finset.sum_singleton, add_assoc, Rms.count, tiny, minusHalf]
  · rw [sent_back (m ((c.tc : Thread Cert.Reference10Ideal.nD Cert.Reference10Ideal.τ).loc Cert.Reference10Ideal.main_arg0)) (m ((c.tc : Thread Cert.Reference10Ideal.nD Cert.Reference10Ideal.τ).loc Cert.Reference10Ideal.main_arg1))]
    funext j
    idx_vars j
    pointwise [gainResult, gainTerm, scale, square, sent, term]

end Cert.Proof.InDx
-- ==== Proof.OutDw.lean ====
module

public import proofs.«01_k».proof.Proof.Gen.Kernel11Ideal.Value
public import proofs.«01_k».proof.Proof.Gen.Reference11Ideal.Run
public import Idealize.ShloMosaic.Lib.Pointwise
public import Idealize.ShloMosaic.Lib.Tactic.CleanTypes
public import Idealize.ShloMosaic.Lib.Pipeline.ValueKit
public import proofs.«01_k».proof.Proof.BlockSums

@[expose] public section

set_option maxRecDepth 16384
set_option maxHeartbeats 2000000

noncomputable section

namespace Cert.Proof.OutDw

open Idealize.ShloMosaic Idealize.ShloMosaic.TcCoe
open Cert.Kernel11Ideal Cert.Kernel11Ideal.Gen
open Idealize.ShloMosaic.Pipeline (Dat)
open Cert.Proof.BlockSums

/-! The gradient of the weights of an output projection. The first grid point sets the accumulator to the products of
    2048 rows, the second adds those of the other 2048 and stores. -/

section Steps
variable (c : Dev nD) (i : grid0.Coords) (arg3 : Memref sig .tc .vmem S2048x1024 .bf16) (harg3 : arg3.IsWhole) (arg4 : Memref sig .tc .vmem S2048x1024 .f32) (harg4 : arg4.IsWhole) (arg5 : Memref sig .tc .vmem S1024x1024 .bf16) (harg5 : arg5.IsWhole) (arg6 : Memref sig .tc .vmem S1024x1024 .f32) (harg6 : arg6.IsWhole)
    (a : Vec Ideal S2048x1024 .bf16) (b : Vec Ideal S2048x1024 .f32) (acc : Vec Ideal S1024x1024 .f32) (p q : Fin 1024)

/-- What one grid point adds. -/
def part : EReal := ∑ k : Fin 2048, a (ix2 k p) * b (ix2 k q)

theorem first (hc0 : cond0_0 i) (hc1 : ¬cond0_1 i) :
    sout0_A_0 c i arg3 harg3 arg4 harg4 arg5 harg5 arg6 harg6 hc0 hc1 a b (ix2 p q) = part a b p q := by
  frame_out
  pointwise [k0_pay1, k0_pay2, part]

theorem last (hc0 : ¬cond0_0 i) (hc1 : cond0_1 i) :
    out0_B_2 c i arg3 harg3 arg4 harg4 arg5 harg5 arg6 harg6 hc0 hc1 a b acc (ix2 p q) = acc (ix2 p q) + part a b p q := by
  frame_out
  pointwise [k0_pay2, k0_pay3, part]

end Steps

section Points
variable (m : (ℓ : Loc nD τ sig) → Buf (Elt Ideal) ℓ) (c : Dev nD) (t : Fin cfg0.N)

theorem point_lt : t.val < 2 := lt_of_lt_of_eq t.isLt (show cfg0.N = 2 from N_0)

theorem at0 : (cfg0.win 0).index t = ![t.val % 2, 0] := by
  revert t; decide +kernel

theorem at1 : (cfg0.win 1).index t = ![t.val % 2, 0] := by
  revert t; decide +kernel

theorem at2 : (cfg0.win 2).index t = ![0, 0] := by
  revert t; decide +kernel

theorem block0 (i : Fin 2048) (j : Fin 1024) : iblk m c 0 t (ix2 i j)
    = m ((c : Thread nD τ).loc main_arg0) (ix2 ⟨2048 * (t.val % 2) + i.val, by omega⟩ j) := by
  have e := at0 t
  blk_ext [iblk, V, e]

theorem block1 (i : Fin 2048) (j : Fin 1024) : iblk m c 1 t (ix2 i j)
    = m ((c : Thread nD τ).loc main_arg1) (ix2 ⟨2048 * (t.val % 2) + i.val, by omega⟩ j) := by
  have e := at1 t
  blk_ext [iblk, V, e]

/-- One product of the sum that makes an entry of the gradient. -/
def term (a : Vec Ideal S4096x1024 .bf16) (b : Vec Ideal S4096x1024 .f32) (p : Fin 1024) (q : Fin 1024) (k : Fin 4096) : EReal :=
  a (ix2 k p) * b (ix2 k q)

/-- The result, as a function of the arguments. -/
def result (a : Vec Ideal S4096x1024 .bf16) (b : Vec Ideal S4096x1024 .f32) : Vec Ideal S1024x1024 .bf16 :=
  fun i => ∑ k, term a b (i 0) (i 1) k

/-- The products that make entry (`p`, `q`) of the block point `t` works on. -/
abbrev terms (p q : Fin 1024) : Fin 4096 → EReal :=
  term (m ((c : Thread nD τ).loc main_arg0)) (m ((c : Thread nD τ).loc main_arg1)) p q

/-- A point takes the sum from the products before its own rows to those of its rows. -/
theorem adds (p q : Fin 1024) :
    upto (terms m c p q) (2048 * (t.val % 2)) + part (iblk m c 0 t) (iblk m c 1 t) p q = upto (terms m c p q) (2048 * (t.val % 2) + 2048) := by
  refine upto_add _ _ (by omega) _ fun k => ?_
  rw [block0, block1]
  rfl

/-- What the accumulator holds after a block's first point. -/
theorem carried (h0 : t.val % 2 = 0) (p q : Fin 1024) :
    (outsAt0 m c t.val t.isLt).2 (ix2 p q) = upto (terms m c p q) 2048 := by
  have a := adds m c t p q
  rw [h0] at a
  rw [outsAt0_A m c t h0 (by omega)]
  dsimp only
  exact (first ..).trans ((zero_add _).symm.trans a)

theorem entering (h1 : t.val % 2 = 1) (p q : Fin 1024) :
    (outsAt0 m c (t.val - 1) (Nat.lt_of_le_of_lt (Nat.sub_le _ _) t.isLt)).2 (ix2 p q) = upto (terms m c p q) 2048 := by
  exact carried m c ⟨t.val - 1, Nat.lt_of_le_of_lt (Nat.sub_le _ _) t.isLt⟩ (show (t.val - 1) % 2 = 0 by omega) p q

/-- What a block's last point stores. -/
theorem stored (h1 : t.val % 2 = 1) (p q : Fin 1024) :
    (outsAt0 m c t.val t.isLt).1 (ix2 p q) = ∑ k, terms m c p q k := by
  have a := adds m c t p q
  rw [h1] at a
  refine Eq.trans ?_ (a.trans (upto_all _))
  refine Eq.trans ?_ (congrArg (fun x : EReal => x + part (iblk m c 0 t) (iblk m c 1 t) p q) (entering m c t h1 p q))
  rw [outsAt0_B m c t (by omega) h1]
  dsimp only
  exact last ..

theorem written : (dats m 0 c).arrAt 2 cfg0.N
    = result (m ((c : Thread nD τ).loc main_arg0)) (m ((c : Thread nD τ).loc main_arg1)) := by
  refine (dats m 0 c).arrAt_eq_of_covers 2 _ (by decide +kernel) fun t hf y => ?_
  have e := at2 t
  have h1 : t.val % 2 = 1 := (flush0_2 t).mp hf
  have := point_lt t
  blk_simp
  rw [after0_2]
  idx_vars y
  have p : (win0_2.blk t).view.emb (ix2 y0 y1) = ix2 y0 y1 := by
    blk_ext [e]
  exact (stored m c t h1 y0 y1).trans (congrArg (result _ _) p).symm

end Points

/-- The reference ends with `result` of its arguments, which it leaves as they were. -/
theorem reference_run (m : (ℓ : Loc Cert.Reference11Ideal.nD Cert.Reference11Ideal.τ Cert.Reference11Ideal.sig) → Buf (Elt Ideal) ℓ)
    (ρ : Dev Cert.Reference11Ideal.nD → PrngReg) :
    θ_run (Cert.Reference11Ideal.defs (F := Ideal)) (onTc (τ := Cert.Reference11Ideal.τ) (Cert.Reference11Ideal.main (F := Ideal))) ⟨m, fun _ => 0, ρ⟩ fun r => ∀ c : Dev Cert.Reference11Ideal.nD,
      r.2.mem ((c.tc : Thread Cert.Reference11Ideal.nD Cert.Reference11Ideal.τ).loc Cert.Reference11Ideal.main_v5)
        = result (m ((c.tc : Thread Cert.Reference11Ideal.nD Cert.Reference11Ideal.τ).loc Cert.Reference11Ideal.main_arg0))
            (m ((c.tc : Thread Cert.Reference11Ideal.nD Cert.Reference11Ideal.τ).loc Cert.Reference11Ideal.main_arg1))
      ∧ r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1) := by
  refine (θ_run Cert.Reference11Ideal.defs _ _).mono (fun r h c => ⟨(h c).1.trans ?_, (h c).2⟩) (Cert.Reference11Ideal.Value.run (F := Ideal) m ρ)
  funext j
  idx_vars j
  pointwise [result, term]
  exact Finset.sum_congr rfl fun k _ => mul_comm _ _

end Cert.Proof.OutDw
-- ==== Proof.QDw.lean ====
module

public import proofs.«01_k».proof.Proof.Gen.Kernel12Ideal.Value
public import proofs.«01_k».proof.Proof.Gen.Reference12Ideal.Run
public import Idealize.ShloMosaic.Lib.Pointwise
public import Idealize.ShloMosaic.Lib.Tactic.CleanTypes
public import Idealize.ShloMosaic.Lib.Pipeline.ValueKit
public import proofs.«01_k».proof.Proof.BlockSums

@[expose] public section

set_option maxRecDepth 16384
set_option maxHeartbeats 2000000

noncomputable section

namespace Cert.Proof.QDw

open Idealize.ShloMosaic Idealize.ShloMosaic.TcCoe
open Cert.Kernel12Ideal Cert.Kernel12Ideal.Gen
open Idealize.ShloMosaic.Pipeline (Dat)
open Cert.Proof.BlockSums

/-! The gradient of the weights of the cross-attention's queries. The first grid point sets the accumulator to the products of
    2048 rows, the second adds those of the other 2048 and stores. -/

section Steps
variable (c : Dev nD) (i : grid0.Coords) (arg3 : Memref sig .tc .vmem S2048x1024 .bf16) (harg3 : arg3.IsWhole) (arg4 : Memref sig .tc .vmem S2048x1024 .bf16) (harg4 : arg4.IsWhole) (arg5 : Memref sig .tc .vmem S1024x1024 .bf16) (harg5 : arg5.IsWhole) (arg6 : Memref sig .tc .vmem S1024x1024 .f32) (harg6 : arg6.IsWhole)
    (a : Vec Ideal S2048x1024 .bf16) (b : Vec Ideal S2048x1024 .bf16) (acc : Vec Ideal S1024x1024 .f32) (p q : Fin 1024)

/-- What one grid point adds. -/
def part : EReal := ∑ k : Fin 2048, a (ix2 k p) * b (ix2 k q)

theorem first (hc0 : cond0_0 i) (hc1 : ¬cond0_1 i) :
    sout0_A_0 c i arg3 harg3 arg4 harg4 arg5 harg5 arg6 harg6 hc0 hc1 a b (ix2 p q) = part a b p q := by
  frame_out
  pointwise [k0_pay1, k0_pay2, part]

theorem last (hc0 : ¬cond0_0 i) (hc1 : cond0_1 i) :
    out0_B_2 c i arg3 harg3 arg4 harg4 arg5 harg5 arg6 harg6 hc0 hc1 a b acc (ix2 p q) = acc (ix2 p q) + part a b p q := by
  frame_out
  pointwise [k0_pay2, k0_pay3, part]

end Steps

section Points
variable (m : (ℓ : Loc nD τ sig) → Buf (Elt Ideal) ℓ) (c : Dev nD) (t : Fin cfg0.N)

theorem point_lt : t.val < 2 := lt_of_lt_of_eq t.isLt (show cfg0.N = 2 from N_0)

theorem at0 : (cfg0.win 0).index t = ![t.val % 2, 0] := by
  revert t; decide +kernel

theorem at1 : (cfg0.win 1).index t = ![t.val % 2, 0] := by
  revert t; decide +kernel

theorem at2 : (cfg0.win 2).index t = ![0, 0] := by
  revert t; decide +kernel

theorem block0 (i : Fin 2048) (j : Fin 1024) : iblk m c 0 t (ix2 i j)
    = m ((c : Thread nD τ).loc main_arg0) (ix2 ⟨2048 * (t.val % 2) + i.val, by omega⟩ j) := by
  have e := at0 t
  blk_ext [iblk, V, e]

theorem block1 (i : Fin 2048) (j : Fin 1024) : iblk m c 1 t (ix2 i j)
    = m ((c : Thread nD τ).loc main_arg1) (ix2 ⟨2048 * (t.val % 2) + i.val, by omega⟩ j) := by
  have e := at1 t
  blk_ext [iblk, V, e]

/-- One product of the sum that makes an entry of the gradient. -/
def term (a : Vec Ideal S4096x1024 .bf16) (b : Vec Ideal S4096x1024 .bf16) (p : Fin 1024) (q : Fin 1024) (k : Fin 4096) : EReal :=
  a (ix2 k p) * b (ix2 k q)

/-- The result, as a function of the arguments. -/
def result (a : Vec Ideal S4096x1024 .bf16) (b : Vec Ideal S4096x1024 .bf16) : Vec Ideal S1024x1024 .bf16 :=
  fun i => ∑ k, term a b (i 0) (i 1) k

/-- The products that make entry (`p`, `q`) of the block point `t` works on. -/
abbrev terms (p q : Fin 1024) : Fin 4096 → EReal :=
  term (m ((c : Thread nD τ).loc main_arg0)) (m ((c : Thread nD τ).loc main_arg1)) p q

/-- A point takes the sum from the products before its own rows to those of its rows. -/
theorem adds (p q : Fin 1024) :
    upto (terms m c p q) (2048 * (t.val % 2)) + part (iblk m c 0 t) (iblk m c 1 t) p q = upto (terms m c p q) (2048 * (t.val % 2) + 2048) := by
  refine upto_add _ _ (by omega) _ fun k => ?_
  rw [block0, block1]
  rfl

/-- What the accumulator holds after a block's first point. -/
theorem carried (h0 : t.val % 2 = 0) (p q : Fin 1024) :
    (outsAt0 m c t.val t.isLt).2 (ix2 p q) = upto (terms m c p q) 2048 := by
  have a := adds m c t p q
  rw [h0] at a
  rw [outsAt0_A m c t h0 (by omega)]
  dsimp only
  exact (first ..).trans ((zero_add _).symm.trans a)

theorem entering (h1 : t.val % 2 = 1) (p q : Fin 1024) :
    (outsAt0 m c (t.val - 1) (Nat.lt_of_le_of_lt (Nat.sub_le _ _) t.isLt)).2 (ix2 p q) = upto (terms m c p q) 2048 := by
  exact carried m c ⟨t.val - 1, Nat.lt_of_le_of_lt (Nat.sub_le _ _) t.isLt⟩ (show (t.val - 1) % 2 = 0 by omega) p q

/-- What a block's last point stores. -/
theorem stored (h1 : t.val % 2 = 1) (p q : Fin 1024) :
    (outsAt0 m c t.val t.isLt).1 (ix2 p q) = ∑ k, terms m c p q k := by
  have a := adds m c t p q
  rw [h1] at a
  refine Eq.trans ?_ (a.trans (upto_all _))
  refine Eq.trans ?_ (congrArg (fun x : EReal => x + part (iblk m c 0 t) (iblk m c 1 t) p q) (entering m c t h1 p q))
  rw [outsAt0_B m c t (by omega) h1]
  dsimp only
  exact last ..

theorem written : (dats m 0 c).arrAt 2 cfg0.N
    = result (m ((c : Thread nD τ).loc main_arg0)) (m ((c : Thread nD τ).loc main_arg1)) := by
  refine (dats m 0 c).arrAt_eq_of_covers 2 _ (by decide +kernel) fun t hf y => ?_
  have e := at2 t
  have h1 : t.val % 2 = 1 := (flush0_2 t).mp hf
  have := point_lt t
  blk_simp
  rw [after0_2]
  idx_vars y
  have p : (win0_2.blk t).view.emb (ix2 y0 y1) = ix2 y0 y1 := by
    blk_ext [e]
  exact (stored m c t h1 y0 y1).trans (congrArg (result _ _) p).symm

end Points

/-- The reference ends with `result` of its arguments, which it leaves as they were. -/
theorem reference_run (m : (ℓ : Loc Cert.Reference12Ideal.nD Cert.Reference12Ideal.τ Cert.Reference12Ideal.sig) → Buf (Elt Ideal) ℓ)
    (ρ : Dev Cert.Reference12Ideal.nD → PrngReg) :
    θ_run (Cert.Reference12Ideal.defs (F := Ideal)) (onTc (τ := Cert.Reference12Ideal.τ) (Cert.Reference12Ideal.main (F := Ideal))) ⟨m, fun _ => 0, ρ⟩ fun r => ∀ c : Dev Cert.Reference12Ideal.nD,
      r.2.mem ((c.tc : Thread Cert.Reference12Ideal.nD Cert.Reference12Ideal.τ).loc Cert.Reference12Ideal.main_v6)
        = result (m ((c.tc : Thread Cert.Reference12Ideal.nD Cert.Reference12Ideal.τ).loc Cert.Reference12Ideal.main_arg0))
            (m ((c.tc : Thread Cert.Reference12Ideal.nD Cert.Reference12Ideal.τ).loc Cert.Reference12Ideal.main_arg1))
      ∧ r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1) := by
  refine (θ_run Cert.Reference12Ideal.defs _ _).mono (fun r h c => ⟨(h c).1.trans ?_, (h c).2⟩) (Cert.Reference12Ideal.Value.run (F := Ideal) m ρ)
  funext j
  idx_vars j
  pointwise [result, term]
  exact Finset.sum_congr rfl fun k _ => mul_comm _ _

end Cert.Proof.QDw
-- ==== Proof.OutDx.lean ====
module

public import proofs.«01_k».proof.Proof.Gen.Kernel13Ideal.Value
public import proofs.«01_k».proof.Proof.Gen.Reference13Ideal.Run
public import Idealize.ShloMosaic.Lib.Pointwise
public import Idealize.ShloMosaic.Lib.Tactic.CleanTypes
public import Idealize.ShloMosaic.Lib.Pipeline.ValueKit

@[expose] public section

set_option maxRecDepth 16384
set_option maxHeartbeats 2000000

noncomputable section

namespace Cert.Proof.OutDx

open Idealize.ShloMosaic Idealize.ShloMosaic.TcCoe
open Cert.Kernel13Ideal Cert.Kernel13Ideal.Gen
open Idealize.ShloMosaic.Pipeline (Dat)

/-! The gradient that an output product sends back to its rows: the rows' gradient times the transposed weights. Each of the four grid points holds a block's rows whole and all of the weights, so it finishes its block of the
    result in one step. -/

theorem body (x : Vec Ideal S1024x1024 .f32) (w : Vec Ideal S1024x1024 .bf16) (p q : Fin 1024) :
    out0_2 x w (ix2 p q) = ∑ k : Fin 1024, x (ix2 p k) * w (ix2 q k) := by
  unfold out0_2
  rw [View.canon_unit_zero]
  · pointwise [k0_pay1]
  · decide

section Points
variable (m : (ℓ : Loc nD τ sig) → Buf (Elt Ideal) ℓ) (c : Dev nD) (t : Fin cfg0.N)

theorem point_lt : t.val < 4 := lt_of_lt_of_eq t.isLt (show cfg0.N = 4 from N_0)

theorem at0 : (cfg0.win 0).index t = ![t.val, 0] := by
  revert t; decide +kernel

theorem at1 : (cfg0.win 1).index t = ![0, 0] := by
  revert t; decide +kernel

theorem at2 : (cfg0.win 2).index t = ![t.val, 0] := by
  revert t; decide +kernel

theorem block0 (i j : Fin 1024) : iblk m c 0 t (ix2 i j)
    = m ((c : Thread nD τ).loc main_arg0) (ix2 ⟨1024 * t.val + i.val, by have := point_lt t; omega⟩ j) := by
  have e := at0 t
  blk_ext [iblk, V, e]

theorem block1 (i j : Fin 1024) : iblk m c 1 t (ix2 i j) = m ((c : Thread nD τ).loc main_arg1) (ix2 i j) := by
  have e := at1 t
  blk_ext [iblk, V, e]

/-- The product with the transposed weights. -/
def result (x : Vec Ideal S4096x1024 .f32) (w : Vec Ideal S1024x1024 .bf16) : Vec Ideal S4096x1024 .bf16 :=
  fun i => ∑ k : Fin 1024, x (ix2 (i 0) k) * w (ix2 (i 1) k)

theorem written : (dats m 0 c).arrAt 2 cfg0.N = result (m ((c : Thread nD τ).loc main_arg0)) (m ((c : Thread nD τ).loc main_arg1)) := by
  refine (dats m 0 c).arrAt_eq_of_covers 2 _ (by decide +kernel) fun t hf y => ?_
  have e := at2 t
  have := point_lt t
  blk_simp
  rw [after0_2]
  idx_vars y
  have p : (win0_2.blk t).view.emb (ix2 y0 y1) = ix2 ⟨1024 * t.val + y0.val, by omega⟩ y1 := by
    blk_ext [e]
  refine Eq.trans ?_ (congrArg (result _ _) p).symm
  refine (body ..).trans (Finset.sum_congr rfl fun k _ => ?_)
  rw [block0, block1]
  rfl

end Points

/-- The reference ends with `result` of its arguments, which it leaves as they were. -/
theorem reference_run (m : (ℓ : Loc Cert.Reference13Ideal.nD Cert.Reference13Ideal.τ Cert.Reference13Ideal.sig) → Buf (Elt Ideal) ℓ)
    (ρ : Dev Cert.Reference13Ideal.nD → PrngReg) :
    θ_run (Cert.Reference13Ideal.defs (F := Ideal)) (onTc (τ := Cert.Reference13Ideal.τ) (Cert.Reference13Ideal.main (F := Ideal))) ⟨m, fun _ => 0, ρ⟩ fun r => ∀ c : Dev Cert.Reference13Ideal.nD,
      r.2.mem ((c.tc : Thread Cert.Reference13Ideal.nD Cert.Reference13Ideal.τ).loc Cert.Reference13Ideal.main_v4) = result (m ((c.tc : Thread Cert.Reference13Ideal.nD Cert.Reference13Ideal.τ).loc Cert.Reference13Ideal.main_arg0)) (m ((c.tc : Thread Cert.Reference13Ideal.nD Cert.Reference13Ideal.τ).loc Cert.Reference13Ideal.main_arg1))
      ∧ r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1) := by
  refine (θ_run Cert.Reference13Ideal.defs _ _).mono (fun r h c => ⟨(h c).1.trans ?_, (h c).2⟩) (Cert.Reference13Ideal.Value.run (F := Ideal) m ρ)
  funext j
  idx_vars j
  pointwise [result]

end Cert.Proof.OutDx
-- ==== Proof.Query.lean ====
module

public import proofs.«01_k».proof.Proof.Gen.Kernel14Ideal.Value
public import proofs.«01_k».proof.Proof.Gen.Reference14Ideal.Run
public import Idealize.ShloMosaic.Lib.Pointwise
public import Idealize.ShloMosaic.Lib.Tactic.CleanTypes
public import Idealize.ShloMosaic.Lib.Pipeline.ValueKit

@[expose] public section

set_option maxRecDepth 16384
set_option maxHeartbeats 2000000

noncomputable section

namespace Cert.Proof.Query

open Idealize.ShloMosaic Idealize.ShloMosaic.TcCoe
open Cert.Kernel14Ideal Cert.Kernel14Ideal.Gen
open Idealize.ShloMosaic.Pipeline (Dat)

/-! The queries of a cross-attention. Each of the four grid points holds a block's rows whole and all of the weights, so it finishes its block of the
    result in one step. -/

theorem body (x : Vec Ideal S1024x1024 .bf16) (w : Vec Ideal S1024x1024 .bf16) (p q : Fin 1024) :
    out0_2 x w (ix2 p q) = ∑ k : Fin 1024, x (ix2 p k) * w (ix2 k q) := by
  unfold out0_2
  rw [View.canon_unit_zero]
  · pointwise [k0_pay1]
  · decide

section Points
variable (m : (ℓ : Loc nD τ sig) → Buf (Elt Ideal) ℓ) (c : Dev nD) (t : Fin cfg0.N)

theorem point_lt : t.val < 4 := lt_of_lt_of_eq t.isLt (show cfg0.N = 4 from N_0)

theorem at0 : (cfg0.win 0).index t = ![t.val, 0] := by
  revert t; decide +kernel

theorem at1 : (cfg0.win 1).index t = ![0, 0] := by
  revert t; decide +kernel

theorem at2 : (cfg0.win 2).index t = ![t.val, 0] := by
  revert t; decide +kernel

theorem block0 (i j : Fin 1024) : iblk m c 0 t (ix2 i j)
    = m ((c : Thread nD τ).loc main_arg0) (ix2 ⟨1024 * t.val + i.val, by have := point_lt t; omega⟩ j) := by
  have e := at0 t
  blk_ext [iblk, V, e]

theorem block1 (i j : Fin 1024) : iblk m c 1 t (ix2 i j) = m ((c : Thread nD τ).loc main_arg1) (ix2 i j) := by
  have e := at1 t
  blk_ext [iblk, V, e]

/-- The product. -/
def result (x : Vec Ideal S4096x1024 .bf16) (w : Vec Ideal S1024x1024 .bf16) : Vec Ideal S4096x1024 .bf16 :=
  fun i => ∑ k : Fin 1024, x (ix2 (i 0) k) * w (ix2 k (i 1))

theorem written : (dats m 0 c).arrAt 2 cfg0.N = result (m ((c : Thread nD τ).loc main_arg0)) (m ((c : Thread nD τ).loc main_arg1)) := by
  refine (dats m 0 c).arrAt_eq_of_covers 2 _ (by decide +kernel) fun t hf y => ?_
  have e := at2 t
  have := point_lt t
  blk_simp
  rw [after0_2]
  idx_vars y
  have p : (win0_2.blk t).view.emb (ix2 y0 y1) = ix2 ⟨1024 * t.val + y0.val, by omega⟩ y1 := by
    blk_ext [e]
  refine Eq.trans ?_ (congrArg (result _ _) p).symm
  refine (body ..).trans (Finset.sum_congr rfl fun k _ => ?_)
  rw [block0, block1]
  rfl

end Points

/-- The reference ends with `result` of its arguments, which it leaves as they were. -/
theorem reference_run (m : (ℓ : Loc Cert.Reference14Ideal.nD Cert.Reference14Ideal.τ Cert.Reference14Ideal.sig) → Buf (Elt Ideal) ℓ)
    (ρ : Dev Cert.Reference14Ideal.nD → PrngReg) :
    θ_run (Cert.Reference14Ideal.defs (F := Ideal)) (onTc (τ := Cert.Reference14Ideal.τ) (Cert.Reference14Ideal.main (F := Ideal))) ⟨m, fun _ => 0, ρ⟩ fun r => ∀ c : Dev Cert.Reference14Ideal.nD,
      r.2.mem ((c.tc : Thread Cert.Reference14Ideal.nD Cert.Reference14Ideal.τ).loc Cert.Reference14Ideal.main_v3) = result (m ((c.tc : Thread Cert.Reference14Ideal.nD Cert.Reference14Ideal.τ).loc Cert.Reference14Ideal.main_arg0)) (m ((c.tc : Thread Cert.Reference14Ideal.nD Cert.Reference14Ideal.τ).loc Cert.Reference14Ideal.main_arg1))
      ∧ r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1) := by
  refine (θ_run Cert.Reference14Ideal.defs _ _).mono (fun r h c => ⟨(h c).1.trans ?_, (h c).2⟩) (Cert.Reference14Ideal.Value.run (F := Ideal) m ρ)
  funext j
  idx_vars j
  pointwise [result]

end Cert.Proof.Query
-- ==== Proof.OutProj.lean ====
module

public import proofs.«01_k».proof.Proof.Gen.Kernel15Ideal.Value
public import proofs.«01_k».proof.Proof.Gen.Reference15Ideal.Run
public import Idealize.ShloMosaic.Lib.Pointwise
public import Idealize.ShloMosaic.Lib.Tactic.CleanTypes
public import Idealize.ShloMosaic.Lib.Pipeline.ValueKit
public import Idealize.ShloMosaic.Lib.Pipeline.ValueKit.Tiles
public import Idealize.ShloMosaic.Lib.Pipeline.ReadBack
public import proofs.«01_k».proof.Proof.Rms

@[expose] public section

set_option maxRecDepth 16384
set_option maxHeartbeats 2000000

noncomputable section

namespace Cert.Proof.OutProj

open Idealize.ShloMosaic Idealize.ShloMosaic.TcCoe
open Cert.Kernel15Ideal Cert.Kernel15Ideal.Gen
open Idealize.ShloMosaic.Pipeline (Dat)
open Cert.Proof.Rms

/-! An output product of a mixer, with the residual and the norm that follow it. Each of the four grid points holds whole rows and all of the weights. It adds the products to the rows that went
    around the mixer and norms the result, half the rows at a time. -/

section Body
variable (x w : Vec Ideal S1024x1024 .bf16) (res : Vec Ideal S1024x1024 .f32) (gain : Vec Ideal S1x1024 .f32) (p q : Fin 1024)

/-- One entry of the product. -/
def prod : EReal := ∑ k : Fin 1024, x (ix2 p k) * w (ix2 k q)

/-- One entry of the rows that a point stores. -/
def row : EReal := res (ix2 p q) + prod x w p q

theorem rows : out0_4 x w res gain (ix2 p q) = row x w res p q := by
  unfold out0_4
  canon_tiles x h
  · idx_vars x
    have e : q = x1 := Fin.ext h1
    have e' : p = ⟨512 + x0.val, by omega⟩ := Fin.ext h0
    rw [e, e']
    pointwise [k0_pay2, k0_pay3, k0_pay5, k0_pay8, row, prod]
  · idx_vars x
    have e : q = x1 := Fin.ext h1
    have e' : p = ⟨x0.val, by omega⟩ := Fin.ext h0
    rw [e, e']
    pointwise [k0_pay2, k0_pay3, k0_pay5, k0_pay8, row, prod]

theorem normed : out0_5 x w res gain (ix2 p q) = Rms.norm (fun k => row x w res p k) (fun k => gain (ix2 0 k)) q := by
  unfold out0_5
  canon_tiles x h
  · idx_vars x
    have e : q = x1 := Fin.ext h1
    have e' : p = ⟨512 + x0.val, by omega⟩ := Fin.ext h0
    rw [e, e']
    pointwise [k0_pay1, k0_pay2, k0_pay3, k0_pay4, k0_pay5, k0_pay6, k0_pay7, k0_pay8, Rms.norm, scale, square, row, prod]
  · idx_vars x
    have e : q = x1 := Fin.ext h1
    have e' : p = ⟨x0.val, by omega⟩ := Fin.ext h0
    rw [e, e']
    pointwise [k0_pay1, k0_pay2, k0_pay3, k0_pay4, k0_pay5, k0_pay6, k0_pay7, k0_pay8, Rms.norm, scale, square, row, prod]

end Body

section Points
variable (m : (ℓ : Loc nD τ sig) → Buf (Elt Ideal) ℓ) (c : Dev nD) (t : Fin cfg0.N)

theorem point_lt : t.val < 4 := lt_of_lt_of_eq t.isLt (show cfg0.N = 4 from N_0)

theorem at0 : (cfg0.win 0).index t = ![t.val, 0] := by
  revert t; decide +kernel

theorem at1 : (cfg0.win 1).index t = ![0, 0] := by
  revert t; decide +kernel

theorem at2 : (cfg0.win 2).index t = ![t.val, 0] := by
  revert t; decide +kernel

theorem at3 : (cfg0.win 3).index t = ![0, 0] := by
  revert t; decide +kernel

theorem at4 : (cfg0.win 4).index t = ![t.val, 0] := by
  revert t; decide +kernel

theorem at5 : (cfg0.win 5).index t = ![t.val, 0] := by
  revert t; decide +kernel

theorem block0 (i j : Fin 1024) : iblk m c 0 t (ix2 i j)
    = m ((c : Thread nD τ).loc main_arg0) (ix2 ⟨1024 * t.val + i.val, by have := point_lt t; omega⟩ j) := by
  have e := at0 t
  blk_ext [iblk, V, e]

theorem block1 (i j : Fin 1024) : iblk m c 1 t (ix2 i j) = m ((c : Thread nD τ).loc main_arg1) (ix2 i j) := by
  have e := at1 t
  blk_ext [iblk, V, e]

theorem block2 (i j : Fin 1024) : iblk m c 2 t (ix2 i j)
    = m ((c : Thread nD τ).loc main_arg2) (ix2 ⟨1024 * t.val + i.val, by have := point_lt t; omega⟩ j) := by
  have e := at2 t
  blk_ext [iblk, V, e]

theorem block3 (j : Fin 1024) : iblk m c 3 t (ix2 0 j) = m ((c : Thread nD τ).loc main_arg3) (ix2 0 j) := by
  have e := at3 t
  blk_ext [iblk, V, e]

/-- The rows, as a function of the call's arguments. -/
def result (x : Vec Ideal S4096x1024 .bf16) (w : Vec Ideal S1024x1024 .bf16) (res : Vec Ideal S4096x1024 .f32) : Vec Ideal S4096x1024 .f32 :=
  fun i => res (ix2 (i 0) (i 1)) + ∑ k : Fin 1024, x (ix2 (i 0) k) * w (ix2 k (i 1))

/-- The normed rows, as a function of the call's arguments. -/
def normResult (x : Vec Ideal S4096x1024 .bf16) (w : Vec Ideal S1024x1024 .bf16) (res : Vec Ideal S4096x1024 .f32) (gain : Vec Ideal S1x1024 .f32) : Vec Ideal S4096x1024 .bf16 :=
  fun i => Rms.norm (fun k => result x w res (ix2 (i 0) k)) (fun k => gain (ix2 0 k)) (i 1)

/-- A row that point `t` stores. -/
theorem whole (p q : Fin 1024) : row (iblk m c 0 t) (iblk m c 1 t) (iblk m c 2 t) p q
    = result (m ((c : Thread nD τ).loc main_arg0)) (m ((c : Thread nD τ).loc main_arg1)) (m ((c : Thread nD τ).loc main_arg2)) (ix2 ⟨1024 * t.val + p.val, by have := point_lt t; omega⟩ q) := by
  unfold row prod
  rw [block2]
  simp only [block0, block1]
  rfl

theorem written : (dats m 0 c).arrAt 4 cfg0.N = result (m ((c : Thread nD τ).loc main_arg0)) (m ((c : Thread nD τ).loc main_arg1)) (m ((c : Thread nD τ).loc main_arg2)) := by
  refine (dats m 0 c).arrAt_eq_of_covers 4 _ (by decide +kernel) fun t hf y => ?_
  have e := at4 t
  have := point_lt t
  blk_simp
  rw [after0_4]
  idx_vars y
  have p : (win0_4.blk t).view.emb (ix2 y0 y1) = ix2 ⟨1024 * t.val + y0.val, by omega⟩ y1 := by
    blk_ext [e]
  refine Eq.trans ?_ (congrArg (result _ _ _) p).symm
  exact (rows ..).trans (whole m c t y0 y1)

theorem norm_written : (dats m 0 c).arrAt 5 cfg0.N = normResult (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  have e := at5 t
  have := point_lt t
  blk_simp
  rw [after0_5]
  idx_vars y
  have p : (win0_5.blk t).view.emb (ix2 y0 y1) = ix2 ⟨1024 * t.val + y0.val, by omega⟩ y1 := by
    blk_ext [e]
  refine Eq.trans ?_ (congrArg (normResult _ _ _ _) p).symm
  exact (normed ..).trans (norm_congr y1 (fun k => whole m c t y0 k) (fun k => block3 m c t k))

end Points

/-- The reference ends with `result` and `normResult` of its arguments, which it leaves as they were. -/
theorem reference_run (m : (ℓ : Loc Cert.Reference15Ideal.nD Cert.Reference15Ideal.τ Cert.Reference15Ideal.sig) → Buf (Elt Ideal) ℓ)
    (ρ : Dev Cert.Reference15Ideal.nD → PrngReg) :
    θ_run (Cert.Reference15Ideal.defs (F := Ideal)) (onTc (τ := Cert.Reference15Ideal.τ) (Cert.Reference15Ideal.main (F := Ideal))) ⟨m, fun _ => 0, ρ⟩ fun r => ∀ c : Dev Cert.Reference15Ideal.nD,
      r.2.mem ((c.tc : Thread Cert.Reference15Ideal.nD Cert.Reference15Ideal.τ).loc Cert.Reference15Ideal.main_v3) = result (m ((c.tc : Thread Cert.Reference15Ideal.nD Cert.Reference15Ideal.τ).loc Cert.Reference15Ideal.main_arg0)) (m ((c.tc : Thread Cert.Reference15Ideal.nD Cert.Reference15Ideal.τ).loc Cert.Reference15Ideal.main_arg1)) (m ((c.tc : Thread Cert.Reference15Ideal.nD Cert.Reference15Ideal.τ).loc Cert.Reference15Ideal.main_arg2))
      ∧ r.2.mem ((c.tc : Thread Cert.Reference15Ideal.nD Cert.Reference15Ideal.τ).loc Cert.Reference15Ideal.main_v16) = normResult (m ((c.tc : Thread Cert.Reference15Ideal.nD Cert.Reference15Ideal.τ).loc Cert.Reference15Ideal.main_arg0)) (m ((c.tc : Thread Cert.Reference15Ideal.nD Cert.Reference15Ideal.τ).loc Cert.Reference15Ideal.main_arg1)) (m ((c.tc : Thread Cert.Reference15Ideal.nD Cert.Reference15Ideal.τ).loc Cert.Reference15Ideal.main_arg2)) (m ((c.tc : Thread Cert.Reference15Ideal.nD Cert.Reference15Ideal.τ).loc Cert.Reference15Ideal.main_arg3))
      ∧ r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3) := by
  refine (θ_run Cert.Reference15Ideal.defs _ _).mono (fun r h c => ⟨(h c).1.trans ?_, (h c).2.1.trans ?_, (h c).2.2⟩) (Cert.Reference15Ideal.Value.run (F := Ideal) m ρ)
  · funext j
    idx_vars j
    pointwise [result]
  · funext j
    idx_vars j
    pointwise [normResult, Rms.norm, scale, square, result]

end Cert.Proof.OutProj
-- ==== Proof.Pw1.lean ====
module

public import proofs.«01_k».proof.Proof.Gen.Kernel16Ideal.Value
public import proofs.«01_k».proof.Proof.Gen.Reference16Ideal.Run
public import Idealize.ShloMosaic.Lib.Pointwise
public import Idealize.ShloMosaic.Lib.Tactic.CleanTypes
public import Idealize.ShloMosaic.Lib.Pipeline.ValueKit
public import Idealize.ShloMosaic.Lib.Pipeline.ValueKit.Tiles

@[expose] public section

set_option maxRecDepth 16384
set_option maxHeartbeats 2000000

noncomputable section

namespace Cert.Proof.Pw1

open Idealize.ShloMosaic Idealize.ShloMosaic.TcCoe
open Cert.Kernel16Ideal Cert.Kernel16Ideal.Gen
open Idealize.ShloMosaic.Pipeline (Dat)

/-! The first pointwise convolution. Each of the four grid points holds whole rows, all eight devices' weights and the
    bias, so it finishes its block of the result in one step. -/

section Blocks
variable (m : (ℓ : Loc nD τ sig) → Buf (Elt Ideal) ℓ) (c : Dev nD) (t : Fin cfg0.N)

theorem point_lt : t.val < 4 := lt_of_lt_of_eq t.isLt (show cfg0.N = 4 from N_0)

theorem at0 : (cfg0.win 0).index t = ![t.val, 0] := by
  revert t; decide +kernel

theorem at1 : (cfg0.win 1).index t = ![0, 0, 0] := by
  revert t; decide +kernel

theorem at2 : (cfg0.win 2).index t = ![0, 0] := by
  revert t; decide +kernel

theorem at3 : (cfg0.win 3).index t = ![t.val, 0] := by
  revert t; decide +kernel

theorem block0 (i j : Fin 1024) : iblk m c 0 t (ix2 i j)
    = m ((c : Thread nD τ).loc main_arg0) (ix2 ⟨1024 * t.val + i.val, by have := point_lt t; omega⟩ j) := by
  have e := at0 t
  blk_ext [iblk, V, e]

theorem block1 (d : Fin 8) (i : Fin 1024) (j : Fin 256) : iblk m c 1 t (ix3 d i j) = m ((c : Thread nD τ).loc main_arg1) (ix3 d i j) := by
  have e := at1 t
  blk_ext [iblk, V, e]

theorem block2 (i : Fin 1) (j : Fin 2048) : iblk m c 2 t (ix2 i j) = m ((c : Thread nD τ).loc main_arg2) (ix2 i j) := by
  have e := at2 t
  blk_ext [iblk, V, e]

end Blocks

/-- Entry (`p`, `q`) of the product, its bias added: column `q` of the weights is column `q % 256` of device `q / 256`. -/
def result (n : Vec Ideal S4096x1024 .bf16) (w : Vec Ideal S8x1024x256 .bf16) (b : Vec Ideal S1x2048 .f32) : Vec Ideal S4096x2048 .f32 :=
  fun i => (∑ k : Fin 1024, n (ix2 (i 0) k) * w (ix3 ⟨(i 1).val / 256, by have h : (i 1).val < 2048 := (i 1).isLt; omega⟩ k ⟨(i 1).val % 256, by omega⟩)) + b (ix2 0 (i 1))

/-- A sum that reads device `d` is the one that reads device `q / 256`. -/
theorem same_device (n : Fin 1024 → EReal) (w : Vec Ideal S8x1024x256 .bf16) (q : Fin 2048) (d : Fin 8) (l : Fin 256) (h : q.val = 256 * d.val + l.val) :
    (∑ k : Fin 1024, n k * w (ix3 d k l)) = ∑ k : Fin 1024, n k * w (ix3 ⟨q.val / 256, by omega⟩ k ⟨q.val % 256, by omega⟩) := by
  have hd : d = ⟨q.val / 256, by omega⟩ := Fin.ext (by dsimp only; omega)
  have hl : l = ⟨q.val % 256, by omega⟩ := Fin.ext (by dsimp only; omega)
  rw [← hd, ← hl]

/-- Both sides of a case distinction have the wanted value. -/
theorem both {P : Prop} [Decidable P] {f : P → EReal} {g : ¬P → EReal} {x : EReal} (hf : ∀ h, f h = x) (hg : ∀ h, g h = x) : dite P f g = x := by
  by_cases h : P
  · rw [dif_pos h]
    exact hf h
  · rw [dif_neg h]
    exact hg h

theorem body (n : Vec Ideal S1024x1024 .bf16) (w : Vec Ideal S8x1024x256 .bf16) (b : Vec Ideal S1x2048 .f32) (p : Fin 1024) (q : Fin 2048) :
    out0_3 n w b (ix2 p q) = (∑ k : Fin 1024, n (ix2 p k) * w (ix3 ⟨q.val / 256, by omega⟩ k ⟨q.val % 256, by omega⟩)) + b (ix2 0 q) := by
  unfold out0_3
  rw [View.canon_unit_zero]
  · pointwise [k0_pay1, k0_pay2, k0_pay3, k0_pay4, k0_pay5, k0_pay6, k0_pay7, k0_pay8, k0_pay9]
    refine congrArg (fun x : EReal => x + b (ix2 0 q)) ?_
    refine both (fun h => same_device (fun k => n (ix2 p k)) w q 0 ⟨q.val, h⟩ (by show q.val = 256 * 0 + (q.val); omega)) (fun h0 => ?_)
    refine both (fun h => same_device (fun k => n (ix2 p k)) w q 1 ⟨q.val - 256, h⟩ (by show q.val = 256 * 1 + (q.val - 256); omega)) (fun h1 => ?_)
    refine both (fun h => same_device (fun k => n (ix2 p k)) w q 2 ⟨q.val - 256 - 256, h⟩ (by show q.val = 256 * 2 + (q.val - 256 - 256); omega)) (fun h2 => ?_)
    refine both (fun h => same_device (fun k => n (ix2 p k)) w q 3 ⟨q.val - 256 - 256 - 256, h⟩ (by show q.val = 256 * 3 + (q.val - 256 - 256 - 256); omega)) (fun h3 => ?_)
    refine both (fun h => same_device (fun k => n (ix2 p k)) w q 4 ⟨q.val - 256 - 256 - 256 - 256, h⟩ (by show q.val = 256 * 4 + (q.val - 256 - 256 - 256 - 256); omega)) (fun h4 => ?_)
    refine both (fun h => same_device (fun k => n (ix2 p k)) w q 5 ⟨q.val - 256 - 256 - 256 - 256 - 256, h⟩ (by show q.val = 256 * 5 + (q.val - 256 - 256 - 256 - 256 - 256); omega)) (fun h5 => ?_)
    refine both (fun h => same_device (fun k => n (ix2 p k)) w q 6 ⟨q.val - 256 - 256 - 256 - 256 - 256 - 256, h⟩ (by show q.val = 256 * 6 + (q.val - 256 - 256 - 256 - 256 - 256 - 256); omega)) (fun h6 => ?_)
    exact same_device (fun k => n (ix2 p k)) w q 7 ⟨q.val - 256 - 256 - 256 - 256 - 256 - 256 - 256, by omega⟩ (by show q.val = 256 * 7 + (q.val - 256 - 256 - 256 - 256 - 256 - 256 - 256); omega)
  · decide

section
variable (m : (ℓ : Loc nD τ sig) → Buf (Elt Ideal) ℓ) (c : Dev nD)

theorem written : (dats m 0 c).arrAt 3 cfg0.N = result (m ((c : Thread nD τ).loc main_arg0)) (m ((c : Thread nD τ).loc main_arg1)) (m ((c : Thread nD τ).loc main_arg2)) := by
  refine (dats m 0 c).arrAt_eq_of_covers 3 _ (by decide +kernel) fun t hf y => ?_
  have e := at3 t
  have := point_lt t
  blk_simp
  rw [after0_3]
  idx_vars y
  have p : (win0_3.blk t).view.emb (ix2 y0 y1) = ix2 ⟨1024 * t.val + y0.val, by omega⟩ y1 := by
    blk_ext [e]
  refine Eq.trans ?_ (congrArg (result _ _ _) p).symm
  refine (body ..).trans (congrArg₂ (fun x y : EReal => x + y) (Finset.sum_congr rfl fun k _ => ?_) (block2 ..))
  rw [block0, block1]
  rfl

end

/-- The reference ends with `result` of its arguments, which it leaves as they were. -/
theorem reference_run (m : (ℓ : Loc Cert.Reference16Ideal.nD Cert.Reference16Ideal.τ Cert.Reference16Ideal.sig) → Buf (Elt Ideal) ℓ)
    (ρ : Dev Cert.Reference16Ideal.nD → PrngReg) :
    θ_run (Cert.Reference16Ideal.defs (F := Ideal)) (onTc (τ := Cert.Reference16Ideal.τ) (Cert.Reference16Ideal.main (F := Ideal))) ⟨m, fun _ => 0, ρ⟩ fun r => ∀ c : Dev Cert.Reference16Ideal.nD,
      r.2.mem ((c.tc : Thread Cert.Reference16Ideal.nD Cert.Reference16Ideal.τ).loc Cert.Reference16Ideal.main_v6) = result (m ((c.tc : Thread Cert.Reference16Ideal.nD Cert.Reference16Ideal.τ).loc Cert.Reference16Ideal.main_arg0)) (m ((c.tc : Thread Cert.Reference16Ideal.nD Cert.Reference16Ideal.τ).loc Cert.Reference16Ideal.main_arg1)) (m ((c.tc : Thread Cert.Reference16Ideal.nD Cert.Reference16Ideal.τ).loc Cert.Reference16Ideal.main_arg2))
      ∧ r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2) := by
  refine (θ_run Cert.Reference16Ideal.defs _ _).mono (fun r h c => ⟨(h c).1.trans ?_, (h c).2⟩) (Cert.Reference16Ideal.Value.run (F := Ideal) m ρ)
  funext j
  idx_vars j
  pointwise [result]

end Cert.Proof.Pw1
-- ==== Proof.Pw1Dw.lean ====
module

public import proofs.«01_k».proof.Proof.Gen.Kernel17Ideal.Value
public import proofs.«01_k».proof.Proof.Gen.Reference17Ideal.Run
public import Idealize.ShloMosaic.Lib.Pointwise
public import Idealize.ShloMosaic.Lib.Tactic.CleanTypes
public import Idealize.ShloMosaic.Lib.Pipeline.ValueKit
public import Idealize.ShloMosaic.Lib.Pipeline.ValueKit.Tiles
public import proofs.«01_k».proof.Proof.BlockSums

@[expose] public section

set_option maxRecDepth 16384
set_option maxHeartbeats 2000000

noncomputable section

namespace Cert.Proof.Pw1Dw

open Idealize.ShloMosaic Idealize.ShloMosaic.TcCoe
open Cert.Kernel17Ideal Cert.Kernel17Ideal.Gen
open Idealize.ShloMosaic.Pipeline (Dat)
open Cert.Proof.BlockSums

/-! The gradient of the first pointwise convolution's weights. A block of the result, the columns of four devices, takes two grid points:
    the first sets the accumulator to the products of 2048 rows, the second adds those of the other 2048 and stores. -/

section Steps
variable (c : Dev nD) (i : grid0.Coords) (arg3 : Memref sig .tc .vmem S2048x1024 .bf16) (harg3 : arg3.IsWhole) (arg4 : Memref sig .tc .vmem S2048x1024 .bf16) (harg4 : arg4.IsWhole) (arg5 : Memref sig .tc .vmem S4x1024x256 .bf16) (harg5 : arg5.IsWhole) (arg6 : Memref sig .tc .vmem S1024x1024 .f32) (harg6 : arg6.IsWhole)
    (n : Vec Ideal S2048x1024 .bf16) (d : Vec Ideal S2048x1024 .bf16) (acc : Vec Ideal S1024x1024 .f32)

/-- What one grid point adds. -/
def part (p : Fin 1024) (q : Fin 1024) : EReal := ∑ k : Fin 2048, n (ix2 k p) * d (ix2 k q)

theorem first (hc0 : cond0_0 i) (hc1 : ¬cond0_1 i) (p : Fin 1024) (q : Fin 1024) :
    sout0_A_0 c i arg3 harg3 arg4 harg4 arg5 harg5 arg6 harg6 hc0 hc1 n d (ix2 p q) = part n d p q := by
  frame_out
  pointwise [k0_pay1, k0_pay2, part]

/-- The sum depends on the entry's place alone. -/
theorem same_entry {p p' : Fin 1024} {q q' : Fin 1024} (hp : p'.val = p.val) (hq : q'.val = q.val) :
    acc (ix2 p q) + part n d p q = acc (ix2 p' q') + part n d p' q' := by
  rw [Fin.ext hp, Fin.ext hq]

theorem last (hc0 : ¬cond0_0 i) (hc1 : cond0_1 i) (e : Fin 4) (p : Fin 1024) (l : Fin 256) :
    out0_B_2 c i arg3 harg3 arg4 harg4 arg5 harg5 arg6 harg6 hc0 hc1 n d acc (ix3 e p l)
      = acc (ix2 p ⟨256 * e.val + l.val, by omega⟩) + part n d p ⟨256 * e.val + l.val, by omega⟩ := by
  frame_out
  canon_tiles x h
  all_goals
    idx_vars x
    pointwise [k0_pay2, k0_pay3, k0_pay4, k0_pay5, k0_pay6]
    exact same_entry n d acc (by omega) (by dsimp only; omega)

end Steps

section Points
variable (m : (ℓ : Loc nD τ sig) → Buf (Elt Ideal) ℓ) (c : Dev nD) (t : Fin cfg0.N)

theorem point_lt : t.val < 4 := lt_of_lt_of_eq t.isLt (show cfg0.N = 4 from N_0)

theorem at0 : (cfg0.win 0).index t = ![t.val % 2, 0] := by
  revert t; decide +kernel

theorem at1 : (cfg0.win 1).index t = ![t.val % 2, t.val / 2] := by
  revert t; decide +kernel

theorem at2 : (cfg0.win 2).index t = ![t.val / 2, 0, 0] := by
  revert t; decide +kernel

theorem block0 (i : Fin 2048) (j : Fin 1024) : iblk m c 0 t (ix2 i j)
    = m ((c : Thread nD τ).loc main_arg0) (ix2 ⟨2048 * (t.val % 2) + i.val, by omega⟩ j) := by
  have e := at0 t
  blk_ext [iblk, V, e]

theorem block1 (i : Fin 2048) (j : Fin 1024) : iblk m c 1 t (ix2 i j)
    = m ((c : Thread nD τ).loc main_arg1) (ix2 ⟨2048 * (t.val % 2) + i.val, by omega⟩ ⟨1024 * (t.val / 2) + j.val, by have := point_lt t; omega⟩) := by
  have e := at1 t
  blk_ext [iblk, V, e]

/-- One product of the sum that makes an entry of the gradient. -/
def term (n : Vec Ideal S4096x1024 .bf16) (d : Vec Ideal S4096x2048 .bf16) (p : Fin 1024) (q : Fin 2048) (k : Fin 4096) : EReal :=
  n (ix2 k p) * d (ix2 k q)

/-- The result, as a function of the arguments: the gradient's columns, device by device. -/
def result (n : Vec Ideal S4096x1024 .bf16) (d : Vec Ideal S4096x2048 .bf16) : Vec Ideal S8x1024x256 .bf16 :=
  fun i => ∑ k, term n d (i 1) ⟨256 * (i 0).val + (i 2).val, by have h : (i 0).val < 8 := (i 0).isLt; have h' : (i 2).val < 256 := (i 2).isLt; omega⟩ k

/-- The products that make entry (`p`, `q`) of the columns point `t` works on. -/
abbrev terms (p : Fin 1024) (q : Fin 1024) : Fin 4096 → EReal :=
  term (m ((c : Thread nD τ).loc main_arg0)) (m ((c : Thread nD τ).loc main_arg1)) p ⟨1024 * (t.val / 2) + q.val, by have := point_lt t; omega⟩

/-- A point takes the sum from the products before its own rows to those of its rows. -/
theorem adds (p : Fin 1024) (q : Fin 1024) :
    upto (terms m c t p q) (2048 * (t.val % 2)) + part (iblk m c 0 t) (iblk m c 1 t) p q = upto (terms m c t p q) (2048 * (t.val % 2) + 2048) := by
  refine upto_add _ _ (by omega) _ fun k => ?_
  rw [block0, block1]
  rfl

/-- What the accumulator holds after a block's first point. -/
theorem carried (h0 : t.val % 2 = 0) (p : Fin 1024) (q : Fin 1024) :
    (outsAt0 m c t.val t.isLt).2 (ix2 p q) = upto (terms m c t p q) 2048 := by
  have a := adds m c t p q
  rw [h0] at a
  rw [outsAt0_A m c t h0 (by omega)]
  dsimp only
  exact (first ..).trans ((zero_add _).symm.trans a)

theorem entering (h1 : t.val % 2 = 1) (p : Fin 1024) (q : Fin 1024) :
    (outsAt0 m c (t.val - 1) (Nat.lt_of_le_of_lt (Nat.sub_le _ _) t.isLt)).2 (ix2 p q) = upto (terms m c t p q) 2048 := by
  refine (carried m c ⟨t.val - 1, Nat.lt_of_le_of_lt (Nat.sub_le _ _) t.isLt⟩ (show (t.val - 1) % 2 = 0 by omega) p q).trans ?_
  have e : (t.val - 1) / 2 = t.val / 2 := by omega
  unfold terms
  simp only [e]

/-- What a block's last point stores. -/
theorem stored (h1 : t.val % 2 = 1) (e : Fin 4) (p : Fin 1024) (l : Fin 256) :
    (outsAt0 m c t.val t.isLt).1 (ix3 e p l) = ∑ k, terms m c t p ⟨256 * e.val + l.val, by omega⟩ k := by
  have a := adds m c t p ⟨256 * e.val + l.val, by omega⟩
  rw [h1] at a
  refine Eq.trans ?_ (a.trans (upto_all _))
  refine Eq.trans ?_ (congrArg (fun x : EReal => x + part (iblk m c 0 t) (iblk m c 1 t) p ⟨256 * e.val + l.val, by omega⟩) (entering m c t h1 p _))
  rw [outsAt0_B m c t (by omega) h1]
  dsimp only
  exact last ..

theorem written : (dats m 0 c).arrAt 2 cfg0.N
    = result (m ((c : Thread nD τ).loc main_arg0)) (m ((c : Thread nD τ).loc main_arg1)) := by
  refine (dats m 0 c).arrAt_eq_of_covers 2 _ (by decide +kernel) fun t hf y => ?_
  have e := at2 t
  have h1 : t.val % 2 = 1 := (flush0_2 t).mp hf
  have := point_lt t
  blk_simp
  rw [after0_2]
  idx_vars y
  have p : (win0_2.blk t).view.emb (ix3 y0 y1 y2) = ix3 ⟨4 * (t.val / 2) + y0.val, by omega⟩ y1 y2 := by
    blk_ext [e]
  refine (stored m c t h1 y0 y1 y2).trans (Eq.trans ?_ (congrArg (result _ _) p).symm)
  have q : 1024 * (t.val / 2) + (256 * y0.val + y2.val) = 256 * (4 * (t.val / 2) + y0.val) + y2.val := by omega
  unfold result terms
  simp only [q]
  rfl

end Points

/-- The reference ends with `result` of its arguments, which it leaves as they were. -/
theorem reference_run (m : (ℓ : Loc Cert.Reference17Ideal.nD Cert.Reference17Ideal.τ Cert.Reference17Ideal.sig) → Buf (Elt Ideal) ℓ)
    (ρ : Dev Cert.Reference17Ideal.nD → PrngReg) :
    θ_run (Cert.Reference17Ideal.defs (F := Ideal)) (onTc (τ := Cert.Reference17Ideal.τ) (Cert.Reference17Ideal.main (F := Ideal))) ⟨m, fun _ => 0, ρ⟩ fun r => ∀ c : Dev Cert.Reference17Ideal.nD,
      r.2.mem ((c.tc : Thread Cert.Reference17Ideal.nD Cert.Reference17Ideal.τ).loc Cert.Reference17Ideal.main_v8)
        = result (m ((c.tc : Thread Cert.Reference17Ideal.nD Cert.Reference17Ideal.τ).loc Cert.Reference17Ideal.main_arg0))
            (m ((c.tc : Thread Cert.Reference17Ideal.nD Cert.Reference17Ideal.τ).loc Cert.Reference17Ideal.main_arg1))
      ∧ r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1) := by
  refine (θ_run Cert.Reference17Ideal.defs _ _).mono (fun r h c => ⟨(h c).1.trans ?_, (h c).2⟩) (Cert.Reference17Ideal.Value.run (F := Ideal) m ρ)
  funext j
  idx_vars j
  pointwise [result, term]
  simp only [Nat.mul_comm j0.val 256]
  exact Finset.sum_congr rfl fun k _ => mul_comm _ _

end Cert.Proof.Pw1Dw
-- ==== Proof.Pw1Dx.lean ====
module

public import proofs.«01_k».proof.Proof.Gen.Kernel18Ideal.Value
public import proofs.«01_k».proof.Proof.Gen.Reference18Ideal.Run
public import Idealize.ShloMosaic.Lib.Pointwise
public import Idealize.ShloMosaic.Lib.Tactic.CleanTypes
public import Idealize.ShloMosaic.Lib.Pipeline.ValueKit
public import Idealize.ShloMosaic.Lib.Pipeline.ValueKit.Tiles
public import proofs.«01_k».proof.Proof.BlockSums
public import proofs.«01_k».proof.Proof.Rms

@[expose] public section

set_option maxRecDepth 16384
set_option maxHeartbeats 2000000

noncomputable section

namespace Cert.Proof.Pw1Dx

open Idealize.ShloMosaic Idealize.ShloMosaic.TcCoe
open Cert.Kernel18Ideal Cert.Kernel18Ideal.Gen
open Idealize.ShloMosaic.Pipeline (Dat)
open Cert.Proof.BlockSums Cert.Proof.Rms

/-! The gradient that the convolution sends back through its first product and the norm before it. Each of the four grid
    points finishes a row block, half the rows at a time. The gains' gradient is summed over the row blocks. -/

section Slabs
variable (du : Vec Ideal S1024x2048 .bf16) (s : FVec Ideal S1024x1024 .f32) (d7 : FVec Ideal S1024x256 .bf16) (w7 w8 : Vec Ideal S1x1024x256 .bf16) (a : FVec Ideal S1024x1024 .f32) (h d : Vec Ideal S512x1024 .f32) (g : Vec Ideal S1x1024 .f32) (p : Fin 512) (q : Fin 1024)

theorem upper_sent : k0_pay7 du s d7 w7 w8 (ix2 p q) = k0_pay6 du s d7 w7 w8 (ix2 ⟨p.val, by omega⟩ q) := by
  pointwise [k0_pay7]

theorem lower_sent : k0_pay15 a (ix2 p q) = a (ix2 ⟨512 + p.val, by omega⟩ q) := by
  pointwise [k0_pay15]

theorem upper_square : k0_pay8 h (ix2 p 0) = square (fun k => h (ix2 p k)) := by
  pointwise [k0_pay8, square]

theorem upper_scale : k0_pay9 h (ix2 p 0) = scale (fun k => h (ix2 p k)) := by
  pointwise [k0_pay9, scale, upper_square]

theorem lower_square : k0_pay16 h (ix2 p 0) = square (fun k => h (ix2 p k)) := by
  pointwise [k0_pay16, square]

theorem lower_scale : k0_pay17 h (ix2 p 0) = scale (fun k => h (ix2 p k)) := by
  pointwise [k0_pay17, scale, lower_square]

/-- What the upper half of a block's rows stores. -/
theorem upper_row : k0_pay14 h d (k0_pay12 du s d7 w7 w8 h g) (k0_pay13 du s d7 w7 w8 h g) (ix2 p q)
    = grad (fun k => h (ix2 p k)) (fun k => k0_pay6 du s d7 w7 w8 (ix2 ⟨p.val, by omega⟩ k)) (fun k => g (ix2 0 k)) (fun k => d (ix2 p k)) q := by
  pointwise [k0_pay14, k0_pay12, k0_pay13, k0_pay11, grad, back, upper_square, upper_scale, upper_sent]
  simp only [Fin.sum_univ_one, upper_square, upper_scale, upper_sent]

/-- What the lower half stores. -/
theorem lower_row : k0_pay1 h d (k0_pay20 a h g) (k0_pay21 a h g) (ix2 p q)
    = grad (fun k => h (ix2 p k)) (fun k => a (ix2 ⟨512 + p.val, by omega⟩ k)) (fun k => g (ix2 0 k)) (fun k => d (ix2 p k)) q := by
  pointwise [k0_pay1, k0_pay20, k0_pay21, k0_pay19, grad, back, lower_square, lower_scale, lower_sent]
  simp only [Fin.sum_univ_one, lower_square, lower_scale, lower_sent]

/-- What half a block's rows add to the gains' gradient. -/
def gains (b : Fin 512 → EReal) : EReal := ∑ r : Fin 512, h (ix2 r q) * scale (fun k => h (ix2 r k)) * b r

theorem upper_gain : k0_pay10 du s d7 w7 w8 h (ix2 0 q) = gains h q fun r => k0_pay6 du s d7 w7 w8 (ix2 ⟨r.val, by omega⟩ q) := by
  pointwise [k0_pay10, gains, upper_scale, upper_sent]

theorem lower_gain : k0_pay18 a h (ix2 0 q) = gains h q fun r => a (ix2 ⟨512 + r.val, by omega⟩ q) := by
  pointwise [k0_pay18, gains, lower_scale, lower_sent]

end Slabs

section Sums
variable (x y : FVec Ideal S1x1024 .f32) (sum : Vec Ideal S1x1024 .f32) (q : Fin 1024)

theorem pair : k0_pay2 x y (ix2 0 q) = x (ix2 0 q) + y (ix2 0 q) := by
  pointwise [k0_pay2]

theorem pair_next : k0_pay3 x y sum (ix2 0 q) = sum (ix2 0 q) + (x (ix2 0 q) + y (ix2 0 q)) := by
  pointwise [k0_pay3, k0_pay2]

end Sums

section Steps
variable (c : Dev nD) (i : grid0.Coords) (arg3 : Memref sig .tc .vmem S1024x2048 .bf16) (harg3 : arg3.IsWhole) (arg4 : Memref sig .tc .vmem S8x1024x256 .bf16) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1x1024 .f32) (harg9 : arg9.IsWhole)
    (du : Vec Ideal S1024x2048 .bf16) (w : Vec Ideal S8x1024x256 .bf16) (h dh : Vec Ideal S1024x1024 .f32) (gain sum : Vec Ideal S1x1024 .f32) (p q : Fin 1024)

/-- The products with one device's columns. -/
def eighth (e : Fin 8) : EReal := ∑ l : Fin 256, du (ix2 p ⟨256 * e.val + l.val, by omega⟩) * w (ix3 e q l)

/-- An entry of the gradient of the normed rows. -/
def part : EReal := eighth du w p q 0 + eighth du w p q 1 + eighth du w p q 2 + eighth du w p q 3 + eighth du w p q 4 + eighth du w p q 5 + eighth du w p q 6 + eighth du w p q 7

theorem product : k0_pay6 du (k0_pay4 du (View.ld w (Rect.unit ![0, 0, 0] ![1, 1024, 256] inb_S8x1024x256_S1x1024x256_0_0_0))
    (View.ld w (Rect.unit ![1, 0, 0] ![1, 1024, 256] inb_S8x1024x256_S1x1024x256_1_0_0))
    (View.ld w (Rect.unit ![2, 0, 0] ![1, 1024, 256] inb_S8x1024x256_S1x1024x256_2_0_0))
    (View.ld w (Rect.unit ![3, 0, 0] ![1, 1024, 256] inb_S8x1024x256_S1x1024x256_3_0_0))
    (View.ld w (Rect.unit ![4, 0, 0] ![1, 1024, 256] inb_S8x1024x256_S1x1024x256_4_0_0))
    (View.ld w (Rect.unit ![5, 0, 0] ![1, 1024, 256] inb_S8x1024x256_S1x1024x256_5_0_0))) (k0_pay5 du)
    (View.ld w (Rect.unit ![6, 0, 0] ![1, 1024, 256] inb_S8x1024x256_S1x1024x256_6_0_0))
    (View.ld w (Rect.unit ![7, 0, 0] ![1, 1024, 256] inb_S8x1024x256_S1x1024x256_7_0_0)) (ix2 p q) = part du w p q := by
  pointwise [k0_pay6, k0_pay5, k0_pay4, part, eighth]

/-- An entry of the argument's gradient. -/
def row : EReal := grad (fun k => h (ix2 p k)) (fun k => part du w p k) (fun k => gain (ix2 0 k)) (fun k => dh (ix2 p k)) q

/-- What half the rows of a row block add to the gains' gradient. -/
def half (e : Fin 2) : EReal := ∑ r : Fin 512, h (ix2 ⟨512 * e.val + r.val, by omega⟩ q) * scale (fun k => h (ix2 ⟨512 * e.val + r.val, by omega⟩ k))
  * part du w ⟨512 * e.val + r.val, by omega⟩ q

/-- Half a block's rows, read through the load of that half. -/
theorem ld_upper (z : Vec Ideal S1024x1024 .f32) (r : Fin 512) (k p : Fin 1024) (hp : p.val = r.val) :
    View.ld z (Rect.unit ![0, 0] ![512, 1024] inb_S1024x1024_S512x1024_0_0) (ix2 r k) = z (ix2 p k) := by
  have e : p = ⟨r.val, by omega⟩ := Fin.ext hp
  rw [e]
  pointwise

theorem ld_lower (z : Vec Ideal S1024x1024 .f32) (r : Fin 512) (k p : Fin 1024) (hp : p.val = 512 + r.val) :
    View.ld z (Rect.unit ![512, 0] ![512, 1024] inb_S1024x1024_S512x1024_512_0) (ix2 r k) = z (ix2 p k) := by
  have e : p = ⟨512 + r.val, by omega⟩ := Fin.ext hp
  rw [e]
  pointwise

section
variable (du' : Vec Ideal S1024x2048 .bf16) (s : FVec Ideal S1024x1024 .f32) (d7 : FVec Ideal S1024x256 .bf16) (w7 w8 : Vec Ideal S1x1024x256 .bf16) (a : FVec Ideal S1024x1024 .f32) (h' d' : Vec Ideal S512x1024 .f32) (x0 : Fin 512) (x1 : Fin 1024)

theorem rows_upper (e : q = x1) (hp : p.val = x0.val) (ha : ∀ p k, k0_pay6 du' s d7 w7 w8 (ix2 p k) = part du w p k) (hh : ∀ k, h' (ix2 x0 k) = h (ix2 p k)) (hd : ∀ k, d' (ix2 x0 k) = dh (ix2 p k)) :
    k0_pay14 h' d' (k0_pay12 du' s d7 w7 w8 h' gain) (k0_pay13 du' s d7 w7 w8 h' gain) (ix2 x0 x1) = row du w h dh gain p q := by
  have e' : p = ⟨x0.val, by omega⟩ := Fin.ext hp
  rw [e]
  exact (upper_row ..).trans (grad_congr x1 hh (fun k => (ha _ k).trans (congrArg (fun p => part du w p k) e'.symm)) (fun _ => rfl) hd)

theorem rows_lower (e : q = x1) (hp : p.val = 512 + x0.val) (ha : ∀ p k, a (ix2 p k) = part du w p k) (hh : ∀ k, h' (ix2 x0 k) = h (ix2 p k)) (hd : ∀ k, d' (ix2 x0 k) = dh (ix2 p k)) :
    k0_pay1 h' d' (k0_pay20 a h' gain) (k0_pay21 a h' gain) (ix2 x0 x1) = row du w h dh gain p q := by
  have e' : p = ⟨512 + x0.val, by omega⟩ := Fin.ext hp
  rw [e]
  exact (lower_row ..).trans (grad_congr x1 hh (fun k => (ha _ k).trans (congrArg (fun p => part du w p k) e'.symm)) (fun _ => rfl) hd)

theorem gains_half (e : Fin 2) (b : Fin 512 → EReal) (hb : ∀ r : Fin 512, b r = part du w ⟨512 * e.val + r.val, by omega⟩ q)
    (hh : ∀ (r : Fin 512) (k : Fin 1024), h' (ix2 r k) = h (ix2 ⟨512 * e.val + r.val, by omega⟩ k)) : gains h' q b = half du w h q e := by
  refine Finset.sum_congr rfl fun r _ => ?_
  rw [hb, funext (hh r), hh]

theorem upper_half (ha : ∀ p k, k0_pay6 du' s d7 w7 w8 (ix2 p k) = part du w p k) (hh : ∀ (r : Fin 512) (k : Fin 1024), h' (ix2 r k) = h (ix2 ⟨512 * (0 : Fin 2).val + r.val, by simp; omega⟩ k)) :
    k0_pay10 du' s d7 w7 w8 h' (ix2 0 q) = half du w h q 0 :=
  (upper_gain ..).trans (gains_half du w h q h' 0 _ (fun r => (ha _ q).trans (congrArg (fun p => part du w p q) (Fin.ext (by simp)))) hh)

theorem lower_half (ha : ∀ p k, a (ix2 p k) = part du w p k) (hh : ∀ (r : Fin 512) (k : Fin 1024), h' (ix2 r k) = h (ix2 ⟨512 * (1 : Fin 2).val + r.val, by simp; omega⟩ k)) :
    k0_pay18 a h' (ix2 0 q) = half du w h q 1 :=
  (lower_gain ..).trans (gains_half du w h q h' 1 _ (fun r => (ha _ q).trans (congrArg (fun p => part du w p q) (Fin.ext (by simp)))) hh)

end

theorem rows_first (hc0 : cond0_0 i) (hc1 : ¬cond0_1 i) : out0_A_5 c i arg3 harg3 arg4 harg4 arg5 harg5 arg6 harg6 arg7 harg7 arg8 harg8 arg9 harg9 hc0 hc1 du w h dh gain (ix2 p q) = row du w h dh gain p q := by
  frame_out
  canon_tiles x h
  · idx_vars x
    exact rows_lower du w h dh gain p q _ _ _ x0 x1 (Fin.ext h1) h0 (fun p k => product ..) (fun k => ld_lower _ x0 k p h0) (fun k => ld_lower _ x0 k p h0)
  · idx_vars x
    exact rows_upper du w h dh gain p q _ _ _ _ _ _ _ x0 x1 (Fin.ext h1) h0 (fun p k => product ..) (fun k => ld_upper _ x0 k p h0) (fun k => ld_upper _ x0 k p h0)

theorem rows_next (hc0 : ¬cond0_0 i) (hc1 : cond0_1 i) : out0_B_5 c i arg3 harg3 arg4 harg4 arg5 harg5 arg6 harg6 arg7 harg7 arg8 harg8 arg9 harg9 hc0 hc1 du w h dh gain sum (ix2 p q) = row du w h dh gain p q := by
  frame_out
  canon_tiles x h
  · idx_vars x
    exact rows_lower du w h dh gain p q _ _ _ x0 x1 (Fin.ext h1) h0 (fun p k => product ..) (fun k => ld_lower _ x0 k p h0) (fun k => ld_lower _ x0 k p h0)
  · idx_vars x
    exact rows_upper du w h dh gain p q _ _ _ _ _ _ _ x0 x1 (Fin.ext h1) h0 (fun p k => product ..) (fun k => ld_upper _ x0 k p h0) (fun k => ld_upper _ x0 k p h0)

theorem gain_first (hc0 : cond0_0 i) (hc1 : ¬cond0_1 i) : out0_A_6 c i arg3 harg3 arg4 harg4 arg5 harg5 arg6 harg6 arg7 harg7 arg8 harg8 arg9 harg9 hc0 hc1 du w h dh gain (ix2 0 q) = half du w h q 0 + half du w h q 1 := by
  frame_out
  exact (pair ..).trans (congrArg₂ (fun x y : EReal => x + y) (upper_half du w h q _ _ _ _ _ _ (fun p k => product ..) (fun r k => ld_upper _ r k _ (by simp))) (lower_half du w h q _ _ (fun p k => product ..) (fun r k => ld_lower _ r k _ (by simp))))

theorem gain_next (hc0 : ¬cond0_0 i) (hc1 : cond0_1 i) : out0_B_6 c i arg3 harg3 arg4 harg4 arg5 harg5 arg6 harg6 arg7 harg7 arg8 harg8 arg9 harg9 hc0 hc1 du w h dh gain sum (ix2 0 q)
    = sum (ix2 0 q) + (half du w h q 0 + half du w h q 1) := by
  frame_out
  exact (pair_next ..).trans (congrArg₂ (fun x y : EReal => sum (ix2 0 q) + (x + y)) (upper_half du w h q _ _ _ _ _ _ (fun p k => product ..) (fun r k => ld_upper _ r k _ (by simp))) (lower_half du w h q _ _ (fun p k => product ..) (fun r k => ld_lower _ r k _ (by simp))))

end Steps

section Points
variable (m : (ℓ : Loc nD τ sig) → Buf (Elt Ideal) ℓ) (c : Dev nD) (t : Fin cfg0.N)

theorem point_lt : t.val < 4 := lt_of_lt_of_eq t.isLt (show cfg0.N = 4 from N_0)

theorem at0 : (cfg0.win 0).index t = ![t.val, 0] := by
  revert t; decide +kernel

theorem at1 : (cfg0.win 1).index t = ![0, 0, 0] := by
  revert t; decide +kernel

theorem at2 : (cfg0.win 2).index t = ![t.val, 0] := by
  revert t; decide +kernel

theorem at3 : (cfg0.win 3).index t = ![t.val, 0] := by
  revert t; decide +kernel

theorem at4 : (cfg0.win 4).index t = ![0, 0] := by
  revert t; decide +kernel

theorem at5 : (cfg0.win 5).index t = ![t.val, 0] := by
  revert t; decide +kernel

theorem at6 : (cfg0.win 6).index t = ![0, 0] := by
  revert t; decide +kernel

theorem block0 (i : Fin 1024) (j : Fin 2048) : iblk m c 0 t (ix2 i j)
    = m ((c : Thread nD τ).loc main_arg0) (ix2 ⟨1024 * t.val + i.val, by have := point_lt t; omega⟩ j) := by
  have e := at0 t
  blk_ext [iblk, V, e]

theorem block1 (d : Fin 8) (i : Fin 1024) (j : Fin 256) : iblk m c 1 t (ix3 d i j) = m ((c : Thread nD τ).loc main_arg1) (ix3 d i j) := by
  have e := at1 t
  blk_ext [iblk, V, e]

theorem block2 (i : Fin 1024) (j : Fin 1024) : iblk m c 2 t (ix2 i j)
    = m ((c : Thread nD τ).loc main_arg2) (ix2 ⟨1024 * t.val + i.val, by have := point_lt t; omega⟩ j) := by
  have e := at2 t
  blk_ext [iblk, V, e]

theorem block3 (i : Fin 1024) (j : Fin 1024) : iblk m c 3 t (ix2 i j)
    = m ((c : Thread nD τ).loc main_arg3) (ix2 ⟨1024 * t.val + i.val, by have := point_lt t; omega⟩ j) := by
  have e := at3 t
  blk_ext [iblk, V, e]

theorem block4 (j : Fin 1024) : iblk m c 4 t (ix2 0 j) = m ((c : Thread nD τ).loc main_arg4) (ix2 0 j) := by
  have e := at4 t
  blk_ext [iblk, V, e]

/-- One product of the sum that makes an entry of the gradient of the normed rows: column `k` of the weights is column
    `k % 256` of device `k / 256`. -/
def term (du : Vec Ideal S4096x2048 .bf16) (w : Vec Ideal S8x1024x256 .bf16) (p : Fin 4096) (q : Fin 1024) (k : Fin 2048) : EReal :=
  du (ix2 p k) * w (ix3 ⟨k.val / 256, by omega⟩ q ⟨k.val % 256, by omega⟩)

/-- An entry of the gradient of the normed rows. -/
def sent (du : Vec Ideal S4096x2048 .bf16) (w : Vec Ideal S8x1024x256 .bf16) (p : Fin 4096) (q : Fin 1024) : EReal := ∑ k, term du w p q k

/-- The argument's gradient, as a function of the call's arguments. -/
def result (du : Vec Ideal S4096x2048 .bf16) (w : Vec Ideal S8x1024x256 .bf16) (h dh : Vec Ideal S4096x1024 .f32) (gain : Vec Ideal S1x1024 .f32) : Vec Ideal S4096x1024 .f32 :=
  fun i => grad (fun k => h (ix2 (i 0) k)) (fun k => sent du w (i 0) k) (fun k => gain (ix2 0 k)) (fun k => dh (ix2 (i 0) k)) (i 1)

/-- What one row gives the gradient of a gain. -/
def gainTerm (du : Vec Ideal S4096x2048 .bf16) (w : Vec Ideal S8x1024x256 .bf16) (h : Vec Ideal S4096x1024 .f32) (q : Fin 1024) (p : Fin 4096) : EReal :=
  h (ix2 p q) * scale (fun k => h (ix2 p k)) * sent du w p q

/-- The gains' gradient, as a function of the call's arguments. -/
def gainResult (du : Vec Ideal S4096x2048 .bf16) (w : Vec Ideal S8x1024x256 .bf16) (h : Vec Ideal S4096x1024 .f32) : Vec Ideal S1x1024 .f32 :=
  fun i => ∑ p, gainTerm du w h (i 1) p

/-- The products that make entry (`p`, `q`) of the rows point `t` works on. -/
abbrev terms (p q : Fin 1024) : Fin 2048 → EReal := term (m ((c : Thread nD τ).loc main_arg0)) (m ((c : Thread nD τ).loc main_arg1)) ⟨1024 * t.val + p.val, by have := point_lt t; omega⟩ q

/-- One device's products, among those of the whole sum. -/
theorem eighth_add (p q : Fin 1024) (e : Fin 8) (n : ℕ) (hn : n = 256 * e.val) :
    upto (terms m c t p q) n + eighth (iblk m c 0 t) (iblk m c 1 t) p q e = upto (terms m c t p q) (n + 256) := by
  refine upto_add _ _ (by omega) _ fun k => ?_
  rw [block0, block1]
  have h1 : 256 * e.val + k.val = n + k.val := by omega
  have h2 : e = ⟨(n + k.val) / 256, by omega⟩ := Fin.ext (by dsimp only; omega)
  have h3 : k = ⟨(n + k.val) % 256, by omega⟩ := Fin.ext (by dsimp only; omega)
  unfold terms term
  simp only [h1]
  exact congrArg (fun x : EReal => _ * x) (congrArg₂ (fun (e : Fin 8) (l : Fin 256) => m ((c : Thread nD τ).loc main_arg1) (ix3 e q l)) h2 h3)

/-- The eight devices' products together. -/
theorem whole (p q : Fin 1024) : part (iblk m c 0 t) (iblk m c 1 t) p q = sent (m ((c : Thread nD τ).loc main_arg0)) (m ((c : Thread nD τ).loc main_arg1)) ⟨1024 * t.val + p.val, by have := point_lt t; omega⟩ q := by
  have a : upto (terms m c t p q) 0 + part (iblk m c 0 t) (iblk m c 1 t) p q = upto (terms m c t p q) 2048 := by
    unfold part
    rw [← add_assoc, ← add_assoc, ← add_assoc, ← add_assoc, ← add_assoc, ← add_assoc, ← add_assoc, eighth_add m c t p q 0 _ (by simp), eighth_add m c t p q 1 _ (by simp), eighth_add m c t p q 2 _ (by simp), eighth_add m c t p q 3 _ (by simp), eighth_add m c t p q 4 _ (by simp), eighth_add m c t p q 5 _ (by simp), eighth_add m c t p q 6 _ (by simp), eighth_add m c t p q 7 _ (by simp)]
  exact (zero_add _).symm.trans (a.trans (upto_all _))

/-- An entry of a row block, among the result's. -/
theorem row_result (p q : Fin 1024) : row (iblk m c 0 t) (iblk m c 1 t) (iblk m c 2 t) (iblk m c 3 t) (iblk m c 4 t) p q = result (m ((c : Thread nD τ).loc main_arg0)) (m ((c : Thread nD τ).loc main_arg1)) (m ((c : Thread nD τ).loc main_arg2)) (m ((c : Thread nD τ).loc main_arg3)) (m ((c : Thread nD τ).loc main_arg4)) (ix2 ⟨1024 * t.val + p.val, by have := point_lt t; omega⟩ q) :=
  grad_congr q (fun k => block2 m c t p k) (fun k => whole m c t p k) (fun k => block4 m c t k) (fun k => block3 m c t p k)

/-- What a point stores of the argument's gradient. -/
theorem stored (p q : Fin 1024) : (outsAt0 m c t.val t.isLt).1 (ix2 p q) = result (m ((c : Thread nD τ).loc main_arg0)) (m ((c : Thread nD τ).loc main_arg1)) (m ((c : Thread nD τ).loc main_arg2)) (m ((c : Thread nD τ).loc main_arg3)) (m ((c : Thread nD τ).loc main_arg4)) (ix2 ⟨1024 * t.val + p.val, by have := point_lt t; omega⟩ q) := by
  have := point_lt t
  by_cases h : t.val = 0
  · rw [outsAt0_A m c t (by omega) (by omega)]
    dsimp only
    exact (rows_first ..).trans (row_result m c t p q)
  · rw [outsAt0_B m c t (by omega) (by omega)]
    dsimp only
    exact (rows_next ..).trans (row_result m c t p q)

/-- What each row gives the gradient of gain `q`. -/
abbrev gainTerms (q : Fin 1024) : Fin 4096 → EReal := gainTerm (m ((c : Thread nD τ).loc main_arg0)) (m ((c : Thread nD τ).loc main_arg1)) (m ((c : Thread nD τ).loc main_arg2)) q

/-- What a point adds to the gains' gradient. -/
theorem halves (q : Fin 1024) :
    upto (gainTerms m c q) (1024 * t.val) + (half (iblk m c 0 t) (iblk m c 1 t) (iblk m c 2 t) q 0 + half (iblk m c 0 t) (iblk m c 1 t) (iblk m c 2 t) q 1) = upto (gainTerms m c q) (1024 * t.val + 1024) := by
  have := point_lt t
  have one : ∀ (e : Fin 2) (n : ℕ), n = 1024 * t.val + 512 * e.val →
      upto (gainTerms m c q) n + half (iblk m c 0 t) (iblk m c 1 t) (iblk m c 2 t) q e = upto (gainTerms m c q) (n + 512) := by
    intro e n hn
    refine upto_add _ _ (by omega) _ fun r => ?_
    have hr : (⟨1024 * t.val + (512 * e.val + r.val), by omega⟩ : Fin 4096) = ⟨n + r.val, by omega⟩ := Fin.ext (by dsimp only; omega)
    rw [whole m c t, block2, funext (fun k => block2 m c t ⟨512 * e.val + r.val, by omega⟩ k)]
    simp only [hr]
    rfl
  rw [← add_assoc, one 0 _ (by simp), one 1 _ (by simp)]

/-- What the gains' gradients have come to after each point. -/
theorem summed : ∀ (n : ℕ) (hn : n < cfg0.N) (q : Fin 1024), (outsAt0 m c n hn).2 (ix2 0 q) = upto (gainTerms m c q) (1024 * n + 1024)
  | 0, hn, q => by
    have o := outsAt0_A m c ⟨0, hn⟩ (show 0 % 4 = 0 from rfl) (show ¬1 ≤ 0 by omega)
    dsimp only at o
    rw [o]
    dsimp only
    exact (gain_first ..).trans ((zero_add _).symm.trans (halves m c ⟨0, hn⟩ q))
  | n + 1, hn, q => by
    have := point_lt ⟨n + 1, hn⟩
    dsimp only at this
    have o := outsAt0_B m c ⟨n + 1, hn⟩ (show ¬(n + 1) % 4 = 0 by omega) (show 1 ≤ n + 1 by omega)
    dsimp only at o
    rw [o]
    dsimp only
    exact (gain_next ..).trans ((congrArg (· + _) (summed n (by omega) q)).trans (halves m c ⟨n + 1, hn⟩ q))

theorem written : (dats m 0 c).arrAt 5 cfg0.N = result (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 5 _ (by decide +kernel) fun t hf y => ?_
  have e := at5 t
  have := point_lt t
  blk_simp
  rw [after0_5]
  idx_vars y
  have p : (win0_5.blk t).view.emb (ix2 y0 y1) = ix2 ⟨1024 * t.val + y0.val, by omega⟩ y1 := by
    blk_ext [e]
  exact (stored m c t y0 y1).trans (congrArg (result _ _ _ _ _) p).symm

theorem gain_written : (dats m 0 c).arrAt 6 cfg0.N = gainResult (m ((c : Thread nD τ).loc main_arg0)) (m ((c : Thread nD τ).loc main_arg1)) (m ((c : Thread nD τ).loc main_arg2)) := by
  refine (dats m 0 c).arrAt_eq_of_covers 6 _ (by decide +kernel) fun t hf y => ?_
  have e := at6 t
  have h3 : t.val % 4 = 3 := (flush0_6 t).mp hf
  have := point_lt t
  blk_simp
  rw [after0_6]
  idx_vars y
  have p : (win0_6.blk t).view.emb (ix2 y0 y1) = ix2 y0 y1 := by
    blk_ext [e]
  have z : y0 = 0 := Subsingleton.elim _ _
  have e' : 1024 * t.val + 1024 = 4096 := by omega
  refine Eq.trans ?_ (congrArg (gainResult _ _ _) p).symm
  rw [z]
  exact (summed m c t.val t.isLt y1).trans ((congrArg (upto _) e').trans (upto_all _))

end Points

/-- The reference ends with `result` and `gainResult` of its arguments, which it leaves as they were. -/
theorem reference_run (m : (ℓ : Loc Cert.Reference18Ideal.nD Cert.Reference18Ideal.τ Cert.Reference18Ideal.sig) → Buf (Elt Ideal) ℓ)
    (ρ : Dev Cert.Reference18Ideal.nD → PrngReg) :
    θ_run (Cert.Reference18Ideal.defs (F := Ideal)) (onTc (τ := Cert.Reference18Ideal.τ) (Cert.Reference18Ideal.main (F := Ideal))) ⟨m, fun _ => 0, ρ⟩ fun r => ∀ c : Dev Cert.Reference18Ideal.nD,
      r.2.mem ((c.tc : Thread Cert.Reference18Ideal.nD Cert.Reference18Ideal.τ).loc Cert.Reference18Ideal.main_v40) = result (m ((c.tc : Thread Cert.Reference18Ideal.nD Cert.Reference18Ideal.τ).loc Cert.Reference18Ideal.main_arg0)) (m ((c.tc : Thread Cert.Reference18Ideal.nD Cert.Reference18Ideal.τ).loc Cert.Reference18Ideal.main_arg1)) (m ((c.tc : Thread Cert.Reference18Ideal.nD Cert.Reference18Ideal.τ).loc Cert.Reference18Ideal.main_arg2)) (m ((c.tc : Thread Cert.Reference18Ideal.nD Cert.Reference18Ideal.τ).loc Cert.Reference18Ideal.main_arg3)) (m ((c.tc : Thread Cert.Reference18Ideal.nD Cert.Reference18Ideal.τ).loc Cert.Reference18Ideal.main_arg4))
      ∧ r.2.mem ((c.tc : Thread Cert.Reference18Ideal.nD Cert.Reference18Ideal.τ).loc Cert.Reference18Ideal.main_v23) = gainResult (m ((c.tc : Thread Cert.Reference18Ideal.nD Cert.Reference18Ideal.τ).loc Cert.Reference18Ideal.main_arg0)) (m ((c.tc : Thread Cert.Reference18Ideal.nD Cert.Reference18Ideal.τ).loc Cert.Reference18Ideal.main_arg1)) (m ((c.tc : Thread Cert.Reference18Ideal.nD Cert.Reference18Ideal.τ).loc Cert.Reference18Ideal.main_arg2))
      ∧ r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2)
      ∧ r.2.mem ((c.tc : Thread Cert.Reference18Ideal.nD Cert.Reference18Ideal.τ).loc Cert.Reference18Ideal.main_arg3) = m ((c.tc : Thread Cert.Reference18Ideal.nD Cert.Reference18Ideal.τ).loc Cert.Reference18Ideal.main_arg3)
      ∧ r.2.mem ((c.tc : Thread Cert.Reference18Ideal.nD Cert.Reference18Ideal.τ).loc Cert.Reference18Ideal.main_arg4) = m ((c.tc : Thread Cert.Reference18Ideal.nD Cert.Reference18Ideal.τ).loc Cert.Reference18Ideal.main_arg4) := by
  refine (θ_run Cert.Reference18Ideal.defs _ _).mono (fun r h c => ⟨(h c).1.trans ?_, (h c).2.1.trans ?_, (h c).2.2⟩) (Cert.Reference18Ideal.Value.run (F := Ideal) m ρ)
  · funext j
    idx_vars j
    pointwise [Cert.Reference18Ideal.Value.res_main_v40, result, grad, back, scale, square, sent, term]
    simp only [Finset.univ_unique, Finset.sum_singleton, add_assoc, Rms.count, tiny, minusHalf]
  · funext j
    idx_vars j
    pointwise [gainResult, gainTerm, scale, square, sent, term]

end Cert.Proof.Pw1Dx
-- ==== Proof.QDx.lean ====
module

public import proofs.«01_k».proof.Proof.Gen.Kernel19Ideal.Value
public import proofs.«01_k».proof.Proof.Gen.Reference19Ideal.Run
public import Idealize.ShloMosaic.Lib.Pointwise
public import Idealize.ShloMosaic.Lib.Tactic.CleanTypes
public import Idealize.ShloMosaic.Lib.Pipeline.ValueKit
public import Idealize.ShloMosaic.Lib.Pipeline.ValueKit.Tiles
public import proofs.«01_k».proof.Proof.BlockSums
public import proofs.«01_k».proof.Proof.Rms

@[expose] public section

set_option maxRecDepth 16384
set_option maxHeartbeats 2000000

noncomputable section

namespace Cert.Proof.QDx

open Idealize.ShloMosaic Idealize.ShloMosaic.TcCoe
open Cert.Kernel19Ideal Cert.Kernel19Ideal.Gen
open Idealize.ShloMosaic.Pipeline (Dat)
open Cert.Proof.BlockSums Cert.Proof.Rms

/-! The gradient that an attention layer sends back through its query product and the norm before it. Each of the four
    grid points finishes a row block, half the rows at a time. The gains' gradient and the columns' sums of the result are
    summed over the row blocks. -/

section Slabs
variable (n w : Vec Ideal S1024x1024 .bf16) (a : FVec Ideal S1024x1024 .f32) (h d : Vec Ideal S512x1024 .f32) (g : Vec Ideal S1x1024 .f32) (p : Fin 512) (q : Fin 1024)

theorem upper_sent : k0_pay7 n w (ix2 p q) = k0_pay6 n w (ix2 ⟨p.val, by omega⟩ q) := by
  pointwise [k0_pay7]

theorem lower_sent : k0_pay16 a (ix2 p q) = a (ix2 ⟨512 + p.val, by omega⟩ q) := by
  pointwise [k0_pay16]

theorem upper_square : k0_pay8 h (ix2 p 0) = square (fun k => h (ix2 p k)) := by
  pointwise [k0_pay8, square]

theorem upper_scale : k0_pay9 h (ix2 p 0) = scale (fun k => h (ix2 p k)) := by
  pointwise [k0_pay9, scale, upper_square]

theorem lower_square : k0_pay17 h (ix2 p 0) = square (fun k => h (ix2 p k)) := by
  pointwise [k0_pay17, square]

theorem lower_scale : k0_pay18 h (ix2 p 0) = scale (fun k => h (ix2 p k)) := by
  pointwise [k0_pay18, scale, lower_square]

/-- What the upper half of a block's rows stores. -/
theorem upper_row : k0_pay14 h d (k0_pay12 n w h g) (k0_pay13 n w h g) (ix2 p q)
    = grad (fun k => h (ix2 p k)) (fun k => k0_pay6 n w (ix2 ⟨p.val, by omega⟩ k)) (fun k => g (ix2 0 k)) (fun k => d (ix2 p k)) q := by
  pointwise [k0_pay14, k0_pay12, k0_pay13, k0_pay11, grad, back, upper_square, upper_scale, upper_sent]
  simp only [Fin.sum_univ_one, upper_square, upper_scale, upper_sent]

/-- What the lower half stores. -/
theorem lower_row : k0_pay1 d (k0_pay22 a h g) (k0_pay23 a h g) (ix2 p q)
    = grad (fun k => h (ix2 p k)) (fun k => a (ix2 ⟨512 + p.val, by omega⟩ k)) (fun k => g (ix2 0 k)) (fun k => d (ix2 p k)) q := by
  pointwise [k0_pay1, k0_pay22, k0_pay23, k0_pay21, k0_pay20, grad, back, lower_square, lower_scale, lower_sent]
  simp only [Fin.sum_univ_one, lower_square, lower_scale, lower_sent]

/-- What half a block's rows add to the gains' gradient. -/
def gains (b : Fin 512 → EReal) : EReal := ∑ r : Fin 512, h (ix2 r q) * scale (fun k => h (ix2 r k)) * b r

theorem upper_gain : k0_pay10 n w h (ix2 0 q) = gains h q fun r => k0_pay6 n w (ix2 ⟨r.val, by omega⟩ q) := by
  pointwise [k0_pay10, gains, upper_scale, upper_sent]

theorem lower_gain : k0_pay19 a h (ix2 0 q) = gains h q fun r => a (ix2 ⟨512 + r.val, by omega⟩ q) := by
  pointwise [k0_pay19, gains, lower_scale, lower_sent]

end Slabs

section Sums
variable (x y : FVec Ideal S1x1024 .f32) (sum : Vec Ideal S1x1024 .f32) (q : Fin 1024)

theorem pair : k0_pay2 x y (ix2 0 q) = x (ix2 0 q) + y (ix2 0 q) := by
  pointwise [k0_pay2]

theorem pair_next : k0_pay4 x y sum (ix2 0 q) = sum (ix2 0 q) + (x (ix2 0 q) + y (ix2 0 q)) := by
  pointwise [k0_pay4, k0_pay2]

section
variable (h d : Vec Ideal S512x1024 .f32) (v w : FVec Ideal S512x1024 .f32)

theorem upper_columns : k0_pay15 h d v w (ix2 0 q) = ∑ r : Fin 512, k0_pay14 h d v w (ix2 r q) := by
  pointwise [k0_pay15]

theorem lower_columns : k0_pay3 x d v w (ix2 0 q) = x (ix2 0 q) + ∑ r : Fin 512, k0_pay1 d v w (ix2 r q) := by
  pointwise [k0_pay3]

theorem columns_next : k0_pay5 x d v w sum (ix2 0 q) = sum (ix2 0 q) + (x (ix2 0 q) + ∑ r : Fin 512, k0_pay1 d v w (ix2 r q)) := by
  rw [← lower_columns]
  pointwise [k0_pay5]

end

end Sums

section Steps
variable (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1x1024 .f32) (harg9 : arg9.IsWhole) (arg10 : Memref sig .tc .vmem S1x1024 .f32) (harg10 : arg10.IsWhole)
    (du w : Vec Ideal S1024x1024 .bf16) (h dh : Vec Ideal S1024x1024 .f32) (gain sum col : Vec Ideal S1x1024 .f32) (p q : Fin 1024)

/-- An entry of the gradient of the normed rows. -/
def part : EReal := ∑ k : Fin 1024, du (ix2 p k) * w (ix2 q k)

theorem product : k0_pay6 du w (ix2 p q) = part du w p q := by
  pointwise [k0_pay6, part]

/-- An entry of the argument's gradient. -/
def row : EReal := grad (fun k => h (ix2 p k)) (fun k => part du w p k) (fun k => gain (ix2 0 k)) (fun k => dh (ix2 p k)) q

/-- What half the rows of a row block add to the gains' gradient. -/
def half (e : Fin 2) : EReal := ∑ r : Fin 512, h (ix2 ⟨512 * e.val + r.val, by omega⟩ q) * scale (fun k => h (ix2 ⟨512 * e.val + r.val, by omega⟩ k))
  * part du w ⟨512 * e.val + r.val, by omega⟩ q

/-- What half the rows of a row block add to a column's sum. -/
def colHalf (e : Fin 2) : EReal := ∑ r : Fin 512, row du w h dh gain ⟨512 * e.val + r.val, by omega⟩ q

/-- Half a block's rows, read through the load of that half. -/
theorem ld_upper (z : Vec Ideal S1024x1024 .f32) (r : Fin 512) (k p : Fin 1024) (hp : p.val = r.val) :
    View.ld z (Rect.unit ![0, 0] ![512, 1024] inb_S1024x1024_S512x1024_0_0) (ix2 r k) = z (ix2 p k) := by
  have e : p = ⟨r.val, by omega⟩ := Fin.ext hp
  rw [e]
  pointwise

theorem ld_lower (z : Vec Ideal S1024x1024 .f32) (r : Fin 512) (k p : Fin 1024) (hp : p.val = 512 + r.val) :
    View.ld z (Rect.unit ![512, 0] ![512, 1024] inb_S1024x1024_S512x1024_512_0) (ix2 r k) = z (ix2 p k) := by
  have e : p = ⟨512 + r.val, by omega⟩ := Fin.ext hp
  rw [e]
  pointwise

section
variable (du' w' : Vec Ideal S1024x1024 .bf16) (a : FVec Ideal S1024x1024 .f32) (h' d' : Vec Ideal S512x1024 .f32) (x0 : Fin 512) (x1 : Fin 1024)

theorem rows_upper (e : q = x1) (hp : p.val = x0.val) (ha : ∀ p k, k0_pay6 du' w' (ix2 p k) = part du w p k) (hh : ∀ k, h' (ix2 x0 k) = h (ix2 p k)) (hd : ∀ k, d' (ix2 x0 k) = dh (ix2 p k)) :
    k0_pay14 h' d' (k0_pay12 du' w' h' gain) (k0_pay13 du' w' h' gain) (ix2 x0 x1) = row du w h dh gain p q := by
  have e' : p = ⟨x0.val, by omega⟩ := Fin.ext hp
  rw [e]
  exact (upper_row ..).trans (grad_congr x1 hh (fun k => (ha _ k).trans (congrArg (fun p => part du w p k) e'.symm)) (fun _ => rfl) hd)

theorem rows_lower (e : q = x1) (hp : p.val = 512 + x0.val) (ha : ∀ p k, a (ix2 p k) = part du w p k) (hh : ∀ k, h' (ix2 x0 k) = h (ix2 p k)) (hd : ∀ k, d' (ix2 x0 k) = dh (ix2 p k)) :
    k0_pay1 d' (k0_pay22 a h' gain) (k0_pay23 a h' gain) (ix2 x0 x1) = row du w h dh gain p q := by
  have e' : p = ⟨512 + x0.val, by omega⟩ := Fin.ext hp
  rw [e]
  exact (lower_row ..).trans (grad_congr x1 hh (fun k => (ha _ k).trans (congrArg (fun p => part du w p k) e'.symm)) (fun _ => rfl) hd)

theorem gains_half (e : Fin 2) (b : Fin 512 → EReal) (hb : ∀ r : Fin 512, b r = part du w ⟨512 * e.val + r.val, by omega⟩ q)
    (hh : ∀ (r : Fin 512) (k : Fin 1024), h' (ix2 r k) = h (ix2 ⟨512 * e.val + r.val, by omega⟩ k)) : gains h' q b = half du w h q e := by
  refine Finset.sum_congr rfl fun r _ => ?_
  rw [hb, funext (hh r), hh]

theorem upper_half (ha : ∀ p k, k0_pay6 du' w' (ix2 p k) = part du w p k) (hh : ∀ (r : Fin 512) (k : Fin 1024), h' (ix2 r k) = h (ix2 ⟨512 * (0 : Fin 2).val + r.val, by simp; omega⟩ k)) :
    k0_pay10 du' w' h' (ix2 0 q) = half du w h q 0 :=
  (upper_gain ..).trans (gains_half du w h q h' 0 _ (fun r => (ha _ q).trans (congrArg (fun p => part du w p q) (Fin.ext (by simp)))) hh)

theorem lower_half (ha : ∀ p k, a (ix2 p k) = part du w p k) (hh : ∀ (r : Fin 512) (k : Fin 1024), h' (ix2 r k) = h (ix2 ⟨512 * (1 : Fin 2).val + r.val, by simp; omega⟩ k)) :
    k0_pay19 a h' (ix2 0 q) = half du w h q 1 :=
  (lower_gain ..).trans (gains_half du w h q h' 1 _ (fun r => (ha _ q).trans (congrArg (fun p => part du w p q) (Fin.ext (by simp)))) hh)

end

theorem rows_first (hc0 : cond0_0 i) (hc1 : ¬cond0_1 i) (hc2 : cond0_2 i) (hc3 : ¬cond0_3 i) : out0_A_5 c i arg3 harg3 arg4 harg4 arg5 harg5 arg6 harg6 arg7 harg7 arg8 harg8 arg9 harg9 arg10 harg10 hc0 hc1 hc2 hc3 du w h dh gain (ix2 p q) = row du w h dh gain p q := by
  frame_out
  canon_tiles x h
  · idx_vars x
    exact rows_lower du w h dh gain p q _ _ _ x0 x1 (Fin.ext h1) h0 (fun p k => product ..) (fun k => ld_lower _ x0 k p h0) (fun k => ld_lower _ x0 k p h0)
  · idx_vars x
    exact rows_upper du w h dh gain p q _ _ _ _ x0 x1 (Fin.ext h1) h0 (fun p k => product ..) (fun k => ld_upper _ x0 k p h0) (fun k => ld_upper _ x0 k p h0)

theorem rows_next (hc0 : ¬cond0_0 i) (hc1 : cond0_1 i) (hc2 : ¬cond0_2 i) (hc3 : cond0_3 i) : out0_B_5 c i arg3 harg3 arg4 harg4 arg5 harg5 arg6 harg6 arg7 harg7 arg8 harg8 arg9 harg9 arg10 harg10 hc0 hc1 hc2 hc3 du w h dh gain sum col (ix2 p q) = row du w h dh gain p q := by
  frame_out
  canon_tiles x h
  · idx_vars x
    exact rows_lower du w h dh gain p q _ _ _ x0 x1 (Fin.ext h1) h0 (fun p k => product ..) (fun k => ld_lower _ x0 k p h0) (fun k => ld_lower _ x0 k p h0)
  · idx_vars x
    exact rows_upper du w h dh gain p q _ _ _ _ x0 x1 (Fin.ext h1) h0 (fun p k => product ..) (fun k => ld_upper _ x0 k p h0) (fun k => ld_upper _ x0 k p h0)

theorem gain_first (hc0 : cond0_0 i) (hc1 : ¬cond0_1 i) (hc2 : cond0_2 i) (hc3 : ¬cond0_3 i) : out0_A_6 c i arg3 harg3 arg4 harg4 arg5 harg5 arg6 harg6 arg7 harg7 arg8 harg8 arg9 harg9 arg10 harg10 hc0 hc1 hc2 hc3 du w h dh gain (ix2 0 q) = half du w h q 0 + half du w h q 1 := by
  frame_out
  exact (pair ..).trans (congrArg₂ (fun x y : EReal => x + y) (upper_half du w h q _ _ _ (fun p k => product ..) (fun r k => ld_upper _ r k _ (by simp))) (lower_half du w h q _ _ (fun p k => product ..) (fun r k => ld_lower _ r k _ (by simp))))

theorem gain_next (hc0 : ¬cond0_0 i) (hc1 : cond0_1 i) (hc2 : ¬cond0_2 i) (hc3 : cond0_3 i) : out0_B_6 c i arg3 harg3 arg4 harg4 arg5 harg5 arg6 harg6 arg7 harg7 arg8 harg8 arg9 harg9 arg10 harg10 hc0 hc1 hc2 hc3 du w h dh gain sum col (ix2 0 q)
    = sum (ix2 0 q) + (half du w h q 0 + half du w h q 1) := by
  frame_out
  exact (pair_next ..).trans (congrArg₂ (fun x y : EReal => sum (ix2 0 q) + (x + y)) (upper_half du w h q _ _ _ (fun p k => product ..) (fun r k => ld_upper _ r k _ (by simp))) (lower_half du w h q _ _ (fun p k => product ..) (fun r k => ld_lower _ r k _ (by simp))))

theorem col_first (hc0 : cond0_0 i) (hc1 : ¬cond0_1 i) (hc2 : cond0_2 i) (hc3 : ¬cond0_3 i) : out0_A_7 c i arg3 harg3 arg4 harg4 arg5 harg5 arg6 harg6 arg7 harg7 arg8 harg8 arg9 harg9 arg10 harg10 hc0 hc1 hc2 hc3 du w h dh gain (ix2 0 q) = colHalf du w h dh gain q 0 + colHalf du w h dh gain q 1 := by
  frame_out
  refine (lower_columns ..).trans (congrArg₂ (fun x y : EReal => x + y) ?_ ?_)
  · exact (upper_columns ..).trans (Finset.sum_congr rfl fun r _ => rows_upper du w h dh gain ⟨512 * (0 : Fin 2).val + r.val, by simp; omega⟩ q _ _ _ _ r q rfl (by simp) (fun p k => product ..) (fun k => ld_upper _ r k _ (by simp)) (fun k => ld_upper _ r k _ (by simp)))
  · exact Finset.sum_congr rfl fun r _ => rows_lower du w h dh gain ⟨512 * (1 : Fin 2).val + r.val, by simp; omega⟩ q _ _ _ r q rfl (by simp) (fun p k => product ..) (fun k => ld_lower _ r k _ (by simp)) (fun k => ld_lower _ r k _ (by simp))

theorem col_next (hc0 : ¬cond0_0 i) (hc1 : cond0_1 i) (hc2 : ¬cond0_2 i) (hc3 : cond0_3 i) : out0_B_7 c i arg3 harg3 arg4 harg4 arg5 harg5 arg6 harg6 arg7 harg7 arg8 harg8 arg9 harg9 arg10 harg10 hc0 hc1 hc2 hc3 du w h dh gain sum col (ix2 0 q)
    = col (ix2 0 q) + (colHalf du w h dh gain q 0 + colHalf du w h dh gain q 1) := by
  frame_out
  refine (columns_next ..).trans (congrArg₂ (fun x y : EReal => col (ix2 0 q) + (x + y)) ?_ ?_)
  · exact (upper_columns ..).trans (Finset.sum_congr rfl fun r _ => rows_upper du w h dh gain ⟨512 * (0 : Fin 2).val + r.val, by simp; omega⟩ q _ _ _ _ r q rfl (by simp) (fun p k => product ..) (fun k => ld_upper _ r k _ (by simp)) (fun k => ld_upper _ r k _ (by simp)))
  · exact Finset.sum_congr rfl fun r _ => rows_lower du w h dh gain ⟨512 * (1 : Fin 2).val + r.val, by simp; omega⟩ q _ _ _ r q rfl (by simp) (fun p k => product ..) (fun k => ld_lower _ r k _ (by simp)) (fun k => ld_lower _ r k _ (by simp))

end Steps

section Points
variable (m : (ℓ : Loc nD τ sig) → Buf (Elt Ideal) ℓ) (c : Dev nD) (t : Fin cfg0.N)

theorem point_lt : t.val < 4 := lt_of_lt_of_eq t.isLt (show cfg0.N = 4 from N_0)

theorem at0 : (cfg0.win 0).index t = ![t.val, 0] := by
  revert t; decide +kernel

theorem at1 : (cfg0.win 1).index t = ![0, 0] := by
  revert t; decide +kernel

theorem at2 : (cfg0.win 2).index t = ![t.val, 0] := by
  revert t; decide +kernel

theorem at3 : (cfg0.win 3).index t = ![t.val, 0] := by
  revert t; decide +kernel

theorem at4 : (cfg0.win 4).index t = ![0, 0] := by
  revert t; decide +kernel

theorem at5 : (cfg0.win 5).index t = ![t.val, 0] := by
  revert t; decide +kernel

theorem at6 : (cfg0.win 6).index t = ![0, 0] := by
  revert t; decide +kernel

theorem at7 : (cfg0.win 7).index t = ![0, 0] := by
  revert t; decide +kernel

theorem block0 (i : Fin 1024) (j : Fin 1024) : iblk m c 0 t (ix2 i j)
    = m ((c : Thread nD τ).loc main_arg0) (ix2 ⟨1024 * t.val + i.val, by have := point_lt t; omega⟩ j) := by
  have e := at0 t
  blk_ext [iblk, V, e]

theorem block1 (i j : Fin 1024) : iblk m c 1 t (ix2 i j) = m ((c : Thread nD τ).loc main_arg1) (ix2 i j) := by
  have e := at1 t
  blk_ext [iblk, V, e]

theorem block2 (i : Fin 1024) (j : Fin 1024) : iblk m c 2 t (ix2 i j)
    = m ((c : Thread nD τ).loc main_arg2) (ix2 ⟨1024 * t.val + i.val, by have := point_lt t; omega⟩ j) := by
  have e := at2 t
  blk_ext [iblk, V, e]

theorem block3 (i : Fin 1024) (j : Fin 1024) : iblk m c 3 t (ix2 i j)
    = m ((c : Thread nD τ).loc main_arg3) (ix2 ⟨1024 * t.val + i.val, by have := point_lt t; omega⟩ j) := by
  have e := at3 t
  blk_ext [iblk, V, e]

theorem block4 (j : Fin 1024) : iblk m c 4 t (ix2 0 j) = m ((c : Thread nD τ).loc main_arg4) (ix2 0 j) := by
  have e := at4 t
  blk_ext [iblk, V, e]

/-- An entry of the gradient of the normed rows. -/
def sent (du : Vec Ideal S4096x1024 .bf16) (w : Vec Ideal S1024x1024 .bf16) (p : Fin 4096) (q : Fin 1024) : EReal := ∑ k : Fin 1024, du (ix2 p k) * w (ix2 q k)

/-- The argument's gradient, as a function of the call's arguments. -/
def result (du : Vec Ideal S4096x1024 .bf16) (w : Vec Ideal S1024x1024 .bf16) (h dh : Vec Ideal S4096x1024 .f32) (gain : Vec Ideal S1x1024 .f32) : Vec Ideal S4096x1024 .f32 :=
  fun i => grad (fun k => h (ix2 (i 0) k)) (fun k => sent du w (i 0) k) (fun k => gain (ix2 0 k)) (fun k => dh (ix2 (i 0) k)) (i 1)

/-- What one row gives the gradient of a gain. -/
def gainTerm (du : Vec Ideal S4096x1024 .bf16) (w : Vec Ideal S1024x1024 .bf16) (h : Vec Ideal S4096x1024 .f32) (q : Fin 1024) (p : Fin 4096) : EReal :=
  h (ix2 p q) * scale (fun k => h (ix2 p k)) * sent du w p q

/-- The gains' gradient, as a function of the call's arguments. -/
def gainResult (du : Vec Ideal S4096x1024 .bf16) (w : Vec Ideal S1024x1024 .bf16) (h : Vec Ideal S4096x1024 .f32) : Vec Ideal S1x1024 .f32 :=
  fun i => ∑ p, gainTerm du w h (i 1) p

/-- The sums of the result's columns. -/
def colResult (du : Vec Ideal S4096x1024 .bf16) (w : Vec Ideal S1024x1024 .bf16) (h dh : Vec Ideal S4096x1024 .f32) (gain : Vec Ideal S1x1024 .f32) : Vec Ideal S1x1024 .f32 :=
  fun i => ∑ p : Fin 4096, result du w h dh gain (ix2 p (i 1))

theorem whole (p q : Fin 1024) : part (iblk m c 0 t) (iblk m c 1 t) p q = sent (m ((c : Thread nD τ).loc main_arg0)) (m ((c : Thread nD τ).loc main_arg1)) ⟨1024 * t.val + p.val, by have := point_lt t; omega⟩ q := by
  refine Finset.sum_congr rfl fun k _ => ?_
  rw [block0, block1]

/-- An entry of a row block, among the result's. -/
theorem row_result (p q : Fin 1024) : row (iblk m c 0 t) (iblk m c 1 t) (iblk m c 2 t) (iblk m c 3 t) (iblk m c 4 t) p q = result (m ((c : Thread nD τ).loc main_arg0)) (m ((c : Thread nD τ).loc main_arg1)) (m ((c : Thread nD τ).loc main_arg2)) (m ((c : Thread nD τ).loc main_arg3)) (m ((c : Thread nD τ).loc main_arg4)) (ix2 ⟨1024 * t.val + p.val, by have := point_lt t; omega⟩ q) :=
  grad_congr q (fun k => block2 m c t p k) (fun k => whole m c t p k) (fun k => block4 m c t k) (fun k => block3 m c t p k)

/-- What a point stores of the argument's gradient. -/
theorem stored (p q : Fin 1024) : (outsAt0 m c t.val t.isLt).1 (ix2 p q) = result (m ((c : Thread nD τ).loc main_arg0)) (m ((c : Thread nD τ).loc main_arg1)) (m ((c : Thread nD τ).loc main_arg2)) (m ((c : Thread nD τ).loc main_arg3)) (m ((c : Thread nD τ).loc main_arg4)) (ix2 ⟨1024 * t.val + p.val, by have := point_lt t; omega⟩ q) := by
  have := point_lt t
  by_cases h : t.val = 0
  · rw [outsAt0_A m c t (by omega) (by omega) (by omega) (by omega)]
    dsimp only
    exact (rows_first ..).trans (row_result m c t p q)
  · rw [outsAt0_B m c t (by omega) (by omega) (by omega) (by omega)]
    dsimp only
    exact (rows_next ..).trans (row_result m c t p q)

/-- What each row gives the gradient of gain `q`. -/
abbrev gainTerms (q : Fin 1024) : Fin 4096 → EReal := gainTerm (m ((c : Thread nD τ).loc main_arg0)) (m ((c : Thread nD τ).loc main_arg1)) (m ((c : Thread nD τ).loc main_arg2)) q

/-- What a point adds to the gains' gradient. -/
theorem halves (q : Fin 1024) :
    upto (gainTerms m c q) (1024 * t.val) + (half (iblk m c 0 t) (iblk m c 1 t) (iblk m c 2 t) q 0 + half (iblk m c 0 t) (iblk m c 1 t) (iblk m c 2 t) q 1) = upto (gainTerms m c q) (1024 * t.val + 1024) := by
  have := point_lt t
  have one : ∀ (e : Fin 2) (n : ℕ), n = 1024 * t.val + 512 * e.val →
      upto (gainTerms m c q) n + half (iblk m c 0 t) (iblk m c 1 t) (iblk m c 2 t) q e = upto (gainTerms m c q) (n + 512) := by
    intro e n hn
    refine upto_add _ _ (by omega) _ fun r => ?_
    have hr : (⟨1024 * t.val + (512 * e.val + r.val), by omega⟩ : Fin 4096) = ⟨n + r.val, by omega⟩ := Fin.ext (by dsimp only; omega)
    rw [whole m c t, block2, funext (fun k => block2 m c t ⟨512 * e.val + r.val, by omega⟩ k)]
    simp only [hr]
    rfl
  rw [← add_assoc, one 0 _ (by simp), one 1 _ (by simp)]

/-- What the gains' gradients have come to after each point. -/
theorem summed : ∀ (n : ℕ) (hn : n < cfg0.N) (q : Fin 1024), (outsAt0 m c n hn).2.1 (ix2 0 q) = upto (gainTerms m c q) (1024 * n + 1024)
  | 0, hn, q => by
    have o := outsAt0_A m c ⟨0, hn⟩ (show 0 % 4 = 0 from rfl) (show ¬1 ≤ 0 by omega) (show 0 % 4 = 0 from rfl) (show ¬1 ≤ 0 by omega)
    dsimp only at o
    rw [o]
    dsimp only
    exact (gain_first ..).trans ((zero_add _).symm.trans (halves m c ⟨0, hn⟩ q))
  | n + 1, hn, q => by
    have := point_lt ⟨n + 1, hn⟩
    dsimp only at this
    have o := outsAt0_B m c ⟨n + 1, hn⟩ (show ¬(n + 1) % 4 = 0 by omega) (show 1 ≤ n + 1 by omega) (show ¬(n + 1) % 4 = 0 by omega) (show 1 ≤ n + 1 by omega)
    dsimp only at o
    rw [o]
    dsimp only
    exact (gain_next ..).trans ((congrArg (· + _) (summed n (by omega) q)).trans (halves m c ⟨n + 1, hn⟩ q))

/-- What each row gives the sum of column `q`. -/
abbrev colTerms (q : Fin 1024) : Fin 4096 → EReal := fun p => result (m ((c : Thread nD τ).loc main_arg0)) (m ((c : Thread nD τ).loc main_arg1)) (m ((c : Thread nD τ).loc main_arg2)) (m ((c : Thread nD τ).loc main_arg3)) (m ((c : Thread nD τ).loc main_arg4)) (ix2 p q)

/-- What a point adds to the columns' sums. -/
theorem col_halves (q : Fin 1024) :
    upto (colTerms m c q) (1024 * t.val) + (colHalf (iblk m c 0 t) (iblk m c 1 t) (iblk m c 2 t) (iblk m c 3 t) (iblk m c 4 t) q 0 + colHalf (iblk m c 0 t) (iblk m c 1 t) (iblk m c 2 t) (iblk m c 3 t) (iblk m c 4 t) q 1) = upto (colTerms m c q) (1024 * t.val + 1024) := by
  have := point_lt t
  have one : ∀ (e : Fin 2) (n : ℕ), n = 1024 * t.val + 512 * e.val →
      upto (colTerms m c q) n + colHalf (iblk m c 0 t) (iblk m c 1 t) (iblk m c 2 t) (iblk m c 3 t) (iblk m c 4 t) q e = upto (colTerms m c q) (n + 512) := by
    intro e n hn
    refine upto_add _ _ (by omega) _ fun r => ?_
    have hr : (⟨1024 * t.val + (512 * e.val + r.val), by omega⟩ : Fin 4096) = ⟨n + r.val, by omega⟩ := Fin.ext (by dsimp only; omega)
    exact (row_result m c t _ q).trans (congrArg (fun p => result (m ((c : Thread nD τ).loc main_arg0)) (m ((c : Thread nD τ).loc main_arg1)) (m ((c : Thread nD τ).loc main_arg2)) (m ((c : Thread nD τ).loc main_arg3)) (m ((c : Thread nD τ).loc main_arg4)) (ix2 p q)) hr)
  rw [← add_assoc, one 0 _ (by simp), one 1 _ (by simp)]

/-- What the columns' sums have come to after each point. -/
theorem col_summed : ∀ (n : ℕ) (hn : n < cfg0.N) (q : Fin 1024), (outsAt0 m c n hn).2.2 (ix2 0 q) = upto (colTerms m c q) (1024 * n + 1024)
  | 0, hn, q => by
    have o := outsAt0_A m c ⟨0, hn⟩ (show 0 % 4 = 0 from rfl) (show ¬1 ≤ 0 by omega) (show 0 % 4 = 0 from rfl) (show ¬1 ≤ 0 by omega)
    dsimp only at o
    rw [o]
    dsimp only
    exact (col_first ..).trans ((zero_add _).symm.trans (col_halves m c ⟨0, hn⟩ q))
  | n + 1, hn, q => by
    have := point_lt ⟨n + 1, hn⟩
    dsimp only at this
    have o := outsAt0_B m c ⟨n + 1, hn⟩ (show ¬(n + 1) % 4 = 0 by omega) (show 1 ≤ n + 1 by omega) (show ¬(n + 1) % 4 = 0 by omega) (show 1 ≤ n + 1 by omega)
    dsimp only at o
    rw [o]
    dsimp only
    exact (col_next ..).trans ((congrArg (· + _) (col_summed n (by omega) q)).trans (col_halves m c ⟨n + 1, hn⟩ q))

theorem written : (dats m 0 c).arrAt 5 cfg0.N = result (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 5 _ (by decide +kernel) fun t hf y => ?_
  have e := at5 t
  have := point_lt t
  blk_simp
  rw [after0_5]
  idx_vars y
  have p : (win0_5.blk t).view.emb (ix2 y0 y1) = ix2 ⟨1024 * t.val + y0.val, by omega⟩ y1 := by
    blk_ext [e]
  exact (stored m c t y0 y1).trans (congrArg (result _ _ _ _ _) p).symm

theorem gain_written : (dats m 0 c).arrAt 6 cfg0.N = gainResult (m ((c : Thread nD τ).loc main_arg0)) (m ((c : Thread nD τ).loc main_arg1)) (m ((c : Thread nD τ).loc main_arg2)) := by
  refine (dats m 0 c).arrAt_eq_of_covers 6 _ (by decide +kernel) fun t hf y => ?_
  have e := at6 t
  have h3 : t.val % 4 = 3 := (flush0_6 t).mp hf
  have := point_lt t
  blk_simp
  rw [after0_6]
  idx_vars y
  have p : (win0_6.blk t).view.emb (ix2 y0 y1) = ix2 y0 y1 := by
    blk_ext [e]
  have z : y0 = 0 := Subsingleton.elim _ _
  have e' : 1024 * t.val + 1024 = 4096 := by omega
  refine Eq.trans ?_ (congrArg (gainResult _ _ _) p).symm
  rw [z]
  exact (summed m c t.val t.isLt y1).trans ((congrArg (upto _) e').trans (upto_all _))

theorem col_written : (dats m 0 c).arrAt 7 cfg0.N = colResult (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 7 _ (by decide +kernel) fun t hf y => ?_
  have e := at7 t
  have h3 : t.val % 4 = 3 := (flush0_7 t).mp hf
  have := point_lt t
  blk_simp
  rw [after0_7]
  idx_vars y
  have p : (win0_7.blk t).view.emb (ix2 y0 y1) = ix2 y0 y1 := by
    blk_ext [e]
  have z : y0 = 0 := Subsingleton.elim _ _
  have e' : 1024 * t.val + 1024 = 4096 := by omega
  refine Eq.trans ?_ (congrArg (colResult _ _ _ _ _) p).symm
  rw [z]
  exact (col_summed m c t.val t.isLt y1).trans ((congrArg (upto _) e').trans (upto_all _))

end Points

/-- The reference ends with `result`, `gainResult` and `colResult` of its arguments, which it leaves as they were. -/
theorem reference_run (m : (ℓ : Loc Cert.Reference19Ideal.nD Cert.Reference19Ideal.τ Cert.Reference19Ideal.sig) → Buf (Elt Ideal) ℓ)
    (ρ : Dev Cert.Reference19Ideal.nD → PrngReg) :
    θ_run (Cert.Reference19Ideal.defs (F := Ideal)) (onTc (τ := Cert.Reference19Ideal.τ) (Cert.Reference19Ideal.main (F := Ideal))) ⟨m, fun _ => 0, ρ⟩ fun r => ∀ c : Dev Cert.Reference19Ideal.nD,
      r.2.mem ((c.tc : Thread Cert.Reference19Ideal.nD Cert.Reference19Ideal.τ).loc Cert.Reference19Ideal.main_v38) = result (m ((c.tc : Thread Cert.Reference19Ideal.nD Cert.Reference19Ideal.τ).loc Cert.Reference19Ideal.main_arg0)) (m ((c.tc : Thread Cert.Reference19Ideal.nD Cert.Reference19Ideal.τ).loc Cert.Reference19Ideal.main_arg1)) (m ((c.tc : Thread Cert.Reference19Ideal.nD Cert.Reference19Ideal.τ).loc Cert.Reference19Ideal.main_arg2)) (m ((c.tc : Thread Cert.Reference19Ideal.nD Cert.Reference19Ideal.τ).loc Cert.Reference19Ideal.main_arg3)) (m ((c.tc : Thread Cert.Reference19Ideal.nD Cert.Reference19Ideal.τ).loc Cert.Reference19Ideal.main_arg4))
      ∧ r.2.mem ((c.tc : Thread Cert.Reference19Ideal.nD Cert.Reference19Ideal.τ).loc Cert.Reference19Ideal.main_v21) = gainResult (m ((c.tc : Thread Cert.Reference19Ideal.nD Cert.Reference19Ideal.τ).loc Cert.Reference19Ideal.main_arg0)) (m ((c.tc : Thread Cert.Reference19Ideal.nD Cert.Reference19Ideal.τ).loc Cert.Reference19Ideal.main_arg1)) (m ((c.tc : Thread Cert.Reference19Ideal.nD Cert.Reference19Ideal.τ).loc Cert.Reference19Ideal.main_arg2))
      ∧ r.2.mem ((c.tc : Thread Cert.Reference19Ideal.nD Cert.Reference19Ideal.τ).loc Cert.Reference19Ideal.main_v40) = colResult (m ((c.tc : Thread Cert.Reference19Ideal.nD Cert.Reference19Ideal.τ).loc Cert.Reference19Ideal.main_arg0)) (m ((c.tc : Thread Cert.Reference19Ideal.nD Cert.Reference19Ideal.τ).loc Cert.Reference19Ideal.main_arg1)) (m ((c.tc : Thread Cert.Reference19Ideal.nD Cert.Reference19Ideal.τ).loc Cert.Reference19Ideal.main_arg2)) (m ((c.tc : Thread Cert.Reference19Ideal.nD Cert.Reference19Ideal.τ).loc Cert.Reference19Ideal.main_arg3)) (m ((c.tc : Thread Cert.Reference19Ideal.nD Cert.Reference19Ideal.τ).loc Cert.Reference19Ideal.main_arg4))
      ∧ r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2)
      ∧ r.2.mem ((c.tc : Thread Cert.Reference19Ideal.nD Cert.Reference19Ideal.τ).loc Cert.Reference19Ideal.main_arg3) = m ((c.tc : Thread Cert.Reference19Ideal.nD Cert.Reference19Ideal.τ).loc Cert.Reference19Ideal.main_arg3)
      ∧ r.2.mem ((c.tc : Thread Cert.Reference19Ideal.nD Cert.Reference19Ideal.τ).loc Cert.Reference19Ideal.main_arg4) = m ((c.tc : Thread Cert.Reference19Ideal.nD Cert.Reference19Ideal.τ).loc Cert.Reference19Ideal.main_arg4) := by
  refine (θ_run Cert.Reference19Ideal.defs _ _).mono (fun r h c => ⟨(h c).1.trans ?_, (h c).2.1.trans ?_, (h c).2.2.1.trans ?_, (h c).2.2.2⟩) (Cert.Reference19Ideal.Value.run (F := Ideal) m ρ)
  · funext j
    idx_vars j
    pointwise [Cert.Reference19Ideal.Value.res_main_v38, result, grad, back, scale, square, sent]
    simp only [Finset.univ_unique, Finset.sum_singleton, add_assoc, Rms.count, tiny, minusHalf]
  · funext j
    idx_vars j
    pointwise [gainResult, gainTerm, scale, square, sent]
  · funext j
    idx_vars j
    pointwise [Cert.Reference19Ideal.Value.res_main_v40, colResult, result, grad, back, scale, square, sent]
    simp only [Finset.univ_unique, Finset.sum_singleton, add_assoc, Rms.count, tiny, minusHalf]

end Cert.Proof.QDx
-- ==== Proof.Pw2.lean ====
module

public import proofs.«01_k».proof.Proof.Gen.Kernel20Ideal.Value
public import proofs.«01_k».proof.Proof.Gen.Reference20Ideal.Run
public import Idealize.ShloMosaic.Lib.Pointwise
public import Idealize.ShloMosaic.Lib.Tactic.CleanTypes
public import Idealize.ShloMosaic.Lib.Pipeline.ValueKit
public import Idealize.ShloMosaic.Lib.Pipeline.ValueKit.Tiles
public import Idealize.ShloMosaic.Lib.Pipeline.ReadBack
public import proofs.«01_k».proof.Proof.Rms

@[expose] public section

set_option maxRecDepth 16384
set_option maxHeartbeats 2000000

noncomputable section

namespace Cert.Proof.Pw2

open Idealize.ShloMosaic Idealize.ShloMosaic.TcCoe
open Cert.Kernel20Ideal Cert.Kernel20Ideal.Gen
open Idealize.ShloMosaic.Pipeline (Dat)
open Cert.Proof.Rms

/-! The convolution module's second product, with its bias and with the residual and the norm that follow it. Each of the four grid points holds whole rows and all of the weights. It adds the products to the rows that went
    around the module and norms the result, half the rows at a time. -/

section Body
variable (x w : Vec Ideal S1024x1024 .bf16) (res : Vec Ideal S1024x1024 .f32) (b : Vec Ideal S1x1024 .f32) (gain : Vec Ideal S1x1024 .f32) (p q : Fin 1024)

/-- One entry of the product. -/
def prod : EReal := ∑ k : Fin 1024, x (ix2 p k) * w (ix2 k q)

/-- One entry of the rows that a point stores. -/
def row : EReal := res (ix2 p q) + (prod x w p q + b (ix2 0 q))

theorem rows : out0_5 x w res b gain (ix2 p q) = row x w res b p q := by
  unfold out0_5
  canon_tiles x h
  · idx_vars x
    have e : q = x1 := Fin.ext h1
    have e' : p = ⟨512 + x0.val, by omega⟩ := Fin.ext h0
    rw [e, e']
    pointwise [k0_pay1, k0_pay4, k0_pay6, k0_pay7, k0_pay3, row, prod]
  · idx_vars x
    have e : q = x1 := Fin.ext h1
    have e' : p = ⟨x0.val, by omega⟩ := Fin.ext h0
    rw [e, e']
    pointwise [k0_pay1, k0_pay4, k0_pay6, k0_pay7, k0_pay3, row, prod]

theorem normed : out0_6 x w res b gain (ix2 p q) = Rms.norm (fun k => row x w res b p k) (fun k => gain (ix2 0 k)) q := by
  unfold out0_6
  canon_tiles x h
  · idx_vars x
    have e : q = x1 := Fin.ext h1
    have e' : p = ⟨512 + x0.val, by omega⟩ := Fin.ext h0
    rw [e, e']
    pointwise [k0_pay1, k0_pay2, k0_pay3, k0_pay4, k0_pay5, k0_pay6, k0_pay7, Rms.norm, scale, square, row, prod]
  · idx_vars x
    have e : q = x1 := Fin.ext h1
    have e' : p = ⟨x0.val, by omega⟩ := Fin.ext h0
    rw [e, e']
    pointwise [k0_pay1, k0_pay2, k0_pay3, k0_pay4, k0_pay5, k0_pay6, k0_pay7, Rms.norm, scale, square, row, prod]

end Body

section Points
variable (m : (ℓ : Loc nD τ sig) → Buf (Elt Ideal) ℓ) (c : Dev nD) (t : Fin cfg0.N)

theorem point_lt : t.val < 4 := lt_of_lt_of_eq t.isLt (show cfg0.N = 4 from N_0)

theorem at0 : (cfg0.win 0).index t = ![t.val, 0] := by
  revert t; decide +kernel

theorem at1 : (cfg0.win 1).index t = ![0, 0] := by
  revert t; decide +kernel

theorem at2 : (cfg0.win 2).index t = ![t.val, 0] := by
  revert t; decide +kernel

theorem at3 : (cfg0.win 3).index t = ![0, 0] := by
  revert t; decide +kernel

theorem at4 : (cfg0.win 4).index t = ![0, 0] := by
  revert t; decide +kernel

theorem at5 : (cfg0.win 5).index t = ![t.val, 0] := by
  revert t; decide +kernel

theorem at6 : (cfg0.win 6).index t = ![t.val, 0] := by
  revert t; decide +kernel

theorem block0 (i j : Fin 1024) : iblk m c 0 t (ix2 i j)
    = m ((c : Thread nD τ).loc main_arg0) (ix2 ⟨1024 * t.val + i.val, by have := point_lt t; omega⟩ j) := by
  have e := at0 t
  blk_ext [iblk, V, e]

theorem block1 (i j : Fin 1024) : iblk m c 1 t (ix2 i j) = m ((c : Thread nD τ).loc main_arg1) (ix2 i j) := by
  have e := at1 t
  blk_ext [iblk, V, e]

theorem block2 (i j : Fin 1024) : iblk m c 2 t (ix2 i j)
    = m ((c : Thread nD τ).loc main_arg2) (ix2 ⟨1024 * t.val + i.val, by have := point_lt t; omega⟩ j) := by
  have e := at2 t
  blk_ext [iblk, V, e]

theorem block3 (j : Fin 1024) : iblk m c 3 t (ix2 0 j) = m ((c : Thread nD τ).loc main_arg3) (ix2 0 j) := by
  have e := at3 t
  blk_ext [iblk, V, e]

theorem block4 (j : Fin 1024) : iblk m c 4 t (ix2 0 j) = m ((c : Thread nD τ).loc main_arg4) (ix2 0 j) := by
  have e := at4 t
  blk_ext [iblk, V, e]

/-- The rows, as a function of the call's arguments. -/
def result (x : Vec Ideal S4096x1024 .bf16) (w : Vec Ideal S1024x1024 .bf16) (res : Vec Ideal S4096x1024 .f32) (b : Vec Ideal S1x1024 .f32) : Vec Ideal S4096x1024 .f32 :=
  fun i => res (ix2 (i 0) (i 1)) + ((∑ k : Fin 1024, x (ix2 (i 0) k) * w (ix2 k (i 1))) + b (ix2 0 (i 1)))

/-- The normed rows, as a function of the call's arguments. -/
def normResult (x : Vec Ideal S4096x1024 .bf16) (w : Vec Ideal S1024x1024 .bf16) (res : Vec Ideal S4096x1024 .f32) (b : Vec Ideal S1x1024 .f32) (gain : Vec Ideal S1x1024 .f32) : Vec Ideal S4096x1024 .bf16 :=
  fun i => Rms.norm (fun k => result x w res b (ix2 (i 0) k)) (fun k => gain (ix2 0 k)) (i 1)

/-- A row that point `t` stores. -/
theorem whole (p q : Fin 1024) : row (iblk m c 0 t) (iblk m c 1 t) (iblk m c 2 t) (iblk m c 3 t) p q
    = result (m ((c : Thread nD τ).loc main_arg0)) (m ((c : Thread nD τ).loc main_arg1)) (m ((c : Thread nD τ).loc main_arg2)) (m ((c : Thread nD τ).loc main_arg3)) (ix2 ⟨1024 * t.val + p.val, by have := point_lt t; omega⟩ q) := by
  unfold row prod
  rw [block2, block3]
  simp only [block0, block1]
  rfl

theorem written : (dats m 0 c).arrAt 5 cfg0.N = result (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  have e := at5 t
  have := point_lt t
  blk_simp
  rw [after0_5]
  idx_vars y
  have p : (win0_5.blk t).view.emb (ix2 y0 y1) = ix2 ⟨1024 * t.val + y0.val, by omega⟩ y1 := by
    blk_ext [e]
  refine Eq.trans ?_ (congrArg (result _ _ _ _) p).symm
  exact (rows ..).trans (whole m c t y0 y1)

theorem norm_written : (dats m 0 c).arrAt 6 cfg0.N = normResult (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 6 _ (by decide +kernel) fun t hf y => ?_
  have e := at6 t
  have := point_lt t
  blk_simp
  rw [after0_6]
  idx_vars y
  have p : (win0_6.blk t).view.emb (ix2 y0 y1) = ix2 ⟨1024 * t.val + y0.val, by omega⟩ y1 := by
    blk_ext [e]
  refine Eq.trans ?_ (congrArg (normResult _ _ _ _ _) p).symm
  exact (normed ..).trans (norm_congr y1 (fun k => whole m c t y0 k) (fun k => block4 m c t k))

end Points

/-- The reference ends with `result` and `normResult` of its arguments, which it leaves as they were. -/
theorem reference_run (m : (ℓ : Loc Cert.Reference20Ideal.nD Cert.Reference20Ideal.τ Cert.Reference20Ideal.sig) → Buf (Elt Ideal) ℓ)
    (ρ : Dev Cert.Reference20Ideal.nD → PrngReg) :
    θ_run (Cert.Reference20Ideal.defs (F := Ideal)) (onTc (τ := Cert.Reference20Ideal.τ) (Cert.Reference20Ideal.main (F := Ideal))) ⟨m, fun _ => 0, ρ⟩ fun r => ∀ c : Dev Cert.Reference20Ideal.nD,
      r.2.mem ((c.tc : Thread Cert.Reference20Ideal.nD Cert.Reference20Ideal.τ).loc Cert.Reference20Ideal.main_v5) = result (m ((c.tc : Thread Cert.Reference20Ideal.nD Cert.Reference20Ideal.τ).loc Cert.Reference20Ideal.main_arg0)) (m ((c.tc : Thread Cert.Reference20Ideal.nD Cert.Reference20Ideal.τ).loc Cert.Reference20Ideal.main_arg1)) (m ((c.tc : Thread Cert.Reference20Ideal.nD Cert.Reference20Ideal.τ).loc Cert.Reference20Ideal.main_arg2)) (m ((c.tc : Thread Cert.Reference20Ideal.nD Cert.Reference20Ideal.τ).loc Cert.Reference20Ideal.main_arg3))
      ∧ r.2.mem ((c.tc : Thread Cert.Reference20Ideal.nD Cert.Reference20Ideal.τ).loc Cert.Reference20Ideal.main_v18) = normResult (m ((c.tc : Thread Cert.Reference20Ideal.nD Cert.Reference20Ideal.τ).loc Cert.Reference20Ideal.main_arg0)) (m ((c.tc : Thread Cert.Reference20Ideal.nD Cert.Reference20Ideal.τ).loc Cert.Reference20Ideal.main_arg1)) (m ((c.tc : Thread Cert.Reference20Ideal.nD Cert.Reference20Ideal.τ).loc Cert.Reference20Ideal.main_arg2)) (m ((c.tc : Thread Cert.Reference20Ideal.nD Cert.Reference20Ideal.τ).loc Cert.Reference20Ideal.main_arg3)) (m ((c.tc : Thread Cert.Reference20Ideal.nD Cert.Reference20Ideal.τ).loc Cert.Reference20Ideal.main_arg4))
      ∧ r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2)
      ∧ r.2.mem ((c.tc : Thread Cert.Reference20Ideal.nD Cert.Reference20Ideal.τ).loc Cert.Reference20Ideal.main_arg3) = m ((c.tc : Thread Cert.Reference20Ideal.nD Cert.Reference20Ideal.τ).loc Cert.Reference20Ideal.main_arg3)
      ∧ r.2.mem ((c.tc : Thread Cert.Reference20Ideal.nD Cert.Reference20Ideal.τ).loc Cert.Reference20Ideal.main_arg4) = m ((c.tc : Thread Cert.Reference20Ideal.nD Cert.Reference20Ideal.τ).loc Cert.Reference20Ideal.main_arg4) := by
  refine (θ_run Cert.Reference20Ideal.defs _ _).mono (fun r h c => ⟨(h c).1.trans ?_, (h c).2.1.trans ?_, (h c).2.2⟩) (Cert.Reference20Ideal.Value.run (F := Ideal) m ρ)
  · funext j
    idx_vars j
    pointwise [result]
  · funext j
    idx_vars j
    pointwise [normResult, Rms.norm, scale, square, result]

end Cert.Proof.Pw2
-- ==== Proof.DownLoss.lean ====
module

public import proofs.«01_k».proof.Proof.Gen.Kernel21Ideal.Value
public import proofs.«01_k».proof.Proof.Gen.Reference21Ideal.Run
public import Idealize.ShloMosaic.Lib.Pointwise
public import Idealize.ShloMosaic.Lib.Tactic.CleanTypes
public import Idealize.ShloMosaic.Lib.Pipeline.ValueKit
public import Idealize.ShloMosaic.Lib.Pipeline.ValueKit.Tiles
public import Idealize.ShloMosaic.Lib.Pipeline.ReadBack
public import proofs.«01_k».proof.Proof.BlockSums
public import proofs.«01_k».proof.Proof.Rms
public import proofs.«01_k».proof.Proof.Gate

@[expose] public section

set_option maxRecDepth 16384
set_option maxHeartbeats 2000000

noncomputable section

namespace Cert.Proof.DownLoss

open Idealize.ShloMosaic Idealize.ShloMosaic.TcCoe
open Cert.Kernel21Ideal Cert.Kernel21Ideal.Gen
open Idealize.ShloMosaic.Pipeline (Dat)
open Cert.Proof.BlockSums Cert.Proof.Rms

/-! The last MLP's second product, the last norm and the loss. A row block takes two grid points, which add the products
    with half of the columns each; the second adds the sums to the rows that went around the MLP, norms the result and
    takes the targets away, half the rows at a time. It stores the loss's gradient by those rows. The gains' gradient and
    the loss by column are summed over the row blocks as they finish. -/

section Words

/-- One part in 2048, half the mean's weight, as its single-precision word. -/
abbrev share : EReal := Ideal.ofBits FTy.f32 973078528#32

/-- A half, as its single-precision word. -/
abbrev oneHalf : EReal := Ideal.ofBits FTy.f32 1056964608#32

/-- Two, as its single-precision word. -/
abbrev two : EReal := Ideal.ofBits FTy.f32 1073741824#32

theorem half_word : oneHalf = ((1 / 2 : ℝ) : EReal) := Gate.half_word

theorem share_word : share = ((1 / 2048 : ℝ) : EReal) := by
  simp [Ideal.ofBits, Ideal.ieee]
  rw [← EReal.coe_mul]
  congr 1
  norm_num

theorem two_word : two = ((2 : ℝ) : EReal) := by
  simp [Ideal.ofBits, Ideal.ieee]
  rw [← EReal.coe_mul]
  congr 1
  norm_num

theorem count_word : Rms.count = ((1024 : ℝ) : EReal) := by
  simp [Ideal.ofBits, Ideal.ieee]
  rw [← EReal.coe_mul]
  congr 1
  norm_num

/-- Dividing by the number of entries is multiplying by a real. -/
theorem div_count (x : EReal) : Ideal.div x Rms.count = x * ((1 / 1024 : ℝ) : EReal) := by
  have h : ((1024 : ℝ) : EReal) ≠ 0 := by
    rw [← EReal.coe_zero]
    exact fun h => absurd (EReal.coe_injective h) (by norm_num)
  rw [count_word]
  unfold Ideal.div
  rw [if_neg h, ← EReal.coe_inv]
  congr 2
  norm_num

/-- The loss's gradient by a difference `e`, as the kernel adds it up. -/
def sent (e : EReal) : EReal := e * share + share * e

/-- The loss's gradient by a difference, as the derivative of the mean square gives it. -/
theorem sent_eq (e : EReal) : sent e = Ideal.div oneHalf Rms.count * (two * e) := by
  unfold sent
  rw [div_count, half_word, two_word, share_word, ← EReal.coe_mul]
  induction e with
  | bot =>
    rw [EReal.coe_mul_bot_of_pos (by norm_num), EReal.coe_mul_bot_of_pos (by norm_num), EReal.coe_mul_bot_of_pos (by norm_num), EReal.bot_mul_coe_of_pos (by norm_num)]
    rfl
  | top =>
    rw [EReal.coe_mul_top_of_pos (by norm_num), EReal.coe_mul_top_of_pos (by norm_num), EReal.coe_mul_top_of_pos (by norm_num), EReal.top_mul_coe_of_pos (by norm_num)]
    rfl
  | coe x =>
    rw [← EReal.coe_mul, ← EReal.coe_mul, ← EReal.coe_mul, ← EReal.coe_mul, ← EReal.coe_add]
    congr 1
    ring

/-- A nonnegative real goes into a sum. -/
theorem sum_mul_real {n : ℕ} (f : Fin n → EReal) (r : ℝ) (hr : 0 ≤ r) : (∑ k, f k) * (r : EReal) = ∑ k, f k * (r : EReal) := by
  classical
  refine Finset.induction_on (Finset.univ : Finset (Fin n)) (by simp) fun k s hk ih => ?_
  rw [Finset.sum_insert hk, Finset.sum_insert hk, EReal.right_distrib_of_nonneg_of_ne_top (by exact_mod_cast hr) (EReal.coe_ne_top r), ih]

theorem sum_mul_share {n : ℕ} (f : Fin n → EReal) : (∑ k, f k) * share = ∑ k, f k * share := by
  rw [share_word]
  exact sum_mul_real f _ (by norm_num)

/-- Half a sum of means. -/
theorem halved {n : ℕ} (f : Fin n → EReal) : oneHalf * ∑ k, Ideal.div (f k) Rms.count = ∑ k, f k * share := by
  rw [half_word, share_word, mul_comm, sum_mul_real _ _ (by norm_num)]
  refine Finset.sum_congr rfl fun k _ => ?_
  rw [div_count, mul_assoc, ← EReal.coe_mul]
  congr 2
  norm_num

end Words

section Rows
variable (g : Fin 1024 → EReal) (q : Fin 1024) (x t : Fin 1024 → EReal)

/-- How far an entry of the normed row is from its target. -/
def err : EReal := Rms.norm x g q - t q

/-- An entry of the loss's gradient by the row `x`. -/
def rowOf : EReal := grad x (fun k => sent (err g k x t)) g (fun _ => 0) q

/-- What the row `x` gives the gradient of a gain. -/
def gainOf : EReal := x q * scale x * sent (err g q x t)

/-- What the row `x` gives the loss of a column. -/
def lossOf : EReal := err g q x t * err g q x t * share

end Rows

section Slabs
variable (a r t a' r' t' : Vec Ideal S512x1024 .f32) (g sum : Vec Ideal S1x1024 .f32) (p : Fin 512) (q : Fin 1024)

theorem slab_square : k0_pay5 a r (ix2 p 0) = square (fun k => r (ix2 p k) + a (ix2 p k)) := by
  pointwise [k0_pay4, k0_pay5, square]

theorem slab_scale : k0_pay6 a r (ix2 p 0) = scale (fun k => r (ix2 p k) + a (ix2 p k)) := by
  pointwise [k0_pay6, scale, slab_square]

theorem slab_err : k0_pay9 a r t g (ix2 p q) = err (fun k => g (ix2 0 k)) q (fun k => r (ix2 p k) + a (ix2 p k)) (fun k => t (ix2 p k)) := by
  pointwise [k0_pay4, k0_pay8, k0_pay9, err, Rms.norm, slab_scale]

theorem slab_sent : k0_pay11 a r t g (ix2 p q) = sent (err (fun k => g (ix2 0 k)) q (fun k => r (ix2 p k) + a (ix2 p k)) (fun k => t (ix2 p k))) := by
  rw [← slab_err]
  pointwise [k0_pay11, sent]
  simp only [Fin.sum_univ_one, one_mul]

/-- What half a block's rows store. -/
theorem slab : k0_pay15 (k0_pay4 a r) (k0_pay6 a r) (k0_pay7 a r) (k0_pay13 a r t g) (k0_pay14 a r t g) (ix2 p q)
    = rowOf (fun k => g (ix2 0 k)) q (fun k => r (ix2 p k) + a (ix2 p k)) (fun k => t (ix2 p k)) := by
  pointwise [k0_pay4, k0_pay7, k0_pay13, k0_pay14, k0_pay15, rowOf, grad, back, slab_square, slab_scale, slab_sent]
  simp only [Fin.sum_univ_one, slab_square, slab_scale, zero_add]

theorem slab' : k0_pay24 g (k0_pay16 a r) (k0_pay18 a r) (k0_pay19 a r) (k0_pay21 a r t g) (ix2 p q)
    = rowOf (fun k => g (ix2 0 k)) q (fun k => r (ix2 p k) + a (ix2 p k)) (fun k => t (ix2 p k)) :=
  slab a r t g p q

/-- A sum over half a block's rows. -/
def slabSum (f : (Fin 1024 → EReal) → (Fin 1024 → EReal) → EReal) : EReal := ∑ p : Fin 512, f (fun k => r (ix2 p k) + a (ix2 p k)) (fun k => t (ix2 p k))

theorem slab_gain : k0_pay12 a r t g (ix2 0 q) = slabSum a r t (gainOf (fun k => g (ix2 0 k)) q) := by
  pointwise [k0_pay4, k0_pay8, k0_pay12, slabSum, gainOf, slab_scale, slab_sent]

theorem slab_loss : k0_pay10 a r t g (ix2 0 q) = slabSum a r t (lossOf (fun k => g (ix2 0 k)) q) := by
  unfold slabSum lossOf
  rw [← sum_mul_share]
  pointwise [k0_pay10, slab_err]

theorem both_gain : k0_pay25 (k0_pay12 a r t g) (k0_pay20 a' r') (k0_pay21 a' r' t' g) (ix2 0 q)
    = slabSum a r t (gainOf (fun k => g (ix2 0 k)) q) + slabSum a' r' t' (gainOf (fun k => g (ix2 0 k)) q) := by
  rw [← slab_gain, ← slab_gain]
  rfl

theorem both_gain_next : k0_pay27 (k0_pay12 a r t g) (k0_pay20 a' r') (k0_pay21 a' r' t' g) sum (ix2 0 q)
    = sum (ix2 0 q) + (slabSum a r t (gainOf (fun k => g (ix2 0 k)) q) + slabSum a' r' t' (gainOf (fun k => g (ix2 0 k)) q)) := by
  rw [← both_gain]
  pointwise [k0_pay27]

theorem both_loss : k0_pay26 (k0_pay10 a r t g) (k0_pay22 a' r' t' g) (ix2 0 q)
    = slabSum a r t (lossOf (fun k => g (ix2 0 k)) q) + slabSum a' r' t' (lossOf (fun k => g (ix2 0 k)) q) := by
  rw [← slab_loss, ← slab_loss]
  rfl

theorem both_loss_next : k0_pay3 (k0_pay26 (k0_pay10 a r t g) (k0_pay22 a' r' t' g)) sum (ix2 0 q)
    = sum (ix2 0 q) + (slabSum a r t (lossOf (fun k => g (ix2 0 k)) q) + slabSum a' r' t' (lossOf (fun k => g (ix2 0 k)) q)) := by
  rw [← both_loss]
  pointwise [k0_pay3]

end Slabs

section Steps
variable (c : Dev nD) (i : grid0.Coords) (arg3 : Memref sig .tc .vmem S1024x2048 .bf16) (harg3 : arg3.IsWhole) (arg4 : Memref sig .tc .vmem S2048x1024 .bf16) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1024x1024 .f32) (harg11 : arg11.IsWhole)
    (u : Vec Ideal S1024x2048 .bf16) (w : Vec Ideal S2048x1024 .bf16) (res tgt : Vec Ideal S1024x1024 .f32) (gain gs ls : Vec Ideal S1x1024 .f32) (acc : Vec Ideal S1024x1024 .f32) (p q : Fin 1024)

/-- What one grid point adds. -/
def part : EReal := ∑ l : Fin 2048, max (u (ix2 p l)) (0 : EReal) * max (u (ix2 p l)) (0 : EReal) * w (ix2 l q)

theorem added : k0_pay2 acc u w (ix2 p q) = acc (ix2 p q) + part u w p q := by
  pointwise [k0_pay2, part]

theorem first (hc0 : cond0_0 i) (hc1 : ¬cond0_1 i) :
    sout0_A_0 c i arg3 harg3 arg4 harg4 arg5 harg5 arg6 harg6 arg7 harg7 arg8 harg8 arg9 harg9 arg10 harg10 arg11 harg11 hc0 hc1 u w res tgt gain (ix2 p q) = part u w p q := by
  frame_out
  pointwise [k0_pay1, k0_pay2, part]

/-- The rows before the last norm. -/
def moved : EReal := res (ix2 p q) + (acc (ix2 p q) + part u w p q)

/-- A sum over half the rows of a row block. -/
def half (f : (Fin 1024 → EReal) → (Fin 1024 → EReal) → EReal) (e : Fin 2) : EReal :=
  ∑ r : Fin 512, f (moved u w res acc ⟨512 * e.val + r.val, by omega⟩) (fun k => tgt (ix2 ⟨512 * e.val + r.val, by omega⟩ k))

/-- Half a block's rows, read through the load of that half. -/
theorem ld_upper (z : Vec Ideal S1024x1024 .f32) (r : Fin 512) (k p : Fin 1024) (hp : p.val = r.val) :
    View.ld z (Rect.unit ![0, 0] ![512, 1024] inb_S1024x1024_S512x1024_0_0) (ix2 r k) = z (ix2 p k) := by
  have e : p = ⟨r.val, by omega⟩ := Fin.ext hp
  rw [e]
  pointwise

theorem ld_lower (z : Vec Ideal S1024x1024 .f32) (r : Fin 512) (k p : Fin 1024) (hp : p.val = 512 + r.val) :
    View.ld z (Rect.unit ![512, 0] ![512, 1024] inb_S1024x1024_S512x1024_512_0) (ix2 r k) = z (ix2 p k) := by
  have e : p = ⟨512 + r.val, by omega⟩ := Fin.ext hp
  rw [e]
  pointwise

theorem half_of (f : (Fin 1024 → EReal) → (Fin 1024 → EReal) → EReal) (a' r' t' : Vec Ideal S512x1024 .f32) (e : Fin 2)
    (ha : ∀ (r : Fin 512) (k : Fin 1024), a' (ix2 r k) = acc (ix2 ⟨512 * e.val + r.val, by omega⟩ k) + part u w ⟨512 * e.val + r.val, by omega⟩ k)
    (hr : ∀ (r : Fin 512) (k : Fin 1024), r' (ix2 r k) = res (ix2 ⟨512 * e.val + r.val, by omega⟩ k))
    (ht : ∀ (r : Fin 512) (k : Fin 1024), t' (ix2 r k) = tgt (ix2 ⟨512 * e.val + r.val, by omega⟩ k)) :
    slabSum a' r' t' f = half u w res tgt acc f e :=
  Finset.sum_congr rfl fun r _ => congrArg₂ f (funext fun k => congrArg₂ (· + ·) (hr r k) (ha r k)) (funext (ht r))

theorem last (hc0 : ¬cond0_0 i) (hc1 : cond0_1 i) (hc2 : cond0_2 i) (hc3 : ¬cond0_3 i) (hc4 : cond0_4 i) (hc5 : ¬cond0_5 i) :
    out0_B_5 c i arg3 harg3 arg4 harg4 arg5 harg5 arg6 harg6 arg7 harg7 arg8 harg8 arg9 harg9 arg10 harg10 arg11 harg11 hc0 hc1 hc2 hc3 hc4 hc5 u w res tgt gain acc (ix2 p q) = rowOf (fun k => gain (ix2 0 k)) q (moved u w res acc p) (fun k => tgt (ix2 p k)) := by
  frame_out
  canon_tiles x h
  · idx_vars x
    rw [View.readCov_fill _ _ _ _ _ (by decide)]
    have e : q = x1 := Fin.ext h1
    rw [e]
    exact (slab' ..).trans (congrArg₂ (rowOf _ x1) (funext fun k => congrArg₂ (· + ·) (ld_lower _ x0 k p h0) ((ld_lower _ x0 k p h0).trans (added ..))) (funext fun k => ld_lower _ x0 k p h0))
  · idx_vars x
    rw [View.readCov_fill _ _ _ _ _ (by decide)]
    have e : q = x1 := Fin.ext h1
    rw [e]
    exact (slab ..).trans (congrArg₂ (rowOf _ x1) (funext fun k => congrArg₂ (· + ·) (ld_upper _ x0 k p h0) ((ld_upper _ x0 k p h0).trans (added ..))) (funext fun k => ld_upper _ x0 k p h0))

theorem last' (hc0 : ¬cond0_0 i) (hc1 : cond0_1 i) (hc2 : ¬cond0_2 i) (hc3 : cond0_3 i) (hc4 : ¬cond0_4 i) (hc5 : cond0_5 i) :
    out0_C_5 c i arg3 harg3 arg4 harg4 arg5 harg5 arg6 harg6 arg7 harg7 arg8 harg8 arg9 harg9 arg10 harg10 arg11 harg11 hc0 hc1 hc2 hc3 hc4 hc5 u w res tgt gain gs ls acc (ix2 p q) = rowOf (fun k => gain (ix2 0 k)) q (moved u w res acc p) (fun k => tgt (ix2 p k)) := by
  frame_out
  canon_tiles x h
  · idx_vars x
    rw [View.readCov_fill _ _ _ _ _ (by decide)]
    have e : q = x1 := Fin.ext h1
    rw [e]
    exact (slab' ..).trans (congrArg₂ (rowOf _ x1) (funext fun k => congrArg₂ (· + ·) (ld_lower _ x0 k p h0) ((ld_lower _ x0 k p h0).trans (added ..))) (funext fun k => ld_lower _ x0 k p h0))
  · idx_vars x
    rw [View.readCov_fill _ _ _ _ _ (by decide)]
    have e : q = x1 := Fin.ext h1
    rw [e]
    exact (slab ..).trans (congrArg₂ (rowOf _ x1) (funext fun k => congrArg₂ (· + ·) (ld_upper _ x0 k p h0) ((ld_upper _ x0 k p h0).trans (added ..))) (funext fun k => ld_upper _ x0 k p h0))

theorem gain_first (hc0 : ¬cond0_0 i) (hc1 : cond0_1 i) (hc2 : cond0_2 i) (hc3 : ¬cond0_3 i) (hc4 : cond0_4 i) (hc5 : ¬cond0_5 i) :
    out0_B_6 c i arg3 harg3 arg4 harg4 arg5 harg5 arg6 harg6 arg7 harg7 arg8 harg8 arg9 harg9 arg10 harg10 arg11 harg11 hc0 hc1 hc2 hc3 hc4 hc5 u w res tgt gain acc (ix2 0 q) = half u w res tgt acc (gainOf (fun k => gain (ix2 0 k)) q) 0 + half u w res tgt acc (gainOf (fun k => gain (ix2 0 k)) q) 1 := by
  frame_out
  rw [View.readCov_fill _ _ _ _ _ (by decide), View.readCov_fill _ _ _ _ _ (by decide)]
  refine (both_gain ..).trans ?_
  rw [half_of u w res tgt acc _ _ _ _ 0 (fun r k => (ld_upper _ r k _ (by simp)).trans (added ..)) (fun r k => ld_upper _ r k _ (by simp)) (fun r k => ld_upper _ r k _ (by simp)),
    half_of u w res tgt acc _ _ _ _ 1 (fun r k => (ld_lower _ r k _ (by simp)).trans (added ..)) (fun r k => ld_lower _ r k _ (by simp)) (fun r k => ld_lower _ r k _ (by simp))]

theorem gain_next (hc0 : ¬cond0_0 i) (hc1 : cond0_1 i) (hc2 : ¬cond0_2 i) (hc3 : cond0_3 i) (hc4 : ¬cond0_4 i) (hc5 : cond0_5 i) :
    out0_C_6 c i arg3 harg3 arg4 harg4 arg5 harg5 arg6 harg6 arg7 harg7 arg8 harg8 arg9 harg9 arg10 harg10 arg11 harg11 hc0 hc1 hc2 hc3 hc4 hc5 u w res tgt gain gs ls acc (ix2 0 q) = gs (ix2 0 q) + (half u w res tgt acc (gainOf (fun k => gain (ix2 0 k)) q) 0 + half u w res tgt acc (gainOf (fun k => gain (ix2 0 k)) q) 1) := by
  frame_out
  rw [View.readCov_fill _ _ _ _ _ (by decide), View.readCov_fill _ _ _ _ _ (by decide)]
  refine (both_gain_next ..).trans ?_
  rw [half_of u w res tgt acc _ _ _ _ 0 (fun r k => (ld_upper _ r k _ (by simp)).trans (added ..)) (fun r k => ld_upper _ r k _ (by simp)) (fun r k => ld_upper _ r k _ (by simp)),
    half_of u w res tgt acc _ _ _ _ 1 (fun r k => (ld_lower _ r k _ (by simp)).trans (added ..)) (fun r k => ld_lower _ r k _ (by simp)) (fun r k => ld_lower _ r k _ (by simp))]

theorem loss_first (hc0 : ¬cond0_0 i) (hc1 : cond0_1 i) (hc2 : cond0_2 i) (hc3 : ¬cond0_3 i) (hc4 : cond0_4 i) (hc5 : ¬cond0_5 i) :
    out0_B_7 c i arg3 harg3 arg4 harg4 arg5 harg5 arg6 harg6 arg7 harg7 arg8 harg8 arg9 harg9 arg10 harg10 arg11 harg11 hc0 hc1 hc2 hc3 hc4 hc5 u w res tgt gain acc (ix2 0 q) = half u w res tgt acc (lossOf (fun k => gain (ix2 0 k)) q) 0 + half u w res tgt acc (lossOf (fun k => gain (ix2 0 k)) q) 1 := by
  frame_out
  rw [View.readCov_fill _ _ _ _ _ (by decide), View.readCov_fill _ _ _ _ _ (by decide)]
  refine (both_loss ..).trans ?_
  rw [half_of u w res tgt acc _ _ _ _ 0 (fun r k => (ld_upper _ r k _ (by simp)).trans (added ..)) (fun r k => ld_upper _ r k _ (by simp)) (fun r k => ld_upper _ r k _ (by simp)),
    half_of u w res tgt acc _ _ _ _ 1 (fun r k => (ld_lower _ r k _ (by simp)).trans (added ..)) (fun r k => ld_lower _ r k _ (by simp)) (fun r k => ld_lower _ r k _ (by simp))]

theorem loss_next (hc0 : ¬cond0_0 i) (hc1 : cond0_1 i) (hc2 : ¬cond0_2 i) (hc3 : cond0_3 i) (hc4 : ¬cond0_4 i) (hc5 : cond0_5 i) :
    out0_C_7 c i arg3 harg3 arg4 harg4 arg5 harg5 arg6 harg6 arg7 harg7 arg8 harg8 arg9 harg9 arg10 harg10 arg11 harg11 hc0 hc1 hc2 hc3 hc4 hc5 u w res tgt gain gs ls acc (ix2 0 q) = ls (ix2 0 q) + (half u w res tgt acc (lossOf (fun k => gain (ix2 0 k)) q) 0 + half u w res tgt acc (lossOf (fun k => gain (ix2 0 k)) q) 1) := by
  frame_out
  rw [View.readCov_fill _ _ _ _ _ (by decide), View.readCov_fill _ _ _ _ _ (by decide)]
  refine (both_loss_next ..).trans ?_
  rw [half_of u w res tgt acc _ _ _ _ 0 (fun r k => (ld_upper _ r k _ (by simp)).trans (added ..)) (fun r k => ld_upper _ r k _ (by simp)) (fun r k => ld_upper _ r k _ (by simp)),
    half_of u w res tgt acc _ _ _ _ 1 (fun r k => (ld_lower _ r k _ (by simp)).trans (added ..)) (fun r k => ld_lower _ r k _ (by simp)) (fun r k => ld_lower _ r k _ (by simp))]

end Steps

section Points
variable (m : (ℓ : Loc nD τ sig) → Buf (Elt Ideal) ℓ) (c : Dev nD) (t : Fin cfg0.N)

theorem point_lt : t.val < 8 := lt_of_lt_of_eq t.isLt (show cfg0.N = 8 from N_0)

theorem at0 : (cfg0.win 0).index t = ![t.val / 2, t.val % 2] := by
  revert t; decide +kernel

theorem at1 : (cfg0.win 1).index t = ![t.val % 2, 0] := by
  revert t; decide +kernel

theorem at2 : (cfg0.win 2).index t = ![t.val / 2, 0] := by
  revert t; decide +kernel

theorem at3 : (cfg0.win 3).index t = ![t.val / 2, 0] := by
  revert t; decide +kernel

theorem at4 : (cfg0.win 4).index t = ![0, 0] := by
  revert t; decide +kernel

theorem at5 : (cfg0.win 5).index t = ![t.val / 2, 0] := by
  revert t; decide +kernel

theorem at6 : (cfg0.win 6).index t = ![0, 0] := by
  revert t; decide +kernel

theorem at7 : (cfg0.win 7).index t = ![0, 0] := by
  revert t; decide +kernel

theorem block0 (i : Fin 1024) (j : Fin 2048) : iblk m c 0 t (ix2 i j)
    = m ((c : Thread nD τ).loc main_arg0) (ix2 ⟨1024 * (t.val / 2) + i.val, by have := point_lt t; omega⟩ ⟨2048 * (t.val % 2) + j.val, by omega⟩) := by
  have e := at0 t
  blk_ext [iblk, V, e]

theorem block1 (i : Fin 2048) (j : Fin 1024) : iblk m c 1 t (ix2 i j)
    = m ((c : Thread nD τ).loc main_arg1) (ix2 ⟨2048 * (t.val % 2) + i.val, by omega⟩ j) := by
  have e := at1 t
  blk_ext [iblk, V, e]

theorem block2 (i j : Fin 1024) : iblk m c 2 t (ix2 i j)
    = m ((c : Thread nD τ).loc main_arg2) (ix2 ⟨1024 * (t.val / 2) + i.val, by have := point_lt t; omega⟩ j) := by
  have e := at2 t
  blk_ext [iblk, V, e]

theorem block3 (i j : Fin 1024) : iblk m c 3 t (ix2 i j)
    = m ((c : Thread nD τ).loc main_arg3) (ix2 ⟨1024 * (t.val / 2) + i.val, by have := point_lt t; omega⟩ j) := by
  have e := at3 t
  blk_ext [iblk, V, e]

theorem block4 (j : Fin 1024) : iblk m c 4 t (ix2 0 j) = m ((c : Thread nD τ).loc main_arg4) (ix2 0 j) := by
  have e := at4 t
  blk_ext [iblk, V, e]

section Results
variable (u : Vec Ideal S4096x4096 .bf16) (w : Vec Ideal S4096x1024 .bf16) (res tgt : Vec Ideal S4096x1024 .f32) (gain : Vec Ideal S1x1024 .f32)

/-- One product of the sum that makes an entry of the MLP's output. -/
def term (p : Fin 4096) (q : Fin 1024) (k : Fin 4096) : EReal :=
  max (u (ix2 p k)) (0 : EReal) * max (u (ix2 p k)) (0 : EReal) * w (ix2 k q)

/-- The rows before the last norm. -/
def total (p : Fin 4096) (q : Fin 1024) : EReal := res (ix2 p q) + ∑ k, term u w p q k

/-- What a row gives, by a function of the row and its targets. -/
def given (f : (Fin 1024 → EReal) → (Fin 1024 → EReal) → EReal) (p : Fin 4096) : EReal := f (total u w res p) (fun k => tgt (ix2 p k))

/-- The loss's gradient by the rows, as a function of the call's arguments. -/
def result : Vec Ideal S4096x1024 .f32 := fun i => given u w res tgt (rowOf (fun k => gain (ix2 0 k)) (i 1)) (i 0)

/-- The gains' gradient, as a function of the call's arguments. -/
def gainResult : Vec Ideal S1x1024 .f32 := fun i => ∑ p, given u w res tgt (gainOf (fun k => gain (ix2 0 k)) (i 1)) p

/-- The loss by column, as a function of the call's arguments. -/
def lossResult : Vec Ideal S1x1024 .f32 := fun i => ∑ p, given u w res tgt (lossOf (fun k => gain (ix2 0 k)) (i 1)) p

end Results

/-- The products that make entry (`p`, `q`) of the rows point `t` works on. -/
abbrev terms (p q : Fin 1024) : Fin 4096 → EReal :=
  term (m ((c : Thread nD τ).loc main_arg0)) (m ((c : Thread nD τ).loc main_arg1)) ⟨1024 * (t.val / 2) + p.val, by have := point_lt t; omega⟩ q

/-- What each row gives, by a function of the row and its targets. -/
abbrev rowGifts (f : (Fin 1024 → EReal) → (Fin 1024 → EReal) → EReal) : Fin 4096 → EReal :=
  given (m ((c : Thread nD τ).loc main_arg0)) (m ((c : Thread nD τ).loc main_arg1)) (m ((c : Thread nD τ).loc main_arg2)) (m ((c : Thread nD τ).loc main_arg3)) f

/-- A point takes the sum from the products before its own columns to those of its columns. -/
theorem adds (p q : Fin 1024) :
    upto (terms m c t p q) (2048 * (t.val % 2)) + part (iblk m c 0 t) (iblk m c 1 t) p q = upto (terms m c t p q) (2048 * (t.val % 2) + 2048) := by
  refine upto_add _ _ (by omega) _ fun k => ?_
  rw [block0, block1]
  rfl

/-- What the accumulator holds after a row block's first point. -/
theorem carried (h0 : t.val % 2 = 0) (p q : Fin 1024) :
    (outsAt0 m c t.val t.isLt).2.2.2 (ix2 p q) = upto (terms m c t p q) 2048 := by
  have a := adds m c t p q
  rw [h0] at a
  rw [outsAt0_A m c t h0 (by omega)]
  dsimp only
  exact (first ..).trans ((zero_add _).symm.trans a)

theorem entering (h1 : t.val % 2 = 1) (p q : Fin 1024) :
    (outsAt0 m c (t.val - 1) (Nat.lt_of_le_of_lt (Nat.sub_le _ _) t.isLt)).2.2.2 (ix2 p q) = upto (terms m c t p q) 2048 := by
  refine (carried m c ⟨t.val - 1, Nat.lt_of_le_of_lt (Nat.sub_le _ _) t.isLt⟩ (show (t.val - 1) % 2 = 0 by omega) p q).trans ?_
  have e : (t.val - 1) / 2 = t.val / 2 := by omega
  unfold terms
  simp only [e]

/-- A row that a row block's second point norms. -/
theorem whole (h1 : t.val % 2 = 1) (p q : Fin 1024) :
    moved (iblk m c 0 t) (iblk m c 1 t) (iblk m c 2 t) (outsAt0 m c (t.val - 1) (Nat.lt_of_le_of_lt (Nat.sub_le _ _) t.isLt)).2.2.2 p q
      = total (m ((c : Thread nD τ).loc main_arg0)) (m ((c : Thread nD τ).loc main_arg1)) (m ((c : Thread nD τ).loc main_arg2)) ⟨1024 * (t.val / 2) + p.val, by have := point_lt t; omega⟩ q := by
  have a := adds m c t p q
  rw [h1] at a
  refine congrArg₂ (· + ·) (block2 m c t p q) ?_
  exact (congrArg (fun x : EReal => x + part (iblk m c 0 t) (iblk m c 1 t) p q) (entering m c t h1 p q)).trans (a.trans (upto_all _))

theorem gain_row : (fun k => iblk m c 4 t (ix2 0 k)) = fun k => m ((c : Thread nD τ).loc main_arg4) (ix2 0 k) :=
  funext (block4 m c t)

/-- What a row block's second point stores of the rows' gradient. -/
theorem stored (h1 : t.val % 2 = 1) (p q : Fin 1024) :
    (outsAt0 m c t.val t.isLt).1 (ix2 p q) = result (m ((c : Thread nD τ).loc main_arg0)) (m ((c : Thread nD τ).loc main_arg1)) (m ((c : Thread nD τ).loc main_arg2)) (m ((c : Thread nD τ).loc main_arg3)) (m ((c : Thread nD τ).loc main_arg4)) (ix2 ⟨1024 * (t.val / 2) + p.val, by have := point_lt t; omega⟩ q) := by
  have r : rowOf (fun k => iblk m c 4 t (ix2 0 k)) q (moved (iblk m c 0 t) (iblk m c 1 t) (iblk m c 2 t) (outsAt0 m c (t.val - 1) (Nat.lt_of_le_of_lt (Nat.sub_le _ _) t.isLt)).2.2.2 p) (fun k => iblk m c 3 t (ix2 p k))
      = result (m ((c : Thread nD τ).loc main_arg0)) (m ((c : Thread nD τ).loc main_arg1)) (m ((c : Thread nD τ).loc main_arg2)) (m ((c : Thread nD τ).loc main_arg3)) (m ((c : Thread nD τ).loc main_arg4)) (ix2 ⟨1024 * (t.val / 2) + p.val, by have := point_lt t; omega⟩ q) := by
    rw [gain_row]
    exact congrArg₂ (rowOf _ q) (funext fun k => whole m c t h1 p k) (funext fun k => block3 m c t p k)
  by_cases h2 : t.val < 2
  · rw [outsAt0_B m c t (by omega) h1 h2 (by omega) h2 (by omega)]
    dsimp only
    exact (last ..).trans r
  · rw [outsAt0_C m c t (by omega) h1 h2 (by omega) h2 (by omega)]
    dsimp only
    exact (last' ..).trans r

/-- What a row block's second point adds to a sum over rows. -/
theorem halves (f : (Fin 1024 → EReal) → (Fin 1024 → EReal) → EReal) (h1 : t.val % 2 = 1) :
    upto (rowGifts m c f) (1024 * (t.val / 2)) + (half (iblk m c 0 t) (iblk m c 1 t) (iblk m c 2 t) (iblk m c 3 t) (outsAt0 m c (t.val - 1) (Nat.lt_of_le_of_lt (Nat.sub_le _ _) t.isLt)).2.2.2 f 0
        + half (iblk m c 0 t) (iblk m c 1 t) (iblk m c 2 t) (iblk m c 3 t) (outsAt0 m c (t.val - 1) (Nat.lt_of_le_of_lt (Nat.sub_le _ _) t.isLt)).2.2.2 f 1)
      = upto (rowGifts m c f) (1024 * (t.val / 2) + 1024) := by
  have := point_lt t
  have one : ∀ (e : Fin 2) (n : ℕ), n = 1024 * (t.val / 2) + 512 * e.val →
      upto (rowGifts m c f) n + half (iblk m c 0 t) (iblk m c 1 t) (iblk m c 2 t) (iblk m c 3 t) (outsAt0 m c (t.val - 1) (Nat.lt_of_le_of_lt (Nat.sub_le _ _) t.isLt)).2.2.2 f e
        = upto (rowGifts m c f) (n + 512) := by
    intro e n hn
    refine upto_add _ _ (by omega) _ fun r => ?_
    have hr : (⟨1024 * (t.val / 2) + (512 * e.val + r.val), by omega⟩ : Fin 4096) = ⟨n + r.val, by omega⟩ := Fin.ext (by dsimp only; omega)
    refine (congrArg₂ f (funext fun k => whole m c t h1 _ k) (funext fun k => block3 m c t _ k)).trans ?_
    simp only [hr]
    rfl
  rw [← add_assoc, one 0 _ (by simp), one 1 _ (by simp)]

/-- What the two sums over rows have come to after each point but the first. -/
theorem summed : ∀ (n : ℕ) (hn : n < cfg0.N), 1 ≤ n → ∀ q : Fin 1024,
    (outsAt0 m c n hn).2.1 (ix2 0 q) = upto (rowGifts m c (gainOf (fun k => m ((c : Thread nD τ).loc main_arg4) (ix2 0 k)) q)) (1024 * ((n + 1) / 2))
    ∧ (outsAt0 m c n hn).2.2.1 (ix2 0 q) = upto (rowGifts m c (lossOf (fun k => m ((c : Thread nD τ).loc main_arg4) (ix2 0 k)) q)) (1024 * ((n + 1) / 2))
  | 0, _, h, _ => absurd h (by decide)
  | n + 1, hn, _, q => by
    have e4 := gain_row m c ⟨n + 1, hn⟩
    by_cases h1 : (n + 1) % 2 = 1
    · have a := fun f => halves m c ⟨n + 1, hn⟩ f h1
      dsimp only at a
      have e : 1024 * ((n + 1) / 2) + 1024 = 1024 * ((n + 1 + 1) / 2) := by omega
      rw [e] at a
      by_cases h2 : n + 1 < 2
      · have e0 : (n + 1) / 2 = 0 := by omega
        have o := outsAt0_B m c ⟨n + 1, hn⟩ (show ¬ (n + 1) % 2 = 0 by omega) h1 h2 (show ¬ 2 ≤ n + 1 by omega) h2 (show ¬ 2 ≤ n + 1 by omega)
        dsimp only at o
        rw [e0] at a
        rw [o, ← a, ← a, ← e4]
        dsimp only
        exact ⟨(gain_first ..).trans (zero_add _).symm, (loss_first ..).trans (zero_add _).symm⟩
      · have o := outsAt0_C m c ⟨n + 1, hn⟩ (show ¬ (n + 1) % 2 = 0 by omega) h1 h2 (show 2 ≤ n + 1 by omega) h2 (show 2 ≤ n + 1 by omega)
        dsimp only at o
        have b := summed n (by omega) (by omega) q
        rw [← e4] at b
        rw [o, ← a, ← a, ← e4]
        dsimp only
        exact ⟨(gain_next ..).trans (congrArg (· + _) b.1), (loss_next ..).trans (congrArg (· + _) b.2)⟩
    · have o := outsAt0_A m c ⟨n + 1, hn⟩ (show (n + 1) % 2 = 0 by omega) h1
      dsimp only at o
      have e : 1024 * ((n + 1) / 2) = 1024 * ((n + 1 + 1) / 2) := by omega
      rw [o, ← e]
      exact summed n (by omega) (by omega) q

theorem written : (dats m 0 c).arrAt 5 cfg0.N = result (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 5 _ (by decide +kernel) fun t hf y => ?_
  have e := at5 t
  have h1 : t.val % 2 = 1 := (flush0_5 t).mp hf
  have := point_lt t
  blk_simp
  rw [after0_5]
  idx_vars y
  have p : (win0_5.blk t).view.emb (ix2 y0 y1) = ix2 ⟨1024 * (t.val / 2) + y0.val, by omega⟩ y1 := by
    blk_ext [e]
  exact (stored m c t h1 y0 y1).trans (congrArg (result _ _ _ _ _) p).symm

theorem gain_written : (dats m 0 c).arrAt 6 cfg0.N = gainResult (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 6 _ (by decide +kernel) fun t hf y => ?_
  have e := at6 t
  have h7 : t.val % 8 = 7 := (flush0_6 t).mp hf
  have := point_lt t
  blk_simp
  rw [after0_6]
  idx_vars y
  have p : (win0_6.blk t).view.emb (ix2 y0 y1) = ix2 y0 y1 := by
    blk_ext [e]
  have z : y0 = 0 := Subsingleton.elim _ _
  have e' : 1024 * ((t.val + 1) / 2) = 4096 := by omega
  refine Eq.trans ?_ (congrArg (gainResult _ _ _ _ _) p).symm
  rw [z]
  exact (summed m c t.val t.isLt (by omega) y1).1.trans ((congrArg (upto _) e').trans (upto_all _))

theorem loss_written : (dats m 0 c).arrAt 7 cfg0.N = lossResult (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 7 _ (by decide +kernel) fun t hf y => ?_
  have e := at7 t
  have h7 : t.val % 8 = 7 := (flush0_7 t).mp hf
  have := point_lt t
  blk_simp
  rw [after0_7]
  idx_vars y
  have p : (win0_7.blk t).view.emb (ix2 y0 y1) = ix2 y0 y1 := by
    blk_ext [e]
  have z : y0 = 0 := Subsingleton.elim _ _
  have e' : 1024 * ((t.val + 1) / 2) = 4096 := by omega
  refine Eq.trans ?_ (congrArg (lossResult _ _ _ _ _) p).symm
  rw [z]
  exact (summed m c t.val t.isLt (by omega) y1).2.trans ((congrArg (upto _) e').trans (upto_all _))

end Points

/-- The reference ends with `result`, `gainResult` and `lossResult` of its arguments, which it leaves as they were. -/
theorem reference_run (m : (ℓ : Loc Cert.Reference21Ideal.nD Cert.Reference21Ideal.τ Cert.Reference21Ideal.sig) → Buf (Elt Ideal) ℓ)
    (ρ : Dev Cert.Reference21Ideal.nD → PrngReg) :
    θ_run (Cert.Reference21Ideal.defs (F := Ideal)) (onTc (τ := Cert.Reference21Ideal.τ) (Cert.Reference21Ideal.main (F := Ideal))) ⟨m, fun _ => 0, ρ⟩ fun r => ∀ c : Dev Cert.Reference21Ideal.nD,
      r.2.mem ((c.tc : Thread Cert.Reference21Ideal.nD Cert.Reference21Ideal.τ).loc Cert.Reference21Ideal.main_v57) = result (m ((c.tc : Thread Cert.Reference21Ideal.nD Cert.Reference21Ideal.τ).loc Cert.Reference21Ideal.main_arg0)) (m ((c.tc : Thread Cert.Reference21Ideal.nD Cert.Reference21Ideal.τ).loc Cert.Reference21Ideal.main_arg1)) (m ((c.tc : Thread Cert.Reference21Ideal.nD Cert.Reference21Ideal.τ).loc Cert.Reference21Ideal.main_arg2)) (m ((c.tc : Thread Cert.Reference21Ideal.nD Cert.Reference21Ideal.τ).loc Cert.Reference21Ideal.main_arg3)) (m ((c.tc : Thread Cert.Reference21Ideal.nD Cert.Reference21Ideal.τ).loc Cert.Reference21Ideal.main_arg4))
      ∧ r.2.mem ((c.tc : Thread Cert.Reference21Ideal.nD Cert.Reference21Ideal.τ).loc Cert.Reference21Ideal.main_v41) = gainResult (m ((c.tc : Thread Cert.Reference21Ideal.nD Cert.Reference21Ideal.τ).loc Cert.Reference21Ideal.main_arg0)) (m ((c.tc : Thread Cert.Reference21Ideal.nD Cert.Reference21Ideal.τ).loc Cert.Reference21Ideal.main_arg1)) (m ((c.tc : Thread Cert.Reference21Ideal.nD Cert.Reference21Ideal.τ).loc Cert.Reference21Ideal.main_arg2)) (m ((c.tc : Thread Cert.Reference21Ideal.nD Cert.Reference21Ideal.τ).loc Cert.Reference21Ideal.main_arg3)) (m ((c.tc : Thread Cert.Reference21Ideal.nD Cert.Reference21Ideal.τ).loc Cert.Reference21Ideal.main_arg4))
      ∧ r.2.mem ((c.tc : Thread Cert.Reference21Ideal.nD Cert.Reference21Ideal.τ).loc Cert.Reference21Ideal.main_v30) = lossResult (m ((c.tc : Thread Cert.Reference21Ideal.nD Cert.Reference21Ideal.τ).loc Cert.Reference21Ideal.main_arg0)) (m ((c.tc : Thread Cert.Reference21Ideal.nD Cert.Reference21Ideal.τ).loc Cert.Reference21Ideal.main_arg1)) (m ((c.tc : Thread Cert.Reference21Ideal.nD Cert.Reference21Ideal.τ).loc Cert.Reference21Ideal.main_arg2)) (m ((c.tc : Thread Cert.Reference21Ideal.nD Cert.Reference21Ideal.τ).loc Cert.Reference21Ideal.main_arg3)) (m ((c.tc : Thread Cert.Reference21Ideal.nD Cert.Reference21Ideal.τ).loc Cert.Reference21Ideal.main_arg4))
      ∧ r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1)
      ∧ r.2.mem ((c.tc : Thread Cert.Reference21Ideal.nD Cert.Reference21Ideal.τ).loc Cert.Reference21Ideal.main_arg2) = m ((c.tc : Thread Cert.Reference21Ideal.nD Cert.Reference21Ideal.τ).loc Cert.Reference21Ideal.main_arg2)
      ∧ r.2.mem ((c.tc : Thread Cert.Reference21Ideal.nD Cert.Reference21Ideal.τ).loc Cert.Reference21Ideal.main_arg3) = m ((c.tc : Thread Cert.Reference21Ideal.nD Cert.Reference21Ideal.τ).loc Cert.Reference21Ideal.main_arg3)
      ∧ r.2.mem ((c.tc : Thread Cert.Reference21Ideal.nD Cert.Reference21Ideal.τ).loc Cert.Reference21Ideal.main_arg4) = m ((c.tc : Thread Cert.Reference21Ideal.nD Cert.Reference21Ideal.τ).loc Cert.Reference21Ideal.main_arg4) := by
  refine (θ_run Cert.Reference21Ideal.defs _ _).mono (fun r h c => ⟨(h c).1.trans ?_, (h c).2.1.trans ?_, (h c).2.2.1.trans ?_, (h c).2.2.2⟩) (Cert.Reference21Ideal.Value.run (F := Ideal) m ρ)
  · funext j
    idx_vars j
    pointwise [Cert.Reference21Ideal.Value.res_main_v57, result, given, rowOf, grad, back, scale, square, err, Rms.norm, total, term, sent_eq]
    simp only [Finset.univ_unique, Finset.sum_singleton, mul_one, zero_add, add_assoc, Rms.count, tiny, minusHalf]
  · funext j
    idx_vars j
    pointwise [Cert.Reference21Ideal.Value.res_main_v41, gainResult, given, gainOf, scale, square, err, Rms.norm, total, term, sent_eq]
    simp only [Finset.univ_unique, Finset.sum_singleton, mul_one]
  · funext j
    idx_vars j
    refine Eq.trans ?_ (halved _)
    pointwise [Cert.Reference21Ideal.Value.res_main_v30, err, Rms.norm, scale, square, total, term]

end Cert.Proof.DownLoss
-- ==== Proof.AttnRef.lean ====
module

public import proofs.«01_k».proof.Proof.Gen.Reference22Ideal.Run
public import Idealize.ShloMosaic.Lib.Pointwise
public import Idealize.ShloMosaic.Lib.Tactic.CleanTypes

@[expose] public section

set_option maxRecDepth 16384
set_option maxHeartbeats 2000000

noncomputable section

namespace Cert.Proof.Attn

open Idealize.ShloMosaic
open Cert.Reference22Ideal Cert.Reference22Ideal.Gen

/-! The attention of a row, and the reference's three steps: the scores, the weights and the products with the values. -/

/-- What a score is multiplied by, as its single-precision word. -/
abbrev factor : EReal := Ideal.ofBits FTy.f32 1031798784#32

/-- What a maximum starts from, as its single-precision word. -/
abbrev low : EReal := Ideal.ofBits FTy.f32 4286578688#32

/-- A row's greatest score. -/
def peak (s : Fin 256 → EReal) : EReal := Finset.univ.fold max low s

/-- The weight a row gives to key `n`: the exponential of its score below the greatest, as a part of their sum. -/
def weight (s : Fin 256 → EReal) (n : Fin 256) : EReal :=
  Ideal.div (Ideal.exp (s n - peak s)) (∑ j, Ideal.exp (s j - peak s))

/-- The score of a query and a key of one head. -/
def score (q k : Fin 256 → EReal) : EReal := (∑ d, q d * k d) * factor

/-- A query's weights of the keys, over one column of the values. -/
def attend (q : Fin 256 → EReal) (k : Fin 256 → Fin 256 → EReal) (v : Fin 256 → EReal) : EReal :=
  ∑ n, weight (fun j => score q (k j)) n * v n

/-- Column `d` of the head that holds column `c`. -/
def col (c : Fin 1024) (d : Fin 256) : Fin 1024 := ⟨c.val / 256 * 256 + d.val, by omega⟩

theorem peak_low (s : Fin 256 → EReal) : max low (Finset.univ.fold max low s) = peak s :=
  max_eq_right ((Finset.le_fold_max low).mpr (Or.inl le_rfl))

theorem weight_congr {s s' : Fin 256 → EReal} (h : ∀ i, s i = s' i) (n : Fin 256) : weight s n = weight s' n := by
  rw [funext h]

/-- The attention with each value before its weight. -/
theorem written_out {w : Fin 256 → EReal} (q : Fin 256 → EReal) (k : Fin 256 → Fin 256 → EReal) (v : Fin 256 → EReal)
    (h : ∀ n, w n = weight (fun j => score q (k j)) n) : (∑ n, v n * w n) = attend q k v := by
  rw [funext h]
  exact Finset.sum_congr rfl fun n _ => mul_comm _ _

/-- The reference's scores of head `h`. -/
def allScores (q : FVec Ideal S4096x1024 .bf16) (k : FVec Ideal S256x1024 .bf16) : FVec Ideal S4x4096x256 .f32 :=
  mulf (Host.dotGeneral dot_S4096x4x256_S256x4x256_S4x4096x256_2_2_0_0_1_1 none (shapeCast _ (extf .f32 q bitsLt_bf16_f32) shapeCasts_S4096x1024_S4096x4x256) (shapeCast _ (extf .f32 k bitsLt_bf16_f32) shapeCasts_S256x1024_S256x4x256)) (broadcastInDim S4x4096x256 ![] bcast_S_S4x4096x256 (constant S_ .f32 0x3D800000#32))

/-- The exponentials of the scores below their greatest. -/
def allExps (s : FVec Ideal S4x4096x256 .f32) : FVec Ideal S4x4096x256 .f32 :=
  Host.exp (subf s (broadcastInDim S4x4096x256 ![0, 1, 2] bcast_S4x4096x1_S4x4096x256_0_1_2 (broadcastInDim S4x4096x1 ![0, 1] bcast_S4x4096_S4x4096x1_0_1 (maximumf (broadcastInDim S4x4096 ![] bcast_S_S4x4096 (constant S_ .f32 0xFF800000#32)) (Host.reduce FloatOps.maximumf s (constant S_ .f32 0xFF800000#32) reducesTo_S4x4096x256_S4x4096_d2 h_S_)))))

/-- The weights. -/
def allWeights (s : FVec Ideal S4x4096x256 .f32) : FVec Ideal S4x4096x256 .f32 :=
  Host.divf (allExps s) (broadcastInDim S4x4096x256 ![0, 1, 2] bcast_S4x4096x1_S4x4096x256_0_1_2 (broadcastInDim S4x4096x1 ![0, 1] bcast_S4x4096_S4x4096x1_0_1 (Host.reduceAdd (allExps s) (constant S_ .f32 0x00000000#32) reducesTo_S4x4096x256_S4x4096_d2 h_S_)))

/-- The products with the values, the heads side by side. -/
def allMixed (v : FVec Ideal S256x1024 .bf16) (w : FVec Ideal S4x4096x256 .f32) : FVec Ideal S4096x1024 .bf16 :=
  truncf .bf16 (shapeCast _ (transpose S4096x4x256 [2, 0, 1] (Host.dotGeneral dot_S256x4x256_S4x4096x256_S4x256x4096_0_2_2_1_1_0 none (shapeCast _ (extf .f32 v bitsLt_bf16_f32) shapeCasts_S256x1024_S256x4x256) w) transposes_S4x256x4096_S4096x4x256_2_0_1) shapeCasts_S4096x4x256_S4096x1024) bitsLt_bf16_f32

/-- The head of a column. -/
def head (c : Fin 1024) : Fin 4 := ⟨c.val / 256, by omega⟩

theorem scores (q : FVec Ideal S4096x1024 .bf16) (k : FVec Ideal S256x1024 .bf16) (c : Fin 1024) (p : Fin 4096) (n : Fin 256) :
    allScores q k (ix3 (head c) p n) = score (fun d => q (ix2 p (col c d))) fun d => k (ix2 n (col c d)) := by
  pointwise [allScores, score, col, head]

/-- A maximum over the last of three axes. -/
theorem top {a b n : ℕ} (s : FVec Ideal ⟨3, ![a, b, n]⟩ .f32) (h : (⟨3, ![a, b, n]⟩ : Shape).ReducesTo [2] ⟨2, ![a, b]⟩) (hu : 0 < S_.numel)
    (i : Fin a) (j : Fin b) :
    Host.reduce FloatOps.maximumf s (constant S_ .f32 0xFF800000#32) h hu (ix2 i j) = Finset.univ.fold max low fun k : Fin n => s (ix3 i j k) := by
  rw [Host.reduce_eq_fold, h.fold_fiber_r3_a2]
  rfl

/-- A sum over the last of three axes. -/
theorem total {a b n : ℕ} (s : FVec Ideal ⟨3, ![a, b, n]⟩ .f32) (h : (⟨3, ![a, b, n]⟩ : Shape).ReducesTo [2] ⟨2, ![a, b]⟩) (hu : 0 < S_.numel)
    (i : Fin a) (j : Fin b) :
    Host.reduceAdd s (constant S_ .f32 0x00000000#32) h hu (ix2 i j) = ∑ k : Fin n, s (ix3 i j k) := by
  pointwise

/-- A number for each row, for each entry of the row. -/
theorem spread (r : FVec Ideal S4x4096 .f32) (h : Fin 4) (p : Fin 4096) (n : Fin 256) :
    broadcastInDim S4x4096x256 ![0, 1, 2] bcast_S4x4096x1_S4x4096x256_0_1_2 (broadcastInDim S4x4096x1 ![0, 1] bcast_S4x4096_S4x4096x1_0_1 r) (ix3 h p n) = r (ix2 h p) := by
  pointwise

theorem exp_at (x y : FVec Ideal S4x4096x256 .f32) (i : S4x4096x256.Idx) : Host.exp (subf x y) i = Ideal.exp (x i - y i) := rfl

theorem div_at (x y : FVec Ideal S4x4096x256 .f32) (i : S4x4096x256.Idx) : Host.divf x y i = Ideal.div (x i) (y i) := rfl

theorem max_at (r : FVec Ideal S4x4096 .f32) (i : S4x4096.Idx) :
    maximumf (broadcastInDim S4x4096 ![] bcast_S_S4x4096 (constant S_ .f32 0xFF800000#32)) r i = max low (r i) := rfl

theorem exps (s : FVec Ideal S4x4096x256 .f32) (h : Fin 4) (p : Fin 4096) (n : Fin 256) :
    allExps s (ix3 h p n) = Ideal.exp (s (ix3 h p n) - peak fun j => s (ix3 h p j)) := by
  unfold allExps
  rw [exp_at, spread, max_at, top, peak_low]

theorem soft (s : FVec Ideal S4x4096x256 .f32) (h : Fin 4) (p : Fin 4096) (n : Fin 256) :
    allWeights s (ix3 h p n) = weight (fun j => s (ix3 h p j)) n := by
  unfold allWeights weight
  rw [div_at, spread, total, exps, Finset.sum_congr rfl fun i _ => exps s h p i]

theorem mix (v : FVec Ideal S256x1024 .bf16) (w : FVec Ideal S4x4096x256 .f32) (p : Fin 4096) (c : Fin 1024) :
    allMixed v w (ix2 p c) = ∑ n : Fin 256, v (ix2 n c) * w (ix3 (head c) p n) := by
  pointwise [allMixed, head]

end Cert.Proof.Attn
-- ==== Proof.Attn.lean ====
module

public import proofs.«01_k».proof.Proof.Gen.Kernel22Ideal.Value
public import proofs.«01_k».proof.Proof.AttnRef
public import Idealize.ShloMosaic.Lib.Pointwise
public import Idealize.ShloMosaic.Lib.Tactic.CleanTypes
public import Idealize.ShloMosaic.Lib.Pipeline.ValueKit
public import Idealize.ShloMosaic.Lib.Pipeline.ValueKit.Tiles

@[expose] public section

set_option maxRecDepth 16384
set_option maxHeartbeats 2000000

noncomputable section

namespace Cert.Proof.Attn

open Idealize.ShloMosaic Idealize.ShloMosaic.TcCoe
open Cert.Kernel22Ideal Cert.Kernel22Ideal.Gen
open Idealize.ShloMosaic.Pipeline (Dat)

/-! The attention of a cross-attention layer. Each of the two grid points holds 2048 rows of the queries and all the
    keys and values, and computes its rows of the four heads, 256 columns each. -/

section Blocks
variable (m : (ℓ : Loc nD τ sig) → Buf (Elt Ideal) ℓ) (c : Dev nD) (t : Fin cfg0.N)

theorem point_lt : t.val < 2 := lt_of_lt_of_eq t.isLt (show cfg0.N = 2 from N_0)

theorem at0 : (cfg0.win 0).index t = ![t.val, 0] := by
  revert t; decide +kernel

theorem at1 : (cfg0.win 1).index t = ![0, 0] := by
  revert t; decide +kernel

theorem at2 : (cfg0.win 2).index t = ![0, 0] := by
  revert t; decide +kernel

theorem at3 : (cfg0.win 3).index t = ![t.val, 0] := by
  revert t; decide +kernel

theorem block0 (i : Fin 2048) (j : Fin 1024) : iblk m c 0 t (ix2 i j)
    = m ((c : Thread nD τ).loc main_arg0) (ix2 ⟨2048 * t.val + i.val, by have := point_lt t; omega⟩ j) := by
  have e := at0 t
  blk_ext [iblk, V, e]

theorem block1 (i : Fin 256) (j : Fin 1024) : iblk m c 1 t (ix2 i j) = m ((c : Thread nD τ).loc main_arg1) (ix2 i j) := by
  have e := at1 t
  blk_ext [iblk, V, e]

theorem block2 (i : Fin 256) (j : Fin 1024) : iblk m c 2 t (ix2 i j) = m ((c : Thread nD τ).loc main_arg2) (ix2 i j) := by
  have e := at2 t
  blk_ext [iblk, V, e]

end Blocks

/-- The head's columns from where it starts. -/
theorem col_eq (c : Fin 1024) (h : ℕ) (e : 256 * h ≤ c.val) (u : c.val < 256 * h + 256) (o : ℕ) (ho : o = 256 * h) (d : Fin 256) (b : o + d.val < 1024) :
    (⟨o + d.val, b⟩ : Fin 1024) = col c d := Fin.ext (by dsimp only [col]; omega)

/-- Entry (`p`, `c`) of the attention. -/
def result (q : Vec Ideal S4096x1024 .bf16) (k v : Vec Ideal S256x1024 .bf16) : Vec Ideal S4096x1024 .bf16 :=
  fun i => attend (fun d => q (ix2 (i 0) (col (i 1) d))) (fun n d => k (ix2 n (col (i 1) d))) fun n => v (ix2 n (i 1))

theorem result_apply (q : Vec Ideal S4096x1024 .bf16) (k v : Vec Ideal S256x1024 .bf16) (p : Fin 4096) (c : Fin 1024) :
    result q k v (ix2 p c) = attend (fun d => q (ix2 p (col c d))) (fun n d => k (ix2 n (col c d))) fun n => v (ix2 n c) := rfl

theorem attend_congr {q q' v v' : Fin 256 → EReal} {k k' : Fin 256 → Fin 256 → EReal} (hq : ∀ d, q d = q' d)
    (hk : ∀ n d, k n d = k' n d) (hv : ∀ n, v n = v' n) : attend q k v = attend q' k' v' := by
  rw [funext hq, funext fun n => funext (hk n), funext hv]

theorem body (q : Vec Ideal S2048x1024 .bf16) (k v : Vec Ideal S256x1024 .bf16) (p : Fin 2048) (c : Fin 1024) :
    out0_3 q k v (ix2 p c) = attend (fun d => q (ix2 p (col c d))) (fun n d => k (ix2 n (col c d))) fun n => v (ix2 n c) := by
  unfold out0_3
  rw [View.canon_unit_zero]
  · pointwise [k0_pay7, k0_pay4, k0_pay5, k0_pay6, k0_pay1, k0_pay2, k0_pay3]
    by_cases h0 : c.val < 256
    · rw [dif_pos h0]
      have e : ∀ (d : Fin 256) (b : d.val < 1024), (⟨d.val, b⟩ : Fin 1024) = col c d := fun d b => Fin.ext (by dsimp only [col]; omega)
      simp only [e]
      rfl
    rw [dif_neg h0]
    by_cases h1 : c.val - 256 < 256
    · rw [dif_pos h1]
      have e := col_eq c 1 (by omega) (by omega) 256 rfl
      have w : ∀ b : 256 + (c.val - 256) < 1024, (⟨256 + (c.val - 256), b⟩ : Fin 1024) = c := fun b => Fin.ext (by dsimp only; omega)
      simp only [e, w]
      rfl
    rw [dif_neg h1]
    by_cases h2 : c.val - 256 - 256 < 256
    · rw [dif_pos h2]
      have e := col_eq c 2 (by omega) (by omega) 512 rfl
      have w : ∀ b : 512 + (c.val - 256 - 256) < 1024, (⟨512 + (c.val - 256 - 256), b⟩ : Fin 1024) = c := fun b => Fin.ext (by dsimp only; omega)
      simp only [e, w]
      rfl
    · rw [dif_neg h2]
      have e := col_eq c 3 (by omega) (by omega) 768 rfl
      have w : ∀ b : 768 + (c.val - 256 - 256 - 256) < 1024, (⟨768 + (c.val - 256 - 256 - 256), b⟩ : Fin 1024) = c := fun b => Fin.ext (by dsimp only; omega)
      simp only [e, w]
      rfl
  · decide

section
variable (m : (ℓ : Loc nD τ sig) → Buf (Elt Ideal) ℓ) (c : Dev nD)

theorem written : (dats m 0 c).arrAt 3 cfg0.N = result (m ((c : Thread nD τ).loc main_arg0)) (m ((c : Thread nD τ).loc main_arg1)) (m ((c : Thread nD τ).loc main_arg2)) := by
  refine (dats m 0 c).arrAt_eq_of_covers 3 _ (by decide +kernel) fun t hf y => ?_
  have e := at3 t
  have := point_lt t
  blk_simp
  rw [after0_3]
  idx_vars y
  have p : (win0_3.blk t).view.emb (ix2 y0 y1) = ix2 ⟨2048 * t.val + y0.val, by omega⟩ y1 := by
    blk_ext [e]
  refine Eq.trans ?_ (congrArg (result _ _ _) p).symm
  refine (body ..).trans ?_
  rw [result_apply]
  exact attend_congr (fun d => block0 m c t y0 _) (fun n d => block1 m c t n _) fun n => block2 m c t n y1

end

/-- The reference ends with `result` of its arguments, which it leaves as they were. -/
theorem reference_run (m : (ℓ : Loc Cert.Reference22Ideal.nD Cert.Reference22Ideal.τ Cert.Reference22Ideal.sig) → Buf (Elt Ideal) ℓ)
    (ρ : Dev Cert.Reference22Ideal.nD → PrngReg) :
    θ_run (Cert.Reference22Ideal.defs (F := Ideal)) (onTc (τ := Cert.Reference22Ideal.τ) (Cert.Reference22Ideal.main (F := Ideal))) ⟨m, fun _ => 0, ρ⟩ fun r => ∀ c : Dev Cert.Reference22Ideal.nD,
      r.2.mem ((c.tc : Thread Cert.Reference22Ideal.nD Cert.Reference22Ideal.τ).loc Cert.Reference22Ideal.main_v23)
        = result (m ((c.tc : Thread Cert.Reference22Ideal.nD Cert.Reference22Ideal.τ).loc Cert.Reference22Ideal.main_arg0))
            (m ((c.tc : Thread Cert.Reference22Ideal.nD Cert.Reference22Ideal.τ).loc Cert.Reference22Ideal.main_arg1))
            (m ((c.tc : Thread Cert.Reference22Ideal.nD Cert.Reference22Ideal.τ).loc Cert.Reference22Ideal.main_arg2))
      ∧ r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1)
      ∧ r.2.mem ((c.tc : Thread Cert.Reference22Ideal.nD Cert.Reference22Ideal.τ).loc Cert.Reference22Ideal.main_arg2) = m ((c.tc : Thread Cert.Reference22Ideal.nD Cert.Reference22Ideal.τ).loc Cert.Reference22Ideal.main_arg2) := by
  refine (θ_run Cert.Reference22Ideal.defs _ _).mono (fun r h c => ⟨(h c).1.trans ?_, (h c).2⟩) (Cert.Reference22Ideal.Value.run (F := Ideal) m ρ)
  funext j
  idx_vars j
  refine (mix ..).trans ?_
  rw [result_apply]
  exact written_out _ _ _ (fun n => (soft ..).trans (weight_congr (fun i => scores ..) n))

end Cert.Proof.Attn
-- ==== Proof.lean ====
module

public import proofs.«01_k».proof.Defs
public import proofs.«01_k».proof.Proof.Gen.Kernel.Frame
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.Kernel2.Frame
public import proofs.«01_k».proof.Proof.Gen.Kernel2Ideal.Frame
public import proofs.«01_k».proof.Proof.Gen.Kernel2Ideal.Value
public import proofs.«01_k».proof.Proof.Gen.Reference2Ideal.Run
public import proofs.«01_k».proof.Proof.Gen.Kernel3.Frame
public import proofs.«01_k».proof.Proof.Gen.Kernel3Ideal.Frame
public import proofs.«01_k».proof.Proof.Gen.Kernel3Ideal.Value
public import proofs.«01_k».proof.Proof.Gen.Reference3Ideal.Run
public import proofs.«01_k».proof.Proof.Gen.Kernel4.Frame
public import proofs.«01_k».proof.Proof.Gen.Kernel4Ideal.Frame
public import proofs.«01_k».proof.Proof.Gen.Kernel4Ideal.Value
public import proofs.«01_k».proof.Proof.Gen.Reference4Ideal.Run
public import proofs.«01_k».proof.Proof.Gen.Kernel5.Frame
public import proofs.«01_k».proof.Proof.Gen.Kernel5Ideal.Frame
public import proofs.«01_k».proof.Proof.Gen.Kernel5Ideal.Value
public import proofs.«01_k».proof.Proof.Gen.Reference5Ideal.Run
public import proofs.«01_k».proof.Proof.Gen.Kernel6.Frame
public import proofs.«01_k».proof.Proof.Gen.Kernel6Ideal.Frame
public import proofs.«01_k».proof.Proof.Gen.Kernel6Ideal.Value
public import proofs.«01_k».proof.Proof.Gen.Reference6Ideal.Run
public import proofs.«01_k».proof.Proof.Gen.Kernel7.Frame
public import proofs.«01_k».proof.Proof.Gen.Kernel7Ideal.Frame
public import proofs.«01_k».proof.Proof.Gen.Kernel7Ideal.Value
public import proofs.«01_k».proof.Proof.Gen.Reference7Ideal.Run
public import proofs.«01_k».proof.Proof.Gen.Kernel8.Frame
public import proofs.«01_k».proof.Proof.Gen.Kernel8Ideal.Frame
public import proofs.«01_k».proof.Proof.Gen.Kernel8Ideal.Value
public import proofs.«01_k».proof.Proof.Gen.Reference8Ideal.Run
public import proofs.«01_k».proof.Proof.Gen.Kernel9.Frame
public import proofs.«01_k».proof.Proof.Gen.Kernel9Ideal.Frame
public import proofs.«01_k».proof.Proof.Gen.Kernel9Ideal.Value
public import proofs.«01_k».proof.Proof.Gen.Reference9Ideal.Run
public import proofs.«01_k».proof.Proof.Gen.Kernel10.Frame
public import proofs.«01_k».proof.Proof.Gen.Kernel10Ideal.Frame
public import proofs.«01_k».proof.Proof.Gen.Kernel10Ideal.Value
public import proofs.«01_k».proof.Proof.Gen.Reference10Ideal.Run
public import proofs.«01_k».proof.Proof.Gen.Kernel11.Frame
public import proofs.«01_k».proof.Proof.Gen.Kernel11Ideal.Frame
public import proofs.«01_k».proof.Proof.Gen.Kernel11Ideal.Value
public import proofs.«01_k».proof.Proof.Gen.Reference11Ideal.Run
public import proofs.«01_k».proof.Proof.Gen.Kernel12.Frame
public import proofs.«01_k».proof.Proof.Gen.Kernel12Ideal.Frame
public import proofs.«01_k».proof.Proof.Gen.Kernel12Ideal.Value
public import proofs.«01_k».proof.Proof.Gen.Reference12Ideal.Run
public import proofs.«01_k».proof.Proof.Gen.Kernel13.Frame
public import proofs.«01_k».proof.Proof.Gen.Kernel13Ideal.Frame
public import proofs.«01_k».proof.Proof.Gen.Kernel13Ideal.Value
public import proofs.«01_k».proof.Proof.Gen.Reference13Ideal.Run
public import proofs.«01_k».proof.Proof.Gen.Kernel14.Frame
public import proofs.«01_k».proof.Proof.Gen.Kernel14Ideal.Frame
public import proofs.«01_k».proof.Proof.Gen.Kernel14Ideal.Value
public import proofs.«01_k».proof.Proof.Gen.Reference14Ideal.Run
public import proofs.«01_k».proof.Proof.Gen.Kernel15.Frame
public import proofs.«01_k».proof.Proof.Gen.Kernel15Ideal.Frame
public import proofs.«01_k».proof.Proof.Gen.Kernel15Ideal.Value
public import proofs.«01_k».proof.Proof.Gen.Reference15Ideal.Run
public import proofs.«01_k».proof.Proof.Gen.Kernel16.Frame
public import proofs.«01_k».proof.Proof.Gen.Kernel16Ideal.Frame
public import proofs.«01_k».proof.Proof.Gen.Kernel16Ideal.Value
public import proofs.«01_k».proof.Proof.Gen.Reference16Ideal.Run
public import proofs.«01_k».proof.Proof.Gen.Kernel17.Frame
public import proofs.«01_k».proof.Proof.Gen.Kernel17Ideal.Frame
public import proofs.«01_k».proof.Proof.Gen.Kernel17Ideal.Value
public import proofs.«01_k».proof.Proof.Gen.Reference17Ideal.Run
public import proofs.«01_k».proof.Proof.Gen.Kernel18.Frame
public import proofs.«01_k».proof.Proof.Gen.Kernel18Ideal.Frame
public import proofs.«01_k».proof.Proof.Gen.Kernel18Ideal.Value
public import proofs.«01_k».proof.Proof.Gen.Reference18Ideal.Run
public import proofs.«01_k».proof.Proof.Gen.Kernel19.Frame
public import proofs.«01_k».proof.Proof.Gen.Kernel19Ideal.Frame
public import proofs.«01_k».proof.Proof.Gen.Kernel19Ideal.Value
public import proofs.«01_k».proof.Proof.Gen.Reference19Ideal.Run
public import proofs.«01_k».proof.Proof.Gen.Kernel20.Frame
public import proofs.«01_k».proof.Proof.Gen.Kernel20Ideal.Frame
public import proofs.«01_k».proof.Proof.Gen.Kernel20Ideal.Value
public import proofs.«01_k».proof.Proof.Gen.Reference20Ideal.Run
public import proofs.«01_k».proof.Proof.Gen.Kernel21.Frame
public import proofs.«01_k».proof.Proof.Gen.Kernel21Ideal.Frame
public import proofs.«01_k».proof.Proof.Gen.Kernel21Ideal.Value
public import proofs.«01_k».proof.Proof.Gen.Reference21Ideal.Run
public import proofs.«01_k».proof.Proof.Gen.Kernel22.Frame
public import proofs.«01_k».proof.Proof.Gen.Kernel22Ideal.Frame
public import proofs.«01_k».proof.Proof.Gen.Kernel22Ideal.Value
public import proofs.«01_k».proof.Proof.Gen.Reference22Ideal.Run
public import proofs.«01_k».proof.Proof.Results
public import proofs.«01_k».proof.Proof.DownDx
public import proofs.«01_k».proof.Proof.DownDw
public import proofs.«01_k».proof.Proof.UpDw
public import proofs.«01_k».proof.Proof.UpDx
public import proofs.«01_k».proof.Proof.Up
public import proofs.«01_k».proof.Proof.Down
public import proofs.«01_k».proof.Proof.InProj
public import proofs.«01_k».proof.Proof.InDw
public import proofs.«01_k».proof.Proof.InDx
public import proofs.«01_k».proof.Proof.OutDw
public import proofs.«01_k».proof.Proof.QDw
public import proofs.«01_k».proof.Proof.OutDx
public import proofs.«01_k».proof.Proof.Query
public import proofs.«01_k».proof.Proof.OutProj
public import proofs.«01_k».proof.Proof.Pw1
public import proofs.«01_k».proof.Proof.Pw1Dw
public import proofs.«01_k».proof.Proof.Pw1Dx
public import proofs.«01_k».proof.Proof.QDx
public import proofs.«01_k».proof.Proof.Pw2
public import proofs.«01_k».proof.Proof.DownLoss
public import proofs.«01_k».proof.Proof.Attn
public import Idealize.ShloMosaic.Lib.Quiescent

@[expose] public section

set_option maxRecDepth 16384

noncomputable section

namespace Cert.Proof

open Idealize.ShloMosaic Idealize.ShloMosaic.TcCoe Idealize.SL.Sem

theorem frame_kernel : Cert.quiescent_Kernel := fun m ρ _ => Cert.Kernel.Gen.frame m ρ

theorem frame_ideal : Cert.quiescent_KernelIdeal := fun m ρ _ => Cert.KernelIdeal.Gen.frame m ρ

theorem frame_reference : Cert.quiescent_ReferenceIdeal := fun m ρ _ =>
  (θ_run Cert.ReferenceIdeal.defs _ _).mono (fun r h => ⟨fun c => (h c).2.2.2.2.2.2,
      Idealize.ShloMosaic.sem_eq_zero_of_no_sems (by decide) r.2⟩)
    (Cert.ReferenceIdeal.Value.run (F := Ideal) m ρ)

open Cert.Proof.Chunk in
/-- From the same arguments both programs end with the same six gradients: those the kernel's grid leaves, each
    shown to be the reference's. -/
theorem same_results : Cert.algebraic_KernelIdeal_ReferenceIdeal := by
  intro m ρ m' ρ' _ agree
  have H : ∀ c, SameArgs m m' c := fun c => by
    obtain ⟨h0, h1, h2, h3, h4, h5, h6, h7, h8⟩ := agree c
    exact ⟨h0, h1, h2, h3, h4, h5, h6, h7, h8⟩
  refine ⟨_, _, _, _, _, _, Cert.KernelIdeal.Value.run_blocks m ρ, ?_⟩
  refine (θ_run Cert.ReferenceIdeal.defs _ _).mono (fun r h c => ?_) (Cert.ReferenceIdeal.Value.run (F := Ideal) m' ρ')
  obtain ⟨q, k, v, gb, z, w, rest⟩ := h c
  exact ⟨q.trans (final_dq m m' c (H c)).symm, k.trans (final_dk m m' c (H c)).symm, v.trans (final_dv m m' c (H c)).symm,
    gb.trans (final_dgb m m' c (H c)).symm, z.trans (final_dz m m' c (H c)).symm, w.trans (final_don m m' c (H c)).symm, rest⟩

/-- The gradient through the MLP's second product: the kernel's grid leaves what the reference computes. -/
theorem same_results2 : Cert.algebraic_Kernel2Ideal_Reference2Ideal := by
  intro m ρ m' ρ' _ agree
  refine ⟨_, Cert.Kernel2Ideal.Value.run_blocks m ρ, ?_⟩
  refine (θ_run Cert.Reference2Ideal.defs _ _).mono (fun r h c => ⟨?_, (h c).2⟩) (Cert.Proof.DownDx.reference_run m' ρ')
  obtain ⟨h0, h1, h2⟩ := agree c
  rw [(h c).1, h0, h1, h2]
  exact (Cert.Proof.DownDx.written m c).symm

theorem frame_reference2 : Cert.quiescent_Reference2Ideal := fun m ρ _ =>
  (θ_run Cert.Reference2Ideal.defs _ _).mono (fun r h => ⟨fun c => (h c).2, Idealize.ShloMosaic.sem_eq_zero_of_no_sems (by decide) r.2⟩)
    (Cert.Proof.DownDx.reference_run m ρ)

/-- The gradient of the MLP's second weights: the kernel's grid leaves what the reference computes. -/
theorem same_results3 : Cert.algebraic_Kernel3Ideal_Reference3Ideal := by
  intro m ρ m' ρ' _ agree
  refine ⟨_, Cert.Kernel3Ideal.Value.run_blocks m ρ, ?_⟩
  refine (θ_run Cert.Reference3Ideal.defs _ _).mono (fun r h c => ⟨?_, (h c).2⟩) (Cert.Proof.DownDw.reference_run m' ρ')
  obtain ⟨h0, h1⟩ := agree c
  rw [(h c).1, h0, h1]
  exact (Cert.Proof.DownDw.written m c).symm

theorem frame_reference3 : Cert.quiescent_Reference3Ideal := fun m ρ _ =>
  (θ_run Cert.Reference3Ideal.defs _ _).mono (fun r h => ⟨fun c => (h c).2, Idealize.ShloMosaic.sem_eq_zero_of_no_sems (by decide) r.2⟩)
    (Cert.Proof.DownDw.reference_run m ρ)

/-- The gradient of the MLP's first weights: the kernel's grid leaves what the reference computes. -/
theorem same_results4 : Cert.algebraic_Kernel4Ideal_Reference4Ideal := by
  intro m ρ m' ρ' _ agree
  refine ⟨_, Cert.Kernel4Ideal.Value.run_blocks m ρ, ?_⟩
  refine (θ_run Cert.Reference4Ideal.defs _ _).mono (fun r h c => ⟨?_, (h c).2⟩) (Cert.Proof.UpDw.reference_run m' ρ')
  obtain ⟨h0, h1⟩ := agree c
  rw [(h c).1, h0, h1]
  exact (Cert.Proof.UpDw.written m c).symm

theorem frame_reference4 : Cert.quiescent_Reference4Ideal := fun m ρ _ =>
  (θ_run Cert.Reference4Ideal.defs _ _).mono (fun r h => ⟨fun c => (h c).2, Idealize.ShloMosaic.sem_eq_zero_of_no_sems (by decide) r.2⟩)
    (Cert.Proof.UpDw.reference_run m ρ)

/-- The gradient through the MLP's first product and its norm: the kernel's grid leaves what the reference computes. -/
theorem same_results5 : Cert.algebraic_Kernel5Ideal_Reference5Ideal := by
  intro m ρ m' ρ' _ agree
  refine ⟨_, _, Cert.Kernel5Ideal.Value.run_blocks m ρ, ?_⟩
  refine (θ_run Cert.Reference5Ideal.defs _ _).mono (fun r h c => ⟨?_, ?_, (h c).2.2⟩) (Cert.Proof.UpDx.reference_run m' ρ')
  · obtain ⟨h0, h1, h2, h3, h4⟩ := agree c
    rw [(h c).1, h0, h1, h2, h3, h4]
    exact (Cert.Proof.UpDx.written m c).symm
  · obtain ⟨h0, h1, h2, h3, h4⟩ := agree c
    rw [(h c).2.1, h0, h1, h2]
    exact (Cert.Proof.UpDx.gain_written m c).symm

theorem frame_reference5 : Cert.quiescent_Reference5Ideal := fun m ρ _ =>
  (θ_run Cert.Reference5Ideal.defs _ _).mono (fun r h => ⟨fun c => (h c).2.2, Idealize.ShloMosaic.sem_eq_zero_of_no_sems (by decide) r.2⟩)
    (Cert.Proof.UpDx.reference_run m ρ)

/-- The MLP's first product: the kernel's grid leaves what the reference computes. -/
theorem same_results6 : Cert.algebraic_Kernel6Ideal_Reference6Ideal := by
  intro m ρ m' ρ' _ agree
  refine ⟨_, Cert.Kernel6Ideal.Value.run_blocks m ρ, ?_⟩
  refine (θ_run Cert.Reference6Ideal.defs _ _).mono (fun r h c => ⟨?_, (h c).2⟩) (Cert.Proof.Up.reference_run m' ρ')
  obtain ⟨h0, h1⟩ := agree c
  rw [(h c).1, h0, h1]
  exact (Cert.Proof.Up.written m c).symm

theorem frame_reference6 : Cert.quiescent_Reference6Ideal := fun m ρ _ =>
  (θ_run Cert.Reference6Ideal.defs _ _).mono (fun r h => ⟨fun c => (h c).2, Idealize.ShloMosaic.sem_eq_zero_of_no_sems (by decide) r.2⟩)
    (Cert.Proof.Up.reference_run m ρ)

/-- The MLP's second product and the norm after it: the kernel's grid leaves what the reference computes. -/
theorem same_results7 : Cert.algebraic_Kernel7Ideal_Reference7Ideal := by
  intro m ρ m' ρ' _ agree
  refine ⟨_, _, Cert.Kernel7Ideal.Value.run_blocks m ρ, ?_⟩
  refine (θ_run Cert.Reference7Ideal.defs _ _).mono (fun r h c => ⟨?_, ?_, (h c).2.2⟩) (Cert.Proof.Down.reference_run m' ρ')
  · obtain ⟨h0, h1, h2, h3⟩ := agree c
    rw [(h c).1, h0, h1, h2]
    exact (Cert.Proof.Down.written m c).symm
  · obtain ⟨h0, h1, h2, h3⟩ := agree c
    rw [(h c).2.1, h0, h1, h2, h3]
    exact (Cert.Proof.Down.norm_written m c).symm

theorem frame_reference7 : Cert.quiescent_Reference7Ideal := fun m ρ _ =>
  (θ_run Cert.Reference7Ideal.defs _ _).mono (fun r h => ⟨fun c => (h c).2.2, Idealize.ShloMosaic.sem_eq_zero_of_no_sems (by decide) r.2⟩)
    (Cert.Proof.Down.reference_run m ρ)

/-- The DeltaNet's first product: the kernel's grid leaves what the reference computes. -/
theorem same_results8 : Cert.algebraic_Kernel8Ideal_Reference8Ideal := by
  intro m ρ m' ρ' _ agree
  refine ⟨_, Cert.Kernel8Ideal.Value.run_blocks m ρ, ?_⟩
  refine (θ_run Cert.Reference8Ideal.defs _ _).mono (fun r h c => ⟨?_, (h c).2⟩) (Cert.Proof.InProj.reference_run m' ρ')
  obtain ⟨h0, h1⟩ := agree c
  rw [(h c).1, h0, h1]
  exact (Cert.Proof.InProj.written m c).symm

theorem frame_reference8 : Cert.quiescent_Reference8Ideal := fun m ρ _ =>
  (θ_run Cert.Reference8Ideal.defs _ _).mono (fun r h => ⟨fun c => (h c).2, Idealize.ShloMosaic.sem_eq_zero_of_no_sems (by decide) r.2⟩)
    (Cert.Proof.InProj.reference_run m ρ)

/-- The gradient of the DeltaNet's first weights: the kernel's grid leaves what the reference computes. -/
theorem same_results9 : Cert.algebraic_Kernel9Ideal_Reference9Ideal := by
  intro m ρ m' ρ' _ agree
  refine ⟨_, Cert.Kernel9Ideal.Value.run_blocks m ρ, ?_⟩
  refine (θ_run Cert.Reference9Ideal.defs _ _).mono (fun r h c => ⟨?_, (h c).2⟩) (Cert.Proof.InDw.reference_run m' ρ')
  obtain ⟨h0, h1⟩ := agree c
  rw [(h c).1, h0, h1]
  exact (Cert.Proof.InDw.written m c).symm

theorem frame_reference9 : Cert.quiescent_Reference9Ideal := fun m ρ _ =>
  (θ_run Cert.Reference9Ideal.defs _ _).mono (fun r h => ⟨fun c => (h c).2, Idealize.ShloMosaic.sem_eq_zero_of_no_sems (by decide) r.2⟩)
    (Cert.Proof.InDw.reference_run m ρ)

/-- The gradient through the DeltaNet's first product and its norm: the kernel's grid leaves what the reference computes. -/
theorem same_results10 : Cert.algebraic_Kernel10Ideal_Reference10Ideal := by
  intro m ρ m' ρ' _ agree
  refine ⟨_, _, Cert.Kernel10Ideal.Value.run_blocks m ρ, ?_⟩
  refine (θ_run Cert.Reference10Ideal.defs _ _).mono (fun r h c => ⟨?_, ?_, (h c).2.2⟩) (Cert.Proof.InDx.reference_run m' ρ')
  · obtain ⟨h0, h1, h2, h3, h4, h5⟩ := agree c
    rw [(h c).1, h0, h1, h2, h3, h4, h5]
    exact (Cert.Proof.InDx.written m c).symm
  · obtain ⟨h0, h1, h2, h3, h4, h5⟩ := agree c
    rw [(h c).2.1, h0, h1, h2, h3]
    exact (Cert.Proof.InDx.gain_written m c).symm

theorem frame_reference10 : Cert.quiescent_Reference10Ideal := fun m ρ _ =>
  (θ_run Cert.Reference10Ideal.defs _ _).mono (fun r h => ⟨fun c => (h c).2.2, Idealize.ShloMosaic.sem_eq_zero_of_no_sems (by decide) r.2⟩)
    (Cert.Proof.InDx.reference_run m ρ)

/-- The gradient of an output product's weights: the kernel's grid leaves what the reference computes. -/
theorem same_results11 : Cert.algebraic_Kernel11Ideal_Reference11Ideal := by
  intro m ρ m' ρ' _ agree
  refine ⟨_, Cert.Kernel11Ideal.Value.run_blocks m ρ, ?_⟩
  refine (θ_run Cert.Reference11Ideal.defs _ _).mono (fun r h c => ⟨?_, (h c).2⟩) (Cert.Proof.OutDw.reference_run m' ρ')
  obtain ⟨h0, h1⟩ := agree c
  rw [(h c).1, h0, h1]
  exact (Cert.Proof.OutDw.written m c).symm

theorem frame_reference11 : Cert.quiescent_Reference11Ideal := fun m ρ _ =>
  (θ_run Cert.Reference11Ideal.defs _ _).mono (fun r h => ⟨fun c => (h c).2, Idealize.ShloMosaic.sem_eq_zero_of_no_sems (by decide) r.2⟩)
    (Cert.Proof.OutDw.reference_run m ρ)

/-- The gradient of a query product's weights: the kernel's grid leaves what the reference computes. -/
theorem same_results12 : Cert.algebraic_Kernel12Ideal_Reference12Ideal := by
  intro m ρ m' ρ' _ agree
  refine ⟨_, Cert.Kernel12Ideal.Value.run_blocks m ρ, ?_⟩
  refine (θ_run Cert.Reference12Ideal.defs _ _).mono (fun r h c => ⟨?_, (h c).2⟩) (Cert.Proof.QDw.reference_run m' ρ')
  obtain ⟨h0, h1⟩ := agree c
  rw [(h c).1, h0, h1]
  exact (Cert.Proof.QDw.written m c).symm

theorem frame_reference12 : Cert.quiescent_Reference12Ideal := fun m ρ _ =>
  (θ_run Cert.Reference12Ideal.defs _ _).mono (fun r h => ⟨fun c => (h c).2, Idealize.ShloMosaic.sem_eq_zero_of_no_sems (by decide) r.2⟩)
    (Cert.Proof.QDw.reference_run m ρ)

/-- The gradient through an output product: the kernel's grid leaves what the reference computes. -/
theorem same_results13 : Cert.algebraic_Kernel13Ideal_Reference13Ideal := by
  intro m ρ m' ρ' _ agree
  refine ⟨_, Cert.Kernel13Ideal.Value.run_blocks m ρ, ?_⟩
  refine (θ_run Cert.Reference13Ideal.defs _ _).mono (fun r h c => ⟨?_, (h c).2⟩) (Cert.Proof.OutDx.reference_run m' ρ')
  obtain ⟨h0, h1⟩ := agree c
  rw [(h c).1, h0, h1]
  exact (Cert.Proof.OutDx.written m c).symm

theorem frame_reference13 : Cert.quiescent_Reference13Ideal := fun m ρ _ =>
  (θ_run Cert.Reference13Ideal.defs _ _).mono (fun r h => ⟨fun c => (h c).2, Idealize.ShloMosaic.sem_eq_zero_of_no_sems (by decide) r.2⟩)
    (Cert.Proof.OutDx.reference_run m ρ)

/-- A query product: the kernel's grid leaves what the reference computes. -/
theorem same_results14 : Cert.algebraic_Kernel14Ideal_Reference14Ideal := by
  intro m ρ m' ρ' _ agree
  refine ⟨_, Cert.Kernel14Ideal.Value.run_blocks m ρ, ?_⟩
  refine (θ_run Cert.Reference14Ideal.defs _ _).mono (fun r h c => ⟨?_, (h c).2⟩) (Cert.Proof.Query.reference_run m' ρ')
  obtain ⟨h0, h1⟩ := agree c
  rw [(h c).1, h0, h1]
  exact (Cert.Proof.Query.written m c).symm

theorem frame_reference14 : Cert.quiescent_Reference14Ideal := fun m ρ _ =>
  (θ_run Cert.Reference14Ideal.defs _ _).mono (fun r h => ⟨fun c => (h c).2, Idealize.ShloMosaic.sem_eq_zero_of_no_sems (by decide) r.2⟩)
    (Cert.Proof.Query.reference_run m ρ)

/-- An output product and the norm after it: the kernel's grid leaves what the reference computes. -/
theorem same_results15 : Cert.algebraic_Kernel15Ideal_Reference15Ideal := by
  intro m ρ m' ρ' _ agree
  refine ⟨_, _, Cert.Kernel15Ideal.Value.run_blocks m ρ, ?_⟩
  refine (θ_run Cert.Reference15Ideal.defs _ _).mono (fun r h c => ⟨?_, ?_, (h c).2.2⟩) (Cert.Proof.OutProj.reference_run m' ρ')
  · obtain ⟨h0, h1, h2, h3⟩ := agree c
    rw [(h c).1, h0, h1, h2]
    exact (Cert.Proof.OutProj.written m c).symm
  · obtain ⟨h0, h1, h2, h3⟩ := agree c
    rw [(h c).2.1, h0, h1, h2, h3]
    exact (Cert.Proof.OutProj.norm_written m c).symm

theorem frame_reference15 : Cert.quiescent_Reference15Ideal := fun m ρ _ =>
  (θ_run Cert.Reference15Ideal.defs _ _).mono (fun r h => ⟨fun c => (h c).2.2, Idealize.ShloMosaic.sem_eq_zero_of_no_sems (by decide) r.2⟩)
    (Cert.Proof.OutProj.reference_run m ρ)

/-- The first pointwise convolution: the kernel's grid leaves what the reference computes. -/
theorem same_results16 : Cert.algebraic_Kernel16Ideal_Reference16Ideal := by
  intro m ρ m' ρ' _ agree
  refine ⟨_, Cert.Kernel16Ideal.Value.run_blocks m ρ, ?_⟩
  refine (θ_run Cert.Reference16Ideal.defs _ _).mono (fun r h c => ⟨?_, (h c).2⟩) (Cert.Proof.Pw1.reference_run m' ρ')
  obtain ⟨h0, h1, h2⟩ := agree c
  rw [(h c).1, h0, h1, h2]
  exact (Cert.Proof.Pw1.written m c).symm

theorem frame_reference16 : Cert.quiescent_Reference16Ideal := fun m ρ _ =>
  (θ_run Cert.Reference16Ideal.defs _ _).mono (fun r h => ⟨fun c => (h c).2, Idealize.ShloMosaic.sem_eq_zero_of_no_sems (by decide) r.2⟩)
    (Cert.Proof.Pw1.reference_run m ρ)

/-- The gradient of the first pointwise convolution's weights: the kernel's grid leaves what the reference computes. -/
theorem same_results17 : Cert.algebraic_Kernel17Ideal_Reference17Ideal := by
  intro m ρ m' ρ' _ agree
  refine ⟨_, Cert.Kernel17Ideal.Value.run_blocks m ρ, ?_⟩
  refine (θ_run Cert.Reference17Ideal.defs _ _).mono (fun r h c => ⟨?_, (h c).2⟩) (Cert.Proof.Pw1Dw.reference_run m' ρ')
  obtain ⟨h0, h1⟩ := agree c
  rw [(h c).1, h0, h1]
  exact (Cert.Proof.Pw1Dw.written m c).symm

theorem frame_reference17 : Cert.quiescent_Reference17Ideal := fun m ρ _ =>
  (θ_run Cert.Reference17Ideal.defs _ _).mono (fun r h => ⟨fun c => (h c).2, Idealize.ShloMosaic.sem_eq_zero_of_no_sems (by decide) r.2⟩)
    (Cert.Proof.Pw1Dw.reference_run m ρ)

/-- The gradient through the first pointwise convolution and its norm: the kernel's grid leaves what the reference computes. -/
theorem same_results18 : Cert.algebraic_Kernel18Ideal_Reference18Ideal := by
  intro m ρ m' ρ' _ agree
  refine ⟨_, _, Cert.Kernel18Ideal.Value.run_blocks m ρ, ?_⟩
  refine (θ_run Cert.Reference18Ideal.defs _ _).mono (fun r h c => ⟨?_, ?_, (h c).2.2⟩) (Cert.Proof.Pw1Dx.reference_run m' ρ')
  · obtain ⟨h0, h1, h2, h3, h4⟩ := agree c
    rw [(h c).1, h0, h1, h2, h3, h4]
    exact (Cert.Proof.Pw1Dx.written m c).symm
  · obtain ⟨h0, h1, h2, h3, h4⟩ := agree c
    rw [(h c).2.1, h0, h1, h2]
    exact (Cert.Proof.Pw1Dx.gain_written m c).symm

theorem frame_reference18 : Cert.quiescent_Reference18Ideal := fun m ρ _ =>
  (θ_run Cert.Reference18Ideal.defs _ _).mono (fun r h => ⟨fun c => (h c).2.2, Idealize.ShloMosaic.sem_eq_zero_of_no_sems (by decide) r.2⟩)
    (Cert.Proof.Pw1Dx.reference_run m ρ)

/-- The gradient through a query product and its norm, and its columns' sums: the kernel's grid leaves what the reference computes. -/
theorem same_results19 : Cert.algebraic_Kernel19Ideal_Reference19Ideal := by
  intro m ρ m' ρ' _ agree
  refine ⟨_, _, _, Cert.Kernel19Ideal.Value.run_blocks m ρ, ?_⟩
  refine (θ_run Cert.Reference19Ideal.defs _ _).mono (fun r h c => ⟨?_, ?_, ?_, (h c).2.2.2⟩) (Cert.Proof.QDx.reference_run m' ρ')
  · obtain ⟨h0, h1, h2, h3, h4⟩ := agree c
    rw [(h c).1, h0, h1, h2, h3, h4]
    exact (Cert.Proof.QDx.written m c).symm
  · obtain ⟨h0, h1, h2, h3, h4⟩ := agree c
    rw [(h c).2.1, h0, h1, h2]
    exact (Cert.Proof.QDx.gain_written m c).symm
  · obtain ⟨h0, h1, h2, h3, h4⟩ := agree c
    rw [(h c).2.2.1, h0, h1, h2, h3, h4]
    exact (Cert.Proof.QDx.col_written m c).symm

theorem frame_reference19 : Cert.quiescent_Reference19Ideal := fun m ρ _ =>
  (θ_run Cert.Reference19Ideal.defs _ _).mono (fun r h => ⟨fun c => (h c).2.2.2, Idealize.ShloMosaic.sem_eq_zero_of_no_sems (by decide) r.2⟩)
    (Cert.Proof.QDx.reference_run m ρ)

/-- The second pointwise convolution and the norm after it: the kernel's grid leaves what the reference computes. -/
theorem same_results20 : Cert.algebraic_Kernel20Ideal_Reference20Ideal := by
  intro m ρ m' ρ' _ agree
  refine ⟨_, _, Cert.Kernel20Ideal.Value.run_blocks m ρ, ?_⟩
  refine (θ_run Cert.Reference20Ideal.defs _ _).mono (fun r h c => ⟨?_, ?_, (h c).2.2⟩) (Cert.Proof.Pw2.reference_run m' ρ')
  · obtain ⟨h0, h1, h2, h3, h4⟩ := agree c
    rw [(h c).1, h0, h1, h2, h3]
    exact (Cert.Proof.Pw2.written m c).symm
  · obtain ⟨h0, h1, h2, h3, h4⟩ := agree c
    rw [(h c).2.1, h0, h1, h2, h3, h4]
    exact (Cert.Proof.Pw2.norm_written m c).symm

theorem frame_reference20 : Cert.quiescent_Reference20Ideal := fun m ρ _ =>
  (θ_run Cert.Reference20Ideal.defs _ _).mono (fun r h => ⟨fun c => (h c).2.2, Idealize.ShloMosaic.sem_eq_zero_of_no_sems (by decide) r.2⟩)
    (Cert.Proof.Pw2.reference_run m ρ)

/-- The MLP's second product, the last norm and the loss, with their gradients: the kernel's grid leaves what the reference computes. -/
theorem same_results21 : Cert.algebraic_Kernel21Ideal_Reference21Ideal := by
  intro m ρ m' ρ' _ agree
  refine ⟨_, _, _, Cert.Kernel21Ideal.Value.run_blocks m ρ, ?_⟩
  refine (θ_run Cert.Reference21Ideal.defs _ _).mono (fun r h c => ⟨?_, ?_, ?_, (h c).2.2.2⟩) (Cert.Proof.DownLoss.reference_run m' ρ')
  · obtain ⟨h0, h1, h2, h3, h4⟩ := agree c
    rw [(h c).1, h0, h1, h2, h3, h4]
    exact (Cert.Proof.DownLoss.written m c).symm
  · obtain ⟨h0, h1, h2, h3, h4⟩ := agree c
    rw [(h c).2.1, h0, h1, h2, h3, h4]
    exact (Cert.Proof.DownLoss.gain_written m c).symm
  · obtain ⟨h0, h1, h2, h3, h4⟩ := agree c
    rw [(h c).2.2.1, h0, h1, h2, h3, h4]
    exact (Cert.Proof.DownLoss.loss_written m c).symm

theorem frame_reference21 : Cert.quiescent_Reference21Ideal := fun m ρ _ =>
  (θ_run Cert.Reference21Ideal.defs _ _).mono (fun r h => ⟨fun c => (h c).2.2.2, Idealize.ShloMosaic.sem_eq_zero_of_no_sems (by decide) r.2⟩)
    (Cert.Proof.DownLoss.reference_run m ρ)

/-- The attention of a cross-attention layer: the kernel's grid leaves what the reference computes. -/
theorem same_results22 : Cert.algebraic_Kernel22Ideal_Reference22Ideal := by
  intro m ρ m' ρ' _ agree
  refine ⟨_, Cert.Kernel22Ideal.Value.run_blocks m ρ, ?_⟩
  refine (θ_run Cert.Reference22Ideal.defs _ _).mono (fun r h c => ⟨?_, (h c).2⟩) (Cert.Proof.Attn.reference_run m' ρ')
  obtain ⟨h0, h1, h2⟩ := agree c
  rw [(h c).1, h0, h1, h2]
  exact (Cert.Proof.Attn.written m c).symm

theorem frame_reference22 : Cert.quiescent_Reference22Ideal := fun m ρ _ =>
  (θ_run Cert.Reference22Ideal.defs _ _).mono (fun r h => ⟨fun c => (h c).2, Idealize.ShloMosaic.sem_eq_zero_of_no_sems (by decide) r.2⟩)
    (Cert.Proof.Attn.reference_run m ρ)

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Kernel10.Gen.facts, Cert.Kernel10Ideal.Gen.facts, Cert.Reference10Ideal.Gen.facts,
    Cert.Kernel11.Gen.facts, Cert.Kernel11Ideal.Gen.facts, Cert.Reference11Ideal.Gen.facts,
    Cert.Kernel12.Gen.facts, Cert.Kernel12Ideal.Gen.facts, Cert.Reference12Ideal.Gen.facts,
    Cert.Kernel13.Gen.facts, Cert.Kernel13Ideal.Gen.facts, Cert.Reference13Ideal.Gen.facts,
    Cert.Kernel14.Gen.facts, Cert.Kernel14Ideal.Gen.facts, Cert.Reference14Ideal.Gen.facts,
    Cert.Kernel15.Gen.facts, Cert.Kernel15Ideal.Gen.facts, Cert.Reference15Ideal.Gen.facts,
    Cert.Kernel16.Gen.facts, Cert.Kernel16Ideal.Gen.facts, Cert.Reference16Ideal.Gen.facts,
    Cert.Kernel17.Gen.facts, Cert.Kernel17Ideal.Gen.facts, Cert.Reference17Ideal.Gen.facts,
    Cert.Kernel18.Gen.facts, Cert.Kernel18Ideal.Gen.facts, Cert.Reference18Ideal.Gen.facts,
    Cert.Kernel19.Gen.facts, Cert.Kernel19Ideal.Gen.facts, Cert.Reference19Ideal.Gen.facts,
    Cert.Kernel20.Gen.facts, Cert.Kernel20Ideal.Gen.facts, Cert.Reference20Ideal.Gen.facts,
    Cert.Kernel21.Gen.facts, Cert.Kernel21Ideal.Gen.facts, Cert.Reference21Ideal.Gen.facts,
    Cert.Kernel22.Gen.facts, Cert.Kernel22Ideal.Gen.facts, Cert.Reference22Ideal.Gen.facts,
    frame_kernel, frame_ideal, frame_reference,
    fun m ρ _ => Cert.Kernel2.Gen.frame m ρ, fun m ρ _ => Cert.Kernel2Ideal.Gen.frame m ρ, frame_reference2,
    fun m ρ _ => Cert.Kernel3.Gen.frame m ρ, fun m ρ _ => Cert.Kernel3Ideal.Gen.frame m ρ, frame_reference3,
    fun m ρ _ => Cert.Kernel4.Gen.frame m ρ, fun m ρ _ => Cert.Kernel4Ideal.Gen.frame m ρ, frame_reference4,
    fun m ρ _ => Cert.Kernel5.Gen.frame m ρ, fun m ρ _ => Cert.Kernel5Ideal.Gen.frame m ρ, frame_reference5,
    fun m ρ _ => Cert.Kernel6.Gen.frame m ρ, fun m ρ _ => Cert.Kernel6Ideal.Gen.frame m ρ, frame_reference6,
    fun m ρ _ => Cert.Kernel7.Gen.frame m ρ, fun m ρ _ => Cert.Kernel7Ideal.Gen.frame m ρ, frame_reference7,
    fun m ρ _ => Cert.Kernel8.Gen.frame m ρ, fun m ρ _ => Cert.Kernel8Ideal.Gen.frame m ρ, frame_reference8,
    fun m ρ _ => Cert.Kernel9.Gen.frame m ρ, fun m ρ _ => Cert.Kernel9Ideal.Gen.frame m ρ, frame_reference9,
    fun m ρ _ => Cert.Kernel10.Gen.frame m ρ, fun m ρ _ => Cert.Kernel10Ideal.Gen.frame m ρ, frame_reference10,
    fun m ρ _ => Cert.Kernel11.Gen.frame m ρ, fun m ρ _ => Cert.Kernel11Ideal.Gen.frame m ρ, frame_reference11,
    fun m ρ _ => Cert.Kernel12.Gen.frame m ρ, fun m ρ _ => Cert.Kernel12Ideal.Gen.frame m ρ, frame_reference12,
    fun m ρ _ => Cert.Kernel13.Gen.frame m ρ, fun m ρ _ => Cert.Kernel13Ideal.Gen.frame m ρ, frame_reference13,
    fun m ρ _ => Cert.Kernel14.Gen.frame m ρ, fun m ρ _ => Cert.Kernel14Ideal.Gen.frame m ρ, frame_reference14,
    fun m ρ _ => Cert.Kernel15.Gen.frame m ρ, fun m ρ _ => Cert.Kernel15Ideal.Gen.frame m ρ, frame_reference15,
    fun m ρ _ => Cert.Kernel16.Gen.frame m ρ, fun m ρ _ => Cert.Kernel16Ideal.Gen.frame m ρ, frame_reference16,
    fun m ρ _ => Cert.Kernel17.Gen.frame m ρ, fun m ρ _ => Cert.Kernel17Ideal.Gen.frame m ρ, frame_reference17,
    fun m ρ _ => Cert.Kernel18.Gen.frame m ρ, fun m ρ _ => Cert.Kernel18Ideal.Gen.frame m ρ, frame_reference18,
    fun m ρ _ => Cert.Kernel19.Gen.frame m ρ, fun m ρ _ => Cert.Kernel19Ideal.Gen.frame m ρ, frame_reference19,
    fun m ρ _ => Cert.Kernel20.Gen.frame m ρ, fun m ρ _ => Cert.Kernel20Ideal.Gen.frame m ρ, frame_reference20,
    fun m ρ _ => Cert.Kernel21.Gen.frame m ρ, fun m ρ _ => Cert.Kernel21Ideal.Gen.frame m ρ, frame_reference21,
    fun m ρ _ => Cert.Kernel22.Gen.frame m ρ, fun m ρ _ => Cert.Kernel22Ideal.Gen.frame m ρ, frame_reference22,
    trivial, same_results, trivial, same_results2, trivial, same_results3, trivial, same_results4,
    trivial, same_results5, trivial, same_results6, trivial, same_results7, trivial, same_results8, trivial, same_results9, trivial, same_results10, trivial, same_results11,
    trivial, same_results12, trivial, same_results13, trivial, same_results14, trivial, same_results15, trivial, same_results16,
    trivial, same_results17, trivial, same_results18, trivial, same_results19, trivial, same_results20, trivial, same_results21,
    trivial, same_results22⟩

end Cert.Proof

end
